-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v718) = v0 c
          ∧ r.2.mem ((c.tc : Thread Cert.ReferenceIdeal.nD Cert.ReferenceIdeal.τ).loc Cert.ReferenceIdeal.main_v294) = v1 c
          ∧ r.2.mem ((c.tc : Thread Cert.ReferenceIdeal.nD Cert.ReferenceIdeal.τ).loc Cert.ReferenceIdeal.main_v302) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x1024 : Shape := ⟨3, ![8, 2048, 1024]⟩
abbrev S8x6x1024 : Shape := ⟨3, ![8, 6, 1024]⟩
abbrev S2x512 : Shape := ⟨2, ![2, 512]⟩
abbrev S1024x3072 : Shape := ⟨2, ![1024, 3072]⟩
abbrev S1x3072 : Shape := ⟨2, ![1, 3072]⟩
abbrev S1x128 : Shape := ⟨2, ![1, 128]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S8x4x128x128 : Shape := ⟨4, ![8, 4, 128, 128]⟩
abbrev S8x30x512 : Shape := ⟨3, ![8, 30, 512]⟩
abbrev S1x512x1024 : Shape := ⟨3, ![1, 512, 1024]⟩
abbrev S1x4x128x128 : Shape := ⟨4, ![1, 4, 128, 128]⟩
abbrev S1x30x512 : Shape := ⟨3, ![1, 30, 512]⟩
abbrev S512x512 : Shape := ⟨2, ![512, 512]⟩
abbrev S544x512 : Shape := ⟨2, ![544, 512]⟩
abbrev S7x536x128 : Shape := ⟨3, ![7, 536, 128]⟩
abbrev S512x1024 : Shape := ⟨2, ![512, 1024]⟩
abbrev S4x128x128 : Shape := ⟨3, ![4, 128, 128]⟩
abbrev S512x4096 : Shape := ⟨2, ![512, 4096]⟩
abbrev S32x512 : Shape := ⟨2, ![32, 512]⟩
abbrev S1x1x1024 : Shape := ⟨3, ![1, 1, 1024]⟩
abbrev S64x1024 : Shape := ⟨2, ![64, 1024]⟩
abbrev S512 : Shape := ⟨1, ![512]⟩
abbrev S1024x512 : Shape := ⟨2, ![1024, 512]⟩
abbrev S536x128 : Shape := ⟨2, ![536, 128]⟩
abbrev S1x536x128 : Shape := ⟨3, ![1, 536, 128]⟩
abbrev S128x128 : Shape := ⟨2, ![128, 128]⟩
abbrev S160x128 : Shape := ⟨2, ![160, 128]⟩
abbrev S1x152x128 : Shape := ⟨3, ![1, 152, 128]⟩
abbrev S152x128 : Shape := ⟨2, ![152, 128]⟩
abbrev S64x512 : Shape := ⟨2, ![64, 512]⟩
abbrev S64x64 : Shape := ⟨2, ![64, 64]⟩
abbrev S64x128 : Shape := ⟨2, ![64, 128]⟩
abbrev S1x128x128 : Shape := ⟨3, ![1, 128, 128]⟩
abbrev S64 : Shape := ⟨1, ![64]⟩
abbrev S64x1 : Shape := ⟨2, ![64, 1]⟩
abbrev S4096x256 : Shape := ⟨2, ![4096, 256]⟩
abbrev S512x256 : Shape := ⟨2, ![512, 256]⟩
abbrev S1x64x1024 : Shape := ⟨3, ![1, 64, 1024]⟩
abbrev S1x1x128x128 : Shape := ⟨4, ![1, 1, 128, 128]⟩
abbrev S30x512 : Shape := ⟨2, ![30, 512]⟩

abbrev nBuf : Space → Nat
  | .hbm => 70
  | .vmem => 43
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S2x512, .f32⟩
  | .hbm, ⟨3, _⟩ => ⟨S1024x3072, .bf16⟩
  | .hbm, ⟨4, _⟩ => ⟨S1x3072, .f32⟩
  | .hbm, ⟨5, _⟩ => ⟨S1x128, .f32⟩
  | .hbm, ⟨6, _⟩ => ⟨S31x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x4096, .bf16⟩
  | .hbm, ⟨15, _⟩ => ⟨S1x4096, .f32⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S256, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S_, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x1, .i32⟩
  | .hbm, ⟨54, _⟩ => ⟨S1x256, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S_, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S1x256x256, .f32⟩
  | .hbm, ⟨64, _⟩ => ⟨S1x256x256, .f32⟩
  | .hbm, ⟨65, _⟩ => ⟨S2x256x256, .f32⟩
  | .hbm, ⟨66, _⟩ => ⟨S2x256x256, .bf16⟩
  | .hbm, ⟨67, _⟩ => ⟨S8x2048x1024, .f32⟩
  | .hbm, ⟨68, _⟩ => ⟨S8x4x128x128, .f32⟩
  | .hbm, ⟨69, _⟩ => ⟨S8x30x512, .f32⟩
  | .local _ .vmem, ⟨0, _⟩ => ⟨S1x512x1024, .f32⟩
  | .local _ .vmem, ⟨1, _⟩ => ⟨S1x512x1024, .f32⟩
  | .local _ .vmem, ⟨2, _⟩ => ⟨S8x6x1024, .f32⟩
  | .local _ .vmem, ⟨3, _⟩ => ⟨S2x512, .f32⟩
  | .local _ .vmem, ⟨4, _⟩ => ⟨S1024x3072, .bf16⟩
  | .local _ .vmem, ⟨5, _⟩ => ⟨S1x3072, .f32⟩
  | .local _ .vmem, ⟨6, _⟩ => ⟨S1x128, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S2x256x256, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x4x128x128, .f32⟩
  | .local _ .vmem, ⟨25, _⟩ => ⟨S1x4x128x128, .f32⟩
  | .local _ .vmem, ⟨26, _⟩ => ⟨S1x30x512, .f32⟩
  | .local _ .vmem, ⟨27, _⟩ => ⟨S1x30x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .bf16⟩
  | .local _ .vmem, ⟨32, _⟩ => ⟨S512x512, .f32⟩
  | .local _ .vmem, ⟨33, _⟩ => ⟨S544x512, .f32⟩
  | .local _ .vmem, ⟨34, _⟩ => ⟨S7x536x128, .f32⟩
  | .local _ .vmem, ⟨35, _⟩ => ⟨S512x512, .f32⟩
  | .local _ .vmem, ⟨36, _⟩ => ⟨S512x1024, .bf16⟩
  | .local _ .vmem, ⟨37, _⟩ => ⟨S4x128x128, .f32⟩
  | .local _ .vmem, ⟨38, _⟩ => ⟨S512x1024, .f32⟩
  | .local _ .vmem, ⟨39, _⟩ => ⟨S512x1024, .bf16⟩
  | .local _ .vmem, ⟨40, _⟩ => ⟨S512x1024, .f32⟩
  | .local _ .vmem, ⟨41, _⟩ => ⟨S512x4096, .bf16⟩
  | .local _ .vmem, ⟨42, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_c_0 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_2 : Ref sig .tc := ⟨.hbm, 58, rfl⟩
abbrev main_cst_3 : Ref sig .tc := ⟨.hbm, 59, rfl⟩
abbrev main_call2_v0 : Ref sig .tc := ⟨.hbm, 60, rfl⟩
abbrev main_call2_v1 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21_0 : Ref sig .tc := ⟨.hbm, 67, rfl⟩
abbrev main_v21_1 : Ref sig .tc := ⟨.hbm, 68, rfl⟩
abbrev main_v21_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32_10 : BitVec 32 := 1#32
  let v28 : BitVec 32 := Scalar.subi arg0 c1_i32_10
  let c0_i32_11 : BitVec 32 := 0#32
  let v29 : BitVec 32 := Scalar.maxsi v28 c0_i32_11
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let v30 : BitVec 32 := Scalar.divsi v29 c4_i32_12
  let c1_i32_18 : BitVec 32 := 1#32
  let v45 : BitVec 32 := Scalar.subi v30 c1_i32_18
  let v46 : BitVec 32 := Scalar.select v44 v45 v30
  let v53 : Index := Scalar.indexCast v46
  let c3 : Index := 3#32
  let c0 : Index := 0#32
  ![v53.toNat, 3, 0]
def k0_off2 (i : grid0.Coords) : Fin 3 → Nat :=
  let arg0 : BitVec 32 := BitVec.ofNat 32 (i 0).val
  let c1_i32_10 : BitVec 32 := 1#32
  let v28 : BitVec 32 := Scalar.subi arg0 c1_i32_10
  let c0_i32_11 : BitVec 32 := 0#32
  let v29 : BitVec 32 := Scalar.maxsi v28 c0_i32_11
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let v30 : BitVec 32 := Scalar.divsi v29 c4_i32_12
  let c1_i32_18 : BitVec 32 := 1#32
  let v45 : BitVec 32 := Scalar.subi v30 c1_i32_18
  let v46 : BitVec 32 := Scalar.select v44 v45 v30
  let v56 : Index := Scalar.indexCast v46
  let c4 : Index := 4#32
  let c0_23 : Index := 0#32
  ![v56.toNat, 4, 0]
def k0_off3 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v189 : Index := Scalar.indexCast v17
  let c0_83 : Index := 0#32
  let c0_84 : Index := 0#32
  ![v189.toNat, 0, 0]
def k0_off4 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v192 : Index := Scalar.indexCast v17
  let c1 : Index := 1#32
  let c0_85 : Index := 0#32
  ![v192.toNat, 1, 0]
def k0_off5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v195 : Index := Scalar.indexCast v17
  let c2 : Index := 2#32
  let c0_86 : Index := 0#32
  ![v195.toNat, 2, 0]
def k0_off6 (i : grid0.Coords) : Fin 3 → Nat :=
  let arg0 : BitVec 32 := BitVec.ofNat 32 (i 0).val
  let c1_i32_10 : BitVec 32 := 1#32
  let v28 : BitVec 32 := Scalar.subi arg0 c1_i32_10
  let c0_i32_11 : BitVec 32 := 0#32
  let v29 : BitVec 32 := Scalar.maxsi v28 c0_i32_11
  let c0_i32_13 : BitVec 32 := 0#32
  let v31 : BitVec 1 := Scalar.cmpi .sgt v29 c0_i32_13
  let v32 : BitVec 32 := Scalar.extui v31
  let c0_i32_14 : BitVec 32 := 0#32
  let v33 : BitVec 1 := Scalar.cmpi .slt v29 c0_i32_14
  let v34 : BitVec 32 := Scalar.extui v33
  let v35 : BitVec 32 := Scalar.subi v32 v34
  let c4_i32_12 : BitVec 32 := 4#32
  let c0_i32_15 : BitVec 32 := 0#32
  let v36 : BitVec 1 := Scalar.cmpi .sgt c4_i32_12 c0_i32_15
  let v37 : BitVec 32 := Scalar.extui v36
  let c0_i32_16 : BitVec 32 := 0#32
  let v38 : BitVec 1 := Scalar.cmpi .slt c4_i32_12 c0_i32_16
  let v39 : BitVec 32 := Scalar.extui v38
  let v40 : BitVec 32 := Scalar.subi v37 v39
  let v41 : BitVec 1 := Scalar.cmpi .ne v35 v40
  let v42 : BitVec 32 := Scalar.remsi v29 c4_i32_12
  let c0_i32_17 : BitVec 32 := 0#32
  let v43 : BitVec 1 := Scalar.cmpi .ne v42 c0_i32_17
  let v44 : BitVec 1 := Scalar.andi v41 v43
  let v30 : BitVec 32 := Scalar.divsi v29 c4_i32_12
  let c1_i32_18 : BitVec 32 := 1#32
  let v45 : BitVec 32 := Scalar.subi v30 c1_i32_18
  let v46 : BitVec 32 := Scalar.select v44 v45 v30
  let v5480 : Index := Scalar.indexCast v46
  let c5_2744 : Index := 5#32
  let c0_2745 : Index := 0#32
  ![v5480.toNat, 5, 0]
def k0_cond3 (i : grid0.Coords) : BitVec 1 :=
  let arg0 : BitVec 32 := BitVec.ofNat 32 (i 0).val
  let c31_i32 : BitVec 32 := 31#32
  let v0 : BitVec 32 := Scalar.minsi arg0 c31_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c3_i32 : BitVec 32 := 3#32
  let v5739 : BitVec 1 := Scalar.cmpi .eq v27 c3_i32
  let c32_i32_2882 : BitVec 32 := 32#32
  let v5740 : BitVec 1 := Scalar.cmpi .slt arg0 c32_i32_2882
  let v5741 : BitVec 1 := Scalar.andi v5739 v5740
  let v5742 : BitVec 32 := Scalar.extui v5741
  let c0_i32_2883 : BitVec 32 := 0#32
  let v5743 : BitVec 1 := Scalar.cmpi .ne v5742 c0_i32_2883
  v5743

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_22 (i : grid0.Coords) : Fin 4 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  ![v17.toNat, c0_i32_10.toNat, c0_i32_11.toNat, c0_i32_12.toNat]

def cc0_transform_23 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x4x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x30x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S8x2048x1024 : Shape := ⟨3, ![8, 2048, 1024]⟩
abbrev S8x6x1024 : Shape := ⟨3, ![8, 6, 1024]⟩
abbrev S2x512 : Shape := ⟨2, ![2, 512]⟩
abbrev S1024x3072 : Shape := ⟨2, ![1024, 3072]⟩
abbrev S1x3072 : Shape := ⟨2, ![1, 3072]⟩
abbrev S1x128 : Shape := ⟨2, ![1, 128]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩
abbrev S512 : Shape := ⟨1, ![512]⟩
abbrev S8x1x1024 : Shape := ⟨3, ![8, 1, 1024]⟩
abbrev S8x2048x3072 : Shape := ⟨3, ![8, 2048, 3072]⟩
abbrev S1x1x3072 : Shape := ⟨3, ![1, 1, 3072]⟩
abbrev S8x2048x512 : Shape := ⟨3, ![8, 2048, 512]⟩
abbrev S1x1x512 : Shape := ⟨3, ![1, 1, 512]⟩
abbrev S8x2048x4x128 : Shape := ⟨4, ![8, 2048, 4, 128]⟩
abbrev S8x32x64x4x128 : Shape := ⟨5, ![8, 32, 64, 4, 128]⟩
abbrev S32x8x4x64x128 : Shape := ⟨5, ![32, 8, 4, 64, 128]⟩
abbrev S32x8x4x1x128 : Shape := ⟨5, ![32, 8, 4, 1, 128]⟩
abbrev S32x8x4x128 : Shape := ⟨4, ![32, 8, 4, 128]⟩
abbrev S32x8x4x128x1 : Shape := ⟨5, ![32, 8, 4, 128, 1]⟩
abbrev S32x8x4x128x128 : Shape := ⟨5, ![32, 8, 4, 128, 128]⟩
abbrev S8x4x128x128 : Shape := ⟨4, ![8, 4, 128, 128]⟩
abbrev S1x8x4x128x1 : Shape := ⟨5, ![1, 8, 4, 128, 1]⟩
abbrev S8x4x128x1 : Shape := ⟨4, ![8, 4, 128, 1]⟩
abbrev S1x8x4x128x128 : Shape := ⟨5, ![1, 8, 4, 128, 128]⟩
abbrev S8x30x512 : Shape := ⟨3, ![8, 30, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x8x4x64x64 : Shape := ⟨5, ![32, 8, 4, 64, 64]⟩
abbrev S16x8x4x128x128 : Shape := ⟨5, ![16, 8, 4, 128, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2078x512 : Shape := ⟨3, ![8, 2078, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1024 : Shape := ⟨3, ![1, 1, 1024]⟩
abbrev S8x2048 : Shape := ⟨2, ![8, 2048]⟩
abbrev S8x2048x1 : Shape := ⟨3, ![8, 2048, 1]⟩
abbrev S8x2048x4096 : Shape := ⟨3, ![8, 2048, 4096]⟩
abbrev S1x1x4096 : Shape := ⟨3, ![1, 1, 4096]⟩

abbrev nBuf : Space → Nat
  | .hbm => 807
  | .vmem => 0
  | .smem => 0
  | _ => 0

abbrev hbmTy0_0 (i : Nat) : BufTy := match i % 128 with
  | 0 => ⟨S8x2048x1024, .f32⟩
  | 1 => ⟨S8x6x1024, .f32⟩
  | 2 => ⟨S2x512, .f32⟩
  | 3 => ⟨S1024x3072, .bf16⟩
  | 4 => ⟨S1x3072, .f32⟩
  | 5 => ⟨S1x128, .f32⟩
  | 6 => ⟨S31x512, .f32⟩
  | 7 => ⟨S1x512, .f32⟩
  | 8 => ⟨S1x512, .f32⟩
  | 9 => ⟨S1x512, .f32⟩
  | 10 => ⟨S1024x1024, .bf16⟩
  | 11 => ⟨S1x1024, .f32⟩
  | 12 => ⟨S1x1024, .f32⟩
  | 13 => ⟨S1x1024, .f32⟩
  | 14 => ⟨S1024x4096, .bf16⟩
  | 15 => ⟨S1x4096, .f32⟩
  | 16 => ⟨S4096x1024, .bf16⟩
  | 17 => ⟨S1x1024, .f32⟩
  | 18 => ⟨S1x1024, .f32⟩
  | 19 => ⟨S1x1024, .f32⟩
  | 20 => ⟨S_, .f32⟩
  | 21 => ⟨S512, .f32⟩
  | 22 => ⟨S_, .f32⟩
  | 23 => ⟨S512, .f32⟩
  | 24 => ⟨S512, .f32⟩
  | 25 => ⟨S1x512, .f32⟩
  | 26 => ⟨S2x512, .f32⟩
  | 27 => ⟨S2x512, .f32⟩
  | 28 => ⟨S2x512, .f32⟩
  | 29 => ⟨S_, .f32⟩
  | 30 => ⟨S512, .f32⟩
  | 31 => ⟨S1x512, .f32⟩
  | 32 => ⟨S2x512, .f32⟩
  | 33 => ⟨S2x512, .f32⟩
  | 34 => ⟨S_, .f32⟩
  | 35 => ⟨S_, .f32⟩
  | 36 => ⟨S2x512, .f32⟩
  | 37 => ⟨S1x512, .f32⟩
  | 38 => ⟨S512, .f32⟩
  | 39 => ⟨S8x1x1024, .f32⟩
  | 40 => ⟨S8x1x1024, .f32⟩
  | 41 => ⟨S_, .f32⟩
  | 42 => ⟨S8x1x1024, .f32⟩
  | 43 => ⟨S8x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S1024x3072, .f32⟩
  | 49 => ⟨S8x2048x3072, .f32⟩
  | 50 => ⟨S1x1x3072, .f32⟩
  | 51 => ⟨S8x2048x3072, .f32⟩
  | 52 => ⟨S8x2048x3072, .f32⟩
  | 53 => ⟨S8x2048x512, .f32⟩
  | 54 => ⟨S8x2048x512, .f32⟩
  | 55 => ⟨S8x2048x512, .f32⟩
  | 56 => ⟨S8x2048x512, .f32⟩
  | 57 => ⟨S8x2048x512, .f32⟩
  | 58 => ⟨S8x2048x512, .f32⟩
  | 59 => ⟨S_, .f32⟩
  | 60 => ⟨S512, .f32⟩
  | 61 => ⟨S512, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S_, .f32⟩
  | 68 => ⟨S8x2048x512, .f32⟩
  | 69 => ⟨S8x2048x512, .f32⟩
  | 70 => ⟨S1x1x512, .f32⟩
  | 71 => ⟨S8x2048x512, .f32⟩
  | 72 => ⟨S8x2048x512, .f32⟩
  | 73 => ⟨S1x1x512, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S8x2048x4x128, .f32⟩
  | 80 => ⟨S8x2048x4x128, .f32⟩
  | 81 => ⟨S8x2048x512, .f32⟩
  | 82 => ⟨S8x2048x4x128, .f32⟩
  | 83 => ⟨S8x32x64x4x128, .f32⟩
  | 84 => ⟨S32x8x4x64x128, .f32⟩
  | 85 => ⟨S8x32x64x4x128, .f32⟩
  | 86 => ⟨S32x8x4x64x128, .f32⟩
  | 87 => ⟨S8x32x64x4x128, .f32⟩
  | 88 => ⟨S32x8x4x64x128, .f32⟩
  | 89 => ⟨S_, .f32⟩
  | 90 => ⟨S_, .f32⟩
  | 91 => ⟨S32x8x4x64x128, .f32⟩
  | 92 => ⟨S32x8x4x1x128, .f32⟩
  | 93 => ⟨S32x8x4x128, .f32⟩
  | 94 => ⟨S32x8x4x1x128, .f32⟩
  | 95 => ⟨S32x8x4x64x128, .f32⟩
  | 96 => ⟨S32x8x4x64x128, .f32⟩
  | 97 => ⟨S32x8x4x64x128, .f32⟩
  | 98 => ⟨S32x8x4x64x128, .f32⟩
  | 99 => ⟨S32x8x4x128, .f32⟩
  | 100 => ⟨S32x8x4x128x1, .f32⟩
  | 101 => ⟨S32x8x4x128x128, .f32⟩
  | 102 => ⟨S_, .f32⟩
  | 103 => ⟨S8x4x128x128, .f32⟩
  | 104 => ⟨S1x8x4x128x1, .f32⟩
  | 105 => ⟨S8x4x128x1, .f32⟩
  | 106 => ⟨S8x4x128x128, .f32⟩
  | 107 => ⟨S8x4x128x128, .f32⟩
  | 108 => ⟨S1x8x4x128x128, .f32⟩
  | 109 => ⟨S8x4x128x128, .f32⟩
  | 110 => ⟨S8x4x128x128, .f32⟩
  | 111 => ⟨S1x8x4x128x1, .f32⟩
  | 112 => ⟨S8x4x128x1, .f32⟩
  | 113 => ⟨S8x4x128x128, .f32⟩
  | 114 => ⟨S8x4x128x128, .f32⟩
  | 115 => ⟨S1x8x4x128x128, .f32⟩
  | 116 => ⟨S8x4x128x128, .f32⟩
  | 117 => ⟨S8x4x128x128, .f32⟩
  | 118 => ⟨S1x8x4x128x1, .f32⟩
  | 119 => ⟨S8x4x128x1, .f32⟩
  | 120 => ⟨S8x4x128x128, .f32⟩
  | 121 => ⟨S8x4x128x128, .f32⟩
  | 122 => ⟨S1x8x4x128x128, .f32⟩
  | 123 => ⟨S8x4x128x128, .f32⟩
  | 124 => ⟨S8x4x128x128, .f32⟩
  | 125 => ⟨S1x8x4x128x1, .f32⟩
  | 126 => ⟨S8x4x128x1, .f32⟩
  | 127 => ⟨S8x4x128x128, .f32⟩
  | _ => ⟨S8x2048x1024, .f32⟩

abbrev hbmTy0_1 (i : Nat) : BufTy := match i % 128 with
  | 0 => ⟨S8x4x128x128, .f32⟩
  | 1 => ⟨S1x8x4x128x128, .f32⟩
  | 2 => ⟨S8x4x128x128, .f32⟩
  | 3 => ⟨S8x4x128x128, .f32⟩
  | 4 => ⟨S1x8x4x128x1, .f32⟩
  | 5 => ⟨S8x4x128x1, .f32⟩
  | 6 => ⟨S8x4x128x128, .f32⟩
  | 7 => ⟨S8x4x128x128, .f32⟩
  | 8 => ⟨S1x8x4x128x128, .f32⟩
  | 9 => ⟨S8x4x128x128, .f32⟩
  | 10 => ⟨S8x4x128x128, .f32⟩
  | 11 => ⟨S1x8x4x128x1, .f32⟩
  | 12 => ⟨S8x4x128x1, .f32⟩
  | 13 => ⟨S8x4x128x128, .f32⟩
  | 14 => ⟨S8x4x128x128, .f32⟩
  | 15 => ⟨S1x8x4x128x128, .f32⟩
  | 16 => ⟨S8x4x128x128, .f32⟩
  | 17 => ⟨S8x4x128x128, .f32⟩
  | 18 => ⟨S1x8x4x128x1, .f32⟩
  | 19 => ⟨S8x4x128x1, .f32⟩
  | 20 => ⟨S8x4x128x128, .f32⟩
  | 21 => ⟨S8x4x128x128, .f32⟩
  | 22 => ⟨S1x8x4x128x128, .f32⟩
  | 23 => ⟨S8x4x128x128, .f32⟩
  | 24 => ⟨S8x4x128x128, .f32⟩
  | 25 => ⟨S1x8x4x128x1, .f32⟩
  | 26 => ⟨S8x4x128x1, .f32⟩
  | 27 => ⟨S8x4x128x128, .f32⟩
  | 28 => ⟨S8x4x128x128, .f32⟩
  | 29 => ⟨S1x8x4x128x128, .f32⟩
  | 30 => ⟨S8x4x128x128, .f32⟩
  | 31 => ⟨S8x4x128x128, .f32⟩
  | 32 => ⟨S1x8x4x128x1, .f32⟩
  | 33 => ⟨S8x4x128x1, .f32⟩
  | 34 => ⟨S8x4x128x128, .f32⟩
  | 35 => ⟨S8x4x128x128, .f32⟩
  | 36 => ⟨S1x8x4x128x128, .f32⟩
  | 37 => ⟨S8x4x128x128, .f32⟩
  | 38 => ⟨S8x4x128x128, .f32⟩
  | 39 => ⟨S1x8x4x128x1, .f32⟩
  | 40 => ⟨S8x4x128x1, .f32⟩
  | 41 => ⟨S8x4x128x128, .f32⟩
  | 42 => ⟨S8x4x128x128, .f32⟩
  | 43 => ⟨S1x8x4x128x128, .f32⟩
  | 44 => ⟨S8x4x128x128, .f32⟩
  | 45 => ⟨S8x4x128x128, .f32⟩
  | 46 => ⟨S1x8x4x128x1, .f32⟩
  | 47 => ⟨S8x4x128x1, .f32⟩
  | 48 => ⟨S8x4x128x128, .f32⟩
  | 49 => ⟨S8x4x128x128, .f32⟩
  | 50 => ⟨S1x8x4x128x128, .f32⟩
  | 51 => ⟨S8x4x128x128, .f32⟩
  | 52 => ⟨S8x4x128x128, .f32⟩
  | 53 => ⟨S1x8x4x128x1, .f32⟩
  | 54 => ⟨S8x4x128x1, .f32⟩
  | 55 => ⟨S8x4x128x128, .f32⟩
  | 56 => ⟨S8x4x128x128, .f32⟩
  | 57 => ⟨S1x8x4x128x128, .f32⟩
  | 58 => ⟨S8x4x128x128, .f32⟩
  | 59 => ⟨S8x4x128x128, .f32⟩
  | 60 => ⟨S1x8x4x128x1, .f32⟩
  | 61 => ⟨S8x4x128x1, .f32⟩
  | 62 => ⟨S8x4x128x128, .f32⟩
  | 63 => ⟨S8x4x128x128, .f32⟩
  | 64 => ⟨S1x8x4x128x128, .f32⟩
  | 65 => ⟨S8x4x128x128, .f32⟩
  | 66 => ⟨S8x4x128x128, .f32⟩
  | 67 => ⟨S1x8x4x128x1, .f32⟩
  | 68 => ⟨S8x4x128x1, .f32⟩
  | 69 => ⟨S8x4x128x128, .f32⟩
  | 70 => ⟨S8x4x128x128, .f32⟩
  | 71 => ⟨S1x8x4x128x128, .f32⟩
  | 72 => ⟨S8x4x128x128, .f32⟩
  | 73 => ⟨S8x4x128x128, .f32⟩
  | 74 => ⟨S1x8x4x128x1, .f32⟩
  | 75 => ⟨S8x4x128x1, .f32⟩
  | 76 => ⟨S8x4x128x128, .f32⟩
  | 77 => ⟨S8x4x128x128, .f32⟩
  | 78 => ⟨S1x8x4x128x128, .f32⟩
  | 79 => ⟨S8x4x128x128, .f32⟩
  | 80 => ⟨S8x4x128x128, .f32⟩
  | 81 => ⟨S1x8x4x128x1, .f32⟩
  | 82 => ⟨S8x4x128x1, .f32⟩
  | 83 => ⟨S8x4x128x128, .f32⟩
  | 84 => ⟨S8x4x128x128, .f32⟩
  | 85 => ⟨S1x8x4x128x128, .f32⟩
  | 86 => ⟨S8x4x128x128, .f32⟩
  | 87 => ⟨S8x4x128x128, .f32⟩
  | 88 => ⟨S1x8x4x128x1, .f32⟩
  | 89 => ⟨S8x4x128x1, .f32⟩
  | 90 => ⟨S8x4x128x128, .f32⟩
  | 91 => ⟨S8x4x128x128, .f32⟩
  | 92 => ⟨S1x8x4x128x128, .f32⟩
  | 93 => ⟨S8x4x128x128, .f32⟩
  | 94 => ⟨S8x4x128x128, .f32⟩
  | 95 => ⟨S1x8x4x128x1, .f32⟩
  | 96 => ⟨S8x4x128x1, .f32⟩
  | 97 => ⟨S8x4x128x128, .f32⟩
  | 98 => ⟨S8x4x128x128, .f32⟩
  | 99 => ⟨S1x8x4x128x128, .f32⟩
  | 100 => ⟨S8x4x128x128, .f32⟩
  | 101 => ⟨S8x4x128x128, .f32⟩
  | 102 => ⟨S1x8x4x128x1, .f32⟩
  | 103 => ⟨S8x4x128x1, .f32⟩
  | 104 => ⟨S8x4x128x128, .f32⟩
  | 105 => ⟨S8x4x128x128, .f32⟩
  | 106 => ⟨S1x8x4x128x128, .f32⟩
  | 107 => ⟨S8x4x128x128, .f32⟩
  | 108 => ⟨S8x4x128x128, .f32⟩
  | 109 => ⟨S1x8x4x128x1, .f32⟩
  | 110 => ⟨S8x4x128x1, .f32⟩
  | 111 => ⟨S8x4x128x128, .f32⟩
  | 112 => ⟨S8x4x128x128, .f32⟩
  | 113 => ⟨S1x8x4x128x128, .f32⟩
  | 114 => ⟨S8x4x128x128, .f32⟩
  | 115 => ⟨S8x4x128x128, .f32⟩
  | 116 => ⟨S1x8x4x128x1, .f32⟩
  | 117 => ⟨S8x4x128x1, .f32⟩
  | 118 => ⟨S8x4x128x128, .f32⟩
  | 119 => ⟨S8x4x128x128, .f32⟩
  | 120 => ⟨S1x8x4x128x128, .f32⟩
  | 121 => ⟨S8x4x128x128, .f32⟩
  | 122 => ⟨S8x4x128x128, .f32⟩
  | 123 => ⟨S1x8x4x128x1, .f32⟩
  | 124 => ⟨S8x4x128x1, .f32⟩
  | 125 => ⟨S8x4x128x128, .f32⟩
  | 126 => ⟨S8x4x128x128, .f32⟩
  | 127 => ⟨S1x8x4x128x128, .f32⟩
  | _ => ⟨S8x2048x1024, .f32⟩

abbrev hbmTy0_2 (i : Nat) : BufTy := match i % 128 with
  | 0 => ⟨S8x4x128x128, .f32⟩
  | 1 => ⟨S8x4x128x128, .f32⟩
  | 2 => ⟨S1x8x4x128x1, .f32⟩
  | 3 => ⟨S8x4x128x1, .f32⟩
  | 4 => ⟨S8x4x128x128, .f32⟩
  | 5 => ⟨S8x4x128x128, .f32⟩
  | 6 => ⟨S1x8x4x128x128, .f32⟩
  | 7 => ⟨S8x4x128x128, .f32⟩
  | 8 => ⟨S8x4x128x128, .f32⟩
  | 9 => ⟨S1x8x4x128x1, .f32⟩
  | 10 => ⟨S8x4x128x1, .f32⟩
  | 11 => ⟨S8x4x128x128, .f32⟩
  | 12 => ⟨S8x4x128x128, .f32⟩
  | 13 => ⟨S1x8x4x128x128, .f32⟩
  | 14 => ⟨S8x4x128x128, .f32⟩
  | 15 => ⟨S8x4x128x128, .f32⟩
  | 16 => ⟨S1x8x4x128x1, .f32⟩
  | 17 => ⟨S8x4x128x1, .f32⟩
  | 18 => ⟨S8x4x128x128, .f32⟩
  | 19 => ⟨S8x4x128x128, .f32⟩
  | 20 => ⟨S1x8x4x128x128, .f32⟩
  | 21 => ⟨S8x4x128x128, .f32⟩
  | 22 => ⟨S8x4x128x128, .f32⟩
  | 23 => ⟨S1x8x4x128x1, .f32⟩
  | 24 => ⟨S8x4x128x1, .f32⟩
  | 25 => ⟨S8x4x128x128, .f32⟩
  | 26 => ⟨S8x4x128x128, .f32⟩
  | 27 => ⟨S1x8x4x128x128, .f32⟩
  | 28 => ⟨S8x4x128x128, .f32⟩
  | 29 => ⟨S8x4x128x128, .f32⟩
  | 30 => ⟨S1x8x4x128x1, .f32⟩
  | 31 => ⟨S8x4x128x1, .f32⟩
  | 32 => ⟨S8x4x128x128, .f32⟩
  | 33 => ⟨S8x4x128x128, .f32⟩
  | 34 => ⟨S1x8x4x128x128, .f32⟩
  | 35 => ⟨S8x4x128x128, .f32⟩
  | 36 => ⟨S8x4x128x128, .f32⟩
  | 37 => ⟨S1x8x4x128x1, .f32⟩
  | 38 => ⟨S8x4x128x1, .f32⟩
  | 39 => ⟨S8x4x128x128, .f32⟩
  | 40 => ⟨S8x4x128x128, .f32⟩
  | 41 => ⟨S1x8x4x128x128, .f32⟩
  | 42 => ⟨S8x4x128x128, .f32⟩
  | 43 => ⟨S8x4x128x128, .f32⟩
  | 44 => ⟨S1x8x4x128x1, .f32⟩
  | 45 => ⟨S8x4x128x1, .f32⟩
  | 46 => ⟨S8x4x128x128, .f32⟩
  | 47 => ⟨S8x4x128x128, .f32⟩
  | 48 => ⟨S1x8x4x128x128, .f32⟩
  | 49 => ⟨S8x4x128x128, .f32⟩
  | 50 => ⟨S8x4x128x128, .f32⟩
  | 51 => ⟨S1x8x4x128x1, .f32⟩
  | 52 => ⟨S8x4x128x1, .f32⟩
  | 53 => ⟨S8x4x128x128, .f32⟩
  | 54 => ⟨S8x4x128x128, .f32⟩
  | 55 => ⟨S1x8x4x128x128, .f32⟩
  | 56 => ⟨S8x4x128x128, .f32⟩
  | 57 => ⟨S8x4x128x128, .f32⟩
  | 58 => ⟨S1x8x4x128x1, .f32⟩
  | 59 => ⟨S8x4x128x1, .f32⟩
  | 60 => ⟨S8x4x128x128, .f32⟩
  | 61 => ⟨S8x4x128x128, .f32⟩
  | 62 => ⟨S1x8x4x128x128, .f32⟩
  | 63 => ⟨S8x4x128x128, .f32⟩
  | 64 => ⟨S8x4x128x128, .f32⟩
  | 65 => ⟨S1x8x4x128x1, .f32⟩
  | 66 => ⟨S8x4x128x1, .f32⟩
  | 67 => ⟨S8x4x128x128, .f32⟩
  | 68 => ⟨S8x4x128x128, .f32⟩
  | 69 => ⟨S1x8x4x128x128, .f32⟩
  | 70 => ⟨S8x4x128x128, .f32⟩
  | 71 => ⟨S8x4x128x128, .f32⟩
  | 72 => ⟨S8x2048x512, .f32⟩
  | 73 => ⟨S8x2048x512, .f32⟩
  | 74 => ⟨S_, .f32⟩
  | 75 => ⟨S8x2048x512, .f32⟩
  | 76 => ⟨S8x2048x512, .f32⟩
  | 77 => ⟨S_, .f32⟩
  | 78 => ⟨S8x2048x512, .f32⟩
  | 79 => ⟨S8x2048x512, .f32⟩
  | 80 => ⟨S8x2048x512, .f32⟩
  | 81 => ⟨S8x30x512, .f32⟩
  | 82 => ⟨S8x2048x512, .f32⟩
  | 83 => ⟨S8x2048x512, .f32⟩
  | 84 => ⟨S8x2048x512, .f32⟩
  | 85 => ⟨S_, .f32⟩
  | 86 => ⟨S8x2048x512, .f32⟩
  | 87 => ⟨S8x2048x512, .f32⟩
  | 88 => ⟨S_, .f32⟩
  | 89 => ⟨S8x2048x512, .f32⟩
  | 90 => ⟨S8x2048x512, .f32⟩
  | 91 => ⟨S8x2048x512, .f32⟩
  | 92 => ⟨S8x2048x4x128, .f32⟩
  | 93 => ⟨S8x32x64x4x128, .f32⟩
  | 94 => ⟨S32x8x4x64x128, .f32⟩
  | 95 => ⟨S32x8x4x64x128, .f32⟩
  | 96 => ⟨S32x8x4x64x128, .f32⟩
  | 97 => ⟨S32x8x4x64x128, .f32⟩
  | 98 => ⟨S32x8x4x64x128, .f32⟩
  | 99 => ⟨S32x8x4x64x128, .f32⟩
  | 100 => ⟨S64, .i32⟩
  | 101 => ⟨S64x1, .i32⟩
  | 102 => ⟨S64, .i32⟩
  | 103 => ⟨S1x64, .i32⟩
  | 104 => ⟨S64x64, .i32⟩
  | 105 => ⟨S64x64, .i32⟩
  | 106 => ⟨S64x64, .i1⟩
  | 107 => ⟨S32x8x4x64x64, .f32⟩
  | 108 => ⟨S_, .f32⟩
  | 109 => ⟨S_, .f32⟩
  | 110 => ⟨S32x8x4x64x64, .i1⟩
  | 111 => ⟨S32x8x4x64x64, .f32⟩
  | 112 => ⟨S32x8x4x64x64, .f32⟩
  | 113 => ⟨S32x8x4x64x128, .f32⟩
  | 114 => ⟨S1x8x4x128x128, .f32⟩
  | 115 => ⟨S1x8x4x128x128, .f32⟩
  | 116 => ⟨S1x8x4x128x128, .f32⟩
  | 117 => ⟨S1x8x4x128x128, .f32⟩
  | 118 => ⟨S1x8x4x128x128, .f32⟩
  | 119 => ⟨S1x8x4x128x128, .f32⟩
  | 120 => ⟨S1x8x4x128x128, .f32⟩
  | 121 => ⟨S1x8x4x128x128, .f32⟩
  | 122 => ⟨S1x8x4x128x128, .f32⟩
  | 123 => ⟨S1x8x4x128x128, .f32⟩
  | 124 => ⟨S1x8x4x128x128, .f32⟩
  | 125 => ⟨S1x8x4x128x128, .f32⟩
  | 126 => ⟨S1x8x4x128x128, .f32⟩
  | 127 => ⟨S1x8x4x128x128, .f32⟩
  | _ => ⟨S8x2048x1024, .f32⟩

abbrev hbmTy0_3 (i : Nat) : BufTy := match i % 128 with
  | 0 => ⟨S1x8x4x128x128, .f32⟩
  | 1 => ⟨S1x8x4x128x128, .f32⟩
  | 2 => ⟨S1x8x4x128x128, .f32⟩
  | 3 => ⟨S1x8x4x128x128, .f32⟩
  | 4 => ⟨S1x8x4x128x128, .f32⟩
  | 5 => ⟨S1x8x4x128x128, .f32⟩
  | 6 => ⟨S1x8x4x128x128, .f32⟩
  | 7 => ⟨S1x8x4x128x128, .f32⟩
  | 8 => ⟨S1x8x4x128x128, .f32⟩
  | 9 => ⟨S1x8x4x128x128, .f32⟩
  | 10 => ⟨S1x8x4x128x128, .f32⟩
  | 11 => ⟨S1x8x4x128x128, .f32⟩
  | 12 => ⟨S1x8x4x128x128, .f32⟩
  | 13 => ⟨S1x8x4x128x128, .f32⟩
  | 14 => ⟨S1x8x4x128x128, .f32⟩
  | 15 => ⟨S1x8x4x128x128, .f32⟩
  | 16 => ⟨S1x8x4x128x128, .f32⟩
  | 17 => ⟨S1x8x4x128x128, .f32⟩
  | 18 => ⟨S16x8x4x128x128, .f32⟩
  | 19 => ⟨S16x8x4x128x128, .f32⟩
  | 20 => ⟨S32x8x4x128x128, .f32⟩
  | 21 => ⟨S32x8x4x64x128, .f32⟩
  | 22 => ⟨S32x8x4x64x128, .f32⟩
  | 23 => ⟨S8x32x64x4x128, .f32⟩
  | 24 => ⟨S8x2048x4x128, .f32⟩
  | 25 => ⟨S8x2048x4x128, .f32⟩
  | 26 => ⟨S_, .f32⟩
  | 27 => ⟨S8x2048x4, .f32⟩
  | 28 => ⟨S8x2048x4x1, .f32⟩
  | 29 => ⟨S_, .f32⟩
  | 30 => ⟨S8x2048x4x1, .f32⟩
  | 31 => ⟨S8x2048x4x1, .f32⟩
  | 32 => ⟨S_, .f32⟩
  | 33 => ⟨S8x2048x4x1, .f32⟩
  | 34 => ⟨S8x2048x4x1, .f32⟩
  | 35 => ⟨S8x2048x4x1, .f32⟩
  | 36 => ⟨S8x2048x4x128, .f32⟩
  | 37 => ⟨S8x2048x4x128, .f32⟩
  | 38 => ⟨S1x1x1x128, .f32⟩
  | 39 => ⟨S8x2048x4x128, .f32⟩
  | 40 => ⟨S8x2048x4x128, .f32⟩
  | 41 => ⟨S8x2048x512, .f32⟩
  | 42 => ⟨S8x2048x512, .f32⟩
  | 43 => ⟨S8x2048x512, .f32⟩
  | 44 => ⟨S_, .f32⟩
  | 45 => ⟨S8x2048x512, .f32⟩
  | 46 => ⟨S8x2048x512, .f32⟩
  | 47 => ⟨S_, .f32⟩
  | 48 => ⟨S8x2048x512, .f32⟩
  | 49 => ⟨S8x2048x512, .f32⟩
  | 50 => ⟨S8x2048x512, .f32⟩
  | 51 => ⟨S8x2048x4x128, .f32⟩
  | 52 => ⟨S8x2048x4x128, .f32⟩
  | 53 => ⟨S_, .f32⟩
  | 54 => ⟨S8x30x512, .f32⟩
  | 55 => ⟨S8x2078x512, .f32⟩
  | 56 => ⟨S1x512, .f32⟩
  | 57 => ⟨S512, .f32⟩
  | 58 => ⟨S8x2048x512, .f32⟩
  | 59 => ⟨S1x1x512, .f32⟩
  | 60 => ⟨S8x2048x512, .f32⟩
  | 61 => ⟨S8x2048x512, .f32⟩
  | 62 => ⟨S1x512, .f32⟩
  | 63 => ⟨S512, .f32⟩
  | 64 => ⟨S8x2048x512, .f32⟩
  | 65 => ⟨S1x1x512, .f32⟩
  | 66 => ⟨S8x2048x512, .f32⟩
  | 67 => ⟨S8x2048x512, .f32⟩
  | 68 => ⟨S8x2048x512, .f32⟩
  | 69 => ⟨S1x512, .f32⟩
  | 70 => ⟨S512, .f32⟩
  | 71 => ⟨S8x2048x512, .f32⟩
  | 72 => ⟨S1x1x512, .f32⟩
  | 73 => ⟨S8x2048x512, .f32⟩
  | 74 => ⟨S8x2048x512, .f32⟩
  | 75 => ⟨S8x2048x512, .f32⟩
  | 76 => ⟨S1x512, .f32⟩
  | 77 => ⟨S512, .f32⟩
  | 78 => ⟨S8x2048x512, .f32⟩
  | 79 => ⟨S1x1x512, .f32⟩
  | 80 => ⟨S8x2048x512, .f32⟩
  | 81 => ⟨S8x2048x512, .f32⟩
  | 82 => ⟨S8x2048x512, .f32⟩
  | 83 => ⟨S1x512, .f32⟩
  | 84 => ⟨S512, .f32⟩
  | 85 => ⟨S8x2048x512, .f32⟩
  | 86 => ⟨S1x1x512, .f32⟩
  | 87 => ⟨S8x2048x512, .f32⟩
  | 88 => ⟨S8x2048x512, .f32⟩
  | 89 => ⟨S8x2048x512, .f32⟩
  | 90 => ⟨S1x512, .f32⟩
  | 91 => ⟨S512, .f32⟩
  | 92 => ⟨S8x2048x512, .f32⟩
  | 93 => ⟨S1x1x512, .f32⟩
  | 94 => ⟨S8x2048x512, .f32⟩
  | 95 => ⟨S8x2048x512, .f32⟩
  | 96 => ⟨S8x2048x512, .f32⟩
  | 97 => ⟨S1x512, .f32⟩
  | 98 => ⟨S512, .f32⟩
  | 99 => ⟨S8x2048x512, .f32⟩
  | 100 => ⟨S1x1x512, .f32⟩
  | 101 => ⟨S8x2048x512, .f32⟩
  | 102 => ⟨S8x2048x512, .f32⟩
  | 103 => ⟨S8x2048x512, .f32⟩
  | 104 => ⟨S1x512, .f32⟩
  | 105 => ⟨S512, .f32⟩
  | 106 => ⟨S8x2048x512, .f32⟩
  | 107 => ⟨S1x1x512, .f32⟩
  | 108 => ⟨S8x2048x512, .f32⟩
  | 109 => ⟨S8x2048x512, .f32⟩
  | 110 => ⟨S8x2048x512, .f32⟩
  | 111 => ⟨S1x512, .f32⟩
  | 112 => ⟨S512, .f32⟩
  | 113 => ⟨S8x2048x512, .f32⟩
  | 114 => ⟨S1x1x512, .f32⟩
  | 115 => ⟨S8x2048x512, .f32⟩
  | 116 => ⟨S8x2048x512, .f32⟩
  | 117 => ⟨S8x2048x512, .f32⟩
  | 118 => ⟨S1x512, .f32⟩
  | 119 => ⟨S512, .f32⟩
  | 120 => ⟨S8x2048x512, .f32⟩
  | 121 => ⟨S1x1x512, .f32⟩
  | 122 => ⟨S8x2048x512, .f32⟩
  | 123 => ⟨S8x2048x512, .f32⟩
  | 124 => ⟨S8x2048x512, .f32⟩
  | 125 => ⟨S1x512, .f32⟩
  | 126 => ⟨S512, .f32⟩
  | 127 => ⟨S8x2048x512, .f32⟩
  | _ => ⟨S8x2048x1024, .f32⟩

abbrev hbmTy0_4 (i : Nat) : BufTy := match i % 128 with
  | 0 => ⟨S1x1x512, .f32⟩
  | 1 => ⟨S8x2048x512, .f32⟩
  | 2 => ⟨S8x2048x512, .f32⟩
  | 3 => ⟨S8x2048x512, .f32⟩
  | 4 => ⟨S1x512, .f32⟩
  | 5 => ⟨S512, .f32⟩
  | 6 => ⟨S8x2048x512, .f32⟩
  | 7 => ⟨S1x1x512, .f32⟩
  | 8 => ⟨S8x2048x512, .f32⟩
  | 9 => ⟨S8x2048x512, .f32⟩
  | 10 => ⟨S8x2048x512, .f32⟩
  | 11 => ⟨S1x512, .f32⟩
  | 12 => ⟨S512, .f32⟩
  | 13 => ⟨S8x2048x512, .f32⟩
  | 14 => ⟨S1x1x512, .f32⟩
  | 15 => ⟨S8x2048x512, .f32⟩
  | 16 => ⟨S8x2048x512, .f32⟩
  | 17 => ⟨S8x2048x512, .f32⟩
  | 18 => ⟨S1x512, .f32⟩
  | 19 => ⟨S512, .f32⟩
  | 20 => ⟨S8x2048x512, .f32⟩
  | 21 => ⟨S1x1x512, .f32⟩
  | 22 => ⟨S8x2048x512, .f32⟩
  | 23 => ⟨S8x2048x512, .f32⟩
  | 24 => ⟨S8x2048x512, .f32⟩
  | 25 => ⟨S1x512, .f32⟩
  | 26 => ⟨S512, .f32⟩
  | 27 => ⟨S8x2048x512, .f32⟩
  | 28 => ⟨S1x1x512, .f32⟩
  | 29 => ⟨S8x2048x512, .f32⟩
  | 30 => ⟨S8x2048x512, .f32⟩
  | 31 => ⟨S8x2048x512, .f32⟩
  | 32 => ⟨S1x512, .f32⟩
  | 33 => ⟨S512, .f32⟩
  | 34 => ⟨S8x2048x512, .f32⟩
  | 35 => ⟨S1x1x512, .f32⟩
  | 36 => ⟨S8x2048x512, .f32⟩
  | 37 => ⟨S8x2048x512, .f32⟩
  | 38 => ⟨S8x2048x512, .f32⟩
  | 39 => ⟨S1x512, .f32⟩
  | 40 => ⟨S512, .f32⟩
  | 41 => ⟨S8x2048x512, .f32⟩
  | 42 => ⟨S1x1x512, .f32⟩
  | 43 => ⟨S8x2048x512, .f32⟩
  | 44 => ⟨S8x2048x512, .f32⟩
  | 45 => ⟨S8x2048x512, .f32⟩
  | 46 => ⟨S1x512, .f32⟩
  | 47 => ⟨S512, .f32⟩
  | 48 => ⟨S8x2048x512, .f32⟩
  | 49 => ⟨S1x1x512, .f32⟩
  | 50 => ⟨S8x2048x512, .f32⟩
  | 51 => ⟨S8x2048x512, .f32⟩
  | 52 => ⟨S8x2048x512, .f32⟩
  | 53 => ⟨S1x512, .f32⟩
  | 54 => ⟨S512, .f32⟩
  | 55 => ⟨S8x2048x512, .f32⟩
  | 56 => ⟨S1x1x512, .f32⟩
  | 57 => ⟨S8x2048x512, .f32⟩
  | 58 => ⟨S8x2048x512, .f32⟩
  | 59 => ⟨S8x2048x512, .f32⟩
  | 60 => ⟨S1x512, .f32⟩
  | 61 => ⟨S512, .f32⟩
  | 62 => ⟨S8x2048x512, .f32⟩
  | 63 => ⟨S1x1x512, .f32⟩
  | 64 => ⟨S8x2048x512, .f32⟩
  | 65 => ⟨S8x2048x512, .f32⟩
  | 66 => ⟨S8x2048x512, .f32⟩
  | 67 => ⟨S1x512, .f32⟩
  | 68 => ⟨S512, .f32⟩
  | 69 => ⟨S8x2048x512, .f32⟩
  | 70 => ⟨S1x1x512, .f32⟩
  | 71 => ⟨S8x2048x512, .f32⟩
  | 72 => ⟨S8x2048x512, .f32⟩
  | 73 => ⟨S8x2048x512, .f32⟩
  | 74 => ⟨S1x512, .f32⟩
  | 75 => ⟨S512, .f32⟩
  | 76 => ⟨S8x2048x512, .f32⟩
  | 77 => ⟨S1x1x512, .f32⟩
  | 78 => ⟨S8x2048x512, .f32⟩
  | 79 => ⟨S8x2048x512, .f32⟩
  | 80 => ⟨S8x2048x512, .f32⟩
  | 81 => ⟨S1x512, .f32⟩
  | 82 => ⟨S512, .f32⟩
  | 83 => ⟨S8x2048x512, .f32⟩
  | 84 => ⟨S1x1x512, .f32⟩
  | 85 => ⟨S8x2048x512, .f32⟩
  | 86 => ⟨S8x2048x512, .f32⟩
  | 87 => ⟨S8x2048x512, .f32⟩
  | 88 => ⟨S1x512, .f32⟩
  | 89 => ⟨S512, .f32⟩
  | 90 => ⟨S8x2048x512, .f32⟩
  | 91 => ⟨S1x1x512, .f32⟩
  | 92 => ⟨S8x2048x512, .f32⟩
  | 93 => ⟨S8x2048x512, .f32⟩
  | 94 => ⟨S8x2048x512, .f32⟩
  | 95 => ⟨S1x512, .f32⟩
  | 96 => ⟨S512, .f32⟩
  | 97 => ⟨S8x2048x512, .f32⟩
  | 98 => ⟨S1x1x512, .f32⟩
  | 99 => ⟨S8x2048x512, .f32⟩
  | 100 => ⟨S8x2048x512, .f32⟩
  | 101 => ⟨S8x2048x512, .f32⟩
  | 102 => ⟨S1x512, .f32⟩
  | 103 => ⟨S512, .f32⟩
  | 104 => ⟨S8x2048x512, .f32⟩
  | 105 => ⟨S1x1x512, .f32⟩
  | 106 => ⟨S8x2048x512, .f32⟩
  | 107 => ⟨S8x2048x512, .f32⟩
  | 108 => ⟨S8x2048x512, .f32⟩
  | 109 => ⟨S1x512, .f32⟩
  | 110 => ⟨S512, .f32⟩
  | 111 => ⟨S8x2048x512, .f32⟩
  | 112 => ⟨S1x1x512, .f32⟩
  | 113 => ⟨S8x2048x512, .f32⟩
  | 114 => ⟨S8x2048x512, .f32⟩
  | 115 => ⟨S8x2048x512, .f32⟩
  | 116 => ⟨S1x512, .f32⟩
  | 117 => ⟨S512, .f32⟩
  | 118 => ⟨S8x2048x512, .f32⟩
  | 119 => ⟨S1x1x512, .f32⟩
  | 120 => ⟨S8x2048x512, .f32⟩
  | 121 => ⟨S8x2048x512, .f32⟩
  | 122 => ⟨S8x2048x512, .f32⟩
  | 123 => ⟨S1x512, .f32⟩
  | 124 => ⟨S512, .f32⟩
  | 125 => ⟨S8x2048x512, .f32⟩
  | 126 => ⟨S1x1x512, .f32⟩
  | 127 => ⟨S8x2048x512, .f32⟩
  | _ => ⟨S8x2048x1024, .f32⟩

abbrev hbmTy0_5 (i : Nat) : BufTy := match i % 128 with
  | 0 => ⟨S8x2048x512, .f32⟩
  | 1 => ⟨S8x2048x512, .f32⟩
  | 2 => ⟨S1x512, .f32⟩
  | 3 => ⟨S512, .f32⟩
  | 4 => ⟨S8x2048x512, .f32⟩
  | 5 => ⟨S1x1x512, .f32⟩
  | 6 => ⟨S8x2048x512, .f32⟩
  | 7 => ⟨S8x2048x512, .f32⟩
  | 8 => ⟨S8x2048x512, .f32⟩
  | 9 => ⟨S1x512, .f32⟩
  | 10 => ⟨S512, .f32⟩
  | 11 => ⟨S8x2048x512, .f32⟩
  | 12 => ⟨S1x1x512, .f32⟩
  | 13 => ⟨S8x2048x512, .f32⟩
  | 14 => ⟨S8x2048x512, .f32⟩
  | 15 => ⟨S8x2048x512, .f32⟩
  | 16 => ⟨S1x1x512, .f32⟩
  | 17 => ⟨S8x2048x512, .f32⟩
  | 18 => ⟨S8x2048x512, .f32⟩
  | 19 => ⟨S8x2048x8x64, .f32⟩
  | 20 => ⟨S_, .f32⟩
  | 21 => ⟨S8x2048x8, .f32⟩
  | 22 => ⟨S8x2048x8x1, .f32⟩
  | 23 => ⟨S_, .f32⟩
  | 24 => ⟨S8x2048x8x1, .f32⟩
  | 25 => ⟨S8x2048x8x1, .f32⟩
  | 26 => ⟨S8x2048x8x64, .f32⟩
  | 27 => ⟨S8x2048x8x64, .f32⟩
  | 28 => ⟨S8x2048x8x64, .f32⟩
  | 29 => ⟨S_, .f32⟩
  | 30 => ⟨S8x2048x8, .f32⟩
  | 31 => ⟨S8x2048x8x1, .f32⟩
  | 32 => ⟨S_, .f32⟩
  | 33 => ⟨S8x2048x8x1, .f32⟩
  | 34 => ⟨S8x2048x8x1, .f32⟩
  | 35 => ⟨S8x2048x8x64, .f32⟩
  | 36 => ⟨S8x2048x8x64, .f32⟩
  | 37 => ⟨S_, .f32⟩
  | 38 => ⟨S8x2048x8x1, .f32⟩
  | 39 => ⟨S8x2048x8x1, .f32⟩
  | 40 => ⟨S8x2048x8x1, .f32⟩
  | 41 => ⟨S8x2048x8x64, .f32⟩
  | 42 => ⟨S8x2048x8x64, .f32⟩
  | 43 => ⟨S8x2048x512, .f32⟩
  | 44 => ⟨S1x1x512, .f32⟩
  | 45 => ⟨S8x2048x512, .f32⟩
  | 46 => ⟨S8x2048x512, .f32⟩
  | 47 => ⟨S1x1x512, .f32⟩
  | 48 => ⟨S8x2048x512, .f32⟩
  | 49 => ⟨S8x2048x512, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S_, .f32⟩
  | 56 => ⟨S8x2048x512, .f32⟩
  | 57 => ⟨S8x2048x512, .f32⟩
  | 58 => ⟨S8x2048x512, .f32⟩
  | 59 => ⟨S8x2048x512, .f32⟩
  | 60 => ⟨S8x2048x1024, .f32⟩
  | 61 => ⟨S1024x1024, .f32⟩
  | 62 => ⟨S8x2048x1024, .f32⟩
  | 63 => ⟨S1x1x1024, .f32⟩
  | 64 => ⟨S8x2048x1024, .f32⟩
  | 65 => ⟨S8x2048x1024, .f32⟩
  | 66 => ⟨S8x1x1024, .f32⟩
  | 67 => ⟨S8x1x1024, .f32⟩
  | 68 => ⟨S8x1x1024, .f32⟩
  | 69 => ⟨S8x1x1024, .f32⟩
  | 70 => ⟨S_, .f32⟩
  | 71 => ⟨S8x2048x1024, .f32⟩
  | 72 => ⟨S8x2048x1024, .f32⟩
  | 73 => ⟨S_, .f32⟩
  | 74 => ⟨S8x1x1024, .f32⟩
  | 75 => ⟨S8x1x1024, .f32⟩
  | 76 => ⟨S8x2048x1024, .f32⟩
  | 77 => ⟨S8x2048x1024, .f32⟩
  | 78 => ⟨S8x2048x1024, .f32⟩
  | 79 => ⟨S_, .f32⟩
  | 80 => ⟨S8x2048, .f32⟩
  | 81 => ⟨S8x2048x1, .f32⟩
  | 82 => ⟨S_, .f32⟩
  | 83 => ⟨S8x2048x1, .f32⟩
  | 84 => ⟨S8x2048x1, .f32⟩
  | 85 => ⟨S8x2048x1024, .f32⟩
  | 86 => ⟨S8x2048x1024, .f32⟩
  | 87 => ⟨S8x2048x1024, .f32⟩
  | 88 => ⟨S_, .f32⟩
  | 89 => ⟨S8x2048, .f32⟩
  | 90 => ⟨S8x2048x1, .f32⟩
  | 91 => ⟨S_, .f32⟩
  | 92 => ⟨S8x2048x1, .f32⟩
  | 93 => ⟨S8x2048x1, .f32⟩
  | 94 => ⟨S8x2048x1024, .f32⟩
  | 95 => ⟨S8x2048x1024, .f32⟩
  | 96 => ⟨S_, .f32⟩
  | 97 => ⟨S8x2048x1, .f32⟩
  | 98 => ⟨S8x2048x1, .f32⟩
  | 99 => ⟨S8x2048x1, .f32⟩
  | 100 => ⟨S8x2048x1024, .f32⟩
  | 101 => ⟨S8x2048x1024, .f32⟩
  | 102 => ⟨S1x1x1024, .f32⟩
  | 103 => ⟨S8x2048x1024, .f32⟩
  | 104 => ⟨S8x2048x1024, .f32⟩
  | 105 => ⟨S1x1x1024, .f32⟩
  | 106 => ⟨S8x2048x1024, .f32⟩
  | 107 => ⟨S8x2048x1024, .f32⟩
  | 108 => ⟨S_, .f32⟩
  | 109 => ⟨S8x1x1024, .f32⟩
  | 110 => ⟨S8x1x1024, .f32⟩
  | 111 => ⟨S8x2048x1024, .f32⟩
  | 112 => ⟨S8x2048x1024, .f32⟩
  | 113 => ⟨S8x2048x1024, .f32⟩
  | 114 => ⟨S8x2048x1024, .f32⟩
  | 115 => ⟨S1024x4096, .f32⟩
  | 116 => ⟨S8x2048x4096, .f32⟩
  | 117 => ⟨S1x1x4096, .f32⟩
  | 118 => ⟨S8x2048x4096, .f32⟩
  | 119 => ⟨S8x2048x4096, .f32⟩
  | 120 => ⟨S_, .f32⟩
  | 121 => ⟨S8x2048x4096, .f32⟩
  | 122 => ⟨S8x2048x4096, .f32⟩
  | 123 => ⟨S8x2048x4096, .f32⟩
  | 124 => ⟨S4096x1024, .f32⟩
  | 125 => ⟨S8x2048x1024, .f32⟩
  | 126 => ⟨S1x1x1024, .f32⟩
  | 127 => ⟨S8x2048x1024, .f32⟩
  | _ => ⟨S8x2048x1024, .f32⟩

abbrev hbmTy0_6 (i : Nat) : BufTy := match i % 128 with
  | 0 => ⟨S8x2048x1024, .f32⟩
  | 1 => ⟨S_, .f32⟩
  | 2 => ⟨S8x2048x1024, .f32⟩
  | 3 => ⟨S8x2048x1024, .f32⟩
  | 4 => ⟨S_, .f32⟩
  | 5 => ⟨S8x1x1024, .f32⟩
  | 6 => ⟨S8x1x1024, .f32⟩
  | 7 => ⟨S8x2048x1024, .f32⟩
  | 8 => ⟨S8x2048x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S8x2048x1024, .f32⟩
  | 17 => ⟨S8x2048x1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S8x2048x1024, .f32⟩
  | 26 => ⟨S8x2048x1024, .f32⟩
  | 27 => ⟨S_, .f32⟩
  | 28 => ⟨S8x2048x1, .f32⟩
  | 29 => ⟨S8x2048x1, .f32⟩
  | 30 => ⟨S8x2048x1, .f32⟩
  | 31 => ⟨S8x2048x1024, .f32⟩
  | 32 => ⟨S8x2048x1024, .f32⟩
  | 33 => ⟨S1x1x1024, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call0_call0_cst : Ref sig .tc := ⟨.hbm, 34, rfl⟩
abbrev main_call0_call0_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_call0_cst : Ref sig .tc := ⟨.hbm, 89, rfl⟩
abbrev main_call1_call0_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_7 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_cst_8 : Ref sig .tc := ⟨.hbm, 330, rfl⟩
abbrev main_v297 : Ref sig .tc := ⟨.hbm, 331, rfl⟩
abbrev main_v298 : Ref sig .tc := ⟨.hbm, 332, rfl⟩
abbrev main_cst_9 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_call2_v0 : Ref sig .tc := ⟨.hbm, 339, rfl⟩
abbrev main_call2_v1 : Ref sig .tc := ⟨.hbm, 340, rfl⟩
abbrev main_call2_cst : Ref sig .tc := ⟨.hbm, 341, rfl⟩
abbrev main_call2_v2 : Ref sig .tc := ⟨.hbm, 342, rfl⟩
abbrev main_call2_v3 : Ref sig .tc := ⟨.hbm, 343, rfl⟩
abbrev main_call2_cst_0 : Ref sig .tc := ⟨.hbm, 344, rfl⟩
abbrev main_call2_v4 : Ref sig .tc := ⟨.hbm, 345, rfl⟩
abbrev main_call2_v5 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_cst_10 : Ref sig .tc := ⟨.hbm, 364, rfl⟩
abbrev main_call3_v0 : Ref sig .tc := ⟨.hbm, 365, rfl⟩
abbrev main_call3_v1 : Ref sig .tc := ⟨.hbm, 366, rfl⟩
abbrev main_call3_v2 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_cst_11 : Ref sig .tc := ⟨.hbm, 410, rfl⟩
abbrev main_v363 : Ref sig .tc := ⟨.hbm, 411, rfl⟩
abbrev main_v364 : Ref sig .tc := ⟨.hbm, 412, rfl⟩
abbrev main_cst_12 : Ref sig .tc := ⟨.hbm, 413, rfl⟩
abbrev main_v365 : Ref sig .tc := ⟨.hbm, 414, rfl⟩
abbrev main_v366 : Ref sig .tc := ⟨.hbm, 415, rfl⟩
abbrev main_cst_13 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_call4_v0 : Ref sig .tc := ⟨.hbm, 426, rfl⟩
abbrev main_call4_v1 : Ref sig .tc := ⟨.hbm, 427, rfl⟩
abbrev main_call4_cst : Ref sig .tc := ⟨.hbm, 428, rfl⟩
abbrev main_call4_v2 : Ref sig .tc := ⟨.hbm, 429, rfl⟩
abbrev main_call4_v3 : Ref sig .tc := ⟨.hbm, 430, rfl⟩
abbrev main_call4_cst_0 : Ref sig .tc := ⟨.hbm, 431, rfl⟩
abbrev main_call4_v4 : Ref sig .tc := ⟨.hbm, 432, rfl⟩
abbrev main_call4_v5 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_cst_14 : Ref sig .tc := ⟨.hbm, 437, rfl⟩
abbrev main_v379 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_v393 : Ref sig .tc := ⟨.hbm, 452, rfl⟩
abbrev main_v394 : Ref sig .tc := ⟨.hbm, 453, rfl⟩
abbrev main_v395 : Ref sig .tc := ⟨.hbm, 454, rfl⟩
abbrev main_v396 : Ref sig .tc := ⟨.hbm, 455, rfl⟩
abbrev main_v397 : Ref sig .tc := ⟨.hbm, 456, rfl⟩
abbrev main_v398 : Ref sig .tc := ⟨.hbm, 457, rfl⟩
abbrev main_v399 : Ref sig .tc := ⟨.hbm, 458, rfl⟩
abbrev main_v400 : Ref sig .tc := ⟨.hbm, 459, rfl⟩
abbrev main_v401 : Ref sig .tc := ⟨.hbm, 460, rfl⟩
abbrev main_v402 : Ref sig .tc := ⟨.hbm, 461, rfl⟩
abbrev main_v403 : Ref sig .tc := ⟨.hbm, 462, rfl⟩
abbrev main_v404 : Ref sig .tc := ⟨.hbm, 463, rfl⟩
abbrev main_v405 : Ref sig .tc := ⟨.hbm, 464, rfl⟩
abbrev main_v406 : Ref sig .tc := ⟨.hbm, 465, rfl⟩
abbrev main_v407 : Ref sig .tc := ⟨.hbm, 466, rfl⟩
abbrev main_v408 : Ref sig .tc := ⟨.hbm, 467, rfl⟩
abbrev main_v409 : Ref sig .tc := ⟨.hbm, 468, rfl⟩
abbrev main_v410 : Ref sig .tc := ⟨.hbm, 469, rfl⟩
abbrev main_v411 : Ref sig .tc := ⟨.hbm, 470, rfl⟩
abbrev main_v412 : Ref sig .tc := ⟨.hbm, 471, rfl⟩
abbrev main_v413 : Ref sig .tc := ⟨.hbm, 472, rfl⟩
abbrev main_v414 : Ref sig .tc := ⟨.hbm, 473, rfl⟩
abbrev main_v415 : Ref sig .tc := ⟨.hbm, 474, rfl⟩
abbrev main_v416 : Ref sig .tc := ⟨.hbm, 475, rfl⟩
abbrev main_v417 : Ref sig .tc := ⟨.hbm, 476, rfl⟩
abbrev main_v418 : Ref sig .tc := ⟨.hbm, 477, rfl⟩
abbrev main_v419 : Ref sig .tc := ⟨.hbm, 478, rfl⟩
abbrev main_v420 : Ref sig .tc := ⟨.hbm, 479, rfl⟩
abbrev main_v421 : Ref sig .tc := ⟨.hbm, 480, rfl⟩
abbrev main_v422 : Ref sig .tc := ⟨.hbm, 481, rfl⟩
abbrev main_v423 : Ref sig .tc := ⟨.hbm, 482, rfl⟩
abbrev main_v424 : Ref sig .tc := ⟨.hbm, 483, rfl⟩
abbrev main_v425 : Ref sig .tc := ⟨.hbm, 484, rfl⟩
abbrev main_v426 : Ref sig .tc := ⟨.hbm, 485, rfl⟩
abbrev main_v427 : Ref sig .tc := ⟨.hbm, 486, rfl⟩
abbrev main_v428 : Ref sig .tc := ⟨.hbm, 487, rfl⟩
abbrev main_v429 : Ref sig .tc := ⟨.hbm, 488, rfl⟩
abbrev main_v430 : Ref sig .tc := ⟨.hbm, 489, rfl⟩
abbrev main_v431 : Ref sig .tc := ⟨.hbm, 490, rfl⟩
abbrev main_v432 : Ref sig .tc := ⟨.hbm, 491, rfl⟩
abbrev main_v433 : Ref sig .tc := ⟨.hbm, 492, rfl⟩
abbrev main_v434 : Ref sig .tc := ⟨.hbm, 493, rfl⟩
abbrev main_v435 : Ref sig .tc := ⟨.hbm, 494, rfl⟩
abbrev main_v436 : Ref sig .tc := ⟨.hbm, 495, rfl⟩
abbrev main_v437 : Ref sig .tc := ⟨.hbm, 496, rfl⟩
abbrev main_v438 : Ref sig .tc := ⟨.hbm, 497, rfl⟩
abbrev main_v439 : Ref sig .tc := ⟨.hbm, 498, rfl⟩
abbrev main_v440 : Ref sig .tc := ⟨.hbm, 499, rfl⟩
abbrev main_v441 : Ref sig .tc := ⟨.hbm, 500, rfl⟩
abbrev main_v442 : Ref sig .tc := ⟨.hbm, 501, rfl⟩
abbrev main_v443 : Ref sig .tc := ⟨.hbm, 502, rfl⟩
abbrev main_v444 : Ref sig .tc := ⟨.hbm, 503, rfl⟩
abbrev main_v445 : Ref sig .tc := ⟨.hbm, 504, rfl⟩
abbrev main_v446 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_v450 : Ref sig .tc := ⟨.hbm, 509, rfl⟩
abbrev main_v451 : Ref sig .tc := ⟨.hbm, 510, rfl⟩
abbrev main_v452 : Ref sig .tc := ⟨.hbm, 511, rfl⟩
abbrev main_v453 : Ref sig .tc := ⟨.hbm, 512, rfl⟩
abbrev main_v454 : Ref sig .tc := ⟨.hbm, 513, rfl⟩
abbrev main_v455 : Ref sig .tc := ⟨.hbm, 514, rfl⟩
abbrev main_v456 : Ref sig .tc := ⟨.hbm, 515, rfl⟩
abbrev main_v457 : Ref sig .tc := ⟨.hbm, 516, rfl⟩
abbrev main_v458 : Ref sig .tc := ⟨.hbm, 517, rfl⟩
abbrev main_v459 : Ref sig .tc := ⟨.hbm, 518, rfl⟩
abbrev main_v460 : Ref sig .tc := ⟨.hbm, 519, rfl⟩
abbrev main_v461 : Ref sig .tc := ⟨.hbm, 520, rfl⟩
abbrev main_v462 : Ref sig .tc := ⟨.hbm, 521, rfl⟩
abbrev main_v463 : Ref sig .tc := ⟨.hbm, 522, rfl⟩
abbrev main_v464 : Ref sig .tc := ⟨.hbm, 523, rfl⟩
abbrev main_v465 : Ref sig .tc := ⟨.hbm, 524, rfl⟩
abbrev main_v466 : Ref sig .tc := ⟨.hbm, 525, rfl⟩
abbrev main_v467 : Ref sig .tc := ⟨.hbm, 526, rfl⟩
abbrev main_v468 : Ref sig .tc := ⟨.hbm, 527, rfl⟩
abbrev main_v469 : Ref sig .tc := ⟨.hbm, 528, rfl⟩
abbrev main_v470 : Ref sig .tc := ⟨.hbm, 529, rfl⟩
abbrev main_v471 : Ref sig .tc := ⟨.hbm, 530, rfl⟩
abbrev main_v472 : Ref sig .tc := ⟨.hbm, 531, rfl⟩
abbrev main_v473 : Ref sig .tc := ⟨.hbm, 532, rfl⟩
abbrev main_v474 : Ref sig .tc := ⟨.hbm, 533, rfl⟩
abbrev main_v475 : Ref sig .tc := ⟨.hbm, 534, rfl⟩
abbrev main_v476 : Ref sig .tc := ⟨.hbm, 535, rfl⟩
abbrev main_v477 : Ref sig .tc := ⟨.hbm, 536, rfl⟩
abbrev main_v478 : Ref sig .tc := ⟨.hbm, 537, rfl⟩
abbrev main_v479 : Ref sig .tc := ⟨.hbm, 538, rfl⟩
abbrev main_v480 : Ref sig .tc := ⟨.hbm, 539, rfl⟩
abbrev main_v481 : Ref sig .tc := ⟨.hbm, 540, rfl⟩
abbrev main_v482 : Ref sig .tc := ⟨.hbm, 541, rfl⟩
abbrev main_v483 : Ref sig .tc := ⟨.hbm, 542, rfl⟩
abbrev main_v484 : Ref sig .tc := ⟨.hbm, 543, rfl⟩
abbrev main_v485 : Ref sig .tc := ⟨.hbm, 544, rfl⟩
abbrev main_v486 : Ref sig .tc := ⟨.hbm, 545, rfl⟩
abbrev main_v487 : Ref sig .tc := ⟨.hbm, 546, rfl⟩
abbrev main_v488 : Ref sig .tc := ⟨.hbm, 547, rfl⟩
abbrev main_v489 : Ref sig .tc := ⟨.hbm, 548, rfl⟩
abbrev main_v490 : Ref sig .tc := ⟨.hbm, 549, rfl⟩
abbrev main_v491 : Ref sig .tc := ⟨.hbm, 550, rfl⟩
abbrev main_v492 : Ref sig .tc := ⟨.hbm, 551, rfl⟩
abbrev main_v493 : Ref sig .tc := ⟨.hbm, 552, rfl⟩
abbrev main_v494 : Ref sig .tc := ⟨.hbm, 553, rfl⟩
abbrev main_v495 : Ref sig .tc := ⟨.hbm, 554, rfl⟩
abbrev main_v496 : Ref sig .tc := ⟨.hbm, 555, rfl⟩
abbrev main_v497 : Ref sig .tc := ⟨.hbm, 556, rfl⟩
abbrev main_v498 : Ref sig .tc := ⟨.hbm, 557, rfl⟩
abbrev main_v499 : Ref sig .tc := ⟨.hbm, 558, rfl⟩
abbrev main_v500 : Ref sig .tc := ⟨.hbm, 559, rfl⟩
abbrev main_v501 : Ref sig .tc := ⟨.hbm, 560, rfl⟩
abbrev main_v502 : Ref sig .tc := ⟨.hbm, 561, rfl⟩
abbrev main_v503 : Ref sig .tc := ⟨.hbm, 562, rfl⟩
abbrev main_v504 : Ref sig .tc := ⟨.hbm, 563, rfl⟩
abbrev main_v505 : Ref sig .tc := ⟨.hbm, 564, rfl⟩
abbrev main_v506 : Ref sig .tc := ⟨.hbm, 565, rfl⟩
abbrev main_v507 : Ref sig .tc := ⟨.hbm, 566, rfl⟩
abbrev main_v508 : Ref sig .tc := ⟨.hbm, 567, rfl⟩
abbrev main_v509 : Ref sig .tc := ⟨.hbm, 568, rfl⟩
abbrev main_v510 : Ref sig .tc := ⟨.hbm, 569, rfl⟩
abbrev main_v511 : Ref sig .tc := ⟨.hbm, 570, rfl⟩
abbrev main_v512 : Ref sig .tc := ⟨.hbm, 571, rfl⟩
abbrev main_v513 : Ref sig .tc := ⟨.hbm, 572, rfl⟩
abbrev main_v514 : Ref sig .tc := ⟨.hbm, 573, rfl⟩
abbrev main_v515 : Ref sig .tc := ⟨.hbm, 574, rfl⟩
abbrev main_v516 : Ref sig .tc := ⟨.hbm, 575, rfl⟩
abbrev main_v517 : Ref sig .tc := ⟨.hbm, 576, rfl⟩
abbrev main_v518 : Ref sig .tc := ⟨.hbm, 577, rfl⟩
abbrev main_v519 : Ref sig .tc := ⟨.hbm, 578, rfl⟩
abbrev main_v520 : Ref sig .tc := ⟨.hbm, 579, rfl⟩
abbrev main_v521 : Ref sig .tc := ⟨.hbm, 580, rfl⟩
abbrev main_v522 : Ref sig .tc := ⟨.hbm, 581, rfl⟩
abbrev main_v523 : Ref sig .tc := ⟨.hbm, 582, rfl⟩
abbrev main_v524 : Ref sig .tc := ⟨.hbm, 583, rfl⟩
abbrev main_v525 : Ref sig .tc := ⟨.hbm, 584, rfl⟩
abbrev main_v526 : Ref sig .tc := ⟨.hbm, 585, rfl⟩
abbrev main_v527 : Ref sig .tc := ⟨.hbm, 586, rfl⟩
abbrev main_v528 : Ref sig .tc := ⟨.hbm, 587, rfl⟩
abbrev main_v529 : Ref sig .tc := ⟨.hbm, 588, rfl⟩
abbrev main_v530 : Ref sig .tc := ⟨.hbm, 589, rfl⟩
abbrev main_v531 : Ref sig .tc := ⟨.hbm, 590, rfl⟩
abbrev main_v532 : Ref sig .tc := ⟨.hbm, 591, rfl⟩
abbrev main_v533 : Ref sig .tc := ⟨.hbm, 592, rfl⟩
abbrev main_v534 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539 : Ref sig .tc := ⟨.hbm, 598, rfl⟩
abbrev main_v540 : Ref sig .tc := ⟨.hbm, 599, rfl⟩
abbrev main_v541 : Ref sig .tc := ⟨.hbm, 600, rfl⟩
abbrev main_v542 : Ref sig .tc := ⟨.hbm, 601, rfl⟩
abbrev main_v543 : Ref sig .tc := ⟨.hbm, 602, rfl⟩
abbrev main_v544 : Ref sig .tc := ⟨.hbm, 603, rfl⟩
abbrev main_v545 : Ref sig .tc := ⟨.hbm, 604, rfl⟩
abbrev main_v546 : Ref sig .tc := ⟨.hbm, 605, rfl⟩
abbrev main_v547 : Ref sig .tc := ⟨.hbm, 606, rfl⟩
abbrev main_v548 : Ref sig .tc := ⟨.hbm, 607, rfl⟩
abbrev main_v549 : Ref sig .tc := ⟨.hbm, 608, rfl⟩
abbrev main_v550 : Ref sig .tc := ⟨.hbm, 609, rfl⟩
abbrev main_v551 : Ref sig .tc := ⟨.hbm, 610, rfl⟩
abbrev main_v552 : Ref sig .tc := ⟨.hbm, 611, rfl⟩
abbrev main_v553 : Ref sig .tc := ⟨.hbm, 612, rfl⟩
abbrev main_v554 : Ref sig .tc := ⟨.hbm, 613, rfl⟩
abbrev main_v555 : Ref sig .tc := ⟨.hbm, 614, rfl⟩
abbrev main_v556 : Ref sig .tc := ⟨.hbm, 615, rfl⟩
abbrev main_v557 : Ref sig .tc := ⟨.hbm, 616, rfl⟩
abbrev main_v558 : Ref sig .tc := ⟨.hbm, 617, rfl⟩
abbrev main_v559 : Ref sig .tc := ⟨.hbm, 618, rfl⟩
abbrev main_v560 : Ref sig .tc := ⟨.hbm, 619, rfl⟩
abbrev main_v561 : Ref sig .tc := ⟨.hbm, 620, rfl⟩
abbrev main_v562 : Ref sig .tc := ⟨.hbm, 621, rfl⟩
abbrev main_v563 : Ref sig .tc := ⟨.hbm, 622, rfl⟩
abbrev main_v564 : Ref sig .tc := ⟨.hbm, 623, rfl⟩
abbrev main_v565 : Ref sig .tc := ⟨.hbm, 624, rfl⟩
abbrev main_v566 : Ref sig .tc := ⟨.hbm, 625, rfl⟩
abbrev main_v567 : Ref sig .tc := ⟨.hbm, 626, rfl⟩
abbrev main_v568 : Ref sig .tc := ⟨.hbm, 627, rfl⟩
abbrev main_v569 : Ref sig .tc := ⟨.hbm, 628, rfl⟩
abbrev main_v570 : Ref sig .tc := ⟨.hbm, 629, rfl⟩
abbrev main_v571 : Ref sig .tc := ⟨.hbm, 630, rfl⟩
abbrev main_v572 : Ref sig .tc := ⟨.hbm, 631, rfl⟩
abbrev main_v573 : Ref sig .tc := ⟨.hbm, 632, rfl⟩
abbrev main_v574 : Ref sig .tc := ⟨.hbm, 633, rfl⟩
abbrev main_v575 : Ref sig .tc := ⟨.hbm, 634, rfl⟩
abbrev main_v576 : Ref sig .tc := ⟨.hbm, 635, rfl⟩
abbrev main_v577 : Ref sig .tc := ⟨.hbm, 636, rfl⟩
abbrev main_v578 : Ref sig .tc := ⟨.hbm, 637, rfl⟩
abbrev main_v579 : Ref sig .tc := ⟨.hbm, 638, rfl⟩
abbrev main_v580 : Ref sig .tc := ⟨.hbm, 639, rfl⟩
abbrev main_v581 : Ref sig .tc := ⟨.hbm, 640, rfl⟩
abbrev main_v582 : Ref sig .tc := ⟨.hbm, 641, rfl⟩
abbrev main_v583 : Ref sig .tc := ⟨.hbm, 642, rfl⟩
abbrev main_v584 : Ref sig .tc := ⟨.hbm, 643, rfl⟩
abbrev main_v585 : Ref sig .tc := ⟨.hbm, 644, rfl⟩
abbrev main_v586 : Ref sig .tc := ⟨.hbm, 645, rfl⟩
abbrev main_v587 : Ref sig .tc := ⟨.hbm, 646, rfl⟩
abbrev main_v588 : Ref sig .tc := ⟨.hbm, 647, rfl⟩
abbrev main_v589 : Ref sig .tc := ⟨.hbm, 648, rfl⟩
abbrev main_v590 : Ref sig .tc := ⟨.hbm, 649, rfl⟩
abbrev main_v591 : Ref sig .tc := ⟨.hbm, 650, rfl⟩
abbrev main_v592 : Ref sig .tc := ⟨.hbm, 651, rfl⟩
abbrev main_v593 : Ref sig .tc := ⟨.hbm, 652, rfl⟩
abbrev main_v594 : Ref sig .tc := ⟨.hbm, 653, rfl⟩
abbrev main_v595 : Ref sig .tc := ⟨.hbm, 654, rfl⟩
abbrev main_v596 : Ref sig .tc := ⟨.hbm, 655, rfl⟩
abbrev main_v597 : Ref sig .tc := ⟨.hbm, 656, rfl⟩
abbrev main_v598 : Ref sig .tc := ⟨.hbm, 657, rfl⟩
abbrev main_v599 : Ref sig .tc := ⟨.hbm, 658, rfl⟩
abbrev main_v600 : Ref sig .tc := ⟨.hbm, 659, rfl⟩
abbrev main_cst_15 : Ref sig .tc := ⟨.hbm, 660, rfl⟩
abbrev main_v601 : Ref sig .tc := ⟨.hbm, 661, rfl⟩
abbrev main_v602 : Ref sig .tc := ⟨.hbm, 662, rfl⟩
abbrev main_cst_16 : Ref sig .tc := ⟨.hbm, 663, rfl⟩
abbrev main_v603 : Ref sig .tc := ⟨.hbm, 664, rfl⟩
abbrev main_v604 : Ref sig .tc := ⟨.hbm, 665, rfl⟩
abbrev main_v605 : Ref sig .tc := ⟨.hbm, 666, rfl⟩
abbrev main_v606 : Ref sig .tc := ⟨.hbm, 667, rfl⟩
abbrev main_v607 : Ref sig .tc := ⟨.hbm, 668, rfl⟩
abbrev main_cst_17 : Ref sig .tc := ⟨.hbm, 669, rfl⟩
abbrev main_v608 : Ref sig .tc := ⟨.hbm, 670, rfl⟩
abbrev main_v609 : Ref sig .tc := ⟨.hbm, 671, rfl⟩
abbrev main_cst_18 : Ref sig .tc := ⟨.hbm, 672, rfl⟩
abbrev main_v610 : Ref sig .tc := ⟨.hbm, 673, rfl⟩
abbrev main_v611 : Ref sig .tc := ⟨.hbm, 674, rfl⟩
abbrev main_v612 : Ref sig .tc := ⟨.hbm, 675, rfl⟩
abbrev main_v613 : Ref sig .tc := ⟨.hbm, 676, rfl⟩
abbrev main_cst_19 : Ref sig .tc := ⟨.hbm, 677, rfl⟩
abbrev main_v614 : Ref sig .tc := ⟨.hbm, 678, rfl⟩
abbrev main_v615 : Ref sig .tc := ⟨.hbm, 679, rfl⟩
abbrev main_v616 : Ref sig .tc := ⟨.hbm, 680, rfl⟩
abbrev main_v617 : Ref sig .tc := ⟨.hbm, 681, rfl⟩
abbrev main_v618 : Ref sig .tc := ⟨.hbm, 682, rfl⟩
abbrev main_v619 : Ref sig .tc := ⟨.hbm, 683, rfl⟩
abbrev main_v620 : Ref sig .tc := ⟨.hbm, 684, rfl⟩
abbrev main_v621 : Ref sig .tc := ⟨.hbm, 685, rfl⟩
abbrev main_v622 : Ref sig .tc := ⟨.hbm, 686, rfl⟩
abbrev main_v623 : Ref sig .tc := ⟨.hbm, 687, rfl⟩
abbrev main_v624 : Ref sig .tc := ⟨.hbm, 688, rfl⟩
abbrev main_v625 : Ref sig .tc := ⟨.hbm, 689, rfl⟩
abbrev main_call5_v0 : Ref sig .tc := ⟨.hbm, 690, rfl⟩
abbrev main_call5_v1 : Ref sig .tc := ⟨.hbm, 691, rfl⟩
abbrev main_call5_cst : Ref sig .tc := ⟨.hbm, 692, rfl⟩
abbrev main_call5_v2 : Ref sig .tc := ⟨.hbm, 693, rfl⟩
abbrev main_call5_v3 : Ref sig .tc := ⟨.hbm, 694, rfl⟩
abbrev main_call5_cst_0 : Ref sig .tc := ⟨.hbm, 695, rfl⟩
abbrev main_call5_v4 : Ref sig .tc := ⟨.hbm, 696, rfl⟩
abbrev main_call5_v5 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_v630 : Ref sig .tc := ⟨.hbm, 702, rfl⟩
abbrev main_v631 : Ref sig .tc := ⟨.hbm, 703, rfl⟩
abbrev main_v632 : Ref sig .tc := ⟨.hbm, 704, rfl⟩
abbrev main_v633 : Ref sig .tc := ⟨.hbm, 705, rfl⟩
abbrev main_v634 : Ref sig .tc := ⟨.hbm, 706, rfl⟩
abbrev main_v635 : Ref sig .tc := ⟨.hbm, 707, rfl⟩
abbrev main_v636 : Ref sig .tc := ⟨.hbm, 708, rfl⟩
abbrev main_v637 : Ref sig .tc := ⟨.hbm, 709, rfl⟩
abbrev main_cst_20 : Ref sig .tc := ⟨.hbm, 710, rfl⟩
abbrev main_v638 : Ref sig .tc := ⟨.hbm, 711, rfl⟩
abbrev main_v639 : Ref sig .tc := ⟨.hbm, 712, rfl⟩
abbrev main_cst_21 : Ref sig .tc := ⟨.hbm, 713, rfl⟩
abbrev main_v640 : Ref sig .tc := ⟨.hbm, 714, rfl⟩
abbrev main_v641 : Ref sig .tc := ⟨.hbm, 715, rfl⟩
abbrev main_v642 : Ref sig .tc := ⟨.hbm, 716, rfl⟩
abbrev main_v643 : Ref sig .tc := ⟨.hbm, 717, rfl⟩
abbrev main_v644 : Ref sig .tc := ⟨.hbm, 718, rfl⟩
abbrev main_cst_22 : Ref sig .tc := ⟨.hbm, 719, rfl⟩
abbrev main_v645 : Ref sig .tc := ⟨.hbm, 720, rfl⟩
abbrev main_v646 : Ref sig .tc := ⟨.hbm, 721, rfl⟩
abbrev main_cst_23 : Ref sig .tc := ⟨.hbm, 722, rfl⟩
abbrev main_v647 : Ref sig .tc := ⟨.hbm, 723, rfl⟩
abbrev main_v648 : Ref sig .tc := ⟨.hbm, 724, rfl⟩
abbrev main_v649 : Ref sig .tc := ⟨.hbm, 725, rfl⟩
abbrev main_v650 : Ref sig .tc := ⟨.hbm, 726, rfl⟩
abbrev main_v651 : Ref sig .tc := ⟨.hbm, 727, rfl⟩
abbrev main_cst_24 : Ref sig .tc := ⟨.hbm, 728, rfl⟩
abbrev main_v652 : Ref sig .tc := ⟨.hbm, 729, rfl⟩
abbrev main_v653 : Ref sig .tc := ⟨.hbm, 730, rfl⟩
abbrev main_cst_25 : Ref sig .tc := ⟨.hbm, 731, rfl⟩
abbrev main_v654 : Ref sig .tc := ⟨.hbm, 732, rfl⟩
abbrev main_v655 : Ref sig .tc := ⟨.hbm, 733, rfl⟩
abbrev main_v656 : Ref sig .tc := ⟨.hbm, 734, rfl⟩
abbrev main_v657 : Ref sig .tc := ⟨.hbm, 735, rfl⟩
abbrev main_cst_26 : Ref sig .tc := ⟨.hbm, 736, rfl⟩
abbrev main_v658 : Ref sig .tc := ⟨.hbm, 737, rfl⟩
abbrev main_v659 : Ref sig .tc := ⟨.hbm, 738, rfl⟩
abbrev main_v660 : Ref sig .tc := ⟨.hbm, 739, rfl⟩
abbrev main_v661 : Ref sig .tc := ⟨.hbm, 740, rfl⟩
abbrev main_v662 : Ref sig .tc := ⟨.hbm, 741, rfl⟩
abbrev main_v663 : Ref sig .tc := ⟨.hbm, 742, rfl⟩
abbrev main_v664 : Ref sig .tc := ⟨.hbm, 743, rfl⟩
abbrev main_v665 : Ref sig .tc := ⟨.hbm, 744, rfl⟩
abbrev main_v666 : Ref sig .tc := ⟨.hbm, 745, rfl⟩
abbrev main_v667 : Ref sig .tc := ⟨.hbm, 746, rfl⟩
abbrev main_v668 : Ref sig .tc := ⟨.hbm, 747, rfl⟩
abbrev main_cst_27 : Ref sig .tc := ⟨.hbm, 748, rfl⟩
abbrev main_v669 : Ref sig .tc := ⟨.hbm, 749, rfl⟩
abbrev main_v670 : Ref sig .tc := ⟨.hbm, 750, rfl⟩
abbrev main_v671 : Ref sig .tc := ⟨.hbm, 751, rfl⟩
abbrev main_v672 : Ref sig .tc := ⟨.hbm, 752, rfl⟩
abbrev main_v673 : Ref sig .tc := ⟨.hbm, 753, rfl⟩
abbrev main_v674 : Ref sig .tc := ⟨.hbm, 754, rfl⟩
abbrev main_v675 : Ref sig .tc := ⟨.hbm, 755, rfl⟩
abbrev main_v676 : Ref sig .tc := ⟨.hbm, 756, rfl⟩
abbrev main_v677 : Ref sig .tc := ⟨.hbm, 757, rfl⟩
abbrev main_v678 : Ref sig .tc := ⟨.hbm, 758, rfl⟩
abbrev main_v679 : Ref sig .tc := ⟨.hbm, 759, rfl⟩
abbrev main_cst_28 : Ref sig .tc := ⟨.hbm, 760, rfl⟩
abbrev main_v680 : Ref sig .tc := ⟨.hbm, 761, rfl⟩
abbrev main_v681 : Ref sig .tc := ⟨.hbm, 762, rfl⟩
abbrev main_v682 : Ref sig .tc := ⟨.hbm, 763, rfl⟩
abbrev main_v683 : Ref sig .tc := ⟨.hbm, 764, rfl⟩
abbrev main_v684 : Ref sig .tc := ⟨.hbm, 765, rfl⟩
abbrev main_v685 : Ref sig .tc := ⟨.hbm, 766, rfl⟩
abbrev main_v686 : Ref sig .tc := ⟨.hbm, 767, rfl⟩
abbrev main_v687 : Ref sig .tc := ⟨.hbm, 768, rfl⟩
abbrev main_cst_29 : Ref sig .tc := ⟨.hbm, 769, rfl⟩
abbrev main_v688 : Ref sig .tc := ⟨.hbm, 770, rfl⟩
abbrev main_v689 : Ref sig .tc := ⟨.hbm, 771, rfl⟩
abbrev main_cst_30 : Ref sig .tc := ⟨.hbm, 772, rfl⟩
abbrev main_v690 : Ref sig .tc := ⟨.hbm, 773, rfl⟩
abbrev main_v691 : Ref sig .tc := ⟨.hbm, 774, rfl⟩
abbrev main_v692 : Ref sig .tc := ⟨.hbm, 775, rfl⟩
abbrev main_v693 : Ref sig .tc := ⟨.hbm, 776, rfl⟩
abbrev main_v694 : Ref sig .tc := ⟨.hbm, 777, rfl⟩
abbrev main_cst_31 : Ref sig .tc := ⟨.hbm, 778, rfl⟩
abbrev main_v695 : Ref sig .tc := ⟨.hbm, 779, rfl⟩
abbrev main_v696 : Ref sig .tc := ⟨.hbm, 780, rfl⟩
abbrev main_cst_32 : Ref sig .tc := ⟨.hbm, 781, rfl⟩
abbrev main_v697 : Ref sig .tc := ⟨.hbm, 782, rfl⟩
abbrev main_v698 : Ref sig .tc := ⟨.hbm, 783, rfl⟩
abbrev main_v699 : Ref sig .tc := ⟨.hbm, 784, rfl⟩
abbrev main_v700 : Ref sig .tc := ⟨.hbm, 785, rfl⟩
abbrev main_v701 : Ref sig .tc := ⟨.hbm, 786, rfl⟩
abbrev main_cst_33 : Ref sig .tc := ⟨.hbm, 787, rfl⟩
abbrev main_v702 : Ref sig .tc := ⟨.hbm, 788, rfl⟩
abbrev main_v703 : Ref sig .tc := ⟨.hbm, 789, rfl⟩
abbrev main_cst_34 : Ref sig .tc := ⟨.hbm, 790, rfl⟩
abbrev main_v704 : Ref sig .tc := ⟨.hbm, 791, rfl⟩
abbrev main_v705 : Ref sig .tc := ⟨.hbm, 792, rfl⟩
abbrev main_v706 : Ref sig .tc := ⟨.hbm, 793, rfl⟩
abbrev main_v707 : Ref sig .tc := ⟨.hbm, 794, rfl⟩
abbrev main_cst_35 : Ref sig .tc := ⟨.hbm, 795, rfl⟩
abbrev main_v708 : Ref sig .tc := ⟨.hbm, 796, rfl⟩
abbrev main_v709 : Ref sig .tc := ⟨.hbm, 797, rfl⟩
abbrev main_v710 : Ref sig .tc := ⟨.hbm, 798, rfl⟩
abbrev main_v711 : Ref sig .tc := ⟨.hbm, 799, rfl⟩
abbrev main_v712 : Ref sig .tc := ⟨.hbm, 800, rfl⟩
abbrev main_v713 : Ref sig .tc := ⟨.hbm, 801, rfl⟩
abbrev main_v714 : Ref sig .tc := ⟨.hbm, 802, rfl⟩
abbrev main_v715 : Ref sig .tc := ⟨.hbm, 803, rfl⟩
abbrev main_v716 : Ref sig .tc := ⟨.hbm, 804, rfl⟩
abbrev main_v717 : Ref sig .tc := ⟨.hbm, 805, rfl⟩
abbrev main_v718 : Ref sig .tc := ⟨.hbm, 806, rfl⟩

abbrev nD : Nat := 1
abbrev τ : Topo := Topo.v7x

variable {F : FTy → Type} [FloatOps F]
-- ==== Kernel2.lean ====
abbrev S4x128x1024 : Shape := ⟨3, ![4, 128, 1024]⟩
abbrev S128x6144 : Shape := ⟨2, ![128, 6144]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S128x4x1024 : Shape := ⟨3, ![128, 4, 1024]⟩
abbrev S128x1024 : Shape := ⟨2, ![128, 1024]⟩
abbrev S1x128x1024 : Shape := ⟨3, ![1, 128, 1024]⟩
abbrev S512x1024 : Shape := ⟨2, ![512, 1024]⟩
abbrev S1024x1024 : Shape := ⟨2, ![1024, 1024]⟩
abbrev S4x128 : Shape := ⟨2, ![4, 128]⟩
abbrev S4x128x1 : Shape := ⟨3, ![4, 128, 1]⟩
abbrev S1x1x1024 : Shape := ⟨3, ![1, 1, 1024]⟩
abbrev S128x1x1024 : Shape := ⟨3, ![128, 1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x128x1024, .f32⟩
  | .hbm, ⟨1, _⟩ => ⟨S128x6144, .f32⟩
  | .hbm, ⟨2, _⟩ => ⟨S1024x4096, .bf16⟩
  | .hbm, ⟨3, _⟩ => ⟨S1x4096, .f32⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S128x4x1024, .f32⟩
  | .local _ .vmem, ⟨0, _⟩ => ⟨S4x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x4x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4x128x1024 : Shape := ⟨3, ![4, 128, 1024]⟩
abbrev S128x6144 : Shape := ⟨2, ![128, 6144]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S128x4x1024 : Shape := ⟨3, ![128, 4, 1024]⟩
abbrev S128x1x6144 : Shape := ⟨3, ![128, 1, 6144]⟩
abbrev S128x1x1024 : Shape := ⟨3, ![128, 1, 1024]⟩
abbrev S_ : Shape := ⟨0, ![]⟩
abbrev S128x4x4096 : Shape := ⟨3, ![128, 4, 4096]⟩
abbrev S1x1x4096 : Shape := ⟨3, ![1, 1, 4096]⟩
abbrev S1x1x1024 : Shape := ⟨3, ![1, 1, 1024]⟩
abbrev S128x4 : Shape := ⟨2, ![128, 4]⟩
abbrev S128x4x1 : Shape := ⟨3, ![128, 4, 1]⟩

abbrev nBuf : Space → Nat
  | .hbm => 75
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S128x6144, .f32⟩
  | .hbm, ⟨2, _⟩ => ⟨S1024x4096, .bf16⟩
  | .hbm, ⟨3, _⟩ => ⟨S1x4096, .f32⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S128x4x1024, .f32⟩
  | .hbm, ⟨9, _⟩ => ⟨S128x1x6144, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S_, .f32⟩
  | .hbm, ⟨17, _⟩ => ⟨S128x1x1024, .f32⟩
  | .hbm, ⟨18, _⟩ => ⟨S128x1x1024, .f32⟩
  | .hbm, ⟨19, _⟩ => ⟨S128x4x1024, .f32⟩
  | .hbm, ⟨20, _⟩ => ⟨S128x4x1024, .f32⟩
  | .hbm, ⟨21, _⟩ => ⟨S128x4x1024, .f32⟩
  | .hbm, ⟨22, _⟩ => ⟨S128x4x1024, .f32⟩
  | .hbm, ⟨23, _⟩ => ⟨S1024x4096, .f32⟩
  | .hbm, ⟨24, _⟩ => ⟨S128x4x4096, .f32⟩
  | .hbm, ⟨25, _⟩ => ⟨S1x1x4096, .f32⟩
  | .hbm, ⟨26, _⟩ => ⟨S128x4x4096, .f32⟩
  | .hbm, ⟨27, _⟩ => ⟨S128x4x4096, .f32⟩
  | .hbm, ⟨28, _⟩ => ⟨S_, .f32⟩
  | .hbm, ⟨29, _⟩ => ⟨S128x4x4096, .f32⟩
  | .hbm, ⟨30, _⟩ => ⟨S128x4x4096, .f32⟩
  | .hbm, ⟨31, _⟩ => ⟨S128x4x4096, .f32⟩
  | .hbm, ⟨32, _⟩ => ⟨S4096x1024, .f32⟩
  | .hbm, ⟨33, _⟩ => ⟨S128x4x1024, .f32⟩
  | .hbm, ⟨34, _⟩ => ⟨S1x1x1024, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x1x1024, .f32⟩
  | .hbm, ⟨42, _⟩ => ⟨S128x1x1024, .f32⟩
  | .hbm, ⟨43, _⟩ => ⟨S128x4x1024, .f32⟩
  | .hbm, ⟨44, _⟩ => ⟨S128x4x1024, .f32⟩
  | .hbm, ⟨45, _⟩ => ⟨S128x4x1024, .f32⟩
  | .hbm, ⟨46, _⟩ => ⟨S_, .f32⟩
  | .hbm, ⟨47, _⟩ => ⟨S128x4, .f32⟩
  | .hbm, ⟨48, _⟩ => ⟨S128x4x1, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S128x4x1024, .f32⟩
  | .hbm, ⟨53, _⟩ => ⟨S128x4x1024, .f32⟩
  | .hbm, ⟨54, _⟩ => ⟨S128x4x1024, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S128x4x1024, .f32⟩
  | .hbm, ⟨62, _⟩ => ⟨S128x4x1024, .f32⟩
  | .hbm, ⟨63, _⟩ => ⟨S_, .f32⟩
  | .hbm, ⟨64, _⟩ => ⟨S128x4x1, .f32⟩
  | .hbm, ⟨65, _⟩ => ⟨S128x4x1, .f32⟩
  | .hbm, ⟨66, _⟩ => ⟨S128x4x1, .f32⟩
  | .hbm, ⟨67, _⟩ => ⟨S128x4x1024, .f32⟩
  | .hbm, ⟨68, _⟩ => ⟨S128x4x1024, .f32⟩
  | .hbm, ⟨69, _⟩ => ⟨S1x1x1024, .f32⟩
  | .hbm, ⟨70, _⟩ => ⟨S128x4x1024, .f32⟩
  | .hbm, ⟨71, _⟩ => ⟨S128x4x1024, .f32⟩
  | .hbm, ⟨72, _⟩ => ⟨S1x1x1024, .f32⟩
  | .hbm, ⟨73, _⟩ => ⟨S128x4x1024, .f32⟩
  | .hbm, ⟨74, _⟩ => ⟨S128x4x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Proof.BitsBody.lean ====
module

public import proofs.«01_k».proof.Proof.Gen.Kernel.Frame
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The kernel's body runs at any grid coordinates on whole buffers: it hands every input back as it was and leaves
    something in every output and every scratch buffer. -/
theorem bodyRun (c : Dev nD) (i : grid0.Coords) (arg1 : Memref sig .tc .vmem S1x512x1024 .f32) (harg1 : arg1.IsWhole) (arg2 : Memref sig .tc .vmem S8x6x1024 .f32) (harg2 : arg2.IsWhole) (arg3 : Memref sig .tc .vmem S2x512 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S2x256x256 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x4096 .bf16) (harg16 : arg16.IsWhole) (arg17 : Memref sig .tc .vmem S1x4096 .f32) (harg17 : arg17.IsWhole) (arg18 : Memref sig .tc .vmem S4096x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S1x4x128x128 .f32) (harg23 : arg23.IsWhole) (arg24 : Memref sig .tc .vmem S1x30x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .bf16) (harg28 : arg28.IsWhole) (arg29 : Memref sig .tc .vmem S512x512 .f32) (harg29 : arg29.IsWhole) (arg30 : Memref sig .tc .vmem S544x512 .f32) (harg30 : arg30.IsWhole) (arg31 : Memref sig .tc .vmem S7x536x128 .f32) (harg31 : arg31.IsWhole) (arg32 : Memref sig .tc .vmem S512x512 .f32) (harg32 : arg32.IsWhole) (arg33 : Memref sig .tc .vmem S512x1024 .bf16) (harg33 : arg33.IsWhole) (arg34 : Memref sig .tc .vmem S4x128x128 .f32) (harg34 : arg34.IsWhole) (arg35 : Memref sig .tc .vmem S512x1024 .f32) (harg35 : arg35.IsWhole) (arg36 : Memref sig .tc .vmem S512x1024 .bf16) (harg36 : arg36.IsWhole) (arg37 : Memref sig .tc .vmem S512x1024 .f32) (harg37 : arg37.IsWhole) (arg38 : Memref sig .tc .vmem S512x4096 .bf16) (harg38 : arg38.IsWhole) (arg39 : Memref sig .tc .vmem S512x1024 .f32) (harg39 : arg39.IsWhole)
    (x0 : Vec F S1x512x1024 .f32) (x1 : Vec F S8x6x1024 .f32) (x2 : Vec F S2x512 .f32) (x3 : Vec F S1024x3072 .bf16) (x4 : Vec F S1x3072 .f32) (x5 : Vec F S1x128 .f32) (x6 : Vec F S31x512 .f32) (x7 : Vec F S1x512 .f32) (x8 : Vec F S1x512 .f32) (x9 : Vec F S1x512 .f32) (x10 : Vec F S2x256x256 .bf16) (x11 : Vec F S1024x1024 .bf16) (x12 : Vec F S1x1024 .f32) (x13 : Vec F S1x1024 .f32) (x14 : Vec F S1x1024 .f32) (x15 : Vec F S1024x4096 .bf16) (x16 : Vec F S1x4096 .f32) (x17 : Vec F S4096x1024 .bf16) (x18 : Vec F S1x1024 .f32) (x19 : Vec F S1x1024 .f32) (x20 : Vec F S1x1024 .f32) (xs5 : Vec F S544x512 .f32) (xs9 : Vec F S4x128x128 .f32) (xs10 : Vec F S512x1024 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare xs5 ∗ (∃ d, owns (c : Thread nD τ) arg31 fullShare d) ∗ (∃ d, owns (c : Thread nD τ) arg32 fullShare d) ∗ (∃ d, owns (c : Thread nD τ) arg33 fullShare d) ∗ owns (c : Thread nD τ) arg34 fullShare xs9 ∗ owns (c : Thread nD τ) arg35 fullShare xs10 ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) E (cc0_prompt_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0_prompt_layer_eq_skeleton]; unfold cc0_prompt_layer_skel
  simp only [k0_part149_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part150_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, ⟨%ds6, %fs6, -, HS6⟩, ⟨%ds7, %fs7, -, HS7⟩, ⟨%ds8, %fs8, -, HS8⟩, ⟨%fs9, %hfs9, HS9⟩, ⟨%fs10, %hfs10, HS10⟩, ⟨%ds11, %fs11, -, HS11⟩, ⟨%ds12, %fs12, -, HS12⟩, ⟨%ds13, %fs13, -, HS13⟩, ⟨%ds14, %fs14, -, HS14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg30.eq_unread hfs5; obtain rfl := harg34.eq_unread hfs9; obtain rfl := harg35.eq_unread hfs10
  sl_exec (disch := fail)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  isplitl [HS13]
  · iexists _, _; isplitr; swap; · iexact HS13
    ipureintro; rfl
  · iexists _, _; isplitr; swap; · iexact HS14
    ipureintro; rfl

end Cert.Kernel.Body

end
-- ==== Proof.BitsFrame.lean ====
module

public import proofs.«01_k».proof.Proof.BitsBody

@[expose] public section

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] (m : (ℓ : Loc nD τ sig) → Buf (Elt F) ℓ) (ρ : Dev nD → PrngReg)

local notation "𝕄" => MT nD τ sig Unit (Elt F) ℕ (UR sig nD τ) ℕ

/-- What a region's scoped buffers hold besides the windows' staging buffers: each scratch buffer, whole, at some contents. -/
theorem scratch_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d)) ∗ ∃ r, prngReg (c : Dev nD) r) := by
  unfold Pipeline.ΦA; rw [scopedRest0_eq]; simp only [owns_whole]; try rfl

/-- The pipeline's proof data: the arrays as the region finds them; every input is left as found, and nothing is said of the three outputs. -/
def rdat (c : Dev nD) : RDat τ (Elt F) Unit ℕ (UR sig nD τ) ℕ cfg0 c where
  A w := V m c (Pipeline.arrRef spec0 w)
  after w _ := match w with
    | ⟨21, _⟩ => fun _ _ => True
    | ⟨22, _⟩ => fun _ _ => True
    | ⟨23, _⟩ => fun _ _ => True
    | _ => fun Y X => X = Y
  Φ t := Pipeline.ΦA spec0 c
  q _ := fullShare
  owed _ := 0

/-- What the body is handed at point `t`, the windows' buffers at `Y`. -/
def handed (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17) ∗ owns (c : Thread nD τ) (win0_18.stage (cfg0.slots t 18)) fullShare (Y 18) ∗ owns (c : Thread nD τ) (win0_19.stage (cfg0.slots t 19)) fullShare (Y 19) ∗ owns (c : Thread nD τ) (win0_20.stage (cfg0.slots t 20)) fullShare (Y 20) ∗ owns (c : Thread nD τ) (win0_21.stage (cfg0.slots t 21)) fullShare (Y 21) ∗ owns (c : Thread nD τ) (win0_22.stage (cfg0.slots t 22)) fullShare (Y 22) ∗ owns (c : Thread nD τ) (win0_23.stage (cfg0.slots t 23)) fullShare (Y 23))

/-- What the body hands back at point `t`. -/
def handedBack (c : Dev nD) (t : Fin cfg0.N) (Y : (w : Fin cfg0.W) → (cfg0.win w).block.Idx → Elt F (cfg0.win w).elt) : sProp 𝕄 :=
  iprop((rdat m c).Φ t.succ ∗ (rdat m c).owesAt () t.succ ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X) ∗ (∃ X, ⌜(rdat m c).after 9 t (Y 9) X⌝ ∗ owns (c : Thread nD τ) (win0_9.stage (cfg0.slots t 9)) fullShare X) ∗ (∃ X, ⌜(rdat m c).after 10 t (Y 10) X⌝ ∗ owns (c : Thread nD τ) (win0_10.stage (cfg0.slots t 10)) fullShare X) ∗ (∃ X, ⌜(rdat m c).after 11 t (Y 11) X⌝ ∗ owns (c : Thread nD τ) (win0_11.stage (cfg0.slots t 11)) fullShare X) ∗ (∃ X, ⌜(rdat m c).after 12 t (Y 12) X⌝ ∗ owns (c : Thread nD τ) (win0_12.stage (cfg0.slots t 12)) fullShare X) ∗ (∃ X, ⌜(rdat m c).after 13 t (Y 13) X⌝ ∗ owns (c : Thread nD τ) (win0_13.stage (cfg0.slots t 13)) fullShare X) ∗ (∃ X, ⌜(rdat m c).after 14 t (Y 14) X⌝ ∗ owns (c : Thread nD τ) (win0_14.stage (cfg0.slots t 14)) fullShare X) ∗ (∃ X, ⌜(rdat m c).after 15 t (Y 15) X⌝ ∗ owns (c : Thread nD τ) (win0_15.stage (cfg0.slots t 15)) fullShare X) ∗ (∃ X, ⌜(rdat m c).after 16 t (Y 16) X⌝ ∗ owns (c : Thread nD τ) (win0_16.stage (cfg0.slots t 16)) fullShare X) ∗ (∃ X, ⌜(rdat m c).after 17 t (Y 17) X⌝ ∗ owns (c : Thread nD τ) (win0_17.stage (cfg0.slots t 17)) fullShare X) ∗ (∃ X, ⌜(rdat m c).after 18 t (Y 18) X⌝ ∗ owns (c : Thread nD τ) (win0_18.stage (cfg0.slots t 18)) fullShare X) ∗ (∃ X, ⌜(rdat m c).after 19 t (Y 19) X⌝ ∗ owns (c : Thread nD τ) (win0_19.stage (cfg0.slots t 19)) fullShare X) ∗ (∃ X, ⌜(rdat m c).after 20 t (Y 20) X⌝ ∗ owns (c : Thread nD τ) (win0_20.stage (cfg0.slots t 20)) fullShare X) ∗ (∃ X, ⌜(rdat m c).after 21 t (Y 21) X⌝ ∗ owns (c : Thread nD τ) (win0_21.stage (cfg0.slots t 21)) fullShare X) ∗ (∃ X, ⌜(rdat m c).after 22 t (Y 22) X⌝ ∗ owns (c : Thread nD τ) (win0_22.stage (cfg0.slots t 22)) fullShare X) ∗ (∃ X, ⌜(rdat m c).after 23 t (Y 23) X⌝ ∗ owns (c : Thread nD τ) (win0_23.stage (cfg0.slots t 23)) fullShare X))

set_option maxHeartbeats 4000000 in
/-- The body's run at point `t`, in the pipeline's terms. -/
theorem body_at (c : Dev nD) (t : Fin cfg0.N) (Y : (w : Fin cfg0.W) → (cfg0.win w).block.Idx → Elt F (cfg0.win w).elt) :
    handed m c t Y ⊢ wp frame (wpE (defs₀ (F := F)) Variants.none c none) Set.univ (bodyAt0 t) (fun _ => handedBack m c t Y) := by

  unfold handed handedBack bodyAt0
  rw [show (rdat m c).owesAt () t.succ = (rdat m c).owesAt () t.castSucc from rfl]
  rw [show (rdat m c).Φ t.castSucc = Pipeline.ΦA spec0 c from rfl, show (rdat m c).Φ t.succ = Pipeline.ΦA spec0 c from rfl, scratch_eq]
  iintro ⟨⟨⟨HS0, HS1, HS2, HS3, HS4, ⟨%d5, HS5⟩, HS6, HS7, HS8, ⟨%d9, HS9⟩, ⟨%d10, HS10⟩, HS11, HS12, HS13, HS14⟩, Hg⟩, Ho, H0, H1, H2, H3, H4, H5, H6, H7, H8, H9, H10, H11, H12, H13, H14, H15, H16, H17, H18, H19, H20, H21, H22, H23⟩
  iapply (Body.bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) d5 d9 d10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  iintro ⟨H0, H1, H2, H3, H4, H5, H6, H7, H8, H9, H10, H11, H12, H13, H14, H15, H16, H17, H18, H19, H20, ⟨%e21, H21⟩, ⟨%e22, H22⟩, ⟨%e23, H23⟩, HS0, HS1, HS2, HS3, HS4, HS5, HS6, HS7, HS8, HS9, HS10, HS11, HS12, HS13, HS14⟩
  isplitl [HS0 HS1 HS2 HS3 HS4 HS5 HS6 HS7 HS8 HS9 HS10 HS11 HS12 HS13 HS14 Hg]
  · isplitl [HS0 HS1 HS2 HS3 HS4 HS5 HS6 HS7 HS8 HS9 HS10 HS11 HS12 HS13 HS14]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      isplitl [HS13]
      · iexact HS13
      iexact HS14
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; trivial
  isplitl [H22]
  · iexists _; isplitr; swap; · iexact H22
    ipureintro; trivial
  iexists _; isplitr; swap; · iexact H23
  ipureintro; trivial

/-- The body's definition at a TensorCore, at point `t`, is the program the pipeline runs there. -/
theorem body_row (t : Fin cfg0.N) : (defs₀ (F := F)) .tc cfg0.body (cfg0.bodyArgs t (cfg0.slots t)) = bodyAt0 t := by
  unfold defs₀; rw [Defs.onTc_tc]

/-- The pipeline's body obligation holds at every point. -/
theorem body_obligation (c : Dev nD) : (rdat (F := F) m c).BodyObligation (defs₀ (F := F)) Variants.none () Set.univ := fun t Y hY => by
  rw [bigSep_W0, bigSep_W0, body_row]
  exact triple_restated (body_at m c t Y) rfl .rfl fun _ => .rfl

-- the library theorem's implicit arguments are found by unifying its conclusion with this one
set_option backward.isDefEq.respectTransparency.types false in
/-- The whole program runs to its end: the windows' arrays end as the proof data allows, everything else as the region
    found it, and every semaphore counter at zero. -/
theorem run : θ_run defs (onTc (τ := τ) (main (F := F))) (s₀ m ρ)
    (fun r => (RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

set_option maxHeartbeats 8000000 in
/-- Every argument array ends as it was launched. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(RDat.FramePost.arr_in h c 0 rfl).trans (V_main_arg0 m c),
    (RDat.FramePost.arr_in h c 1 rfl).trans (V_main_arg1 m c),
    (RDat.FramePost.arr_in h c 2 rfl).trans (V_main_arg2 m c),
    (RDat.FramePost.arr_in h c 3 rfl).trans (V_main_arg3 m c),
    (RDat.FramePost.arr_in h c 4 rfl).trans (V_main_arg4 m c),
    (RDat.FramePost.arr_in h c 5 rfl).trans (V_main_arg5 m c),
    (RDat.FramePost.arr_in h c 6 rfl).trans (V_main_arg6 m c),
    (RDat.FramePost.arr_in h c 7 rfl).trans (V_main_arg7 m c),
    (RDat.FramePost.arr_in h c 8 rfl).trans (V_main_arg8 m c),
    (RDat.FramePost.arr_in h c 9 rfl).trans (V_main_arg9 m c),
    (RDat.FramePost.arr_in h c 11 rfl).trans (V_main_arg10 m c),
    (RDat.FramePost.arr_in h c 12 rfl).trans (V_main_arg11 m c),
    (RDat.FramePost.arr_in h c 13 rfl).trans (V_main_arg12 m c),
    (RDat.FramePost.arr_in h c 14 rfl).trans (V_main_arg13 m c),
    (RDat.FramePost.arr_in h c 15 rfl).trans (V_main_arg14 m c),
    (RDat.FramePost.arr_in h c 16 rfl).trans (V_main_arg15 m c),
    (RDat.FramePost.arr_in h c 17 rfl).trans (V_main_arg16 m c),
    (RDat.FramePost.arr_in h c 18 rfl).trans (V_main_arg17 m c),
    (RDat.FramePost.arr_in h c 19 rfl).trans (V_main_arg18 m c),
    (RDat.FramePost.arr_in h c 20 rfl).trans (V_main_arg19 m c)⟩

set_option maxHeartbeats 8000000 in
/-- The frame: the program runs to its end with every argument array unchanged and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0) :=
  (θ_run defs _ _).mono (fun _ h => ⟨fun c => args_kept m h.1 c, h.2⟩) (run m ρ)

end Cert.Kernel.Frame

end
-- ==== Proof.Body.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- What one run of the kernel's body leaves, with the proof that it runs: at any grid coordinates, on whole buffers,
    the body hands every input back as it was, leaves in the state scratch `arg34` the pieces `LS9`, in the convolution scratch `arg30` the pieces `LS5`, in the
    mixer's output `arg35` the pieces `LS10`, in the layer's output the pieces `L21`, in the two
    outputs it stores only at a sequence's last tile the pieces `L22` and `L23` under that condition and what they held otherwise,
    and something in every other buffer. -/
noncomputable def bodyRun (c : Dev nD) (i : grid0.Coords) (arg1 : Memref sig .tc .vmem S1x512x1024 .f32) (harg1 : arg1.IsWhole) (arg2 : Memref sig .tc .vmem S8x6x1024 .f32) (harg2 : arg2.IsWhole) (arg3 : Memref sig .tc .vmem S2x512 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S2x256x256 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x4096 .bf16) (harg16 : arg16.IsWhole) (arg17 : Memref sig .tc .vmem S1x4096 .f32) (harg17 : arg17.IsWhole) (arg18 : Memref sig .tc .vmem S4096x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S1x4x128x128 .f32) (harg23 : arg23.IsWhole) (arg24 : Memref sig .tc .vmem S1x30x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .bf16) (harg28 : arg28.IsWhole) (arg29 : Memref sig .tc .vmem S512x512 .f32) (harg29 : arg29.IsWhole) (arg30 : Memref sig .tc .vmem S544x512 .f32) (harg30 : arg30.IsWhole) (arg31 : Memref sig .tc .vmem S7x536x128 .f32) (harg31 : arg31.IsWhole) (arg32 : Memref sig .tc .vmem S512x512 .f32) (harg32 : arg32.IsWhole) (arg33 : Memref sig .tc .vmem S512x1024 .bf16) (harg33 : arg33.IsWhole) (arg34 : Memref sig .tc .vmem S4x128x128 .f32) (harg34 : arg34.IsWhole) (arg35 : Memref sig .tc .vmem S512x1024 .f32) (harg35 : arg35.IsWhole) (arg36 : Memref sig .tc .vmem S512x1024 .bf16) (harg36 : arg36.IsWhole) (arg37 : Memref sig .tc .vmem S512x1024 .f32) (harg37 : arg37.IsWhole) (arg38 : Memref sig .tc .vmem S512x4096 .bf16) (harg38 : arg38.IsWhole) (arg39 : Memref sig .tc .vmem S512x1024 .f32) (harg39 : arg39.IsWhole)
    (x0 : Vec F S1x512x1024 .f32) (x1 : Vec F S8x6x1024 .f32) (x2 : Vec F S2x512 .f32) (x3 : Vec F S1024x3072 .bf16) (x4 : Vec F S1x3072 .f32) (x5 : Vec F S1x128 .f32) (x6 : Vec F S31x512 .f32) (x7 : Vec F S1x512 .f32) (x8 : Vec F S1x512 .f32) (x9 : Vec F S1x512 .f32) (x10 : Vec F S2x256x256 .bf16) (x11 : Vec F S1024x1024 .bf16) (x12 : Vec F S1x1024 .f32) (x13 : Vec F S1x1024 .f32) (x14 : Vec F S1x1024 .f32) (x15 : Vec F S1024x4096 .bf16) (x16 : Vec F S1x4096 .f32) (x17 : Vec F S4096x1024 .bf16) (x18 : Vec F S1x1024 .f32) (x19 : Vec F S1x1024 .f32) (x20 : Vec F S1x1024 .f32) (xs9 : Vec F S4x128x128 .f32) (xs5 : Vec F S544x512 .f32) (xs10 : Vec F S512x1024 .f32) :
    Σ' (LS9 : List (View.Piece (Elt F) S4x128x128 .f32)), Σ' (L22 : List (View.Piece (Elt F) S1x4x128x128 .f32)), Σ' (L23 : List (View.Piece (Elt F) S1x30x512 .f32)), Σ' (L21 : List (View.Piece (Elt F) S1x512x1024 .f32)), Σ' (LS5 : List (View.Piece (Elt F) S544x512 .f32)), { LS10 : List (View.Piece (Elt F) S512x1024 .f32) //
      ∀ (E : Set ℕ) (K : PUnit → sProp 𝕄) (y22 : Vec F S1x4x128x128 .f32) (y23 : Vec F S1x30x512 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ owns (c : Thread nD τ) arg23 fullShare y22 ∗ owns (c : Thread nD τ) arg24 fullShare y23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare xs5 ∗ (∃ d, owns (c : Thread nD τ) arg31 fullShare d) ∗ (∃ d, owns (c : Thread nD τ) arg32 fullShare d) ∗ (∃ d, owns (c : Thread nD τ) arg33 fullShare d) ∗ owns (c : Thread nD τ) arg34 fullShare xs9 ∗ owns (c : Thread nD τ) arg35 fullShare xs10 ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (View.canon L21) ∗ owns (c : Thread nD τ) arg23 fullShare (if k0_cond3 i = 1#1 then View.canon L22 else y22) ∗ owns (c : Thread nD τ) arg24 fullShare (if k0_cond3 i = 1#1 then View.canon L23 else y23) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare (View.canon LS5) ∗ (∃ d, owns (c : Thread nD τ) arg31 fullShare d) ∗ (∃ d, owns (c : Thread nD τ) arg32 fullShare d) ∗ (∃ d, owns (c : Thread nD τ) arg33 fullShare d) ∗ owns (c : Thread nD τ) arg34 fullShare (View.canon LS9) ∗ owns (c : Thread nD τ) arg35 fullShare (View.canon LS10) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) E (cc0_prompt_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, fun E K y22 y23 => ?run⟩
  case run =>
    simp only [cc0_prompt_layer_eq_skeleton]; unfold cc0_prompt_layer_skel
    simp only [k0_part149_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part150_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%f23, %hf23, H23⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, ⟨%ds6, %fs6, -, HS6⟩, ⟨%ds7, %fs7, -, HS7⟩, ⟨%ds8, %fs8, -, HS8⟩, ⟨%fs9, %hfs9, HS9⟩, ⟨%fs10, %hfs10, HS10⟩, ⟨%ds11, %fs11, -, HS11⟩, ⟨%ds12, %fs12, -, HS12⟩, ⟨%ds13, %fs13, -, HS13⟩, ⟨%ds14, %fs14, -, HS14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg30.eq_unread hfs5; obtain rfl := harg34.eq_unread hfs9; obtain rfl := harg35.eq_unread hfs10
    sl_exec (disch := fail)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; swap; · iexact H21
      ipureintro
      refine (View.read_writes_eq_canon _ _ _ ?hcov).trans ?hval
      case hval => exact rfl
      case hcov => exact View.cover_of_tiledL _ S1x64x1024.size (by sl_kernel_rfl)
    isplitl [H22]
    · iexists _; isplitr; swap; · iexact H22
      ipureintro
      by_cases hc : k0_cond3 i = 1#1
      · rw [dif_pos hc, if_pos hc]
        refine (View.read_writes_eq_canon _ _ _ ?hcov).trans ?hval
        case hval => exact rfl
        case hcov => exact View.cover_of_tiledL _ S1x1x128x128.size (by sl_kernel_rfl)
      · rw [dif_neg hc, if_neg hc]; exact hf22
    isplitl [H23]
    · iexists _; isplitr; swap; · iexact H23
      ipureintro
      by_cases hc : k0_cond3 i = 1#1
      · rw [dif_pos hc, if_pos hc]
        refine (View.read_writes_eq_canon _ _ _ ?hcov).trans ?hval
        case hval => exact rfl
        case hcov => exact View.cover_of_tiledL _ S1x30x512.size (by sl_kernel_rfl)
      · rw [dif_neg hc, if_neg hc]; exact hf23
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _; isplitr; swap; · iexact HS5
      ipureintro
      refine (View.read_writes_eq_canon _ _ _ ?hcov).trans ?hval
      case hval => exact rfl
      case hcov => exact View.cover_of_tiledBy _ S32x512.size (by sl_kernel_rfl)
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _; isplitr; swap; · iexact HS9
      ipureintro
      refine (View.read_writes_eq_canon _ _ _ ?hcov).trans ?hval
      case hval => exact rfl
      case hcov => exact View.cover_of_tiledL _ S1x128x128.size (by sl_kernel_rfl)
    isplitl [HS10]
    · iexists _; isplitr; swap; · iexact HS10
      ipureintro
      refine (View.read_writes_eq_canon _ _ _ ?hcov).trans ?hval
      case hval => exact rfl
      case hcov => exact View.cover_of_tiledL _ S64x1024.size (by sl_kernel_rfl)
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    · iexists _, _; isplitr; swap; · iexact HS14
      ipureintro; rfl

end Cert.KernelIdeal.Body

end
-- ==== Proof.Frame.lean ====
module

public import proofs.«01_k».proof.Proof.Body

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] (m : (ℓ : Loc nD τ sig) → Buf (Elt F) ℓ) (ρ : Dev nD → PrngReg)

local notation "𝕄" => MT nD τ sig Unit (Elt F) ℕ (UR sig nD τ) ℕ

/-- What a region's scoped buffers hold besides the windows' staging buffers: each scratch buffer, whole, at some contents. -/
theorem scratch_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d)) ∗ ∃ r, prngReg (c : Dev nD) r) := by
  unfold Pipeline.ΦA; rw [scopedRest0_eq]; simp only [owns_whole]; try rfl

/-- What one point leaves the next: the state, the convolution scratch and the mixer's output. -/
abbrev Held (F : FTy → Type) [FloatOps F] : Type := Vec F S4x128x128 .f32 × Vec F S544x512 .f32 × Vec F S512x1024 .f32

/-- One run of the body at grid point `t`, on the blocks the region's arrays hold there, from what the point before left. -/
def pointRun (c : Dev nD) (t : Fin cfg0.N) (s : Held F) :=
  Body.bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) s.1 s.2.1 s.2.2

/-- What one point leaves the next, from what the point before left. -/
def heldAfter (c : Dev nD) (t : Fin cfg0.N) (s : Held F) : Held F :=
  (View.canon (pointRun m c t s).1, View.canon (pointRun m c t s).2.2.2.2.1, View.canon (pointRun m c t s).2.2.2.2.2.1)

/-- What a sequence's last tile stores in the state output. -/
def stateOut (c : Dev nD) (t : Fin cfg0.N) (s : Held F) : Vec F S1x4x128x128 .f32 := View.canon (pointRun m c t s).2.1

/-- What a sequence's last tile stores in the convolution buffer's output. -/
def convOut (c : Dev nD) (t : Fin cfg0.N) (s : Held F) : Vec F S1x30x512 .f32 := View.canon (pointRun m c t s).2.2.1

/-- What a point stores in the layer's output. -/
def layerOut (c : Dev nD) (t : Fin cfg0.N) (s : Held F) : Vec F S1x512x1024 .f32 := View.canon (pointRun m c t s).2.2.2.1

/-- What the scratches may hold before point `n`: anything at first, and then what the point before left. -/
def Carried (c : Dev nD) : ℕ → Held F → Prop
  | 0, _ => True
  | n + 1, s' => ∃ (h : n < cfg0.N) (s : Held F), Carried c n s ∧ s' = heldAfter m c ⟨n, h⟩ s

/-- The invariant between points: every scratch buffer at some contents, the state, the convolution scratch and the mixer's output as carried. -/
def inv (c : Dev nD) (n : ℕ) : sProp 𝕄 :=
  iprop((∃ h : Held F, ⌜Carried m c n h⌝ ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare h.2.1 ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ owns (c : Thread nD τ) (Memref.whole cc0_scratch9) fullShare h.1 ∗ owns (c : Thread nD τ) (Memref.whole cc0_scratch10) fullShare h.2.2 ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d))) ∗ ∃ r, prngReg (c : Dev nD) r)

/-- The pipeline's proof data: the arrays as the region finds them; every input is left as found, the state and convolution outputs are stored at a sequence's last tile and left alone elsewhere,
    the layer's output is stored at every point. -/
def rdat (c : Dev nD) : RDat τ (Elt F) Unit ℕ (UR sig nD τ) ℕ cfg0 c where
  A w := V m c (Pipeline.arrRef spec0 w)
  after w t := match w with
    | ⟨21, _⟩ => fun _ X => ∃ s, Carried m c t.val s ∧ X = layerOut m c t s
    | ⟨22, _⟩ => fun Y X => ∃ s, Carried m c t.val s ∧ X = if k0_cond3 (grid0.coords t) = 1#1 then stateOut m c t s else Y
    | ⟨23, _⟩ => fun Y X => ∃ s, Carried m c t.val s ∧ X = if k0_cond3 (grid0.coords t) = 1#1 then convOut m c t s else Y
    | _ => fun Y X => X = Y
  Φ t := inv m c t.val
  q _ := fullShare
  owed _ := 0

/-- What the body is handed at point `t`, the windows' buffers at `Y`. -/
def handed (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17) ∗ owns (c : Thread nD τ) (win0_18.stage (cfg0.slots t 18)) fullShare (Y 18) ∗ owns (c : Thread nD τ) (win0_19.stage (cfg0.slots t 19)) fullShare (Y 19) ∗ owns (c : Thread nD τ) (win0_20.stage (cfg0.slots t 20)) fullShare (Y 20) ∗ owns (c : Thread nD τ) (win0_21.stage (cfg0.slots t 21)) fullShare (Y 21) ∗ owns (c : Thread nD τ) (win0_22.stage (cfg0.slots t 22)) fullShare (Y 22) ∗ owns (c : Thread nD τ) (win0_23.stage (cfg0.slots t 23)) fullShare (Y 23))

/-- What the body hands back at point `t`. -/
def handedBack (c : Dev nD) (t : Fin cfg0.N) (Y : (w : Fin cfg0.W) → (cfg0.win w).block.Idx → Elt F (cfg0.win w).elt) : sProp 𝕄 :=
  iprop((rdat m c).Φ t.succ ∗ (rdat m c).owesAt () t.succ ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X) ∗ (∃ X, ⌜(rdat m c).after 9 t (Y 9) X⌝ ∗ owns (c : Thread nD τ) (win0_9.stage (cfg0.slots t 9)) fullShare X) ∗ (∃ X, ⌜(rdat m c).after 10 t (Y 10) X⌝ ∗ owns (c : Thread nD τ) (win0_10.stage (cfg0.slots t 10)) fullShare X) ∗ (∃ X, ⌜(rdat m c).after 11 t (Y 11) X⌝ ∗ owns (c : Thread nD τ) (win0_11.stage (cfg0.slots t 11)) fullShare X) ∗ (∃ X, ⌜(rdat m c).after 12 t (Y 12) X⌝ ∗ owns (c : Thread nD τ) (win0_12.stage (cfg0.slots t 12)) fullShare X) ∗ (∃ X, ⌜(rdat m c).after 13 t (Y 13) X⌝ ∗ owns (c : Thread nD τ) (win0_13.stage (cfg0.slots t 13)) fullShare X) ∗ (∃ X, ⌜(rdat m c).after 14 t (Y 14) X⌝ ∗ owns (c : Thread nD τ) (win0_14.stage (cfg0.slots t 14)) fullShare X) ∗ (∃ X, ⌜(rdat m c).after 15 t (Y 15) X⌝ ∗ owns (c : Thread nD τ) (win0_15.stage (cfg0.slots t 15)) fullShare X) ∗ (∃ X, ⌜(rdat m c).after 16 t (Y 16) X⌝ ∗ owns (c : Thread nD τ) (win0_16.stage (cfg0.slots t 16)) fullShare X) ∗ (∃ X, ⌜(rdat m c).after 17 t (Y 17) X⌝ ∗ owns (c : Thread nD τ) (win0_17.stage (cfg0.slots t 17)) fullShare X) ∗ (∃ X, ⌜(rdat m c).after 18 t (Y 18) X⌝ ∗ owns (c : Thread nD τ) (win0_18.stage (cfg0.slots t 18)) fullShare X) ∗ (∃ X, ⌜(rdat m c).after 19 t (Y 19) X⌝ ∗ owns (c : Thread nD τ) (win0_19.stage (cfg0.slots t 19)) fullShare X) ∗ (∃ X, ⌜(rdat m c).after 20 t (Y 20) X⌝ ∗ owns (c : Thread nD τ) (win0_20.stage (cfg0.slots t 20)) fullShare X) ∗ (∃ X, ⌜(rdat m c).after 21 t (Y 21) X⌝ ∗ owns (c : Thread nD τ) (win0_21.stage (cfg0.slots t 21)) fullShare X) ∗ (∃ X, ⌜(rdat m c).after 22 t (Y 22) X⌝ ∗ owns (c : Thread nD τ) (win0_22.stage (cfg0.slots t 22)) fullShare X) ∗ (∃ X, ⌜(rdat m c).after 23 t (Y 23) X⌝ ∗ owns (c : Thread nD τ) (win0_23.stage (cfg0.slots t 23)) fullShare X))

/-- An input the body leaves as found holds its block of the region's array at every point. -/
theorem finds_iblk (c : Dev nD) (t : Fin cfg0.N) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y)
    (Z : (cfg0.win w).block.Idx → Elt F (cfg0.win w).elt) (hZ : ∀ d, (rdat m c).fetched w t d = Z)
    (Y : (cfg0.win w).block.Idx → Elt F (cfg0.win w).elt) (hY : (rdat m c).Finds w t Y) : Y = Z := by
  obtain ⟨d, rfl⟩ := (rdat m c).finds_in_eq_fetched w hw hclip hkeep t Y hY
  exact hZ d

set_option maxHeartbeats 4000000 in
/-- The body's run at point `t`, in the pipeline's terms. -/
theorem body_at (c : Dev nD) (t : Fin cfg0.N) (Y : (w : Fin cfg0.W) → (cfg0.win w).block.Idx → Elt F (cfg0.win w).elt) (hY : ∀ w, (rdat m c).Finds w t (Y w)) :
    handed m c t Y ⊢ wp frame (wpE (defs₀ (F := F)) Variants.none c none) Set.univ (bodyAt0 t) (fun _ => handedBack m c t Y) := by
  have h0 : Y 0 = iblk m c 0 t := finds_iblk m c t 0 rfl (fun _ _ _ => rfl) (fun _ _ _ h => h) _ (fun _ => rfl) _ (hY 0)
  have h1 : Y 1 = iblk m c 1 t := finds_iblk m c t 1 rfl (fun _ _ _ => rfl) (fun _ _ _ h => h) _ (fun _ => rfl) _ (hY 1)
  have h2 : Y 2 = iblk m c 2 t := finds_iblk m c t 2 rfl (fun _ _ _ => rfl) (fun _ _ _ h => h) _ (fun _ => rfl) _ (hY 2)
  have h3 : Y 3 = iblk m c 3 t := finds_iblk m c t 3 rfl (fun _ _ _ => rfl) (fun _ _ _ h => h) _ (fun _ => rfl) _ (hY 3)
  have h4 : Y 4 = iblk m c 4 t := finds_iblk m c t 4 rfl (fun _ _ _ => rfl) (fun _ _ _ h => h) _ (fun _ => rfl) _ (hY 4)
  have h5 : Y 5 = iblk m c 5 t := finds_iblk m c t 5 rfl (fun _ _ _ => rfl) (fun _ _ _ h => h) _ (fun _ => rfl) _ (hY 5)
  have h6 : Y 6 = iblk m c 6 t := finds_iblk m c t 6 rfl (fun _ _ _ => rfl) (fun _ _ _ h => h) _ (fun _ => rfl) _ (hY 6)
  have h7 : Y 7 = iblk m c 7 t := finds_iblk m c t 7 rfl (fun _ _ _ => rfl) (fun _ _ _ h => h) _ (fun _ => rfl) _ (hY 7)
  have h8 : Y 8 = iblk m c 8 t := finds_iblk m c t 8 rfl (fun _ _ _ => rfl) (fun _ _ _ h => h) _ (fun _ => rfl) _ (hY 8)
  have h9 : Y 9 = iblk m c 9 t := finds_iblk m c t 9 rfl (fun _ _ _ => rfl) (fun _ _ _ h => h) _ (fun _ => rfl) _ (hY 9)
  have h10 : Y 10 = iblk m c 10 t := finds_iblk m c t 10 rfl (fun _ _ _ => rfl) (fun _ _ _ h => h) _ (fun _ => rfl) _ (hY 10)
  have h11 : Y 11 = iblk m c 11 t := finds_iblk m c t 11 rfl (fun _ _ _ => rfl) (fun _ _ _ h => h) _ (fun _ => rfl) _ (hY 11)
  have h12 : Y 12 = iblk m c 12 t := finds_iblk m c t 12 rfl (fun _ _ _ => rfl) (fun _ _ _ h => h) _ (fun _ => rfl) _ (hY 12)
  have h13 : Y 13 = iblk m c 13 t := finds_iblk m c t 13 rfl (fun _ _ _ => rfl) (fun _ _ _ h => h) _ (fun _ => rfl) _ (hY 13)
  have h14 : Y 14 = iblk m c 14 t := finds_iblk m c t 14 rfl (fun _ _ _ => rfl) (fun _ _ _ h => h) _ (fun _ => rfl) _ (hY 14)
  have h15 : Y 15 = iblk m c 15 t := finds_iblk m c t 15 rfl (fun _ _ _ => rfl) (fun _ _ _ h => h) _ (fun _ => rfl) _ (hY 15)
  have h16 : Y 16 = iblk m c 16 t := finds_iblk m c t 16 rfl (fun _ _ _ => rfl) (fun _ _ _ h => h) _ (fun _ => rfl) _ (hY 16)
  have h17 : Y 17 = iblk m c 17 t := finds_iblk m c t 17 rfl (fun _ _ _ => rfl) (fun _ _ _ h => h) _ (fun _ => rfl) _ (hY 17)
  have h18 : Y 18 = iblk m c 18 t := finds_iblk m c t 18 rfl (fun _ _ _ => rfl) (fun _ _ _ h => h) _ (fun _ => rfl) _ (hY 18)
  have h19 : Y 19 = iblk m c 19 t := finds_iblk m c t 19 rfl (fun _ _ _ => rfl) (fun _ _ _ h => h) _ (fun _ => rfl) _ (hY 19)
  have h20 : Y 20 = iblk m c 20 t := finds_iblk m c t 20 rfl (fun _ _ _ => rfl) (fun _ _ _ h => h) _ (fun _ => rfl) _ (hY 20)
  unfold handed handedBack bodyAt0
  rw [show (rdat m c).owesAt () t.succ = (rdat m c).owesAt () t.castSucc from rfl]
  rw [show (rdat m c).Φ t.castSucc = inv m c t.val from rfl, show (rdat m c).Φ t.succ = inv m c (t.val + 1) from rfl]
  unfold inv
  rw [h0, h1, h2, h3, h4, h5, h6, h7, h8, h9, h10, h11, h12, h13, h14, h15, h16, h17, h18, h19, h20]
  iintro ⟨⟨⟨%s, %hs, HS0, HS1, HS2, HS3, HS4, HS5, HS6, HS7, HS8, HS9, HS10, HS11, HS12, HS13, HS14⟩, Hg⟩, Ho, H0, H1, H2, H3, H4, H5, H6, H7, H8, H9, H10, H11, H12, H13, H14, H15, H16, H17, H18, H19, H20, H21, H22, H23⟩
  iapply ((pointRun m c t s).2.2.2.2.2.2 Set.univ _ (Y 22) (Y 23))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  iintro ⟨H0, H1, H2, H3, H4, H5, H6, H7, H8, H9, H10, H11, H12, H13, H14, H15, H16, H17, H18, H19, H20, H21, H22, H23, HS0, HS1, HS2, HS3, HS4, HS5, HS6, HS7, HS8, HS9, HS10, HS11, HS12, HS13, HS14⟩
  isplitl [HS0 HS1 HS2 HS3 HS4 HS5 HS6 HS7 HS8 HS9 HS10 HS11 HS12 HS13 HS14 Hg]
  · isplitl [HS0 HS1 HS2 HS3 HS4 HS5 HS6 HS7 HS8 HS9 HS10 HS11 HS12 HS13 HS14]
    · iexists (heldAfter m c t s); isplitr; · ipureintro; exact ⟨t.isLt, s, hs, rfl⟩
      isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      isplitl [HS13]
      · iexact HS13
      iexact HS14
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; exact ⟨s, hs, rfl⟩
  isplitl [H22]
  · iexists _; isplitr; swap; · iexact H22
    ipureintro; exact ⟨s, hs, rfl⟩
  iexists _; isplitr; swap; · iexact H23
  ipureintro; exact ⟨s, hs, rfl⟩

/-- The body's definition at a TensorCore, at point `t`, is the program the pipeline runs there. -/
theorem body_row (t : Fin cfg0.N) : (defs₀ (F := F)) .tc cfg0.body (cfg0.bodyArgs t (cfg0.slots t)) = bodyAt0 t := by
  unfold defs₀; rw [Defs.onTc_tc]

/-- The pipeline's body obligation holds at every point. -/
theorem body_obligation (c : Dev nD) : (rdat (F := F) m c).BodyObligation (defs₀ (F := F)) Variants.none () Set.univ := fun t Y hY => by
  rw [bigSep_W0, bigSep_W0, body_row]
  exact triple_restated (body_at m c t Y hY) rfl .rfl fun _ => .rfl

/-- What the region starts with is the invariant before the first point. -/
theorem inv_start (c : Dev nD) : Pipeline.ΦA spec0 c ⊢ inv m c 0 := by
  rw [scratch_eq]; unfold inv
  iintro ⟨⟨HS0, HS1, HS2, HS3, HS4, ⟨%d5, HS5⟩, HS6, HS7, HS8, ⟨%s, HS9⟩, ⟨%d10, HS10⟩, HS11, HS12, HS13, HS14⟩, Hg⟩
  isplitl [HS0 HS1 HS2 HS3 HS4 HS5 HS6 HS7 HS8 HS9 HS10 HS11 HS12 HS13 HS14]
  · iexists ((s, d5, d10) : Held F); isplitr; · ipureintro; trivial
    isplitl [HS0]
    · iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    isplitl [HS13]
    · iexact HS13
    iexact HS14
  iexact Hg

/-- The invariant after the last point gives back what the region started with. -/
theorem inv_stop (c : Dev nD) (n : ℕ) : inv m c n ⊢ Pipeline.ΦA spec0 c := by
  rw [scratch_eq]; unfold inv
  iintro ⟨⟨%h, -, HS0, HS1, HS2, HS3, HS4, HS5, HS6, HS7, HS8, HS9, HS10, HS11, HS12, HS13, HS14⟩, Hg⟩
  isplitl [HS0 HS1 HS2 HS3 HS4 HS5 HS6 HS7 HS8 HS9 HS10 HS11 HS12 HS13 HS14]
  · isplitl [HS0]
    · iexact HS0
    isplitl [HS1]
    · iexact HS1
    isplitl [HS2]
    · iexact HS2
    isplitl [HS3]
    · iexact HS3
    isplitl [HS4]
    · iexact HS4
    isplitl [HS5]
    · iexists _; iexact HS5
    isplitl [HS6]
    · iexact HS6
    isplitl [HS7]
    · iexact HS7
    isplitl [HS8]
    · iexact HS8
    isplitl [HS9]
    · iexists _; iexact HS9
    isplitl [HS10]
    · iexists _; iexact HS10
    isplitl [HS11]
    · iexact HS11
    isplitl [HS12]
    · iexact HS12
    isplitl [HS13]
    · iexact HS13
    iexact HS14
  iexact Hg

-- the library theorem's implicit arguments are found by unifying its conclusion with this one
set_option backward.isDefEq.respectTransparency.types false in
/-- The whole program runs to its end: the windows' arrays end as the proof data allows, everything else as the region
    found it, and every semaphore counter at zero. -/
theorem run : θ_run defs (onTc (τ := τ) (main (F := F))) (s₀ m ρ)
    (fun r => (RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hin := inv_start m) (hout := fun c => inv_stop m c _)

set_option maxHeartbeats 8000000 in
/-- Every argument array ends as it was launched. -/
theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(RDat.FramePost.arr_in h c 0 rfl).trans (V_main_arg0 m c),
    (RDat.FramePost.arr_in h c 1 rfl).trans (V_main_arg1 m c),
    (RDat.FramePost.arr_in h c 2 rfl).trans (V_main_arg2 m c),
    (RDat.FramePost.arr_in h c 3 rfl).trans (V_main_arg3 m c),
    (RDat.FramePost.arr_in h c 4 rfl).trans (V_main_arg4 m c),
    (RDat.FramePost.arr_in h c 5 rfl).trans (V_main_arg5 m c),
    (RDat.FramePost.arr_in h c 6 rfl).trans (V_main_arg6 m c),
    (RDat.FramePost.arr_in h c 7 rfl).trans (V_main_arg7 m c),
    (RDat.FramePost.arr_in h c 8 rfl).trans (V_main_arg8 m c),
    (RDat.FramePost.arr_in h c 9 rfl).trans (V_main_arg9 m c),
    (RDat.FramePost.arr_in h c 11 rfl).trans (V_main_arg10 m c),
    (RDat.FramePost.arr_in h c 12 rfl).trans (V_main_arg11 m c),
    (RDat.FramePost.arr_in h c 13 rfl).trans (V_main_arg12 m c),
    (RDat.FramePost.arr_in h c 14 rfl).trans (V_main_arg13 m c),
    (RDat.FramePost.arr_in h c 15 rfl).trans (V_main_arg14 m c),
    (RDat.FramePost.arr_in h c 16 rfl).trans (V_main_arg15 m c),
    (RDat.FramePost.arr_in h c 17 rfl).trans (V_main_arg16 m c),
    (RDat.FramePost.arr_in h c 18 rfl).trans (V_main_arg17 m c),
    (RDat.FramePost.arr_in h c 19 rfl).trans (V_main_arg18 m c),
    (RDat.FramePost.arr_in h c 20 rfl).trans (V_main_arg19 m c)⟩

set_option maxHeartbeats 8000000 in
/-- The frame: the program runs to its end with every argument array unchanged and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0) :=
  (θ_run defs _ _).mono (fun _ h => ⟨fun c => args_kept m h.1 c, h.2⟩) (run m ρ)

end Cert.KernelIdeal.Frame

end
-- ==== Proof.Spec.lean ====
module

public import Idealize.ShloMosaic.PureOps.Ideal.Laws
public import Idealize.ShloMosaic.Lib.ValueIdx

@[expose] public section

noncomputable section

/-! The two results as plain mathematics: the prompt's convolution buffer and its final recurrent state, as functions of
the input rows, the modulation, the lower-bound logits and the input projection, every coordinate a natural number. -/

namespace Cert.Spec

open Idealize.ShloMosaic Idealize.ShloMosaic.ValueIdx

/-- A rank-two array at natural-number coordinates. -/
def rd2 {n0 n1 : ℕ} [NeZero n0] [NeZero n1] (x : (⟨2, ![n0, n1]⟩ : Shape).Idx → EReal) (a b : ℕ) : EReal :=
  x (ix2 (Fin.ofNat n0 a) (Fin.ofNat n1 b))

/-- A rank-three array at natural-number coordinates. -/
def rd3 {n0 n1 n2 : ℕ} [NeZero n0] [NeZero n1] [NeZero n2] (x : (⟨3, ![n0, n1, n2]⟩ : Shape).Idx → EReal) (a b c : ℕ) : EReal :=
  x (ix3 (Fin.ofNat n0 a) (Fin.ofNat n1 b) (Fin.ofNat n2 c))

/-- Reading an array at an index is reading it at the index's coordinates. -/
theorem rd2_eq {n0 n1 : ℕ} [NeZero n0] [NeZero n1] (x : (⟨2, ![n0, n1]⟩ : Shape).Idx → EReal)
    (i : (⟨2, ![n0, n1]⟩ : Shape).Idx) (a b : ℕ) (h0 : (i 0).val = a) (h1 : (i 1).val = b) : x i = rd2 x a b := by
  subst h0 h1
  refine congrArg x (funext fun a => Fin.ext ?_)
  fin_cases a
  · exact (Nat.mod_eq_of_lt (i 0).isLt).symm
  · exact (Nat.mod_eq_of_lt (i 1).isLt).symm

/-- Reading an array at an index is reading it at the index's coordinates. -/
theorem rd3_eq {n0 n1 n2 : ℕ} [NeZero n0] [NeZero n1] [NeZero n2] (x : (⟨3, ![n0, n1, n2]⟩ : Shape).Idx → EReal)
    (i : (⟨3, ![n0, n1, n2]⟩ : Shape).Idx) (a b c : ℕ) (h0 : (i 0).val = a) (h1 : (i 1).val = b) (h2 : (i 2).val = c) :
    x i = rd3 x a b c := by
  subst h0 h1 h2
  refine congrArg x (funext fun a => Fin.ext ?_)
  fin_cases a
  · exact (Nat.mod_eq_of_lt (i 0).isLt).symm
  · exact (Nat.mod_eq_of_lt (i 1).isLt).symm
  · exact (Nat.mod_eq_of_lt (i 2).isLt).symm

/-- The arrays the two results depend on. -/
structure Args where
  /-- the prompt's rows -/
  x : ℕ → ℕ → ℕ → EReal
  /-- the modulation -/
  md : ℕ → ℕ → ℕ → EReal
  /-- the lower bound's logits -/
  lb : ℕ → ℕ → EReal
  /-- the input projection's weights -/
  w : ℕ → ℕ → EReal
  /-- the input projection's bias -/
  b : ℕ → ℕ → EReal

/-- The arguments from the arrays of either program. -/
def args (x0 : (⟨3, ![8, 2048, 1024]⟩ : Shape).Idx → EReal) (x1 : (⟨3, ![8, 6, 1024]⟩ : Shape).Idx → EReal)
    (x2 : (⟨2, ![2, 512]⟩ : Shape).Idx → EReal) (x3 : (⟨2, ![1024, 3072]⟩ : Shape).Idx → EReal)
    (x4 : (⟨2, ![1, 3072]⟩ : Shape).Idx → EReal) : Args :=
  ⟨rd3 x0, rd3 x1, rd2 x2, rd2 x3, rd2 x4⟩

/-- The constant one, as the programs spell it. -/
def one : EReal := Ideal.ofBits .f32 0x3F800000#32

/-- The logistic function, as the programs compute it. -/
def sig (y : EReal) : EReal := Ideal.div one (one + Ideal.exp (-y))

variable (A : Args)

/-- The modulated row `t` of sequence `n`. -/
def hid (n t k : ℕ) : EReal := A.x n t k * (one + A.md n 1 k) + A.md n 0 k

/-- The input projection of row `t` of sequence `n`, at column `j`. -/
def z (n t j : ℕ) : EReal := (∑ k : Fin 1024, hid A n t k.val * A.w k.val j) + A.b 0 j

/-- The largest logit of column `j`. -/
def lbTop (j : ℕ) : EReal := (Finset.univ : Finset (Fin 2)).fold max (Ideal.ofBits .f32 0xFF800000#32) fun k => A.lb k.val j

/-- The forget gate's lower bound: row 0 of the softmax over the two logits. -/
def lbound (j : ℕ) : EReal :=
  Ideal.div (Ideal.exp (A.lb 0 j - lbTop A j)) (∑ k : Fin 2, Ideal.exp (A.lb k.val j - lbTop A j))

/-- The forget gate. -/
def fgate (n t j : ℕ) : EReal := lbound A j + (one - lbound A j) * sig (z A n t (512 + j))

/-- The convolution's gated input. -/
def u (n t j : ℕ) : EReal := z A n t (2048 + j) * sig (z A n t (2560 + j))

/-- The running sum of the log-gate within a chunk of 64 rows. -/
def logsum (n c r j : ℕ) : EReal := ∑ r' ∈ Finset.range (r + 1), Ideal.log (fgate A n (64 * c + r') j)

/-- The key of row `r` of chunk `c`, decayed to the chunk's end. -/
def kd (n c r j : ℕ) : EReal := (one - fgate A n (64 * c + r) j) * Ideal.exp (logsum A n c 63 j - logsum A n c r j)

/-- What one chunk adds to the state. -/
def kv (n c h k v : ℕ) : EReal :=
  ∑ r : Fin 64, kd A n c r.val (128 * h + k) * z A n (64 * c + r.val) (1024 + (128 * h + v))

/-- The recurrent state of head `h` before chunk `c`: decayed and added to, chunk by chunk, from zero. -/
def state (n : ℕ) : ℕ → ℕ → ℕ → ℕ → EReal
  | 0, _, _, _ => 0
  | c + 1, h, k, v => Ideal.exp (logsum A n c 63 (128 * h + k)) * state n c h k v + kv A n c h k v

end Cert.Spec

end
-- ==== Proof.Ops.lean ====
module

public import proofs.«01_k».proof.Proof.Gen.KernelIdeal.Skeleton
public import proofs.«01_k».proof.Proof.Spec
public import Idealize.ShloMosaic.Lib.KernelVsHost
public import Idealize.ShloMosaic.Lib.IdealHost
public import Idealize.ShloMosaic.Lib.ValueLayout

@[expose] public section

set_option maxRecDepth 16384

noncomputable section

/-! The kernel's operations at the ideal values, read at an index: its matrix products, its running sum by doubling and one
chunk's update of one head's state. -/

namespace Cert.KernelIdeal.Ops

open Cert.KernelIdeal Cert.KernelIdeal.Gen Cert.Spec
open Idealize.ShloMosaic Idealize.ShloMosaic.TcCoe Idealize.ShloMosaic.ValueIdx

/-- A matrix product from a zero accumulator with one contracted axis is the sum over that axis of the products of what the
    operands are known to be. -/
theorem matmul_sum {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx) (L R : Fin n → EReal)
    (hl : ∀ k, lhs (D.lhsIdx j ((contrEquiv1 D n hr hs).symm k)) = L k)
    (hr' : ∀ k, rhs (D.rhsIdx j ((contrEquiv1 D n hr hs).symm k)) = R k) :
    matmul D none lhs rhs (constant (F := Ideal) so .f32 0x00000000#32) j = ∑ k : Fin n, L k * R k := by
  refine (Ideal.matmul_constant_zero_apply D none lhs rhs j).trans ?_
  rw [← Equiv.sum_comp (contrEquiv1 D n hr hs).symm]
  exact Finset.sum_congr rfl fun k _ => by rw [hl, hr']

/-- The product of a tile's rows with 512 columns of weights. -/
theorem tile_matmul (lhs : FVec Ideal S512x1024 .bf16) (rhs : FVec Ideal S1024x512 .bf16) (j : S512x512.Idx) :
    matmul dot_S512x1024_S1024x512_S512x512_1_0_0_1_n_n none lhs rhs (constant (F := Ideal) S512x512 .f32 0x00000000#32) j
      = ∑ k : Fin 1024, lhs (ix2 (j 0) k) * rhs (ix2 k (j 1)) :=
  matmul_sum _ 1024 rfl rfl lhs rhs j _ _
    (fun k => congrArg lhs (funext fun a => Fin.ext (by fin_cases a <;> rfl)))
    (fun k => congrArg rhs (funext fun a => Fin.ext (by fin_cases a <;> rfl)))

/-- The product of a chunk's values and keys over its 64 rows. -/
theorem chunk_matmul (lhs rhs : FVec Ideal S64x128 .bf16) (j : S128x128.Idx) :
    matmul dot_S64x128_S64x128_S128x128_0_0_1_1_n_n none lhs rhs (constant (F := Ideal) S128x128 .f32 0x00000000#32) j
      = ∑ r : Fin 64, lhs (ix2 r (j 0)) * rhs (ix2 r (j 1)) :=
  matmul_sum _ 64 rfl rfl lhs rhs j _ _
    (fun k => congrArg lhs (funext fun a => Fin.ext (by fin_cases a <;> rfl)))
    (fun k => congrArg rhs (funext fun a => Fin.ext (by fin_cases a <;> rfl)))

/-- A row stretched over `m` rows. -/
theorem stretch {m n : ℕ} (x : (⟨2, ![1, n]⟩ : Shape).Idx → EReal) (h : (⟨2, ![1, n]⟩ : Shape).Broadcasts ⟨2, ![m, n]⟩) (i : (⟨2, ![m, n]⟩ : Shape).Idx) :
    broadcastTo ⟨2, ![m, n]⟩ x h i = x (ix2 0 (i 1)) := by
  refine (congrArg _ (funext fun a => ?_)).trans (broadcastTo_1b_ab_apply x h (i 0) (i 1))
  fin_cases a <;> rfl

/-- One step of the running sum by doubling: each row from `sh` on adds the row `sh` before it. -/
def scanStep (sh : BitVec 32) (x : FVec Ideal S64x512 .f32) : FVec Ideal S64x512 .f32 :=
  addf x (select (cmpi .sge (iota .tc S64x512 32 [0] iota_S64x512_d0_w32) (broadcast S64x512 sh))
    (dynamicRotate 0 sh none x rotates_S64x512_d0) (broadcast S64x512 (FloatOps.ofBits (F := Ideal) .f32 0x00000000#32)))

/-- The signed comparison of a row's number with a step's shift is the comparison of the two numbers. -/
theorem row_ge (sh : Fin 33) (r : Fin 64) :
    IntOp.cmpi .sge (BitVec.ofNat 32 (0 * 64 + r.val)) (BitVec.ofNat 32 sh.val) = 1#1 ↔ sh.val ≤ r.val := by
  have h1 : (BitVec.ofNat 32 r.val).toInt = r.val := by
    rw [BitVec.toInt_eq_toNat_cond, BitVec.toNat_ofNat]; have := r.isLt; omega
  have h2 : (BitVec.ofNat 32 sh.val).toInt = sh.val := by
    rw [BitVec.toInt_eq_toNat_cond, BitVec.toNat_ofNat]; have := sh.isLt; omega
  rw [Nat.zero_mul, Nat.zero_add]
  simp only [IntOp.cmpi, BitVec.sle_eq_decide, h1, h2]
  by_cases h : sh.val ≤ r.val <;> simp [h]

/-- One step of the running sum, read at an index. -/
theorem scanStep_apply (sh : Fin 33) (x : FVec Ideal S64x512 .f32) (f : ℕ → EReal) (c : Fin 512)
    (hx : ∀ r : Fin 64, x (ix2 r c) = f r.val) (r : Fin 64) :
    scanStep (BitVec.ofNat 32 sh.val) x (ix2 r c) = f r.val + if sh.val ≤ r.val then f (r.val - sh.val) else 0 := by
  have hsh : (BitVec.ofNat 32 sh.val).toNat = sh.val := by
    rw [BitVec.toNat_ofNat]; have := sh.isLt; omega
  unfold scanStep
  show x (ix2 r c) + (if IntOp.cmpi .sge (BitVec.ofNat 32 (0 * 64 + r.val)) (BitVec.ofNat 32 sh.val) = 1#1 then _ else _) = _
  rw [hx r]
  refine congrArg (f r.val + ·) ?_
  by_cases h : sh.val ≤ r.val
  · rw [if_pos ((row_ge sh r).mpr h), if_pos h]
    have hlt : r.val - sh.val < 64 := by have := r.isLt; omega
    refine (dynamicRotate_apply 0 _ x rotates_S64x512_d0 (ix2 r c) (ix2 ⟨r.val - sh.val, hlt⟩ c) fun b => ?_).trans (hx _)
    fin_cases b
    · show r.val - sh.val = (r.val + 64 - (BitVec.ofNat 32 sh.val).toNat % 64) % 64
      rw [hsh]; have := sh.isLt; have := r.isLt; omega
    · rfl
  · rw [if_neg (fun e => h ((row_ge sh r).mp e)), if_neg h]
    exact Ideal.ofBits_zero_f32

/-- A step doubles the width of the windows summed. -/
theorem scanStep_width (w : Fin 33) (x : FVec Ideal S64x512 .f32) (f : ℕ → EReal) (c : Fin 512)
    (hx : ∀ r : Fin 64, x (ix2 r c) = ∑ r' ∈ Finset.Ico (r.val + 1 - w.val) (r.val + 1), f r') (r : Fin 64) :
    scanStep (BitVec.ofNat 32 w.val) x (ix2 r c) = ∑ r' ∈ Finset.Ico (r.val + 1 - 2 * w.val) (r.val + 1), f r' := by
  rw [scanStep_apply w x (fun r => ∑ r' ∈ Finset.Ico (r + 1 - w.val) (r + 1), f r') c hx r]
  by_cases h : w.val ≤ r.val
  · rw [if_pos h, add_comm, show r.val - w.val + 1 - w.val = r.val + 1 - 2 * w.val by omega,
      show r.val - w.val + 1 = r.val + 1 - w.val by omega]
    exact Finset.sum_Ico_consecutive f (by omega) (by omega)
  · rw [if_neg h, add_zero, show r.val + 1 - w.val = 0 by omega, show r.val + 1 - 2 * w.val = 0 by omega]

/-- The running sum of a chunk's 64 rows: six doubling steps. -/
def scan (x : FVec Ideal S64x512 .f32) : FVec Ideal S64x512 .f32 :=
  scanStep 32#32 (scanStep 16#32 (scanStep 8#32 (scanStep 4#32 (scanStep 2#32 (scanStep 1#32 x)))))

/-- The six doubling steps sum every row up to and including this one. -/
theorem scan_apply (x : FVec Ideal S64x512 .f32) (f : ℕ → EReal) (c : Fin 512) (hx : ∀ r : Fin 64, x (ix2 r c) = f r.val)
    (r : Fin 64) : scan x (ix2 r c) = ∑ r' ∈ Finset.range (r.val + 1), f r' := by
  have h1 := scanStep_width 1 x f c fun r => by
    rw [hx r, show r.val + 1 - ((1 : Fin 33) : ℕ) = r.val from Nat.add_sub_cancel .., Nat.Ico_succ_singleton, Finset.sum_singleton]
  have h6 := scanStep_width 32 _ f c (scanStep_width 16 _ f c (scanStep_width 8 _ f c (scanStep_width 4 _ f c (scanStep_width 2 _ f c h1)))) r
  rw [Finset.range_eq_Ico, ← show r.val + 1 - 2 * ((32 : Fin 33) : ℕ) = 0 by
    show r.val + 1 - 2 * 32 = 0; have := r.isLt; omega]
  exact h6

/-- A chunk's last running sum, as a row. -/
def lastRow (x : FVec Ideal S64x512 .f32) : FVec Ideal S1x512 .f32 :=
  extractStridedSlice S1x512 ![63, 0] (scan x) slices_S64x512_o63_0_S1x512

/-- The decay of a chunk. -/
def decay (x : FVec Ideal S64x512 .f32) : FVec Ideal S1x512 .f32 := exp (lastRow x)

/-- The keys of a chunk, decayed to its end. -/
def keys (x k : FVec Ideal S64x512 .f32) : FVec Ideal S64x512 .bf16 :=
  truncf .bf16 (mulf k (exp (subf (broadcastTo S64x512 (lastRow x) broadcasts_S1x512_S64x512) (scan x)))) bitsLt_bf16_f32

theorem lastRow_apply (x : FVec Ideal S64x512 .f32) (f : ℕ → EReal) (c : Fin 512) (hx : ∀ r : Fin 64, x (ix2 r c) = f r.val) :
    lastRow x (ix2 0 c) = ∑ r' ∈ Finset.range 64, f r' := by
  refine (extractStridedSlice_apply _ _ slices_S64x512_o63_0_S1x512 (ix2 0 c) (ix2 (63 : Fin 64) c) fun a => ?_).trans
    (scan_apply x f c hx 63)
  fin_cases a
  · rfl
  · exact (Nat.zero_add _).symm

/-- The keys of a chunk, read at an index. -/
theorem keys_apply (x k : FVec Ideal S64x512 .f32) (f : ℕ → EReal) (c : Fin 512) (hx : ∀ r : Fin 64, x (ix2 r c) = f r.val) (r : Fin 64) :
    keys x k (ix2 r c) = k (ix2 r c) * Ideal.exp ((∑ r' ∈ Finset.range 64, f r') - ∑ r' ∈ Finset.range (r.val + 1), f r') := by
  show k (ix2 r c) * Ideal.exp (broadcastTo S64x512 (lastRow x) broadcasts_S1x512_S64x512 (ix2 r c) - scan x (ix2 r c)) = _
  rw [stretch (m := 64) (lastRow x) _ (ix2 r c), scan_apply x f c hx r]
  exact congrArg (fun y => k (ix2 r c) * Ideal.exp (y - _)) (lastRow_apply x f c hx)

/-- One chunk's update of one head's state: decayed by column and added to. -/
def update (o : ℕ) (h1 : S1x512.Slices ![0, o] S1x128) (h2 : S64x512.Slices ![0, o] S64x128) (s : FVec Ideal S1x128x128 .f32)
    (d : FVec Ideal S1x512 .f32) (v k : FVec Ideal S64x512 .bf16) : FVec Ideal S1x128x128 .f32 :=
  shapeCast S1x128x128 (addf (mulf (shapeCast S128x128 s shapeCasts_S1x128x128_S128x128)
      (broadcastTo S128x128 (extractStridedSlice S1x128 ![0, o] d h1) broadcasts_S1x128_S128x128))
    (matmul dot_S64x128_S64x128_S128x128_0_0_1_1_n_n none (extractStridedSlice S64x128 ![0, o] v h2)
      (extractStridedSlice S64x128 ![0, o] k h2) (constant (F := Ideal) S128x128 .f32 0x00000000#32))) shapeCasts_S128x128_S1x128x128

/-- Columns `o …` of a matrix, read at an index. -/
theorem columns {m : ℕ} (o : ℕ) (x : (⟨2, ![m, 512]⟩ : Shape).Idx → EReal) (h : (⟨2, ![m, 512]⟩ : Shape).Slices ![0, o] ⟨2, ![m, 128]⟩)
    (r : Fin m) (a : Fin 128) (ha : o + a.val < 512) :
    extractStridedSlice ⟨2, ![m, 128]⟩ ![0, o] x h (ix2 r a) = x (ix2 r ⟨o + a.val, ha⟩) := by
  refine extractStridedSlice_apply _ _ h (ix2 r a) (ix2 r ⟨o + a.val, ha⟩) fun b => ?_
  fin_cases b
  · exact (Nat.zero_add _).symm
  · rfl

/-- A head's matrix under a leading unit axis. -/
theorem addHead (x : FVec Ideal S128x128 .f32) (a b : Fin 128) (z : Fin 1) :
    shapeCast S1x128x128 x shapeCasts_S128x128_S1x128x128 (ix3 z a b) = x (ix2 a b) :=
  shapeCast_apply _ _ (ix3 z a b) (ix2 a b) (by
    rw [Shape.rowMajor_val_two, Shape.rowMajor_val_three]
    show a.val * 128 + b.val = (z.val * 128 + a.val) * 128 + b.val
    have := z.isLt; omega)

/-- A head's matrix without its leading unit axis. -/
theorem dropHead (x : FVec Ideal S1x128x128 .f32) (a b : Fin 128) :
    shapeCast S128x128 x shapeCasts_S1x128x128_S128x128 (ix2 a b) = x (ix3 0 a b) :=
  shapeCast_apply _ _ (ix2 a b) (ix3 0 a b) (by
    rw [Shape.rowMajor_val_two, Shape.rowMajor_val_three]
    show (0 * 128 + a.val) * 128 + b.val = a.val * 128 + b.val
    omega)

/-- One chunk's update of one head's state, read at an index. -/
theorem update_apply (o : ℕ) (h1 h2) (s d v k) (z : Fin 1) (a b : Fin 128) (ha : o + a.val < 512) (hb : o + b.val < 512) :
    update o h1 h2 s d v k (ix3 z a b) = s (ix3 0 a b) * d (ix2 0 ⟨o + b.val, hb⟩)
      + ∑ r : Fin 64, v (ix2 r ⟨o + a.val, ha⟩) * k (ix2 r ⟨o + b.val, hb⟩) := by
  unfold update
  rw [addHead]
  show shapeCast S128x128 s shapeCasts_S1x128x128_S128x128 (ix2 a b) * broadcastTo S128x128 _ broadcasts_S1x128_S128x128 (ix2 a b) + matmul _ none _ _ _ (ix2 a b) = _
  rw [dropHead, chunk_matmul, stretch (m := 128) (n := 128) _ _ (ix2 a b)]
  refine congrArg₂ (· + ·) (congrArg (s (ix3 0 a b) * ·) (columns (m := 1) o d h1 0 b hb)) ?_
  exact Finset.sum_congr rfl fun r _ => congrArg₂ (· * ·) (columns (m := 64) o v h2 r a ha) (columns (m := 64) o k h2 r b hb)

end Cert.KernelIdeal.Ops

end
-- ==== Proof.Chunk.lean ====
module

public import proofs.«01_k».proof.Proof.Ops
public import Idealize.ShloMosaic.Lib.Pipeline.Value

@[expose] public section

set_option maxRecDepth 16384

noncomputable section

/-! One chunk of 64 rows: the four stores into the state scratch, one per head, as one step of the recurrence. -/

namespace Cert.KernelIdeal.Chunk

open Cert.KernelIdeal Cert.KernelIdeal.Gen Cert.KernelIdeal.Ops
open Idealize.ShloMosaic Idealize.ShloMosaic.TcCoe Idealize.ShloMosaic.ValueIdx

variable {sig : RefSig} {κ : Kind} {sp sp' : Space}

/-- A read of a whole buffer through a rectangle, at an index. -/
theorem read_part {s : Shape} {e : EltTy} (M : Memref sig κ sp s e) (h : M.IsWhole) (x : Vec Ideal s e) (r : Rect s) (j : r.shape.Idx) (k : s.Idx)
    (hk : ∀ a, (k a).val = r.off a + r.stride a * (j a).val) :
    View.readAt (Elt Ideal) M.view r.toLoadRect (h.unread x) j = x k := by
  rw [View.readAt_apply, h.read_unread]
  exact congrArg x (funext fun a => Fin.ext (hk a).symm)

/-- What a covered read gives at an index is what the stores leave there. -/
theorem readCov_at {s : Shape} {e : EltTy} (V : View sig κ sp s e) (L : List (View.Piece (Elt Ideal) s e)) (r : Rect s) (j : r.shape.Idx) (k : s.Idx)
    (hk : ∀ a, (k a).val = r.off a + r.stride a * (j a).val) : V.readCov L r.toLoadRect j = View.canon L k := by
  rw [View.readCov_eq_canon']
  exact congrArg (View.canon L) (funext fun a => Fin.ext (hk a).symm)

/-- What stores leave at an index of the last one's rectangle is its payload there. -/
theorem canon_at {s : Shape} {e : EltTy} (r : Rect s) (w : r.shape.Idx → Elt Ideal e) (L : List (View.Piece (Elt Ideal) s e)) (j : r.shape.Idx) (k : s.Idx)
    (hk : ∀ a, (k a).val = r.off a + r.stride a * (j a).val) : View.canon (⟨r, w⟩ :: L) k = w j := by
  rw [← View.canon_cons_emb r w L j]
  exact congrArg _ (funext fun a => Fin.ext (hk a))

/-- Rows of a 512-row scratch stored whole, read back. -/
theorem rows_read {e : EltTy} (V : View sig κ sp S512x512 e) (w : Vec Ideal S512x512 e) (o : ℕ)
    (inb : ∀ a, (![0, 0] : Fin 2 → ℕ) a + S512x512.size a ≤ S512x512.size a) (inb' : ∀ a, (![o, 0] : Fin 2 → ℕ) a + S64x512.size a ≤ S512x512.size a)
    (r : Fin 64) (j : Fin 512) (hr : o + r.val < 512) :
    V.readCov [(⟨Rect.unit ![0, 0] S512x512.size inb, w⟩ : View.Piece (Elt Ideal) S512x512 e)] (Rect.unit (s := S512x512) ![o, 0] S64x512.size inb').toLoadRect (ix2 r j)
      = w (ix2 ⟨o + r.val, hr⟩ j) := by
  refine (readCov_at V _ (Rect.unit (s := S512x512) ![o, 0] S64x512.size inb') (ix2 r j) (ix2 ⟨o + r.val, hr⟩ j) fun a => ?_).trans ?_
  · fin_cases a
    · show o + r.val = o + 1 * r.val; omega
    · show j.val = 0 + 1 * j.val; omega
  · exact congrFun (View.canon_unit_zero (by funext a; fin_cases a <;> rfl) inb w) _

/-- The state after a chunk, from the state before it and the chunk's log-gates, keys and values. -/
def advance (S : S4x128x128.Idx → EReal) (LF K V : ℕ → ℕ → EReal) (y : S4x128x128.Idx) : EReal :=
  S y * Ideal.exp (∑ r ∈ Finset.range 64, LF r (128 * (y 0).val + (y 2).val))
    + ∑ r : Fin 64, V r.val (128 * (y 0).val + (y 1).val) * (K r.val (128 * (y 0).val + (y 2).val)
      * Ideal.exp ((∑ r' ∈ Finset.range 64, LF r' (128 * (y 0).val + (y 2).val)) - ∑ r' ∈ Finset.range (r.val + 1), LF r' (128 * (y 0).val + (y 2).val)))

/-- A store of head `h`'s matrix leaves it there, and elsewhere what the stores before left. -/
theorem head_canon (h : ℕ) (inb : ∀ a, (![h, 0, 0] : Fin 3 → ℕ) a + S1x128x128.size a ≤ S4x128x128.size a) (w : Vec Ideal S1x128x128 .f32)
    (L : List (View.Piece (Elt Ideal) S4x128x128 .f32)) (y : S4x128x128.Idx) :
    View.canon ((⟨Rect.unit ![h, 0, 0] S1x128x128.size inb, w⟩ : View.Piece (Elt Ideal) S4x128x128 .f32) :: L) y
      = if (y 0).val = h then w (ix3 0 (y 1) (y 2)) else View.canon L y := by
  by_cases hy : (y 0).val = h
  · rw [if_pos hy]
    refine canon_at (Rect.unit (s := S4x128x128) ![h, 0, 0] S1x128x128.size inb) w L (ix3 0 (y 1) (y 2)) y fun a => ?_
    fin_cases a
    · show (y 0).val = h + 1 * 0; omega
    · show (y 1).val = 0 + 1 * (y 1).val; omega
    · show (y 2).val = 0 + 1 * (y 2).val; omega
  · rw [if_neg hy]
    refine View.canon_cons_of_not_mem _ _ fun hm => hy ?_
    have := (Rect.mem_set_unit (s := S4x128x128) (off := ![h, 0, 0]) (size := S1x128x128.size) (inb := inb) |>.mp hm) 0
    have h1 : h ≤ (y 0).val := this.1
    have h2 : (y 0).val < h + 1 := this.2
    omega

section Step
variable (h : ℕ) (inb : ∀ a, (![h, 0, 0] : Fin 3 → ℕ) a + S1x128x128.size a ≤ S4x128x128.size a) (o : ℕ) (ho : o = 128 * h) (hh : h < 4)
  (h1 : S1x512.Slices ![0, o] S1x128) (h2 : S64x512.Slices ![0, o] S64x128)
  (X K : FVec Ideal S64x512 .f32) (V : FVec Ideal S64x512 .bf16) (LF KF VF : ℕ → ℕ → EReal)
  (hX : ∀ r j, X (ix2 r j) = LF r.val j.val) (hK : ∀ r j, K (ix2 r j) = KF r.val j.val) (hV : ∀ r j, V (ix2 r j) = VF r.val j.val)
  (S : S4x128x128.Idx → EReal)

include ho hh hX hK hV in
/-- One head's update, at the head's matrix before the chunk, is the state after the chunk. -/
theorem update_eq (s : FVec Ideal S1x128x128 .f32) (y : S4x128x128.Idx) (hy : (y 0).val = h) (hs : s (ix3 0 (y 1) (y 2)) = S y) :
    update o h1 h2 s (decay X) V (keys X K) (ix3 0 (y 1) (y 2)) = advance S LF KF VF y := by
  have l1 : (y 1).val < 128 := (y 1).isLt
  have l2 : (y 2).val < 128 := (y 2).isLt
  have c1 : o + (y 1).val < 512 := by omega
  have c2 : o + (y 2).val < 512 := by omega
  have e1 : o + (y 1).val = 128 * (y 0).val + (y 1).val := by omega
  have e2 : o + (y 2).val = 128 * (y 0).val + (y 2).val := by omega
  refine (update_apply o h1 h2 s (decay X) V (keys X K) 0 (y 1) (y 2) c1 c2).trans ?_
  unfold advance
  rw [← e1, ← e2, hs]
  refine congrArg₂ (· + ·) (congrArg (S y * ·) (congrArg Ideal.exp (lastRow_apply X (fun r => LF r (o + (y 2).val)) ⟨o + (y 2).val, c2⟩ fun r => hX r _)))
    (Finset.sum_congr rfl fun r _ => ?_)
  rw [hV, keys_apply X K (fun r => LF r (o + (y 2).val)) ⟨o + (y 2).val, c2⟩ (fun r => hX r _) r, hK]

include ho hh hX hK hV in
/-- The first chunk's store of head `h`: with the heads before it done, so is this one. -/
theorem first_step (L : List (View.Piece (Elt Ideal) S4x128x128 .f32)) (hL : ∀ y, (y 0).val < h → View.canon L y = advance S LF KF VF y)
    (s : FVec Ideal S1x128x128 .f32) (hs : ∀ y : S4x128x128.Idx, (y 0).val = h → s (ix3 0 (y 1) (y 2)) = S y) (y : S4x128x128.Idx) (hy : (y 0).val < h + 1) :
    View.canon ((⟨Rect.unit ![h, 0, 0] S1x128x128.size inb, update o h1 h2 s (decay X) V (keys X K)⟩ : View.Piece (Elt Ideal) S4x128x128 .f32) :: L) y
      = advance S LF KF VF y := by
  refine (head_canon h inb _ L y).trans ?_
  by_cases e : (y 0).val = h
  · rw [if_pos e]; exact update_eq h o ho hh h1 h2 X K V LF KF VF hX hK hV S s y e (hs y e)
  · rw [if_neg e]; exact hL y (by omega)

include ho hh hX hK hV in
/-- A later chunk's store of head `h`: with the heads before it at the new state and the others at the old, it moves one more. -/
theorem next_step (A : View sig κ sp S4x128x128 .f32) (L : List (View.Piece (Elt Ideal) S4x128x128 .f32))
    (hL : ∀ y, View.canon L y = if (y 0).val < h then advance S LF KF VF y else S y) (y : S4x128x128.Idx) :
    View.canon ((⟨Rect.unit ![h, 0, 0] S1x128x128.size inb, update o h1 h2 (A.readCov L (Rect.unit (s := S4x128x128) ![h, 0, 0] S1x128x128.size inb).toLoadRect) (decay X) V (keys X K)⟩ :
      View.Piece (Elt Ideal) S4x128x128 .f32) :: L) y = if (y 0).val < h + 1 then advance S LF KF VF y else S y := by
  refine (head_canon h inb _ L y).trans ?_
  by_cases e : (y 0).val = h
  · rw [if_pos e, if_pos (by omega)]
    refine update_eq h o ho hh h1 h2 X K V LF KF VF hX hK hV S _ y e ?_
    refine (readCov_at A L (Rect.unit (s := S4x128x128) ![h, 0, 0] S1x128x128.size inb) (ix3 0 (y 1) (y 2)) y fun a => ?_).trans ((hL y).trans (if_neg (by omega)))
    fin_cases a
    · show (y 0).val = h + 1 * 0; omega
    · show (y 1).val = 0 + 1 * (y 1).val; omega
    · show (y 2).val = 0 + 1 * (y 2).val; omega
  · rw [if_neg e, hL y]
    by_cases e' : (y 0).val < h
    · rw [if_pos e', if_pos (by omega)]
    · rw [if_neg e', if_neg (by omega)]

end Step

section Chunk
variable (X K : FVec Ideal S64x512 .f32) (V : FVec Ideal S64x512 .bf16) (LF KF VF : ℕ → ℕ → EReal)
  (hX : ∀ r j, X (ix2 r j) = LF r.val j.val) (hK : ∀ r j, K (ix2 r j) = KF r.val j.val) (hV : ∀ r j, V (ix2 r j) = VF r.val j.val)
  (S : S4x128x128.Idx → EReal)

/-- The store of one head's update, its matrix before the chunk being `s`. -/
abbrev store (h : ℕ) (inb : ∀ a, (![h, 0, 0] : Fin 3 → ℕ) a + S1x128x128.size a ≤ S4x128x128.size a) (o : ℕ)
    (h1 : S1x512.Slices ![0, o] S1x128) (h2 : S64x512.Slices ![0, o] S64x128) (s : FVec Ideal S1x128x128 .f32) : View.Piece (Elt Ideal) S4x128x128 .f32 :=
  ⟨Rect.unit ![h, 0, 0] S1x128x128.size inb, update o h1 h2 s (decay X) V (keys X K)⟩

/-- The store of one head's update, its matrix read back from the stores before. -/
abbrev again (A : View sig κ sp S4x128x128 .f32) (h : ℕ) (inb : ∀ a, (![h, 0, 0] : Fin 3 → ℕ) a + S1x128x128.size a ≤ S4x128x128.size a) (o : ℕ)
    (h1 : S1x512.Slices ![0, o] S1x128) (h2 : S64x512.Slices ![0, o] S64x128) (L : List (View.Piece (Elt Ideal) S4x128x128 .f32)) :
    List (View.Piece (Elt Ideal) S4x128x128 .f32) :=
  store X K V h inb o h1 h2 (A.readCov L (Rect.unit (s := S4x128x128) ![h, 0, 0] S1x128x128.size inb).toLoadRect) :: L

/-- The first chunk's four stores. -/
abbrev firstStores (s0 s1 s2 s3 : FVec Ideal S1x128x128 .f32) : List (View.Piece (Elt Ideal) S4x128x128 .f32) :=
  [store X K V 3 inb_S4x128x128_S1x128x128_3_0_0 384 slices_S1x512_o0_384_S1x128 slices_S64x512_o0_384_S64x128 s3,
    store X K V 2 inb_S4x128x128_S1x128x128_2_0_0 256 slices_S1x512_o0_256_S1x128 slices_S64x512_o0_256_S64x128 s2,
    store X K V 1 inb_S4x128x128_S1x128x128_1_0_0 128 slices_S1x512_o0_128_S1x128 slices_S64x512_o0_128_S64x128 s1,
    store X K V 0 inb_S4x128x128_S1x128x128_0_0_0 0 slices_S1x512_o0_0_S1x128 slices_S64x512_o0_0_S64x128 s0]

/-- A later chunk's four stores. -/
abbrev nextStores (A : View sig κ sp S4x128x128 .f32) (L : List (View.Piece (Elt Ideal) S4x128x128 .f32)) : List (View.Piece (Elt Ideal) S4x128x128 .f32) :=
  again X K V A 3 inb_S4x128x128_S1x128x128_3_0_0 384 slices_S1x512_o0_384_S1x128 slices_S64x512_o0_384_S64x128
    (again X K V A 2 inb_S4x128x128_S1x128x128_2_0_0 256 slices_S1x512_o0_256_S1x128 slices_S64x512_o0_256_S64x128
      (again X K V A 1 inb_S4x128x128_S1x128x128_1_0_0 128 slices_S1x512_o0_128_S1x128 slices_S64x512_o0_128_S64x128
        (again X K V A 0 inb_S4x128x128_S1x128x128_0_0_0 0 slices_S1x512_o0_0_S1x128 slices_S64x512_o0_0_S64x128 L)))

include hX hK hV in
/-- The first chunk's stores leave the state one chunk on from what the four heads held. -/
theorem first_chunk (s0 s1 s2 s3 : FVec Ideal S1x128x128 .f32) (hs0 : ∀ y : S4x128x128.Idx, (y 0).val = 0 → s0 (ix3 0 (y 1) (y 2)) = S y)
    (hs1 : ∀ y : S4x128x128.Idx, (y 0).val = 1 → s1 (ix3 0 (y 1) (y 2)) = S y) (hs2 : ∀ y : S4x128x128.Idx, (y 0).val = 2 → s2 (ix3 0 (y 1) (y 2)) = S y)
    (hs3 : ∀ y : S4x128x128.Idx, (y 0).val = 3 → s3 (ix3 0 (y 1) (y 2)) = S y) (y : S4x128x128.Idx) :
    View.canon (firstStores X K V s0 s1 s2 s3) y = advance S LF KF VF y :=
  first_step 3 _ 384 rfl (by omega) _ _ X K V LF KF VF hX hK hV S _
    (first_step 2 _ 256 rfl (by omega) _ _ X K V LF KF VF hX hK hV S _
      (first_step 1 _ 128 rfl (by omega) _ _ X K V LF KF VF hX hK hV S _
        (first_step 0 _ 0 rfl (by omega) _ _ X K V LF KF VF hX hK hV S _ (fun _ h => absurd h (Nat.not_lt_zero _)) s0 hs0) s1 hs1) s2 hs2) s3 hs3 y (y 0).isLt

include hX hK hV in
/-- A later chunk's stores move the state one chunk on. -/
theorem next_chunk (A : View sig κ sp S4x128x128 .f32) (L : List (View.Piece (Elt Ideal) S4x128x128 .f32)) (hL : ∀ y, View.canon L y = S y) (y : S4x128x128.Idx) :
    View.canon (nextStores X K V A L) y = advance S LF KF VF y :=
  (next_step 3 _ 384 rfl (by omega) _ _ X K V LF KF VF hX hK hV S A _
    (next_step 2 _ 256 rfl (by omega) _ _ X K V LF KF VF hX hK hV S A _
      (next_step 1 _ 128 rfl (by omega) _ _ X K V LF KF VF hX hK hV S A _
        (next_step 0 _ 0 rfl (by omega) _ _ X K V LF KF VF hX hK hV S A L fun y => (hL y).trans (if_neg (Nat.not_lt_zero _)).symm))) y).trans
    (if_pos (y 0).isLt)

end Chunk

end Cert.KernelIdeal.Chunk

end
-- ==== Proof.Tile.lean ====
module

public import proofs.«01_k».proof.Proof.Ops
public import Idealize.ShloMosaic.Lib.Pipeline.Value

@[expose] public section

set_option maxRecDepth 16384

noncomputable section

/-! What the body computes of one tile of 512 rows, read at an index: the modulated rows, the projection's column blocks and
the gates, given what the tile's operands hold. -/

namespace Cert.KernelIdeal.Tile

open Cert.KernelIdeal Cert.KernelIdeal.Gen Cert.KernelIdeal.Ops Cert.Spec
open Idealize.ShloMosaic Idealize.ShloMosaic.TcCoe Idealize.ShloMosaic.ValueIdx

variable (A : Args) (n T : ℕ)

/-- The kernel's logistic function is the reference's. -/
theorem logistic_eq (y : EReal) : Ideal.logistic y = Cert.Spec.sig y := by
  unfold Cert.Spec.sig one
  rw [Ideal.ofBits_one_f32]
  rfl

/-- The modulated rows of the tile. -/
theorem hid_apply (x : Vec Ideal S1x512x1024 .f32) (sh sc : Vec Ideal S1x1x1024 .f32) (hx : ∀ r k, x (ix3 0 r k) = A.x n (T + r.val) k.val)
    (hsh : ∀ k, sh (ix3 0 0 k) = A.md n 0 k.val) (hsc : ∀ k, sc (ix3 0 0 k) = A.md n 1 k.val) (r : Fin 512) (k : Fin 1024) :
    k0_pay31 (F := Ideal) x sh sc (ix2 r k) = hid A n (T + r.val) k.val := by
  have e1 : shapeCast S512x1024 x shapeCasts_S1x512x1024_S512x1024 (ix2 r k) = x (ix3 0 r k) :=
    shapeCast_apply _ _ (ix2 r k) (ix3 0 r k) (by
      rw [Shape.rowMajor_val_two, Shape.rowMajor_val_three]
      show (0 * 512 + r.val) * 1024 + k.val = r.val * 1024 + k.val
      omega)
  have e2 (v : Vec Ideal S1x1x1024 .f32) : shapeCast S1x1024 v shapeCasts_S1x1x1024_S1x1024 (ix2 0 k) = v (ix3 0 0 k) :=
    shapeCast_apply _ _ (ix2 0 k) (ix3 0 0 k) (by
      rw [Shape.rowMajor_val_two, Shape.rowMajor_val_three]
      show (0 * 1 + 0) * 1024 + k.val = 0 * 1024 + k.val
      omega)
  show shapeCast S512x1024 x _ (ix2 r k) * broadcastTo S512x1024 _ broadcasts_S1x1024_S512x1024 (ix2 r k)
    + broadcastTo S512x1024 _ broadcasts_S1x1024_S512x1024 (ix2 r k) = _
  rw [e1, hx, stretch (m := 512) (n := 1024) _ _ (ix2 r k), stretch (m := 512) (n := 1024) _ _ (ix2 r k)]
  show _ * (one + shapeCast S1x1024 sc _ (ix2 0 k)) + shapeCast S1x1024 sh _ (ix2 0 k) = _
  rw [e2, e2, hsh, hsc]
  rfl

/-- A block of 512 columns of the projection. -/
def block (h : FVec Ideal S512x1024 .bf16) (w : FVec Ideal S1024x512 .bf16) (b : FVec Ideal S1x512 .f32) : FVec Ideal S512x512 .f32 :=
  addf (matmul dot_S512x1024_S1024x512_S512x512_1_0_0_1_n_n none h w (constant (F := Ideal) S512x512 .f32 0x00000000#32))
    (broadcastTo S512x512 b broadcasts_S1x512_S512x512)

section
variable (h : FVec Ideal S512x1024 .bf16) (hh : ∀ r k, h (ix2 r k) = hid A n (T + r.val) k.val)

include hh in
/-- A block of columns of the projection, read at an index. -/
theorem block_apply (o : ℕ) (w : FVec Ideal S1024x512 .bf16) (b : FVec Ideal S1x512 .f32) (hw : ∀ k j, w (ix2 k j) = A.w k.val (o + j.val))
    (hb : ∀ j, b (ix2 0 j) = A.b 0 (o + j.val)) (r j : Fin 512) : block h w b (ix2 r j) = z A n (T + r.val) (o + j.val) := by
  show matmul _ none _ _ _ (ix2 r j) + broadcastTo S512x512 _ _ (ix2 r j) = _
  rw [tile_matmul, stretch (m := 512) (n := 512) _ _ (ix2 r j)]
  unfold z
  refine congrArg₂ (· + ·) (Finset.sum_congr rfl fun k _ => congrArg₂ (· * ·) (hh r k) (hw k j)) (hb j)

/-- The lower bound of the forget gate: the softmax of the two logits at its first row. -/
theorem lbound_apply (x : Vec Ideal S2x512 .f32) (hx : ∀ k j, x (ix2 k j) = A.lb k.val j.val) (j : Fin 512) :
    k0_pay32 (F := Ideal) x (ix2 0 j) = lbound A j.val := by
  have cast (v : FVec Ideal S512 .f32) : shapeCast S1x512 v shapeCasts_S512_S1x512 (ix2 0 j) = v (ix1 j) :=
    shapeCast_apply _ _ (ix2 0 j) (ix1 j) (by
      rw [Shape.rowMajor_val_two, Shape.rowMajor_val_one]
      show j.val = 0 * 512 + j.val
      omega)
  have two (i : Fin 2) : (reduces_S2x512_S512.lift (ix1 j) i) = ix2 i j := funext fun a => Fin.ext (by fin_cases a <;> rfl)
  have top : shapeCast S1x512 (multiReduction (F := Ideal) (φ := .f32) .maximumf [0] S512 x 0xFF800000#32 reduces_S2x512_S512 (by decide) (by decide)) shapeCasts_S512_S1x512 (ix2 0 j)
      = lbTop A j.val := by
    rw [cast, Ideal.multiReduction_maximumf_single]
    exact congrArg (fun f => Finset.fold max _ f Finset.univ) (funext fun k => (congrArg x (two k)).trans (hx k j))
  have ex (i : Fin 2) : exp (subf x (broadcastTo S2x512 (shapeCast S1x512 (multiReduction (F := Ideal) (φ := .f32) .maximumf [0] S512 x 0xFF800000#32 reduces_S2x512_S512 (by decide) (by decide))
      shapeCasts_S512_S1x512) broadcasts_S1x512_S2x512)) (ix2 i j) = Ideal.exp (A.lb i.val j.val - lbTop A j.val) := by
    show Ideal.exp (x (ix2 i j) - broadcastTo S2x512 _ _ (ix2 i j)) = _
    rw [stretch (m := 2) (n := 512) _ _ (ix2 i j), hx]
    exact congrArg (fun t => Ideal.exp (_ - t)) top
  unfold k0_pay32
  refine (cast _).trans ?_
  refine (Ideal.multiReduction_add_single (s := S1x512) (t := S512) (a := 0) _ _ reduces_S1x512_S512 _ _ (ix1 j)).trans ?_
  refine (Fin.sum_univ_one _).trans ?_
  refine (extractStridedSlice_apply ![0, 0] _ _ _ (ix2 (0 : Fin 2) j) fun a => ?_).trans ?_
  · fin_cases a <;> first | rfl | exact (Nat.zero_add _).symm
  show Ideal.div _ (broadcastTo S2x512 _ _ (ix2 0 j)) = _
  rw [stretch (m := 2) (n := 512) _ _ (ix2 0 j)]
  refine congrArg₂ Ideal.div (ex 0) ((cast _).trans ?_)
  refine (Ideal.multiReduction_add_single (s := S2x512) (t := S512) (a := 0) _ _ reduces_S2x512_S512 _ _ (ix1 j)).trans ?_
  exact Finset.sum_congr rfl fun k _ => (congrArg _ (two k)).trans (ex k)

variable (lb : FVec Ideal S1x512 .f32) (hlb : ∀ j, lb (ix2 0 j) = lbound A j.val)
  (w : FVec Ideal S1024x512 .bf16) (b : FVec Ideal S1x512 .f32)

include hh hlb in
/-- The forget gate of the tile. -/
theorem fgate_apply (hw : ∀ k j, w (ix2 k j) = A.w k.val (512 + j.val)) (hb : ∀ j, b (ix2 0 j) = A.b 0 (512 + j.val)) (r j : Fin 512) :
    k0_pay96 (F := Ideal) h lb w b (ix2 r j) = fgate A n (T + r.val) j.val := by
  show broadcastTo S512x512 _ _ (ix2 r j) + broadcastTo S512x512 _ _ (ix2 r j) * Ideal.logistic (block h w b (ix2 r j)) = _
  rw [stretch (m := 512) (n := 512) _ _ (ix2 r j), stretch (m := 512) (n := 512) _ _ (ix2 r j), block_apply A n T h hh 512 w b hw hb, logistic_eq]
  show lb (ix2 0 j) + (one - lb (ix2 0 j)) * _ = _
  rw [hlb]
  rfl

include hh hlb in
/-- The keys of the tile. -/
theorem key_apply (hw : ∀ k j, w (ix2 k j) = A.w k.val (512 + j.val)) (hb : ∀ j, b (ix2 0 j) = A.b 0 (512 + j.val)) (r j : Fin 512) :
    k0_pay97 (F := Ideal) h lb w b (ix2 r j) = one - fgate A n (T + r.val) j.val := by
  unfold k0_pay97
  rw [shapeCast_self]
  exact congrArg (one - ·) (fgate_apply A n T h hh lb hlb w b hw hb r j)

include hh hlb in
/-- The log-gates of the tile. -/
theorem log_apply (hw : ∀ k j, w (ix2 k j) = A.w k.val (512 + j.val)) (hb : ∀ j, b (ix2 0 j) = A.b 0 (512 + j.val)) (r j : Fin 512) :
    k0_pay98 (F := Ideal) h lb w b (ix2 r j) = Ideal.log (fgate A n (T + r.val) j.val) := by
  unfold k0_pay98
  rw [shapeCast_self]
  exact congrArg Ideal.log (fgate_apply A n T h hh lb hlb w b hw hb r j)

include hh in
/-- The values of the tile. -/
theorem value_apply (hw : ∀ k j, w (ix2 k j) = A.w k.val (1024 + j.val)) (hb : ∀ j, b (ix2 0 j) = A.b 0 (1024 + j.val)) (r j : Fin 512) :
    k0_pay158 (F := Ideal) h w b (ix2 r j) = z A n (T + r.val) (1024 + j.val) := by
  unfold k0_pay158
  rw [shapeCast_self]
  exact block_apply A n T h hh 1024 w b hw hb r j

include hh in
/-- The convolution's gated input on the tile. -/
theorem u_apply (y : FVec Ideal S512x512 .f32) (hy : ∀ r j, y (ix2 r j) = z A n (T + r.val) (2048 + j.val))
    (hw : ∀ k j, w (ix2 k j) = A.w k.val (2560 + j.val)) (hb : ∀ j, b (ix2 0 j) = A.b 0 (2560 + j.val)) (r j : Fin 512) :
    k0_pay34 (F := Ideal) h y w b (ix2 r j) = u A n (T + r.val) j.val := by
  unfold k0_pay34
  rw [shapeCast_self]
  show y (ix2 r j) * Ideal.logistic (block h w b (ix2 r j)) = _
  rw [hy, block_apply A n T h hh 2560 w b hw hb, logistic_eq]
  rfl

end

end Cert.KernelIdeal.Tile

end
-- ==== Proof.Point.lean ====
module

public import proofs.«01_k».proof.Proof.Frame
public import proofs.«01_k».proof.Proof.Chunk
public import proofs.«01_k».proof.Proof.Tile

@[expose] public section

set_option maxRecDepth 16384

noncomputable section

/-! One grid point's tile: its rows, weights and gates, and the stores the body makes into the state scratch and the two
outputs, each named by what it is computed from. -/

namespace Cert.KernelIdeal.Point

open Cert.KernelIdeal Cert.KernelIdeal.Gen Cert.KernelIdeal.Ops Cert.KernelIdeal.Chunk Cert.Spec
open Idealize.ShloMosaic Idealize.ShloMosaic.TcCoe Idealize.ShloMosaic.ValueIdx

/-! ## The grid: 32 tiles, four to a sequence, and one last point -/

/-- The prompt's block moves with the tile. -/
theorem rows_index : ∀ t : Fin cfg0.N, t.val < 32 → win0_0.index t = ![t.val / 4, t.val % 4, 0] := by decide +kernel
/-- The modulation's block is the whole array. -/
theorem mod_index : ∀ t : Fin cfg0.N, win0_1.index t = ![0, 0, 0] := by decide +kernel
/-- The logits' block is the whole array. -/
theorem logit_index : ∀ t : Fin cfg0.N, win0_2.index t = ![0, 0] := by decide +kernel
/-- The weights' block is the whole array. -/
theorem weight_index : ∀ t : Fin cfg0.N, win0_3.index t = ![0, 0] := by decide +kernel
/-- The bias's block is the whole array. -/
theorem bias_index : ∀ t : Fin cfg0.N, win0_4.index t = ![0, 0] := by decide +kernel
/-- The shift row of the tile's sequence. -/
theorem shift_off : ∀ t : Fin cfg0.N, t.val < 32 → k0_off3 (grid0.coords t) = ![t.val / 4, 0, 0] := by decide +kernel
/-- The scale row of the tile's sequence. -/
theorem scale_off : ∀ t : Fin cfg0.N, t.val < 32 → k0_off4 (grid0.coords t) = ![t.val / 4, 1, 0] := by decide +kernel
/-- The state is cleared at a sequence's first tile. -/
theorem clear_iff : ∀ t : Fin cfg0.N, t.val < 32 → (Body.bodyRun.sl.v52 (grid0.coords t) = 1#1 ↔ t.val % 4 = 0) := by decide +kernel
/-- The outputs are stored at a sequence's last tile. -/
theorem last_iff : ∀ t : Fin cfg0.N, (k0_cond3 (grid0.coords t) = 1#1 ↔ t.val < 32 ∧ t.val % 4 = 3) := by decide +kernel

variable (m : (b : Loc nD τ sig) → Buf (Elt Ideal) b) (c : Dev nD) (t : Fin cfg0.N) (s : FVec Ideal S4x128x128 .f32) (p : Frame.Held Ideal)

/-! ## The tile's operands and gates -/

/-- The modulated rows. -/
def rows : FVec Ideal S512x1024 .bf16 :=
  k0_pay31 (F := Ideal) (View.readAt (Elt Ideal) (win0_0.stage (cfg0.slots t 0)).view (Rect.unit ![0, 0, 0] S1x512x1024.size inb_S1x512x1024_S1x512x1024_0_0_0).toLoadRect
      ((hstage0_0 ((cfg0.slots t 0).cast nbuf0_0)).unread (iblk m c 0 t)))
    (View.readAt (Elt Ideal) (win0_1.stage (cfg0.slots t 1)).view (Rect.unit (s := S8x6x1024) (k0_off3 (grid0.coords t)) S1x1x1024.size (k0_off3_inb _)).toLoadRect
      ((hstage0_1 ((cfg0.slots t 1).cast nbuf0_1)).unread (iblk m c 1 t)))
    (View.readAt (Elt Ideal) (win0_1.stage (cfg0.slots t 1)).view (Rect.unit (s := S8x6x1024) (k0_off4 (grid0.coords t)) S1x1x1024.size (k0_off4_inb _)).toLoadRect
      ((hstage0_1 ((cfg0.slots t 1).cast nbuf0_1)).unread (iblk m c 1 t)))

/-- The lower bound's row. -/
def low : FVec Ideal S1x512 .f32 :=
  k0_pay32 (F := Ideal) (View.readAt (Elt Ideal) (win0_2.stage (cfg0.slots t 2)).view (Rect.unit ![0, 0] S2x512.size inb_S2x512_S2x512_0_0).toLoadRect
    ((hstage0_2 ((cfg0.slots t 2).cast nbuf0_2)).unread (iblk m c 2 t)))

/-- A block of 512 columns of the weights. -/
def weights (o : ℕ) (inb : ∀ a, (![0, o] : Fin 2 → ℕ) a + S1024x512.size a ≤ S1024x3072.size a) : FVec Ideal S1024x512 .bf16 :=
  View.readAt (Elt Ideal) (win0_3.stage (cfg0.slots t 3)).view (Rect.unit (s := S1024x3072) ![0, o] S1024x512.size inb).toLoadRect
    ((hstage0_3 ((cfg0.slots t 3).cast nbuf0_3)).unread (iblk m c 3 t))

/-- A block of 512 columns of the bias. -/
def biases (o : ℕ) (inb : ∀ a, (![0, o] : Fin 2 → ℕ) a + S1x512.size a ≤ S1x3072.size a) : FVec Ideal S1x512 .f32 :=
  View.readAt (Elt Ideal) (win0_4.stage (cfg0.slots t 4)).view (Rect.unit (s := S1x3072) ![0, o] S1x512.size inb).toLoadRect
    ((hstage0_4 ((cfg0.slots t 4).cast nbuf0_4)).unread (iblk m c 4 t))

/-- The tile's log-gates. -/
def logs : FVec Ideal S512x512 .f32 :=
  k0_pay98 (F := Ideal) (rows m c t) (low m c t) (weights m c t 512 inb_S1024x3072_S1024x512_0_512) (biases m c t 512 inb_S1x3072_S1x512_0_512)

/-- The tile's keys. -/
def keysOf : FVec Ideal S512x512 .f32 :=
  k0_pay97 (F := Ideal) (rows m c t) (low m c t) (weights m c t 512 inb_S1024x3072_S1024x512_0_512) (biases m c t 512 inb_S1x3072_S1x512_0_512)

/-- The tile's values. -/
def values : FVec Ideal S512x512 .bf16 :=
  k0_pay158 (F := Ideal) (rows m c t) (weights m c t 1024 inb_S1024x3072_S1024x512_0_1024) (biases m c t 1024 inb_S1x3072_S1x512_0_1024)

/-- The tile's gated convolution input. -/
def gated : FVec Ideal S512x512 .f32 :=
  k0_pay34 (F := Ideal) (rows m c t)
    (Tile.block (rows m c t) (weights m c t 2048 inb_S1024x3072_S1024x512_0_2048) (biases m c t 2048 inb_S1x3072_S1x512_0_2048))
    (weights m c t 2560 inb_S1024x3072_S1024x512_0_2560) (biases m c t 2560 inb_S1x3072_S1x512_0_2560)

/-! ## The body's stores -/

/-- A chunk's 64 rows of a tile-sized scratch. -/
abbrev chunk {e : EltTy} (b : Memref Cert.KernelIdeal.sig .tc .vmem S512x512 e) (w : Vec Ideal S512x512 e) (o : ℕ)
    (inb : ∀ a, (![o, 0] : Fin 2 → ℕ) a + S64x512.size a ≤ S512x512.size a) : Vec Ideal S64x512 e :=
  b.view.readCov [(⟨Rect.unit ![0, 0] S512x512.size inb_S512x512_S512x512_0_0, w⟩ : View.Piece (Elt Ideal) S512x512 e)]
    (Rect.unit (s := S512x512) ![o, 0] S64x512.size inb).toLoadRect

/-- A head's matrix as the first chunk finds it: cleared at a sequence's first tile, else what the point before left. -/
abbrev found (h : ℕ) (inb : ∀ a, (![h, 0, 0] : Fin 3 → ℕ) a + S1x128x128.size a ≤ S4x128x128.size a) : FVec Ideal S1x128x128 .f32 :=
  View.readAt (Elt Ideal) (Memref.whole cc0_scratch9).view (Rect.unit (s := S4x128x128) ![h, 0, 0] S1x128x128.size inb).toLoadRect
    (if hc : Body.bodyRun.sl.v52 (grid0.coords t) = 1#1 then
      (Memref.whole cc0_scratch9).view.writes (Elt Ideal) ((Memref.isWhole_whole cc0_scratch9).unread s)
        [⟨Rect.unit ![0, 0, 0] S4x128x128.size inb_S4x128x128_S4x128x128_0_0_0, (k0_pay8 : FVec Ideal S4x128x128 .f32)⟩]
    else (Memref.isWhole_whole cc0_scratch9).unread s)

/-- A later chunk's stores, on the tile's rows from `o` on. -/
abbrev chunkStores (o : ℕ) (inb : ∀ a, (![o, 0] : Fin 2 → ℕ) a + S64x512.size a ≤ S512x512.size a) (L : List (View.Piece (Elt Ideal) S4x128x128 .f32)) :
    List (View.Piece (Elt Ideal) S4x128x128 .f32) :=
  nextStores (chunk (Memref.whole cc0_scratch2) (logs m c t) o inb) (chunk (Memref.whole cc0_scratch1) (keysOf m c t) o inb)
    (chunk (Memref.whole cc0_scratch3) (values m c t) o inb) (Memref.whole cc0_scratch9).view L

/-- The tile's 32 stores into the state scratch. -/
def stores : List (View.Piece (Elt Ideal) S4x128x128 .f32) :=
  chunkStores m c t 448 inb_S512x512_S64x512_448_0 (chunkStores m c t 384 inb_S512x512_S64x512_384_0
    (chunkStores m c t 320 inb_S512x512_S64x512_320_0 (chunkStores m c t 256 inb_S512x512_S64x512_256_0
      (chunkStores m c t 192 inb_S512x512_S64x512_192_0 (chunkStores m c t 128 inb_S512x512_S64x512_128_0
        (chunkStores m c t 64 inb_S512x512_S64x512_64_0
          (firstStores (chunk (Memref.whole cc0_scratch2) (logs m c t) 0 inb_S512x512_S64x512_0_0) (chunk (Memref.whole cc0_scratch1) (keysOf m c t) 0 inb_S512x512_S64x512_0_0)
            (chunk (Memref.whole cc0_scratch3) (values m c t) 0 inb_S512x512_S64x512_0_0)
            (found t s 0 inb_S4x128x128_S1x128x128_0_0_0) (found t s 1 inb_S4x128x128_S1x128x128_1_0_0)
            (found t s 2 inb_S4x128x128_S1x128x128_2_0_0) (found t s 3 inb_S4x128x128_S1x128x128_3_0_0))))))))

/-- The body's stores into the state scratch are these. -/
theorem stores_eq : (Frame.pointRun m c t p).1 = stores m c t p.1 := by sl_kernel_rfl

/-- The convolution scratch after the tile's rows are stored. -/
def convRows : List (View.Piece (Elt Ideal) S544x512 .f32) := [⟨Rect.unit ![32, 0] S512x512.size inb_S544x512_S512x512_32_0, gated m c t⟩]

/-- The convolution scratch after its last 32 rows are carried to its first. -/
def convCarried : List (View.Piece (Elt Ideal) S544x512 .f32) :=
  ⟨Rect.unit (s := S544x512) ![0, 0] S32x512.size inb_S544x512_S32x512_0_0,
    k0_pay529 ((Memref.whole cc0_scratch5).view.readCov (convRows m c t) (Rect.unit (s := S544x512) ![512, 0] S32x512.size inb_S544x512_S32x512_512_0).toLoadRect)⟩
    :: convRows m c t

/-- The body's store into the convolution output is this. -/
theorem conv_eq (inb : ∀ a, (![2, 0] : Fin 2 → ℕ) a + S30x512.size a ≤ S544x512.size a) : (Frame.pointRun m c t p).2.2.1 = [⟨Rect.unit ![0, 0, 0] S1x30x512.size inb_S1x30x512_S1x30x512_0_0_0,
    k0_pay2 ((Memref.whole cc0_scratch5).view.readCov (convCarried m c t) (Rect.unit (s := S544x512) ![2, 0] S30x512.size inb).toLoadRect)⟩] := rfl

/-- A head's matrix as stored in the state output: read from the scratch and transposed. -/
abbrev outHead (h : ℕ) (inb : ∀ a, (![h, 0, 0] : Fin 3 → ℕ) a + S1x128x128.size a ≤ S4x128x128.size a)
    (inb' : ∀ a, (![0, h, 0, 0] : Fin 4 → ℕ) a + S1x1x128x128.size a ≤ S1x4x128x128.size a) (hs : S128x128.ShapeCasts S1x1x128x128)
    (ht : S128x128.Transposes [1, 0] S128x128) : View.Piece (Elt Ideal) S1x4x128x128 .f32 :=
  ⟨Rect.unit (s := S1x4x128x128) ![0, h, 0, 0] S1x1x128x128.size inb',
    shapeCast S1x1x128x128 (transpose S128x128 [1, 0] (shapeCast S128x128 ((Memref.whole cc0_scratch9).view.readCov (stores m c t s)
      (Rect.unit (s := S4x128x128) ![h, 0, 0] S1x128x128.size inb).toLoadRect) shapeCasts_S1x128x128_S128x128) ht) hs⟩

/-- The body's stores into the state output are these. -/
theorem out_eq (hs : S128x128.ShapeCasts S1x1x128x128) (ht : S128x128.Transposes [1, 0] S128x128)
    (inb0 : ∀ a, (![0, 0, 0, 0] : Fin 4 → ℕ) a + S1x1x128x128.size a ≤ S1x4x128x128.size a) (inb1 : ∀ a, (![0, 1, 0, 0] : Fin 4 → ℕ) a + S1x1x128x128.size a ≤ S1x4x128x128.size a)
    (inb2 : ∀ a, (![0, 2, 0, 0] : Fin 4 → ℕ) a + S1x1x128x128.size a ≤ S1x4x128x128.size a) (inb3 : ∀ a, (![0, 3, 0, 0] : Fin 4 → ℕ) a + S1x1x128x128.size a ≤ S1x4x128x128.size a) :
    (Frame.pointRun m c t p).2.1 = [outHead m c t p.1 3 inb_S4x128x128_S1x128x128_3_0_0 inb3 hs ht, outHead m c t p.1 2 inb_S4x128x128_S1x128x128_2_0_0 inb2 hs ht,
      outHead m c t p.1 1 inb_S4x128x128_S1x128x128_1_0_0 inb1 hs ht, outHead m c t p.1 0 inb_S4x128x128_S1x128x128_0_0_0 inb0 hs ht] := by sl_kernel_rfl

end Cert.KernelIdeal.Point

end
-- ==== Proof.Reads.lean ====
module

public import proofs.«01_k».proof.Proof.Point
public import Idealize.ShloMosaic.Lib.Pipeline.ValueKit.Geometry

@[expose] public section

set_option maxRecDepth 16384

noncomputable section

/-! What a tile's operands hold of the arguments, and so what its gates, keys, values and convolution input are. -/

namespace Cert.KernelIdeal.Point

open Cert.KernelIdeal Cert.KernelIdeal.Gen Cert.KernelIdeal.Ops Cert.KernelIdeal.Chunk Cert.Spec
open Idealize.ShloMosaic Idealize.ShloMosaic.TcCoe Idealize.ShloMosaic.ValueIdx

variable (m : (b : Loc nD τ sig) → Buf (Elt Ideal) b) (c : Dev nD) (t : Fin cfg0.N)

/-- The arguments as the kernel is launched with them. -/
def A : Args :=
  args (m ((c : Thread nD τ).loc main_arg0)) (m ((c : Thread nD τ).loc main_arg1)) (m ((c : Thread nD τ).loc main_arg2))
    (m ((c : Thread nD τ).loc main_arg3)) (m ((c : Thread nD τ).loc main_arg4))

/-- The prompt's block. -/
theorem block_x (ht : t.val < 32) (r : Fin 512) (k : Fin 1024) :
    (iblk m c 0 t : Vec Ideal S1x512x1024 .f32) (ix3 0 r k) = (A m c).x (t.val / 4) (512 * (t.val % 4) + r.val) k.val := by
  show iblk m c 0 t (ix3 0 r k) = _
  blk_simp [iblk]
  rw [V_main_arg0]
  refine rd3_eq _ _ _ _ _ ?_ ?_ ?_
  · blk_simp [rows_index t ht]
  · blk_simp [rows_index t ht]
    show t.val % 4 * 512 + r.val = 512 * (t.val % 4) + r.val
    omega
  · blk_simp [rows_index t ht]

/-- The modulation's block. -/
theorem block_md (n : Fin 8) (a : Fin 6) (k : Fin 1024) :
    (iblk m c 1 t : Vec Ideal S8x6x1024 .f32) (ix3 n a k) = (A m c).md n.val a.val k.val := by
  show iblk m c 1 t (ix3 n a k) = _
  blk_simp [iblk]
  rw [V_main_arg1]
  refine rd3_eq _ _ _ _ _ ?_ ?_ ?_ <;> blk_simp [mod_index t]

/-- The logits' block. -/
theorem block_lb (a : Fin 2) (k : Fin 512) : (iblk m c 2 t : Vec Ideal S2x512 .f32) (ix2 a k) = (A m c).lb a.val k.val := by
  show iblk m c 2 t (ix2 a k) = _
  blk_simp [iblk]
  rw [V_main_arg2]
  refine rd2_eq _ _ _ _ ?_ ?_ <;> blk_simp [logit_index t]

/-- The weights' block. -/
theorem block_w (a : Fin 1024) (k : Fin 3072) : (iblk m c 3 t : Vec Ideal S1024x3072 .bf16) (ix2 a k) = (A m c).w a.val k.val := by
  show iblk m c 3 t (ix2 a k) = _
  blk_simp [iblk]
  rw [V_main_arg3]
  refine rd2_eq _ _ _ _ ?_ ?_ <;> blk_simp [weight_index t]

/-- The bias's block. -/
theorem block_b (k : Fin 3072) : (iblk m c 4 t : Vec Ideal S1x3072 .f32) (ix2 0 k) = (A m c).b 0 k.val := by
  show iblk m c 4 t (ix2 0 k) = _
  blk_simp [iblk]
  rw [V_main_arg4]
  refine rd2_eq _ _ _ _ ?_ ?_ <;> blk_simp [bias_index t]

/-- The tile's modulated rows. -/
theorem rows_apply (ht : t.val < 32) (r : Fin 512) (k : Fin 1024) : rows m c t (ix2 r k) = hid (A m c) (t.val / 4) (512 * (t.val % 4) + r.val) k.val := by
  have hn : t.val / 4 < 8 := by omega
  refine Tile.hid_apply (A m c) (t.val / 4) (512 * (t.val % 4)) _ _ _ (fun r k => ?_) (fun k => ?_) (fun k => ?_) r k
  · refine (read_part _ _ _ (Rect.unit (s := S1x512x1024) ![0, 0, 0] S1x512x1024.size inb_S1x512x1024_S1x512x1024_0_0_0) (ix3 0 r k) (ix3 0 r k) fun a => ?_).trans (block_x m c t ht r k)
    fin_cases a <;> exact (show _ = 0 + 1 * _ by omega)
  · refine (read_part _ _ _ (Rect.unit (s := S8x6x1024) (k0_off3 (grid0.coords t)) S1x1x1024.size (k0_off3_inb _)) (ix3 0 0 k) (ix3 ⟨t.val / 4, hn⟩ 0 k) fun a => ?_).trans (block_md m c t ⟨t.val / 4, hn⟩ 0 k)
    refine Eq.trans ?_ (congrArg (· + 1 * ((ix3 0 0 k : S1x1x1024.Idx) a).val) (congrFun (shift_off t ht) a).symm)
    fin_cases a
    · rfl
    · rfl
    · show k.val = 0 + 1 * k.val; omega
  · refine (read_part _ _ _ (Rect.unit (s := S8x6x1024) (k0_off4 (grid0.coords t)) S1x1x1024.size (k0_off4_inb _)) (ix3 0 0 k) (ix3 ⟨t.val / 4, hn⟩ 1 k) fun a => ?_).trans (block_md m c t ⟨t.val / 4, hn⟩ 1 k)
    refine Eq.trans ?_ (congrArg (· + 1 * ((ix3 0 0 k : S1x1x1024.Idx) a).val) (congrFun (scale_off t ht) a).symm)
    fin_cases a
    · rfl
    · rfl
    · show k.val = 0 + 1 * k.val; omega

/-- The lower bound's row. -/
theorem low_apply (j : Fin 512) : low m c t (ix2 0 j) = lbound (A m c) j.val := by
  refine Tile.lbound_apply (A m c) _ (fun k j => ?_) j
  refine (read_part _ _ _ (Rect.unit (s := S2x512) ![0, 0] S2x512.size inb_S2x512_S2x512_0_0) (ix2 k j) (ix2 k j) fun a => ?_).trans (block_lb m c t k j)
  fin_cases a <;> exact (show _ = 0 + 1 * _ by omega)

/-- A block of columns of the weights. -/
theorem weights_apply (o : ℕ) (inb) (k : Fin 1024) (j : Fin 512) : weights m c t o inb (ix2 k j) = (A m c).w k.val (o + j.val) := by
  have h : o + 512 ≤ 3072 := inb 1
  refine (read_part _ _ _ (Rect.unit (s := S1024x3072) ![0, o] S1024x512.size inb) (ix2 k j) (ix2 k ⟨o + j.val, by omega⟩) fun a => ?_).trans (block_w m c t k ⟨o + j.val, by omega⟩)
  fin_cases a
  · show k.val = 0 + 1 * k.val; omega
  · show o + j.val = o + 1 * j.val; omega

/-- A block of columns of the bias. -/
theorem biases_apply (o : ℕ) (inb) (j : Fin 512) : biases m c t o inb (ix2 0 j) = (A m c).b 0 (o + j.val) := by
  have h : o + 512 ≤ 3072 := inb 1
  refine (read_part _ _ _ (Rect.unit (s := S1x3072) ![0, o] S1x512.size inb) (ix2 0 j) (ix2 0 ⟨o + j.val, by omega⟩) fun a => ?_).trans (block_b m c t ⟨o + j.val, by omega⟩)
  fin_cases a
  · rfl
  · show o + j.val = o + 1 * j.val; omega

/-- The tile's log-gates. -/
theorem logs_apply (ht : t.val < 32) (r j : Fin 512) : logs m c t (ix2 r j) = Ideal.log (fgate (A m c) (t.val / 4) (512 * (t.val % 4) + r.val) j.val) :=
  Tile.log_apply (A m c) _ _ _ (rows_apply m c t ht) _ (low_apply m c t) _ _ (weights_apply m c t 512 _) (biases_apply m c t 512 _) r j

/-- The tile's keys. -/
theorem keysOf_apply (ht : t.val < 32) (r j : Fin 512) : keysOf m c t (ix2 r j) = one - fgate (A m c) (t.val / 4) (512 * (t.val % 4) + r.val) j.val :=
  Tile.key_apply (A m c) _ _ _ (rows_apply m c t ht) _ (low_apply m c t) _ _ (weights_apply m c t 512 _) (biases_apply m c t 512 _) r j

/-- The tile's values. -/
theorem values_apply (ht : t.val < 32) (r j : Fin 512) : values m c t (ix2 r j) = z (A m c) (t.val / 4) (512 * (t.val % 4) + r.val) (1024 + j.val) :=
  Tile.value_apply (A m c) _ _ _ (rows_apply m c t ht) _ _ (weights_apply m c t 1024 _) (biases_apply m c t 1024 _) r j

/-- The tile's gated convolution input. -/
theorem gated_apply (ht : t.val < 32) (r j : Fin 512) : gated m c t (ix2 r j) = u (A m c) (t.val / 4) (512 * (t.val % 4) + r.val) j.val :=
  Tile.u_apply (A m c) _ _ _ (rows_apply m c t ht) _ _ _
    (Tile.block_apply (A m c) _ _ _ (rows_apply m c t ht) 2048 _ _ (weights_apply m c t 2048 _) (biases_apply m c t 2048 _))
    (weights_apply m c t 2560 _) (biases_apply m c t 2560 _) r j

end Cert.KernelIdeal.Point

end
-- ==== Proof.Advance.lean ====
module

public import proofs.«01_k».proof.Proof.Reads
public import Idealize.ShloMosaic.Lib.WritesUnit

@[expose] public section

set_option maxRecDepth 16384

noncomputable section

/-! One tile moves the state eight chunks on, and a sequence's last tile stores the final state and the convolution buffer. -/

namespace Cert.KernelIdeal.Point

open Cert.KernelIdeal Cert.KernelIdeal.Gen Cert.KernelIdeal.Ops Cert.KernelIdeal.Chunk Cert.Spec
open Idealize.ShloMosaic Idealize.ShloMosaic.TcCoe Idealize.ShloMosaic.ValueIdx

variable (m : (b : Loc nD τ sig) → Buf (Elt Ideal) b) (c : Dev nD) (t : Fin cfg0.N) (s : FVec Ideal S4x128x128 .f32) (p : Frame.Held Ideal)

/-- The state of sequence `n` before chunk `C`, as the scratch lays it out: head, value column, key column. -/
def laid (n C : ℕ) (y : S4x128x128.Idx) : EReal := state (A m c) n C (y 0).val (y 2).val (y 1).val

/-- One chunk of the recurrence, as the scratch lays the state out. -/
theorem laid_succ (n C : ℕ) (y : S4x128x128.Idx) :
    advance (laid m c n C) (fun r j => Ideal.log (fgate (A m c) n (64 * C + r) j)) (fun r j => one - fgate (A m c) n (64 * C + r) j)
      (fun r j => z (A m c) n (64 * C + r) (1024 + j)) y = laid m c n (C + 1) y := by
  unfold advance laid
  show _ = Ideal.exp (logsum (A m c) n C 63 (128 * (y 0).val + (y 2).val)) * state (A m c) n C (y 0).val (y 2).val (y 1).val + kv (A m c) n C (y 0).val (y 2).val (y 1).val
  refine congrArg₂ (· + ·) (mul_comm _ _) ?_
  unfold kv
  exact Finset.sum_congr rfl fun r _ => mul_comm _ _

/-- A chunk's log-gates. -/
theorem chunk_log (ht : t.val < 32) (o : ℕ) (inb) (C : ℕ) (hC : 512 * (t.val % 4) + o = 64 * C) (r : Fin 64) (j : Fin 512) :
    chunk (Memref.whole cc0_scratch2) (logs m c t) o inb (ix2 r j) = Ideal.log (fgate (A m c) (t.val / 4) (64 * C + r.val) j.val) := by
  have h : o + 64 ≤ 512 := inb 0
  refine (rows_read _ _ o _ inb r j (by omega)).trans ((logs_apply m c t ht _ _).trans ?_)
  show Ideal.log (fgate _ _ (512 * (t.val % 4) + (o + r.val)) _) = _
  rw [← add_assoc, hC]

/-- A chunk's keys. -/
theorem chunk_key (ht : t.val < 32) (o : ℕ) (inb) (C : ℕ) (hC : 512 * (t.val % 4) + o = 64 * C) (r : Fin 64) (j : Fin 512) :
    chunk (Memref.whole cc0_scratch1) (keysOf m c t) o inb (ix2 r j) = one - fgate (A m c) (t.val / 4) (64 * C + r.val) j.val := by
  have h : o + 64 ≤ 512 := inb 0
  refine (rows_read _ _ o _ inb r j (by omega)).trans ((keysOf_apply m c t ht _ _).trans ?_)
  show one - fgate _ _ (512 * (t.val % 4) + (o + r.val)) _ = _
  rw [← add_assoc, hC]

/-- A chunk's values. -/
theorem chunk_value (ht : t.val < 32) (o : ℕ) (inb) (C : ℕ) (hC : 512 * (t.val % 4) + o = 64 * C) (r : Fin 64) (j : Fin 512) :
    chunk (Memref.whole cc0_scratch3) (values m c t) o inb (ix2 r j) = z (A m c) (t.val / 4) (64 * C + r.val) (1024 + j.val) := by
  have h : o + 64 ≤ 512 := inb 0
  refine (rows_read _ _ o _ inb r j (by omega)).trans ((values_apply m c t ht _ _).trans ?_)
  show z _ _ (512 * (t.val % 4) + (o + r.val)) _ = _
  rw [← add_assoc, hC]

/-- A head's matrix before the first chunk. -/
theorem found_apply (h : ℕ) (inb) (S : S4x128x128.Idx → EReal)
    (hS : ∀ y, S y = if Body.bodyRun.sl.v52 (grid0.coords t) = 1#1 then 0 else s y) (y : S4x128x128.Idx) (hy : (y 0).val = h) :
    found t s h inb (ix3 0 (y 1) (y 2)) = S y := by
  have hk : ∀ a, (y a).val = (Rect.unit (s := S4x128x128) ![h, 0, 0] S1x128x128.size inb).off a
      + (Rect.unit (s := S4x128x128) ![h, 0, 0] S1x128x128.size inb).stride a * ((ix3 0 (y 1) (y 2) : S1x128x128.Idx) a).val := by
    intro a
    fin_cases a
    · show (y 0).val = h + 1 * 0; omega
    · show (y 1).val = 0 + 1 * (y 1).val; omega
    · show (y 2).val = 0 + 1 * (y 2).val; omega
  rw [hS]
  unfold found
  by_cases hc : Body.bodyRun.sl.v52 (grid0.coords t) = 1#1
  · rw [dif_pos hc, if_pos hc, View.readAt_apply]
    refine (View.read_writes_cons_unit_of_mem (Memref.whole cc0_scratch9).view _ inb_S4x128x128_S4x128x128_0_0_0 _ [] _ y rfl fun a => ?_).trans ?_
    · refine ((hk a).symm).trans ?_
      fin_cases a <;> exact (Nat.zero_add _).symm
    · unfold k0_pay8
      rw [shapeCast_self]
      exact Ideal.ofBits_zero_f32
  · rw [dif_neg hc, if_neg hc]
    exact read_part _ _ _ (Rect.unit (s := S4x128x128) ![h, 0, 0] S1x128x128.size inb) _ y hk

/-- A later chunk's stores move the state one chunk on. -/
theorem chunkStores_apply (ht : t.val < 32) (o : ℕ) (inb) (C : ℕ) (hC : 512 * (t.val % 4) + o = 64 * C) (L : List (View.Piece (Elt Ideal) S4x128x128 .f32))
    (hL : ∀ y, View.canon L y = laid m c (t.val / 4) C y) (y : S4x128x128.Idx) :
    View.canon (chunkStores m c t o inb L) y = laid m c (t.val / 4) (C + 1) y :=
  (next_chunk _ _ _ _ _ _ (chunk_log m c t ht o inb C hC) (chunk_key m c t ht o inb C hC) (chunk_value m c t ht o inb C hC) _ _ L hL y).trans
    (laid_succ m c (t.val / 4) C y)

/-- The state a tile leaves: eight chunks on from what it starts from. -/
theorem stores_apply (ht : t.val < 32)
    (hs : ∀ y, (if Body.bodyRun.sl.v52 (grid0.coords t) = 1#1 then 0 else s y) = laid m c (t.val / 4) (8 * (t.val % 4)) y) (y : S4x128x128.Idx) :
    View.canon (stores m c t s) y = laid m c (t.val / 4) (8 * (t.val % 4) + 8) y := by
  have hf (h : ℕ) (inb) := found_apply t s h inb (laid m c (t.val / 4) (8 * (t.val % 4))) fun y => (hs y).symm
  have e : 512 * (t.val % 4) + 0 = 64 * (8 * (t.val % 4)) := by omega
  refine chunkStores_apply m c t ht 448 _ (8 * (t.val % 4) + 7) (by omega) _ ?_ y
  refine chunkStores_apply m c t ht 384 _ (8 * (t.val % 4) + 6) (by omega) _ ?_
  refine chunkStores_apply m c t ht 320 _ (8 * (t.val % 4) + 5) (by omega) _ ?_
  refine chunkStores_apply m c t ht 256 _ (8 * (t.val % 4) + 4) (by omega) _ ?_
  refine chunkStores_apply m c t ht 192 _ (8 * (t.val % 4) + 3) (by omega) _ ?_
  refine chunkStores_apply m c t ht 128 _ (8 * (t.val % 4) + 2) (by omega) _ ?_
  refine chunkStores_apply m c t ht 64 _ (8 * (t.val % 4) + 1) (by omega) _ ?_
  intro y
  refine (first_chunk _ _ _ _ _ _ (chunk_log m c t ht 0 _ _ e) (chunk_key m c t ht 0 _ _ e) (chunk_value m c t ht 0 _ _ e) (laid m c (t.val / 4) (8 * (t.val % 4)))
    _ _ _ _ (hf 0 _) (hf 1 _) (hf 2 _) (hf 3 _) y).trans (laid_succ m c (t.val / 4) (8 * (t.val % 4)) y)

/-- The state a point leaves, by its stores. -/
theorem held_fst : (Frame.heldAfter m c t p).1 = View.canon (stores m c t p.1) := by
  unfold Frame.heldAfter
  exact congrArg View.canon (stores_eq m c t p)

/-- What the scratch may hold before a point within a sequence is the state there. -/
theorem carried_apply (n : ℕ) (hn : n < 32) (s : Frame.Held Ideal) (h : Frame.Carried m c (n + 1) s) (y : S4x128x128.Idx) :
    s.1 y = laid m c (n / 4) (8 * (n % 4) + 8) y := by
  induction n generalizing s y with
  | zero =>
    obtain ⟨hN, s', -, rfl⟩ := h
    rw [held_fst]
    refine stores_apply m c ⟨0, hN⟩ s'.1 hn (fun y => ?_) y
    rw [if_pos ((clear_iff ⟨0, hN⟩ hn).mpr rfl)]
    rfl
  | succ n ih =>
    obtain ⟨hN, s', hs', rfl⟩ := h
    rw [held_fst]
    refine stores_apply m c ⟨n + 1, hN⟩ s'.1 hn (fun y => ?_) y
    by_cases h0 : (n + 1) % 4 = 0
    · rw [if_pos ((clear_iff ⟨n + 1, hN⟩ hn).mpr h0)]
      show _ = laid m c ((n + 1) / 4) (8 * ((n + 1) % 4)) y
      rw [h0]
      rfl
    · rw [if_neg fun h => h0 ((clear_iff ⟨n + 1, hN⟩ hn).mp h), ih (by omega) s' hs' y]
      show _ = laid m c ((n + 1) / 4) (8 * ((n + 1) % 4)) y
      rw [show (n + 1) / 4 = n / 4 by omega, show (n + 1) % 4 = n % 4 + 1 by omega]
      rfl

/-- The state a tile leaves, from a carried state. -/
theorem after_apply (ht : t.val < 32) (hs : Frame.Carried m c t.val p) (y : S4x128x128.Idx) :
    View.canon (stores m c t p.1) y = laid m c (t.val / 4) (8 * (t.val % 4) + 8) y := by
  have e := carried_apply m c t.val ht (Frame.heldAfter m c t p) ⟨t.isLt, p, hs, rfl⟩ y
  rw [← e, held_fst]

/-- A store of one head's matrix in the state output leaves it there, and elsewhere what the stores before left. -/
theorem out_step (h : ℕ) (inb : ∀ a, (![0, h, 0, 0] : Fin 4 → ℕ) a + S1x1x128x128.size a ≤ S1x4x128x128.size a) (w : FVec Ideal S1x1x128x128 .f32)
    (L : List (View.Piece (Elt Ideal) S1x4x128x128 .f32)) (G : S1x4x128x128.Idx → EReal) (hw : ∀ y, (y 1).val = h → w (ix4 0 0 (y 2) (y 3)) = G y)
    (hL : ∀ y, (y 1).val < h → View.canon L y = G y) (y : S1x4x128x128.Idx) (hy : (y 1).val < h + 1) :
    View.canon ((⟨Rect.unit ![0, h, 0, 0] S1x1x128x128.size inb, w⟩ : View.Piece (Elt Ideal) S1x4x128x128 .f32) :: L) y = G y := by
  by_cases e : (y 1).val = h
  · rw [← hw y e]
    refine canon_at (Rect.unit (s := S1x4x128x128) ![0, h, 0, 0] S1x1x128x128.size inb) w L (ix4 0 0 (y 2) (y 3)) y fun a => ?_
    fin_cases a
    · show (y 0).val = 0 + 1 * 0; have : (y 0).val < 1 := (y 0).isLt; omega
    · show (y 1).val = h + 1 * 0; omega
    · show (y 2).val = 0 + 1 * (y 2).val; omega
    · show (y 3).val = 0 + 1 * (y 3).val; omega
  · refine (View.canon_cons_of_not_mem _ _ fun hm => e ?_).trans (hL y (by omega))
    have := (Rect.mem_set_unit (s := S1x4x128x128) (off := ![0, h, 0, 0]) (size := S1x1x128x128.size) (inb := inb) |>.mp hm) 1
    have h1 : h ≤ (y 1).val := this.1
    omega

/-- A head's matrix as stored in the state output: the state, key column before value column. -/
theorem outHead_apply (ht : t.val < 32) (hs : Frame.Carried m c t.val p) (h : ℕ) (inb) (hh : h < 4) (hc ht') (y : S1x4x128x128.Idx) (hy : (y 1).val = h) :
    shapeCast S1x1x128x128 (transpose S128x128 [1, 0] (shapeCast S128x128 ((Memref.whole cc0_scratch9).view.readCov (stores m c t p.1)
      (Rect.unit (s := S4x128x128) ![h, 0, 0] S1x128x128.size inb).toLoadRect) shapeCasts_S1x128x128_S128x128) ht') hc (ix4 0 0 (y 2) (y 3))
      = state (A m c) (t.val / 4) (8 * (t.val % 4) + 8) (y 1).val (y 2).val (y 3).val := by
  refine (shapeCast_apply _ hc (ix4 0 0 (y 2) (y 3)) (ix2 (y 2) (y 3)) ?_).trans ?_
  · rw [Shape.rowMajor_val_two, Shape.rowMajor_val_four]
    show (y 2).val * 128 + (y 3).val = ((0 * 1 + 0) * 128 + (y 2).val) * 128 + (y 3).val
    omega
  refine (transpose_apply [1, 0] _ ht' (ix2 (y 2) (y 3)) (ix2 (y 3) (y 2)) fun a => ?_).trans ?_
  · fin_cases a <;> rfl
  refine (dropHead _ (y 3) (y 2)).trans ?_
  refine (readCov_at _ _ (Rect.unit (s := S4x128x128) ![h, 0, 0] S1x128x128.size inb) (ix3 0 (y 3) (y 2)) (ix3 ⟨h, hh⟩ (y 3) (y 2)) fun a => ?_).trans ?_
  · fin_cases a
    · show h = h + 1 * 0; omega
    · show (y 3).val = 0 + 1 * (y 3).val; omega
    · show (y 2).val = 0 + 1 * (y 2).val; omega
  refine (after_apply m c t p ht hs _).trans ?_
  rw [hy]
  rfl

/-- What a sequence's last tile stores in the state output. -/
theorem stateOut_apply (ht : t.val < 32) (hs : Frame.Carried m c t.val p) (y : S1x4x128x128.Idx) :
    Frame.stateOut m c t p y = state (A m c) (t.val / 4) (8 * (t.val % 4) + 8) (y 1).val (y 2).val (y 3).val := by
  unfold Frame.stateOut
  rw [out_eq m c t p (by decide) transposes_S128x128_p1_0_S128x128 (by decide) (by decide) (by decide) (by decide)]
  refine out_step 3 _ _ _ _ (outHead_apply m c t p ht hs 3 _ (by omega) _ _) ?_ y (y 1).isLt
  refine out_step 2 _ _ _ _ (outHead_apply m c t p ht hs 2 _ (by omega) _ _) ?_
  refine out_step 1 _ _ _ _ (outHead_apply m c t p ht hs 1 _ (by omega) _ _) ?_
  refine out_step 0 _ _ _ _ (outHead_apply m c t p ht hs 0 _ (by omega) _ _) fun y h => absurd h (Nat.not_lt_zero _)

/-- What a sequence's last tile stores in the convolution output: its last 30 gated rows. -/
theorem convOut_apply (ht : t.val < 32) (y : S1x30x512.Idx) :
    Frame.convOut m c t p y = u (A m c) (t.val / 4) (512 * (t.val % 4) + (482 + (y 1).val)) (y 2).val := by
  have h1 : (y 1).val < 30 := (y 1).isLt
  have inb : ∀ a, (![2, 0] : Fin 2 → ℕ) a + S30x512.size a ≤ S544x512.size a := by decide
  unfold Frame.convOut
  rw [conv_eq m c t p inb]
  refine (congrFun (View.canon_unit_zero (by funext a; fin_cases a <;> rfl) _ _) y).trans ?_
  unfold k0_pay2
  refine (shapeCast_apply _ shapeCasts_S30x512_S1x30x512 y (ix2 (y 1) (y 2)) ?_).trans ?_
  · rw [Shape.rowMajor_val_two, Shape.rowMajor_val_three]
    show (y 1).val * 512 + (y 2).val = ((y 0).val * 30 + (y 1).val) * 512 + (y 2).val
    have : (y 0).val < 1 := (y 0).isLt
    omega
  refine (readCov_at _ _ (Rect.unit (s := S544x512) ![2, 0] S30x512.size inb) (ix2 (y 1) (y 2)) (ix2 ⟨2 + (y 1).val, by omega⟩ (y 2)) fun a => ?_).trans ?_
  · fin_cases a
    · show 2 + (y 1).val = 2 + 1 * (y 1).val; omega
    · show (y 2).val = 0 + 1 * (y 2).val; omega
  refine (canon_at (Rect.unit (s := S544x512) ![0, 0] S32x512.size inb_S544x512_S32x512_0_0) _ _ (ix2 ⟨2 + (y 1).val, by omega⟩ (y 2)) _ fun a => ?_).trans ?_
  · fin_cases a
    · show 2 + (y 1).val = 0 + 1 * (2 + (y 1).val); omega
    · show (y 2).val = 0 + 1 * (y 2).val; omega
  unfold k0_pay529
  rw [shapeCast_self]
  refine (readCov_at _ _ (Rect.unit (s := S544x512) ![512, 0] S32x512.size inb_S544x512_S32x512_512_0) (ix2 ⟨2 + (y 1).val, by omega⟩ (y 2))
    (ix2 ⟨514 + (y 1).val, by omega⟩ (y 2)) fun a => ?_).trans ?_
  · fin_cases a
    · show 514 + (y 1).val = 512 + 1 * (2 + (y 1).val); omega
    · show (y 2).val = 0 + 1 * (y 2).val; omega
  refine (canon_at (Rect.unit (s := S544x512) ![32, 0] S512x512.size inb_S544x512_S512x512_32_0) _ _ (ix2 ⟨482 + (y 1).val, by omega⟩ (y 2)) _ fun a => ?_).trans ?_
  · fin_cases a
    · show 514 + (y 1).val = 32 + 1 * (482 + (y 1).val); omega
    · show (y 2).val = 0 + 1 * (y 2).val; omega
  exact gated_apply m c t ht _ _

end Cert.KernelIdeal.Point

end
-- ==== Proof.LayerSpec.lean ====
module

public import proofs.«01_k».proof.Proof.Spec

@[expose] public section

noncomputable section

/-! The layer's output by coordinates: what both programs compute as the first result. -/

namespace Cert.LayerSpec

open Cert.Spec Idealize.ShloMosaic

/-- The arrays that only the layer's output depends on. -/
structure Rest where
  /-- the heads' norm scale -/
  hg : ℕ → ℕ → EReal
  /-- the convolution's weights -/
  cw : ℕ → ℕ → EReal
  /-- the convolution's bias -/
  cb : ℕ → ℕ → EReal
  /-- the group norm's scale -/
  gg : ℕ → ℕ → EReal
  /-- the group norm's shift -/
  gb : ℕ → ℕ → EReal
  /-- the output projection's weights -/
  wo : ℕ → ℕ → EReal
  /-- the output projection's bias -/
  bo : ℕ → ℕ → EReal
  /-- the first layer norm's scale -/
  g1 : ℕ → ℕ → EReal
  /-- the first layer norm's shift -/
  b1 : ℕ → ℕ → EReal
  /-- the first feed-forward weights -/
  wu : ℕ → ℕ → EReal
  /-- the first feed-forward bias -/
  bu : ℕ → ℕ → EReal
  /-- the second feed-forward weights -/
  wd : ℕ → ℕ → EReal
  /-- the second feed-forward bias -/
  bd : ℕ → ℕ → EReal
  /-- the second layer norm's scale -/
  g2 : ℕ → ℕ → EReal
  /-- the second layer norm's shift -/
  b2 : ℕ → ℕ → EReal

/-- The rest of the arguments from the arrays of either program. -/
def rest (x5 : (⟨2, ![1, 128]⟩ : Shape).Idx → EReal) (x6 : (⟨2, ![31, 512]⟩ : Shape).Idx → EReal)
    (x7 x8 x9 : (⟨2, ![1, 512]⟩ : Shape).Idx → EReal) (x10 : (⟨2, ![1024, 1024]⟩ : Shape).Idx → EReal)
    (x11 x12 x13 : (⟨2, ![1, 1024]⟩ : Shape).Idx → EReal) (x14 : (⟨2, ![1024, 4096]⟩ : Shape).Idx → EReal)
    (x15 : (⟨2, ![1, 4096]⟩ : Shape).Idx → EReal) (x16 : (⟨2, ![4096, 1024]⟩ : Shape).Idx → EReal)
    (x17 x18 x19 : (⟨2, ![1, 1024]⟩ : Shape).Idx → EReal) : Rest :=
  ⟨rd2 x5, rd2 x6, rd2 x7, rd2 x8, rd2 x9, rd2 x10, rd2 x11, rd2 x12, rd2 x13, rd2 x14, rd2 x15, rd2 x16, rd2 x17, rd2 x18, rd2 x19⟩

/-- The swish function. -/
def silu (y : EReal) : EReal := y * sig y

/-- The norms' small constant, as the programs spell it. -/
def eps : EReal := Ideal.ofBits .f32 0x3727C5AC#32

/-- The residual's factor, as the programs spell it. -/
def alpha : EReal := Ideal.ofBits .f32 0x3F9837F0#32

/-- The lengths of a row, a head and a group, as the programs spell them. -/
def len : EReal := Ideal.ofBits .f32 0x44800000#32
/-- The length of a head. -/
def headLen : EReal := Ideal.ofBits .f32 0x43000000#32
/-- The length of a group. -/
def groupLen : EReal := Ideal.ofBits .f32 0x42800000#32

/-! ## Layer norm and feed-forward block, by row -/

/-- A row's mean. -/
def mu (f : ℕ → EReal) : EReal := Ideal.div (∑ d : Fin 1024, f d.val) len

/-- A row's variance. -/
def var (f : ℕ → EReal) : EReal := Ideal.div (∑ d : Fin 1024, (f d.val - mu f) * (f d.val - mu f)) len

/-- A row normalised, scaled and shifted. -/
def norm (f : ℕ → EReal) (g b : ℕ → ℕ → EReal) (d : ℕ) : EReal :=
  (f d - mu f) * Ideal.rsqrt (var f + eps) * g 0 d + b 0 d

variable (A : Args) (B : Rest)

/-- The modulated row of sequence `n`. -/
def h2 (n : ℕ) (x : ℕ → EReal) (k : ℕ) : EReal := x k * (one + A.md n 4 k) + A.md n 3 k

/-- The first layer, rectified. -/
def act (n : ℕ) (x : ℕ → EReal) (j : ℕ) : EReal :=
  max ((∑ k : Fin 1024, h2 A n x k.val * B.wu k.val j) + B.bu 0 j) (Ideal.ofBits .f32 0x00000000#32)

/-- The feed-forward block. -/
def ff (n : ℕ) (x : ℕ → EReal) (d : ℕ) : EReal :=
  (∑ j : Fin 4096, act A B n x j.val * act A B n x j.val * B.wd j.val d) + B.bd 0 d

/-- The second residual sum. -/
def y2 (n : ℕ) (x : ℕ → EReal) (d : ℕ) : EReal := alpha * x d + (one + A.md n 5 d) * ff A B n x d

/-- The layer's output row, from the mixer's output row. -/
def mlp (n : ℕ) (x : ℕ → EReal) (d : ℕ) : EReal := norm (y2 A B n x) B.g2 B.b2 d

/-! ## The mixer -/

/-- The query decayed to the chunk's start. -/
def qe (n c r j : ℕ) : EReal := silu (z A n (64 * c + r) j) * Ideal.exp (logsum A n c r j)

/-- The key grown to the chunk's start. -/
def ke (n c r j : ℕ) : EReal := (one - fgate A n (64 * c + r) j) * Ideal.exp (-logsum A n c r j)

/-- A chunk's attention of row `r` to row `s`, nothing to later rows. -/
def att (n c h r s : ℕ) : EReal :=
  if s ≤ r then ∑ k : Fin 128, qe A n c r (128 * h + k.val) * ke A n c s (128 * h + k.val) else 0

/-- What row `r` of a chunk reads from the chunk and from the state before it. -/
def o (n c h r v : ℕ) : EReal :=
  (∑ s : Fin 64, att A n c h r s.val * z A n (64 * c + s.val) (1024 + (128 * h + v)))
    + ∑ k : Fin 128, qe A n c r (128 * h + k.val) * state A n c h k.val v

/-- A head's mean square. -/
def ms (n c h r : ℕ) : EReal := Ideal.div (∑ v : Fin 128, o A n c h r v.val * o A n c h r v.val) headLen

/-- A head normalised, scaled and gated. -/
def head (n c h r v : ℕ) : EReal :=
  o A n c h r v * Ideal.rsqrt (ms A n c h r + eps) * B.hg 0 v * silu (z A n (64 * c + r) (1536 + (128 * h + v)))

/-- The convolution's input with its 30 rows of zeros before the sequence. -/
def full (n t j : ℕ) : EReal := if t < 30 then 0 else u A n (t - 30) j

/-- The causal convolution. -/
def uc (n t j : ℕ) : EReal := (∑ i : Fin 31, B.cw i.val j * full A n (t + i.val) j) + B.cb 0 j

/-- A group's mean. -/
def gmean (n t g : ℕ) : EReal := Ideal.div (∑ k : Fin 64, uc A B n t (64 * g + k.val)) groupLen

/-- A group's deviation from its mean. -/
def gdev (n t j : ℕ) : EReal := uc A B n t j - gmean A B n t (j / 64)

/-- A group's variance. -/
def gvar (n t g : ℕ) : EReal :=
  Ideal.div (∑ k : Fin 64, gdev A B n t (64 * g + k.val) * gdev A B n t (64 * g + k.val)) groupLen

/-- The convolution, group-normalised, scaled, shifted and swished. -/
def conv (n t j : ℕ) : EReal :=
  silu (gdev A B n t j * Ideal.rsqrt (gvar A B n t (j / 64) + eps) * B.gg 0 j + B.gb 0 j)

/-- The mixer's row: the heads and the convolution. -/
def mix (n t d : ℕ) : EReal :=
  if d < 512 then head A B n (t / 64) (d / 128) (t % 64) (d % 128) else conv A B n t (d - 512)

/-- The output projection. -/
def proj (n t d : ℕ) : EReal := (∑ k : Fin 1024, mix A B n t k.val * B.wo k.val d) + B.bo 0 d

/-- The first residual sum. -/
def y1 (n t d : ℕ) : EReal := alpha * A.x n t d + (one + A.md n 2 d) * proj A B n t d

/-- The mixer's output. -/
def x1 (n t d : ℕ) : EReal := norm (y1 A B n t) B.g1 B.b1 d

/-- The layer's output. -/
def out (n t d : ℕ) : EReal := mlp A B n (x1 A B n t) d

end Cert.LayerSpec

end
-- ==== Proof.LayerOps.lean ====
module

public import proofs.«01_k».proof.Proof.Tile
public import proofs.«01_k».proof.Proof.Chunk
public import proofs.«01_k».proof.Proof.LayerSpec

@[expose] public section

set_option maxRecDepth 16384

noncomputable section

/-! The operations behind the layer's output, read at an index: the norms, the heads' reads and the convolution. -/

namespace Cert.KernelIdeal.Layer

open Cert.KernelIdeal Cert.KernelIdeal.Gen Cert.KernelIdeal.Ops Cert.Spec Cert.LayerSpec
open Idealize.ShloMosaic Idealize.ShloMosaic.TcCoe Idealize.ShloMosaic.ValueIdx

/-! ## Matrix products -/

/-- A product with the second feed-forward weights. -/
theorem down_matmul (lhs : FVec Ideal S512x4096 .bf16) (rhs : FVec Ideal S4096x256 .bf16) (j : S512x256.Idx) :
    matmul dot_S512x4096_S4096x256_S512x256_1_0_0_1_n_n none lhs rhs (constant (F := Ideal) S512x256 .f32 0x00000000#32) j
      = ∑ k : Fin 4096, lhs (ix2 (j 0) k) * rhs (ix2 k (j 1)) :=
  matmul_sum _ 4096 rfl rfl lhs rhs j _ _
    (fun k => congrArg lhs (funext fun a => Fin.ext (by fin_cases a <;> rfl)))
    (fun k => congrArg rhs (funext fun a => Fin.ext (by fin_cases a <;> rfl)))

/-- A product with the output weights. -/
theorem out_matmul (lhs : FVec Ideal S512x1024 .bf16) (rhs : FVec Ideal S1024x1024 .bf16) (j : S512x1024.Idx) :
    matmul dot_S512x1024_S1024x1024_S512x1024_1_0_0_1_n_n none lhs rhs (constant (F := Ideal) S512x1024 .f32 0x00000000#32) j
      = ∑ k : Fin 1024, lhs (ix2 (j 0) k) * rhs (ix2 k (j 1)) :=
  matmul_sum _ 1024 rfl rfl lhs rhs j _ _
    (fun k => congrArg lhs (funext fun a => Fin.ext (by fin_cases a <;> rfl)))
    (fun k => congrArg rhs (funext fun a => Fin.ext (by fin_cases a <;> rfl)))

/-- Queries against keys. -/
theorem score_matmul (lhs rhs : FVec Ideal S64x128 .bf16) (j : S64x64.Idx) :
    matmul dot_S64x128_S64x128_S64x64_1_1_0_0_n_n none lhs rhs (constant (F := Ideal) S64x64 .f32 0x00000000#32) j
      = ∑ k : Fin 128, lhs (ix2 (j 0) k) * rhs (ix2 (j 1) k) :=
  matmul_sum _ 128 rfl rfl lhs rhs j _ _
    (fun k => congrArg lhs (funext fun a => Fin.ext (by fin_cases a <;> rfl)))
    (fun k => congrArg rhs (funext fun a => Fin.ext (by fin_cases a <;> rfl)))

/-- Scores against values. -/
theorem value_matmul (lhs : FVec Ideal S64x64 .bf16) (rhs : FVec Ideal S64x128 .bf16) (j : S64x128.Idx) :
    matmul dot_S64x64_S64x128_S64x128_1_0_0_1_n_n none lhs rhs (constant (F := Ideal) S64x128 .f32 0x00000000#32) j
      = ∑ k : Fin 64, lhs (ix2 (j 0) k) * rhs (ix2 k (j 1)) :=
  matmul_sum _ 64 rfl rfl lhs rhs j _ _
    (fun k => congrArg lhs (funext fun a => Fin.ext (by fin_cases a <;> rfl)))
    (fun k => congrArg rhs (funext fun a => Fin.ext (by fin_cases a <;> rfl)))

/-- Queries against the state. -/
theorem state_matmul (lhs : FVec Ideal S64x128 .bf16) (rhs : FVec Ideal S128x128 .bf16) (j : S64x128.Idx) :
    matmul dot_S64x128_S128x128_S64x128_1_1_0_0_n_n none lhs rhs (constant (F := Ideal) S64x128 .f32 0x00000000#32) j
      = ∑ k : Fin 128, lhs (ix2 (j 0) k) * rhs (ix2 (j 1) k) :=
  matmul_sum _ 128 rfl rfl lhs rhs j _ _
    (fun k => congrArg lhs (funext fun a => Fin.ext (by fin_cases a <;> rfl)))
    (fun k => congrArg rhs (funext fun a => Fin.ext (by fin_cases a <;> rfl)))

/-! ## The layer norm of 64 rows -/

/-- A sum over the columns. -/
theorem rowSum (x : FVec Ideal S64x1024 .f32) (i : S64.Idx) :
    multiReduction .add [1] S64 x 0x00000000#32 reduces_S64x1024_S64 (.inl rfl) rfl i = ∑ k : Fin 1024, x (ix2 (i 0) k) := by
  refine (Ideal.multiReduction_add_single (s := S64x1024) (t := S64) (a := 1) x _ _ _ _ i).trans ?_
  refine Finset.sum_congr rfl fun k _ => congrArg x (funext fun a => Fin.ext ?_)
  fin_cases a <;> rfl

/-- A number per row, under a unit axis. -/
theorem unitAxis (x : FVec Ideal S64 .f32) (i : S64x1.Idx) : shapeCast S64x1 x shapeCasts_S64_S64x1 i = x (ix1 (i 0)) :=
  shapeCast_apply x _ i (ix1 (i 0)) (by
    rw [Shape.rowMajor_val_two, Shape.rowMajor_val_one]
    show (i 0).val = (i 0).val * 1 + (i 1).val
    have : (i 1).val < 1 := (i 1).isLt
    omega)

/-- A number per row, repeated over the columns. -/
theorem column {n : ℕ} (x : FVec Ideal S64x1 .f32) (h : S64x1.Broadcasts ⟨2, ![64, n]⟩) (i : (⟨2, ![64, n]⟩ : Shape).Idx) :
    broadcastTo ⟨2, ![64, n]⟩ x h i = x (ix2 (i 0) 0) := by
  refine broadcastTo_apply _ _ i (ix2 (i 0) 0) fun a => ?_
  fin_cases a <;> rfl

/-- Rows less their means. -/
def centred (x : FVec Ideal S64x1024 .f32) : FVec Ideal S64x1024 .f32 :=
  subf x (broadcastTo S64x1024 (divf (shapeCast S64x1 (multiReduction .add [1] S64 x 0x00000000#32 reduces_S64x1024_S64 (.inl rfl) rfl)
    shapeCasts_S64_S64x1) (broadcast S64x1 (Scalar.ofBits .f32 0x44800000#32))) broadcasts_S64x1_S64x1024)

/-- Rows normalised, scaled and shifted. -/
def lnRows (y : FVec Ideal S64x1024 .f32) (g b : FVec Ideal S1x1024 .f32) : FVec Ideal S64x1024 .f32 :=
  addf (mulf (mulf (centred y) (broadcastTo S64x1024 (rsqrt (addf (divf (shapeCast S64x1 (multiReduction .add [1] S64 (mulf (centred y) (centred y))
    0x00000000#32 reduces_S64x1024_S64 (.inl rfl) rfl) shapeCasts_S64_S64x1) (broadcast S64x1 (Scalar.ofBits .f32 0x44800000#32)))
    (broadcast S64x1 (Scalar.ofBits .f32 0x3727C5AC#32)))) broadcasts_S64x1_S64x1024)) (broadcastTo S64x1024 g broadcasts_S1x1024_S64x1024))
    (broadcastTo S64x1024 b broadcasts_S1x1024_S64x1024)

/-- The centred rows, read at an index. -/
theorem centred_apply (x : FVec Ideal S64x1024 .f32) (f : ℕ → EReal) (r : Fin 64) (hx : ∀ k : Fin 1024, x (ix2 r k) = f k.val) (k : Fin 1024) :
    centred x (ix2 r k) = f k.val - mu f := by
  show x (ix2 r k) - broadcastTo S64x1024 _ broadcasts_S64x1_S64x1024 (ix2 r k) = _
  rw [column (n := 1024) _ _ (ix2 r k), hx]
  show _ - Ideal.div (shapeCast S64x1 _ shapeCasts_S64_S64x1 (ix2 r 0)) len = _
  rw [unitAxis, rowSum]
  exact congrArg (fun y => _ - Ideal.div y len) (Finset.sum_congr rfl fun k _ => hx k)

/-- The normalised rows, read at an index. -/
theorem lnRows_apply (y : FVec Ideal S64x1024 .f32) (g b : FVec Ideal S1x1024 .f32) (f : ℕ → EReal) (G B : ℕ → ℕ → EReal) (r : Fin 64)
    (hy : ∀ k : Fin 1024, y (ix2 r k) = f k.val) (hg : ∀ k, g (ix2 0 k) = G 0 k.val) (hb : ∀ k, b (ix2 0 k) = B 0 k.val) (k : Fin 1024) :
    lnRows y g b (ix2 r k) = norm f G B k.val := by
  show centred y (ix2 r k) * broadcastTo S64x1024 _ broadcasts_S64x1_S64x1024 (ix2 r k) * broadcastTo S64x1024 g broadcasts_S1x1024_S64x1024 (ix2 r k)
    + broadcastTo S64x1024 b broadcasts_S1x1024_S64x1024 (ix2 r k) = _
  rw [column (n := 1024) _ _ (ix2 r k), stretch (m := 64) (n := 1024) g _ (ix2 r k), stretch (m := 64) (n := 1024) b _ (ix2 r k), centred_apply y f r hy, hg, hb]
  show _ * Ideal.rsqrt (Ideal.div (shapeCast S64x1 _ shapeCasts_S64_S64x1 (ix2 r 0)) len + eps) * _ + _ = _
  rw [unitAxis, rowSum]
  refine congrArg (fun y => _ * Ideal.rsqrt (Ideal.div y len + eps) * _ + _) (Finset.sum_congr rfl fun k _ => ?_)
  exact congrArg₂ (· * ·) (centred_apply y f r hy k) (centred_apply y f r hy k)

/-! ## A chunk's heads -/

/-- A chunk's queries, decayed to its start. -/
def queries (x q : FVec Ideal S64x512 .f32) : FVec Ideal S64x512 .bf16 := truncf .bf16 (mulf q (exp (scan x))) bitsLt_bf16_f32

/-- A chunk's keys, grown to its start. -/
def grown (x k : FVec Ideal S64x512 .f32) : FVec Ideal S64x512 .bf16 :=
  truncf .bf16 (mulf k (exp (subf (broadcast S64x512 (Scalar.ofBits .f32 0x00000000#32)) (scan x)))) bitsLt_bf16_f32

/-- A head's scores, none to later rows. -/
def scores (o : ℕ) (h2 : S64x512.Slices ![0, o] S64x128) (q k : FVec Ideal S64x512 .bf16) : FVec Ideal S64x64 .bf16 :=
  truncf .bf16 (select k0_pay289 (matmul dot_S64x128_S64x128_S64x64_1_1_0_0_n_n none (extractStridedSlice S64x128 ![0, o] q h2)
    (extractStridedSlice S64x128 ![0, o] k h2) (constant (F := Ideal) S64x64 .f32 0x00000000#32)) (broadcast S64x64 (Scalar.ofBits .f32 0x00000000#32))) bitsLt_bf16_f32

/-- What a head reads from the chunk and from its state. -/
def reads (o : ℕ) (h2 : S64x512.Slices ![0, o] S64x128) (a : FVec Ideal S64x64 .bf16) (q v : FVec Ideal S64x512 .bf16) (s : FVec Ideal S1x128x128 .f32) : FVec Ideal S64x128 .f32 :=
  addf (matmul dot_S64x64_S64x128_S64x128_1_0_0_1_n_n none a (extractStridedSlice S64x128 ![0, o] v h2) (constant (F := Ideal) S64x128 .f32 0x00000000#32))
    (matmul dot_S64x128_S128x128_S64x128_1_1_0_0_n_n none (extractStridedSlice S64x128 ![0, o] q h2)
      (truncf .bf16 (shapeCast S128x128 s shapeCasts_S1x128x128_S128x128) bitsLt_bf16_f32) (constant (F := Ideal) S64x128 .f32 0x00000000#32))

/-- A head's rows normalised, scaled and gated. -/
def gatedRows (y : FVec Ideal S64x128 .f32) (hg : FVec Ideal S1x128 .f32) (g : FVec Ideal S64x128 .f32) : FVec Ideal S64x128 .bf16 :=
  shapeCast S64x128 (truncf .bf16 (mulf (mulf (mulf y (broadcastTo S64x128 (rsqrt (addf (divf (shapeCast S64x1 (multiReduction .add [1] S64 (mulf y y)
    0x00000000#32 reduces_S64x128_S64 (.inl rfl) rfl) shapeCasts_S64_S64x1) (broadcast S64x1 (Scalar.ofBits .f32 0x43000000#32)))
    (broadcast S64x1 (Scalar.ofBits .f32 0x3727C5AC#32)))) broadcasts_S64x1_S64x128)) (broadcastTo S64x128 hg broadcasts_S1x128_S64x128)) g) bitsLt_bf16_f32)
    shapeCasts_S64x128_S64x128

/-- A head's rows of the mixer. -/
def headRows (o : ℕ) (h2 : S64x512.Slices ![0, o] S64x128) (x k q : FVec Ideal S64x512 .f32) (v : FVec Ideal S64x512 .bf16) (s : FVec Ideal S1x128x128 .f32)
    (hg : FVec Ideal S1x128 .f32) (g : FVec Ideal S64x128 .f32) : FVec Ideal S64x128 .bf16 :=
  gatedRows (reads o h2 (scores o h2 (queries x q) (grown x k)) (queries x q) v s) hg g

/-- The causal comparison of two rows. -/
theorem causal (r s : Fin 64) :
    (k0_pay289 : IVec S64x64 1) (ix2 r s) = 1#1 ↔ s.val ≤ r.val := by
  show IntOp.cmpi .sge (BitVec.ofNat 32 (0 * 64 + r.val)) (BitVec.ofNat 32 (0 * 64 + s.val)) = 1#1 ↔ _
  have h1 : (BitVec.ofNat 32 r.val).toInt = r.val := by
    rw [BitVec.toInt_eq_toNat_cond, BitVec.toNat_ofNat]; have := r.isLt; omega
  have h2 : (BitVec.ofNat 32 s.val).toInt = s.val := by
    rw [BitVec.toInt_eq_toNat_cond, BitVec.toNat_ofNat]; have := s.isLt; omega
  rw [Nat.zero_mul, Nat.zero_add, Nat.zero_add]
  simp only [IntOp.cmpi, BitVec.sle_eq_decide, h1, h2]
  by_cases h : s.val ≤ r.val <;> simp [h]

/-- A sum over a head's columns. -/
theorem headSum (x : FVec Ideal S64x128 .f32) (i : S64.Idx) :
    multiReduction .add [1] S64 x 0x00000000#32 reduces_S64x128_S64 (.inl rfl) rfl i = ∑ k : Fin 128, x (ix2 (i 0) k) := by
  refine (Ideal.multiReduction_add_single (s := S64x128) (t := S64) (a := 1) x _ _ _ _ i).trans ?_
  refine Finset.sum_congr rfl fun k _ => congrArg x (funext fun a => Fin.ext ?_)
  fin_cases a <;> rfl

section
variable (A : Args) (B : Rest) (n C h : ℕ) (hh : h < 4) (o : ℕ) (ho : o = 128 * h) (h2 : S64x512.Slices ![0, o] S64x128)
  (x k q : FVec Ideal S64x512 .f32) (v : FVec Ideal S64x512 .bf16) (s : FVec Ideal S1x128x128 .f32) (hg : FVec Ideal S1x128 .f32) (g : FVec Ideal S64x128 .f32)
  (hx : ∀ r j, x (ix2 r j) = Ideal.log (fgate A n (64 * C + r.val) j.val)) (hk : ∀ r j, k (ix2 r j) = one - fgate A n (64 * C + r.val) j.val)
  (hq : ∀ r j, q (ix2 r j) = silu (z A n (64 * C + r.val) j.val)) (hv : ∀ r j, v (ix2 r j) = z A n (64 * C + r.val) (1024 + j.val))
  (hs : ∀ a b : Fin 128, s (ix3 0 a b) = state A n C h b.val a.val) (hhg : ∀ a, hg (ix2 0 a) = B.hg 0 a.val)
  (hgt : ∀ r a, g (ix2 r a) = silu (z A n (64 * C + r.val) (1536 + (128 * h + a.val))))

include hx hq in
/-- The decayed queries, read at an index. -/
theorem queries_apply (r : Fin 64) (j : Fin 512) : queries x q (ix2 r j) = qe A n C r.val j.val := by
  show q (ix2 r j) * Ideal.exp (scan x (ix2 r j)) = _
  rw [hq, scan_apply x (fun r => Ideal.log (fgate A n (64 * C + r) j.val)) j (fun r => hx r j) r]
  rfl

include hx hk in
/-- The grown keys, read at an index. -/
theorem grown_apply (r : Fin 64) (j : Fin 512) : grown x k (ix2 r j) = ke A n C r.val j.val := by
  show k (ix2 r j) * Ideal.exp (Ideal.ofBits .f32 0x00000000#32 - scan x (ix2 r j)) = _
  rw [hk, scan_apply x (fun r => Ideal.log (fgate A n (64 * C + r) j.val)) j (fun r => hx r j) r, Ideal.ofBits_zero_f32, zero_sub]
  rfl

include hx hk hq hh ho in
/-- A head's scores, read at an index. -/
theorem scores_apply (r t : Fin 64) : scores o h2 (queries x q) (grown x k) (ix2 r t) = att A n C h r.val t.val := by
  show (if (k0_pay289 : IVec S64x64 1) (ix2 r t) = 1#1 then _ else Ideal.ofBits .f32 0x00000000#32) = _
  unfold att
  by_cases hc : t.val ≤ r.val
  · rw [if_pos ((causal r t).mpr hc), if_pos hc, score_matmul]
    refine Finset.sum_congr rfl fun a _ => ?_
    have ha : o + a.val < 512 := by have := a.isLt; omega
    refine congrArg₂ (· * ·) ((columns (m := 64) o _ h2 r a ha).trans ?_) ((columns (m := 64) o _ h2 t a ha).trans ?_)
    · rw [queries_apply A n C x q hx hq]; show qe A n C _ (o + a.val) = _; rw [ho]
    · rw [grown_apply A n C x k hx hk]; show ke A n C _ (o + a.val) = _; rw [ho]
  · rw [if_neg fun e => hc ((causal r t).mp e), if_neg hc]
    exact Ideal.ofBits_zero_f32

include hx hk hq hv hs hh ho in
/-- A head's reads, read at an index. -/
theorem reads_apply (r : Fin 64) (a : Fin 128) :
    reads o h2 (scores o h2 (queries x q) (grown x k)) (queries x q) v s (ix2 r a) = LayerSpec.o A n C h r.val a.val := by
  have hc (b : Fin 128) : o + b.val < 512 := by have := b.isLt; omega
  show matmul _ none _ _ _ (ix2 r a) + matmul _ none _ _ _ (ix2 r a) = _
  rw [value_matmul, state_matmul]
  unfold LayerSpec.o
  refine congrArg₂ (· + ·) (Finset.sum_congr rfl fun t _ => congrArg₂ (· * ·) (scores_apply A n C h hh o ho h2 x k q hx hk hq r t) ?_)
    (Finset.sum_congr rfl fun b _ => congrArg₂ (· * ·) ((columns (m := 64) o _ h2 r b (hc b)).trans ?_) ((dropHead s a b).trans (hs a b)))
  · refine (columns (m := 64) o v h2 t a (hc a)).trans ((hv t _).trans ?_)
    show z A n _ (1024 + (o + a.val)) = _
    rw [ho]
  · rw [queries_apply A n C x q hx hq]; show qe A n C _ (o + b.val) = _; rw [ho]

include hx hk hq hv hs hh ho hhg hgt in
/-- A head's rows of the mixer, read at an index. -/
theorem headRows_apply (r : Fin 64) (a : Fin 128) : headRows o h2 x k q v s hg g (ix2 r a) = head A B n C h r.val a.val := by
  have e (b : Fin 128) := reads_apply A n C h hh o ho h2 x k q v s hx hk hq hv hs r b
  unfold headRows
  generalize reads o h2 (scores o h2 (queries x q) (grown x k)) (queries x q) v s = y at e ⊢
  unfold gatedRows
  rw [shapeCast_self]
  show y (ix2 r a) * broadcastTo S64x128 _ broadcasts_S64x1_S64x128 (ix2 r a) * broadcastTo S64x128 hg broadcasts_S1x128_S64x128 (ix2 r a) * g (ix2 r a) = _
  rw [column (n := 128) _ _ (ix2 r a), stretch (m := 64) (n := 128) hg _ (ix2 r a), e, hgt]
  show _ * Ideal.rsqrt (Ideal.div (shapeCast S64x1 _ shapeCasts_S64_S64x1 (ix2 r 0)) headLen + eps) * hg (ix2 0 a) * _ = _
  rw [unitAxis, headSum, hhg]
  exact congrArg (fun y => _ * Ideal.rsqrt (Ideal.div y headLen + eps) * _ * _) (Finset.sum_congr rfl fun b _ => congrArg₂ (· * ·) (e b) (e b))

end

/-! ## The convolution of 128 rows and 128 columns -/

/-- One tap: a row of weights times 128 rows of a window. -/
def tap {m : ℕ} (w : FVec Ideal S1x128 .f32) (x : FVec Ideal ⟨2, ![m, 128]⟩ .f32) (a : ℕ) (h : (⟨2, ![m, 128]⟩ : Shape).Slices ![a, 0] S128x128) : FVec Ideal S128x128 .f32 :=
  mulf (broadcastTo S128x128 w broadcasts_S1x128_S128x128) (extractStridedSlice S128x128 ![a, 0] x h)

/-- A tap, read at an index. -/
theorem tap_apply {m : ℕ} (w : FVec Ideal S1x128 .f32) (x : FVec Ideal ⟨2, ![m, 128]⟩ .f32) (a : ℕ) (h : (⟨2, ![m, 128]⟩ : Shape).Slices ![a, 0] S128x128)
    (ha : a + 128 ≤ m) (W : EReal) (U : ℕ → EReal) (c : Fin 128) (hw : w (ix2 0 c) = W) (hx : ∀ p : Fin m, x (ix2 p c) = U p.val) (r : Fin 128) :
    tap w x a h (ix2 r c) = W * U (a + r.val) := by
  show broadcastTo S128x128 w broadcasts_S1x128_S128x128 (ix2 r c) * extractStridedSlice S128x128 ![a, 0] x h (ix2 r c) = _
  rw [stretch (m := 128) (n := 128) w _ (ix2 r c)]
  refine congrArg₂ (· * ·) hw ((extractStridedSlice_apply _ _ h (ix2 r c) (ix2 ⟨a + r.val, by omega⟩ c) fun b => ?_).trans (hx _))
  fin_cases b
  · rfl
  · exact (Nat.zero_add _).symm

/-- The convolution of 128 rows and columns: the bias and 31 taps, in two chains over the eight windows. -/
def convPiece (cb : FVec Ideal S1x128 .f32) (w : Fin 31 → FVec Ideal S1x128 .f32) (w0 : FVec Ideal S160x128 .f32) (ws : Fin 7 → FVec Ideal S1x152x128 .f32) :
    FVec Ideal S128x128 .f32 :=
  shapeCast S128x128 (addf (addf (addf (addf (addf (addf (addf (addf (addf (addf (addf (addf (addf (addf (addf (addf (addf (broadcastTo S128x128 (shapeCast S1x128 cb shapeCasts_S1x128_S1x128) broadcasts_S1x128_S128x128)
    (tap (m := 160) (w 6) w0 8 slices_S160x128_o8_0_S128x128))
    (tap (m := 160) (w 14) w0 16 slices_S160x128_o16_0_S128x128))
    (tap (m := 160) (w 22) w0 24 slices_S160x128_o24_0_S128x128))
    (tap (m := 160) (w 30) w0 32 slices_S160x128_o32_0_S128x128))
    (tap (m := 152) (w 0) (shapeCast S152x128 (ws 1) shapeCasts_S1x152x128_S152x128) 0 slices_S152x128_o0_0_S128x128))
    (tap (m := 152) (w 8) (shapeCast S152x128 (ws 1) shapeCasts_S1x152x128_S152x128) 8 slices_S152x128_o8_0_S128x128))
    (tap (m := 152) (w 16) (shapeCast S152x128 (ws 1) shapeCasts_S1x152x128_S152x128) 16 slices_S152x128_o16_0_S128x128))
    (tap (m := 152) (w 24) (shapeCast S152x128 (ws 1) shapeCasts_S1x152x128_S152x128) 24 slices_S152x128_o24_0_S128x128))
    (tap (m := 152) (w 2) (shapeCast S152x128 (ws 3) shapeCasts_S1x152x128_S152x128) 0 slices_S152x128_o0_0_S128x128))
    (tap (m := 152) (w 10) (shapeCast S152x128 (ws 3) shapeCasts_S1x152x128_S152x128) 8 slices_S152x128_o8_0_S128x128))
    (tap (m := 152) (w 18) (shapeCast S152x128 (ws 3) shapeCasts_S1x152x128_S152x128) 16 slices_S152x128_o16_0_S128x128))
    (tap (m := 152) (w 26) (shapeCast S152x128 (ws 3) shapeCasts_S1x152x128_S152x128) 24 slices_S152x128_o24_0_S128x128))
    (tap (m := 152) (w 4) (shapeCast S152x128 (ws 5) shapeCasts_S1x152x128_S152x128) 0 slices_S152x128_o0_0_S128x128))
    (tap (m := 152) (w 12) (shapeCast S152x128 (ws 5) shapeCasts_S1x152x128_S152x128) 8 slices_S152x128_o8_0_S128x128))
    (tap (m := 152) (w 20) (shapeCast S152x128 (ws 5) shapeCasts_S1x152x128_S152x128) 16 slices_S152x128_o16_0_S128x128))
    (tap (m := 152) (w 28) (shapeCast S152x128 (ws 5) shapeCasts_S1x152x128_S152x128) 24 slices_S152x128_o24_0_S128x128))
    (addf (addf (addf (addf (addf (addf (addf (addf (addf (addf (addf (addf (addf (addf (tap (m := 152) (w 7) (shapeCast S152x128 (ws 0) shapeCasts_S1x152x128_S152x128) 8 slices_S152x128_o8_0_S128x128)
    (tap (m := 152) (w 15) (shapeCast S152x128 (ws 0) shapeCasts_S1x152x128_S152x128) 16 slices_S152x128_o16_0_S128x128))
    (tap (m := 152) (w 23) (shapeCast S152x128 (ws 0) shapeCasts_S1x152x128_S152x128) 24 slices_S152x128_o24_0_S128x128))
    (tap (m := 152) (w 1) (shapeCast S152x128 (ws 2) shapeCasts_S1x152x128_S152x128) 0 slices_S152x128_o0_0_S128x128))
    (tap (m := 152) (w 9) (shapeCast S152x128 (ws 2) shapeCasts_S1x152x128_S152x128) 8 slices_S152x128_o8_0_S128x128))
    (tap (m := 152) (w 17) (shapeCast S152x128 (ws 2) shapeCasts_S1x152x128_S152x128) 16 slices_S152x128_o16_0_S128x128))
    (tap (m := 152) (w 25) (shapeCast S152x128 (ws 2) shapeCasts_S1x152x128_S152x128) 24 slices_S152x128_o24_0_S128x128))
    (tap (m := 152) (w 3) (shapeCast S152x128 (ws 4) shapeCasts_S1x152x128_S152x128) 0 slices_S152x128_o0_0_S128x128))
    (tap (m := 152) (w 11) (shapeCast S152x128 (ws 4) shapeCasts_S1x152x128_S152x128) 8 slices_S152x128_o8_0_S128x128))
    (tap (m := 152) (w 19) (shapeCast S152x128 (ws 4) shapeCasts_S1x152x128_S152x128) 16 slices_S152x128_o16_0_S128x128))
    (tap (m := 152) (w 27) (shapeCast S152x128 (ws 4) shapeCasts_S1x152x128_S152x128) 24 slices_S152x128_o24_0_S128x128))
    (tap (m := 152) (w 5) (shapeCast S152x128 (ws 6) shapeCasts_S1x152x128_S152x128) 0 slices_S152x128_o0_0_S128x128))
    (tap (m := 152) (w 13) (shapeCast S152x128 (ws 6) shapeCasts_S1x152x128_S152x128) 8 slices_S152x128_o8_0_S128x128))
    (tap (m := 152) (w 21) (shapeCast S152x128 (ws 6) shapeCasts_S1x152x128_S152x128) 16 slices_S152x128_o16_0_S128x128))
    (tap (m := 152) (w 29) (shapeCast S152x128 (ws 6) shapeCasts_S1x152x128_S152x128) 24 slices_S152x128_o24_0_S128x128))) shapeCasts_S128x128_S128x128

/-- The convolution, read at an index. -/
theorem convPiece_apply (cb : FVec Ideal S1x128 .f32) (w : Fin 31 → FVec Ideal S1x128 .f32) (w0 : FVec Ideal S160x128 .f32) (ws : Fin 7 → FVec Ideal S1x152x128 .f32)
    (c : Fin 128) (b : EReal) (W U : ℕ → EReal) (hb : cb (ix2 0 c) = b) (hw : ∀ j : Fin 31, w j (ix2 0 c) = W j.val) (h0 : ∀ p : Fin 160, w0 (ix2 p c) = U p.val)
    (hs : ∀ (f : Fin 7) (p : Fin 152), ws f (ix3 0 p c) = U (p.val + (f.val + 1))) (r : Fin 128) :
    convPiece cb w w0 ws (ix2 r c) = (∑ j : Fin 31, W j.val * U (r.val + 2 + j.val)) + b := by
  have hc (f : Fin 7) (p : Fin 152) : shapeCast S152x128 (ws f) shapeCasts_S1x152x128_S152x128 (ix2 p c) = U (p.val + (f.val + 1)) :=
    (shapeCast_1ab_ab_apply _ _ p c).trans (hs f p)
  have add_at (x y : FVec Ideal S128x128 .f32) (i : S128x128.Idx) : addf x y i = x i + y i := rfl
  unfold convPiece
  rw [shapeCast_self, shapeCast_self]
  simp only [add_at]
  rw [tap_apply (m := 160) (w 6) w0 8 _ (by omega) (W 6) U c (hw 6) h0 r]
  rw [tap_apply (m := 160) (w 14) w0 16 _ (by omega) (W 14) U c (hw 14) h0 r]
  rw [tap_apply (m := 160) (w 22) w0 24 _ (by omega) (W 22) U c (hw 22) h0 r]
  rw [tap_apply (m := 160) (w 30) w0 32 _ (by omega) (W 30) U c (hw 30) h0 r]
  rw [tap_apply (m := 152) (w 7) _ 8 _ (by omega) (W 7) (fun p => U (p + 1)) c (hw 7) (hc 0) r]
  rw [tap_apply (m := 152) (w 15) _ 16 _ (by omega) (W 15) (fun p => U (p + 1)) c (hw 15) (hc 0) r]
  rw [tap_apply (m := 152) (w 23) _ 24 _ (by omega) (W 23) (fun p => U (p + 1)) c (hw 23) (hc 0) r]
  rw [tap_apply (m := 152) (w 0) _ 0 _ (by omega) (W 0) (fun p => U (p + 2)) c (hw 0) (hc 1) r]
  rw [tap_apply (m := 152) (w 8) _ 8 _ (by omega) (W 8) (fun p => U (p + 2)) c (hw 8) (hc 1) r]
  rw [tap_apply (m := 152) (w 16) _ 16 _ (by omega) (W 16) (fun p => U (p + 2)) c (hw 16) (hc 1) r]
  rw [tap_apply (m := 152) (w 24) _ 24 _ (by omega) (W 24) (fun p => U (p + 2)) c (hw 24) (hc 1) r]
  rw [tap_apply (m := 152) (w 1) _ 0 _ (by omega) (W 1) (fun p => U (p + 3)) c (hw 1) (hc 2) r]
  rw [tap_apply (m := 152) (w 9) _ 8 _ (by omega) (W 9) (fun p => U (p + 3)) c (hw 9) (hc 2) r]
  rw [tap_apply (m := 152) (w 17) _ 16 _ (by omega) (W 17) (fun p => U (p + 3)) c (hw 17) (hc 2) r]
  rw [tap_apply (m := 152) (w 25) _ 24 _ (by omega) (W 25) (fun p => U (p + 3)) c (hw 25) (hc 2) r]
  rw [tap_apply (m := 152) (w 2) _ 0 _ (by omega) (W 2) (fun p => U (p + 4)) c (hw 2) (hc 3) r]
  rw [tap_apply (m := 152) (w 10) _ 8 _ (by omega) (W 10) (fun p => U (p + 4)) c (hw 10) (hc 3) r]
  rw [tap_apply (m := 152) (w 18) _ 16 _ (by omega) (W 18) (fun p => U (p + 4)) c (hw 18) (hc 3) r]
  rw [tap_apply (m := 152) (w 26) _ 24 _ (by omega) (W 26) (fun p => U (p + 4)) c (hw 26) (hc 3) r]
  rw [tap_apply (m := 152) (w 3) _ 0 _ (by omega) (W 3) (fun p => U (p + 5)) c (hw 3) (hc 4) r]
  rw [tap_apply (m := 152) (w 11) _ 8 _ (by omega) (W 11) (fun p => U (p + 5)) c (hw 11) (hc 4) r]
  rw [tap_apply (m := 152) (w 19) _ 16 _ (by omega) (W 19) (fun p => U (p + 5)) c (hw 19) (hc 4) r]
  rw [tap_apply (m := 152) (w 27) _ 24 _ (by omega) (W 27) (fun p => U (p + 5)) c (hw 27) (hc 4) r]
  rw [tap_apply (m := 152) (w 4) _ 0 _ (by omega) (W 4) (fun p => U (p + 6)) c (hw 4) (hc 5) r]
  rw [tap_apply (m := 152) (w 12) _ 8 _ (by omega) (W 12) (fun p => U (p + 6)) c (hw 12) (hc 5) r]
  rw [tap_apply (m := 152) (w 20) _ 16 _ (by omega) (W 20) (fun p => U (p + 6)) c (hw 20) (hc 5) r]
  rw [tap_apply (m := 152) (w 28) _ 24 _ (by omega) (W 28) (fun p => U (p + 6)) c (hw 28) (hc 5) r]
  rw [tap_apply (m := 152) (w 5) _ 0 _ (by omega) (W 5) (fun p => U (p + 7)) c (hw 5) (hc 6) r]
  rw [tap_apply (m := 152) (w 13) _ 8 _ (by omega) (W 13) (fun p => U (p + 7)) c (hw 13) (hc 6) r]
  rw [tap_apply (m := 152) (w 21) _ 16 _ (by omega) (W 21) (fun p => U (p + 7)) c (hw 21) (hc 6) r]
  rw [tap_apply (m := 152) (w 29) _ 24 _ (by omega) (W 29) (fun p => U (p + 7)) c (hw 29) (hc 6) r]
  rw [stretch (m := 128) (n := 128) cb _ (ix2 r c)]
  rw [show U (8 + r.val) = U (r.val + 2 + 6) from congrArg U (by omega)]
  rw [show U (16 + r.val) = U (r.val + 2 + 14) from congrArg U (by omega)]
  rw [show U (24 + r.val) = U (r.val + 2 + 22) from congrArg U (by omega)]
  rw [show U (32 + r.val) = U (r.val + 2 + 30) from congrArg U (by omega)]
  rw [show U (8 + r.val + 1) = U (r.val + 2 + 7) from congrArg U (by omega)]
  rw [show U (16 + r.val + 1) = U (r.val + 2 + 15) from congrArg U (by omega)]
  rw [show U (24 + r.val + 1) = U (r.val + 2 + 23) from congrArg U (by omega)]
  rw [show U (0 + r.val + 2) = U (r.val + 2 + 0) from congrArg U (by omega)]
  rw [show U (8 + r.val + 2) = U (r.val + 2 + 8) from congrArg U (by omega)]
  rw [show U (16 + r.val + 2) = U (r.val + 2 + 16) from congrArg U (by omega)]
  rw [show U (24 + r.val + 2) = U (r.val + 2 + 24) from congrArg U (by omega)]
  rw [show U (0 + r.val + 3) = U (r.val + 2 + 1) from congrArg U (by omega)]
  rw [show U (8 + r.val + 3) = U (r.val + 2 + 9) from congrArg U (by omega)]
  rw [show U (16 + r.val + 3) = U (r.val + 2 + 17) from congrArg U (by omega)]
  rw [show U (24 + r.val + 3) = U (r.val + 2 + 25) from congrArg U (by omega)]
  rw [show U (0 + r.val + 4) = U (r.val + 2 + 2) from congrArg U (by omega)]
  rw [show U (8 + r.val + 4) = U (r.val + 2 + 10) from congrArg U (by omega)]
  rw [show U (16 + r.val + 4) = U (r.val + 2 + 18) from congrArg U (by omega)]
  rw [show U (24 + r.val + 4) = U (r.val + 2 + 26) from congrArg U (by omega)]
  rw [show U (0 + r.val + 5) = U (r.val + 2 + 3) from congrArg U (by omega)]
  rw [show U (8 + r.val + 5) = U (r.val + 2 + 11) from congrArg U (by omega)]
  rw [show U (16 + r.val + 5) = U (r.val + 2 + 19) from congrArg U (by omega)]
  rw [show U (24 + r.val + 5) = U (r.val + 2 + 27) from congrArg U (by omega)]
  rw [show U (0 + r.val + 6) = U (r.val + 2 + 4) from congrArg U (by omega)]
  rw [show U (8 + r.val + 6) = U (r.val + 2 + 12) from congrArg U (by omega)]
  rw [show U (16 + r.val + 6) = U (r.val + 2 + 20) from congrArg U (by omega)]
  rw [show U (24 + r.val + 6) = U (r.val + 2 + 28) from congrArg U (by omega)]
  rw [show U (0 + r.val + 7) = U (r.val + 2 + 5) from congrArg U (by omega)]
  rw [show U (8 + r.val + 7) = U (r.val + 2 + 13) from congrArg U (by omega)]
  rw [show U (16 + r.val + 7) = U (r.val + 2 + 21) from congrArg U (by omega)]
  rw [show U (24 + r.val + 7) = U (r.val + 2 + 29) from congrArg U (by omega)]
  rw [Fin.sum_univ_eq_sum_range (fun j => W j * U (r.val + 2 + j)) 31]
  simp only [Finset.sum_range_succ, Finset.sum_range_zero, zero_add]
  rw [show cb (ix2 0 ((ix2 r c : S128x128.Idx) 1)) = b from hb]
  abel

end Cert.KernelIdeal.Layer

end
-- ==== Proof.GroupNorm.lean ====
module

public import proofs.«01_k».proof.Proof.LayerOps

@[expose] public section

set_option maxRecDepth 16384

noncomputable section

/-! The group norm by two small matrices: the first picks a group's first column, the second averages a group. -/

namespace Cert.KernelIdeal.Layer

open Cert.KernelIdeal Cert.KernelIdeal.Gen Cert.KernelIdeal.Ops Cert.Spec Cert.LayerSpec
open Idealize.ShloMosaic Idealize.ShloMosaic.TcCoe Idealize.ShloMosaic.ValueIdx

/-- A 64th. -/
def part : EReal := ((1 / 64 : ℝ) : EReal)

/-- The length of a group is 64. -/
theorem groupLen_eq : groupLen = ((64 : ℝ) : EReal) := by
  unfold groupLen
  simp [Ideal.ofBits, Ideal.ieee]
  rw [← EReal.coe_mul]
  norm_num

/-- Dividing by a group's length is multiplying by a 64th. -/
theorem div_groupLen (x : EReal) : Ideal.div x groupLen = x * part := by
  rw [groupLen_eq]; exact Ideal.div_coe (by norm_num) x

/-- A sum of extended reals none of which is `⊥`, one of which is `⊤`. -/
theorem sum_top {n : ℕ} (f : Fin n → EReal) (h : ∀ k, f k ≠ ⊥) (j : Fin n) (hj : f j = ⊤) : ∑ k, f k = ⊤ := by
  rw [← Finset.add_sum_erase _ _ (Finset.mem_univ j), hj]
  refine EReal.top_add_of_ne_bot ?_
  refine Finset.sum_induction _ (fun y => y ≠ ⊥) (fun a b ha hb => ?_) (by simp) (fun k _ => h k)
  rw [Ne, EReal.add_eq_bot_iff]
  exact fun e => e.elim ha hb

/-- A square is never `⊥`. -/
theorem square_ne_bot (x : EReal) : x * x ≠ ⊥ := by
  induction x using EReal.rec with
  | bot => simp
  | top => simp
  | coe r => rw [← EReal.coe_mul]; exact EReal.coe_ne_bot _

/-- A 64th of the square of an infinity, in a group, makes the variance `⊤`. -/
theorem var_top (d : Fin 64 → EReal) (j : Fin 64) (hj : d j * d j = ⊤) : (∑ k, d k * d k) * part = ⊤ := by
  rw [sum_top (fun k => d k * d k) (fun k => square_ne_bot _) j hj]
  exact EReal.top_mul_coe_of_pos (by norm_num)

/-- A number less its group's first value and less the mean of what is left. -/
def shifted (f : Fin 64 → EReal) (j : Fin 64) : EReal := f j - f 0 - (∑ k, (f k - f 0)) * part

/-- A number less its group's mean. -/
def deviation (f : Fin 64 → EReal) (j : Fin 64) : EReal := f j - (∑ k, f k) * part

/-- A sum of real numbers. -/
theorem coe_sum (g : Fin 64 → ℝ) : ((∑ k, g k : ℝ) : EReal) = ∑ k, (g k : EReal) := by
  have key (s : Finset (Fin 64)) : ((∑ k ∈ s, g k : ℝ) : EReal) = ∑ k ∈ s, (g k : EReal) := by
    induction s using Finset.induction_on with
    | empty => simp
    | insert a s ha ih => rw [Finset.sum_insert ha, Finset.sum_insert ha, EReal.coe_add, ih]
  exact key _

/-- Among real numbers the two deviations are one. -/
theorem shifted_coe (g : Fin 64 → ℝ) (j : Fin 64) : shifted (fun k => (g k : EReal)) j = deviation (fun k => (g k : EReal)) j := by
  unfold shifted deviation part
  have e1 : ∑ k, ((g k : EReal) - (g 0 : EReal)) = ((∑ k, (g k - g 0) : ℝ) : EReal) := by
    rw [coe_sum]; exact Finset.sum_congr rfl fun k _ => (EReal.coe_sub _ _).symm
  have e2 : ∑ k, (g k : EReal) = ((∑ k, g k : ℝ) : EReal) := (coe_sum _).symm
  rw [e1, e2, ← EReal.coe_sub, ← EReal.coe_mul, ← EReal.coe_mul, ← EReal.coe_sub, ← EReal.coe_sub]
  refine congrArg _ ?_
  rw [Finset.sum_sub_distrib, Finset.sum_const, Finset.card_univ, Fintype.card_fin, nsmul_eq_mul]
  push_cast
  ring

/-- The normalised deviations agree whatever the values, infinite ones included. -/
theorem normed_eq (f : Fin 64 → EReal) (e : EReal) (he : ∃ r : ℝ, e = r) (j : Fin 64) :
    shifted f j * Ideal.rsqrt ((∑ k, shifted f k * shifted f k) * part + e)
      = deviation f j * Ideal.rsqrt ((∑ k, deviation f k * deviation f k) * part + e) := by
  obtain ⟨r, rfl⟩ := he
  by_cases h : ∀ k, ∃ g : ℝ, f k = g
  · choose g hg using h
    obtain rfl : f = fun k => (g k : EReal) := funext hg
    rw [shifted_coe, Finset.sum_congr rfl fun k _ => by rw [shifted_coe]]
  · have top_zero (d : Fin 64 → EReal) (hd : ∃ k, d k * d k = ⊤) : d j * Ideal.rsqrt ((∑ k, d k * d k) * part + r) = 0 := by
      obtain ⟨k, hk⟩ := hd
      rw [var_top d k hk, EReal.top_add_coe, Ideal.rsqrt_top, mul_zero]
    have inf_sq (x : EReal) (hx : x = ⊤ ∨ x = ⊥) : x * x = ⊤ := by rcases hx with rfl | rfl <;> simp
    have inf_sub (x y : EReal) (hx : x = ⊤ ∨ x = ⊥) : x - y = ⊤ ∨ x - y = ⊥ := by
      rcases hx with rfl | rfl
      · induction y using EReal.rec with
        | bot => left; rfl
        | top => right; rfl
        | coe r => left; exact EReal.top_sub_coe r
      · right; rw [sub_eq_add_neg]; exact EReal.bot_add _
    obtain ⟨k, hk⟩ : ∃ k, ¬ ∃ g : ℝ, f k = g := by
      by_contra hn
      exact h fun k => by
        by_contra hh
        exact hn ⟨k, hh⟩
    have hk' : f k = ⊤ ∨ f k = ⊥ := by
      generalize f k = x at hk
      induction x using EReal.rec with
      | bot => exact .inr rfl
      | top => exact .inl rfl
      | coe r => exact absurd ⟨r, rfl⟩ hk
    rw [top_zero (shifted f) ⟨k, inf_sq _ (inf_sub _ _ (inf_sub _ _ hk'))⟩, top_zero (deviation f) ⟨k, inf_sq _ (inf_sub _ _ hk')⟩]

/-! ## The two products -/

/-- A product with one of the two matrices. -/
theorem group_matmul (lhs : FVec Ideal S512x256 .bf16) (rhs : FVec Ideal S256x256 .bf16) (j : S512x256.Idx) :
    matmul dot_S512x256_S256x256_S512x256_1_0_0_1_n_n none lhs rhs (constant (F := Ideal) S512x256 .f32 0x00000000#32) j
      = ∑ k : Fin 256, lhs (ix2 (j 0) k) * rhs (ix2 k (j 1)) :=
  matmul_sum _ 256 rfl rfl lhs rhs j _ _
    (fun k => congrArg lhs (funext fun a => Fin.ext (by fin_cases a <;> rfl)))
    (fun k => congrArg rhs (funext fun a => Fin.ext (by fin_cases a <;> rfl)))

/-- Both halves of the columns times a matrix. -/
def perGroup (x : FVec Ideal S512x512 .f32) (m m' : FVec Ideal S1x256x256 .bf16) : FVec Ideal S512x512 .f32 :=
  concatenate S512x512 1 [⟨S512x256, matmul dot_S512x256_S256x256_S512x256_1_0_0_1_n_n none
      (extractStridedSlice S512x256 ![0, 0] (truncf .bf16 x bitsLt_bf16_f32) slices_S512x512_o0_0_S512x256)
      (shapeCast S256x256 m shapeCasts_S1x256x256_S256x256) (constant (F := Ideal) S512x256 .f32 0x00000000#32)⟩,
    ⟨S512x256, matmul dot_S512x256_S256x256_S512x256_1_0_0_1_n_n none
      (extractStridedSlice S512x256 ![0, 256] (truncf .bf16 x bitsLt_bf16_f32) slices_S512x512_o0_256_S512x256)
      (shapeCast S256x256 m' shapeCasts_S1x256x256_S256x256) (constant (F := Ideal) S512x256 .f32 0x00000000#32)⟩]
    concatenates_S512x256_S512x256_S512x512_d1

/-- A row and the matrix's column, read at an index. -/
theorem perGroup_apply (x : FVec Ideal S512x512 .f32) (m m' : FVec Ideal S1x256x256 .bf16) (r : Fin 512) (f : ℕ → EReal) (M : ℕ → ℕ → EReal)
    (hx : ∀ k : Fin 512, x (ix2 r k) = f k.val) (hm : ∀ a b, m (ix3 0 a b) = M a.val b.val) (hm' : ∀ a b, m' (ix3 0 a b) = M a.val b.val) (j : Fin 512) :
    perGroup x m m' (ix2 r j) = ∑ k : Fin 256, f (256 * (j.val / 256) + k.val) * M k.val (j.val % 256) := by
  unfold perGroup
  by_cases h : j.val < 256
  · refine (concatenate_pair_apply_left (s₁ := S512x256) (s₂ := S512x256) 1 _ _ _ (ix2 r j) rfl (ix2 r ⟨j.val, h⟩) fun b => by fin_cases b <;> rfl).trans ?_
    rw [group_matmul]
    refine Finset.sum_congr rfl fun k _ => congrArg₂ (· * ·) ?_ ?_
    · have hk := k.isLt
      refine (extractStridedSlice_apply _ _ _ (ix2 r k) (ix2 r ⟨k.val, by omega⟩) fun b => by fin_cases b <;> exact (Nat.zero_add _).symm).trans ?_
      refine (hx _).trans (congrArg f ?_)
      show k.val = _
      omega
    · refine (shapeCast_1ab_ab_apply _ _ k ⟨j.val, h⟩).trans ((hm _ _).trans (congrArg (M _) ?_))
      show j.val = _
      omega
  · have hj := j.isLt
    refine (concatenate_pair_apply_right (s₁ := S512x256) (s₂ := S512x256) 1 _ _ _ (ix2 r j) rfl rfl (ix2 r ⟨j.val - 256, by omega⟩)
      (fun b hb => by fin_cases b <;> first | rfl | exact absurd rfl hb) (by show j.val - 256 + 256 = j.val; omega)).trans ?_
    rw [group_matmul]
    refine Finset.sum_congr rfl fun k _ => congrArg₂ (· * ·) ?_ ?_
    · have hk := k.isLt
      refine (extractStridedSlice_apply _ _ _ (ix2 r k) (ix2 r ⟨256 + k.val, by omega⟩) fun b => by
        fin_cases b
        · exact (Nat.zero_add _).symm
        · rfl).trans ?_
      refine (hx _).trans (congrArg f ?_)
      show 256 + k.val = _
      omega
    · refine (shapeCast_1ab_ab_apply _ _ k ⟨j.val - 256, by omega⟩).trans ((hm' _ _).trans (congrArg (M _) ?_))
      show j.val - 256 = _
      omega

/-- The first matrix: a group's first row. -/
def pick (k l : ℕ) : EReal := if k = l / 64 * 64 then 1 else 0

/-- The second matrix: a 64th within a group. -/
def average (k l : ℕ) : EReal := if k / 64 = l / 64 then part else 0

/-- A product with the first matrix is the group's first value. -/
theorem pick_sum (f : ℕ → EReal) (l : ℕ) (hl : l < 256) : ∑ k : Fin 256, f k.val * pick k.val l = f (l / 64 * 64) := by
  rw [Finset.sum_eq_single ⟨l / 64 * 64, by omega⟩]
  · show f (l / 64 * 64) * (if l / 64 * 64 = l / 64 * 64 then 1 else 0) = _
    rw [if_pos rfl, mul_one]
  · intro b _ hb
    unfold pick
    rw [if_neg (fun e => hb (Fin.ext e)), mul_zero]
  · exact fun h => absurd (Finset.mem_univ _) h

/-- A product with the second matrix is the group's average. -/
theorem average_sum (f : ℕ → EReal) (l : ℕ) (hl : l < 256) :
    ∑ k : Fin 256, f k.val * average k.val l = ∑ k : Fin 64, f (l / 64 * 64 + k.val) * part := by
  rw [Fin.sum_univ_eq_sum_range (fun k => f k * average k l) 256, Fin.sum_univ_eq_sum_range (fun k => f (l / 64 * 64 + k) * part) 64]
  rw [← Finset.sum_subset (s₁ := (Finset.range 64).image (fun k => l / 64 * 64 + k))]
  · rw [Finset.sum_image (fun a _ b _ e => Nat.add_left_cancel e)]
    refine Finset.sum_congr rfl fun k hk => ?_
    have hk := Finset.mem_range.mp hk
    unfold average
    rw [if_pos (by omega)]
  · intro y hy
    obtain ⟨k, hk, rfl⟩ := Finset.mem_image.mp hy
    have hk := Finset.mem_range.mp hk
    exact Finset.mem_range.mpr (by omega)
  · intro y hy hn
    have hy := Finset.mem_range.mp hy
    unfold average
    rw [if_neg (fun e => hn (Finset.mem_image.mpr ⟨y - l / 64 * 64, Finset.mem_range.mpr (by omega), by show l / 64 * 64 + (y - l / 64 * 64) = y; omega⟩)), mul_zero]

/-- A sum of parts is a part of the sum. -/
theorem sum_part (f : Fin 64 → EReal) : ∑ k, f k * part = (∑ k, f k) * part := by
  have hp : (0 : ℝ) ≤ 1 / 64 := by norm_num
  have key (s : Finset (Fin 64)) : ∑ k ∈ s, f k * part = (∑ k ∈ s, f k) * part := by
    induction s using Finset.induction_on with
    | empty => simp
    | insert a s ha ih => rw [Finset.sum_insert ha, Finset.sum_insert ha, ih]; exact (EReal.right_distrib_of_nonneg_of_ne_top (by exact_mod_cast hp) (EReal.coe_ne_top _) _ _).symm
  exact key _

/-- A row less its groups' first values and the means of what is left. -/
def shiftRows (x : FVec Ideal S512x512 .f32) (m : Fin 4 → FVec Ideal S1x256x256 .bf16) : FVec Ideal S512x512 .f32 :=
  subf (subf x (perGroup x (m 0) (m 1))) (perGroup (subf x (perGroup x (m 0) (m 1))) (m 2) (m 3))

/-- The convolution's rows of the mixer: group-normalised, scaled, shifted and swished. -/
def convRowsOf (x : FVec Ideal S512x512 .f32) (m : Fin 6 → FVec Ideal S1x256x256 .bf16) (g b : FVec Ideal S1x512 .f32) : FVec Ideal S512x512 .bf16 :=
  let d := shiftRows x (fun k => m (k.castAdd 2))
  let y := addf (mulf (mulf d (rsqrt (addf (perGroup (mulf d d) (m 4) (m 5)) (broadcast S512x512 (Scalar.ofBits .f32 0x3727C5AC#32)))))
    (broadcastTo S512x512 g broadcasts_S1x512_S512x512)) (broadcastTo S512x512 b broadcasts_S1x512_S512x512)
  shapeCast S512x512 (truncf .bf16 (mulf y (logistic y)) bitsLt_bf16_f32) shapeCasts_S512x512_S512x512

/-- The norms' small constant is a real number. -/
theorem eps_real : ∃ r : ℝ, eps = r := ⟨_, by
  unfold eps
  simp only [Ideal.ofBits, Ideal.ieee]
  norm_num
  exact (EReal.coe_mul _ _).symm⟩

section
variable (x : FVec Ideal S512x512 .f32) (m : Fin 6 → FVec Ideal S1x256x256 .bf16) (g b : FVec Ideal S1x512 .f32) (r : Fin 512) (f : ℕ → EReal)
  (hx : ∀ k : Fin 512, x (ix2 r k) = f k.val) (h0 : ∀ a c, m 0 (ix3 0 a c) = pick a.val c.val) (h1 : ∀ a c, m 1 (ix3 0 a c) = pick a.val c.val)
  (h2 : ∀ a c, m 2 (ix3 0 a c) = average a.val c.val) (h3 : ∀ a c, m 3 (ix3 0 a c) = average a.val c.val)
  (h4 : ∀ a c, m 4 (ix3 0 a c) = average a.val c.val) (h5 : ∀ a c, m 5 (ix3 0 a c) = average a.val c.val)

/-- A group's average of a row. -/
theorem average_apply (y : FVec Ideal S512x512 .f32) (m m' : FVec Ideal S1x256x256 .bf16) (e : ℕ → EReal) (hy : ∀ k : Fin 512, y (ix2 r k) = e k.val)
    (hm : ∀ a c, m (ix3 0 a c) = average a.val c.val) (hm' : ∀ a c, m' (ix3 0 a c) = average a.val c.val) (j : Fin 512) :
    perGroup y m m' (ix2 r j) = (∑ k : Fin 64, e (64 * (j.val / 64) + k.val)) * part := by
  rw [perGroup_apply y m m' r e average hy hm hm' j, average_sum (fun k => e (256 * (j.val / 256) + k)) _ (by omega), ← sum_part]
  refine Finset.sum_congr rfl fun k _ => congrArg (fun t => e t * part) ?_
  omega

include hx h0 h1 h2 h3 in
/-- The shifted row, read at an index. -/
theorem shiftRows_apply (j : Fin 512) :
    shiftRows x (fun k => m (k.castAdd 2)) (ix2 r j) = shifted (fun k => f (64 * (j.val / 64) + k.val)) ⟨j.val % 64, by omega⟩ := by
  have e (j : Fin 512) : subf x (perGroup x (m 0) (m 1)) (ix2 r j) = f j.val - f (64 * (j.val / 64)) := by
    show x (ix2 r j) - perGroup x (m 0) (m 1) (ix2 r j) = _
    rw [hx, perGroup_apply x (m 0) (m 1) r f pick hx h0 h1 j, pick_sum (fun k => f (256 * (j.val / 256) + k)) _ (by omega)]
    exact congrArg (fun t => f j.val - f t) (by omega)
  show subf x (perGroup x (m 0) (m 1)) (ix2 r j) - perGroup (subf x (perGroup x (m 0) (m 1))) (m 2) (m 3) (ix2 r j) = _
  rw [average_apply r _ (m 2) (m 3) (fun j => f j - f (64 * (j / 64))) e h2 h3 j, e]
  unfold shifted
  show _ = f (64 * (j.val / 64) + j.val % 64) - f (64 * (j.val / 64) + 0) - _
  rw [Nat.div_add_mod, Nat.add_zero]
  refine congrArg (fun t => _ - t * part) (Finset.sum_congr rfl fun k _ => ?_)
  have hk := k.isLt
  rw [show 64 * ((64 * (j.val / 64) + k.val) / 64) = 64 * (j.val / 64) by omega]
  rfl

include hx h0 h1 h2 h3 h4 h5 in
/-- The convolution's rows, read at an index. -/
theorem convRowsOf_apply (G B : ℕ → ℕ → EReal) (hg : ∀ k, g (ix2 0 k) = G 0 k.val) (hb : ∀ k, b (ix2 0 k) = B 0 k.val) (j : Fin 512) :
    convRowsOf x m g b (ix2 r j) = silu ((f j.val - Ideal.div (∑ k : Fin 64, f (64 * (j.val / 64) + k.val)) groupLen)
      * Ideal.rsqrt (Ideal.div (∑ k : Fin 64, (f (64 * (j.val / 64) + k.val) - Ideal.div (∑ k : Fin 64, f (64 * (j.val / 64) + k.val)) groupLen)
          * (f (64 * (j.val / 64) + k.val) - Ideal.div (∑ k : Fin 64, f (64 * (j.val / 64) + k.val)) groupLen)) groupLen + eps) * G 0 j.val + B 0 j.val) := by
  have hs := shiftRows_apply x m r f hx h0 h1 h2 h3
  unfold convRowsOf
  generalize shiftRows x (fun k => m (k.castAdd 2)) = d at hs ⊢
  have hv : perGroup (mulf d d) (m 4) (m 5) (ix2 r j) = (∑ k : Fin 64, shifted (fun k => f (64 * (j.val / 64) + k.val)) k * shifted (fun k => f (64 * (j.val / 64) + k.val)) k) * part := by
    rw [average_apply r (mulf d d) (m 4) (m 5) (fun t => shifted (fun k => f (64 * (t / 64) + k.val)) ⟨t % 64, by omega⟩ * shifted (fun k => f (64 * (t / 64) + k.val)) ⟨t % 64, by omega⟩)
      (fun k => congrArg₂ (· * ·) (hs k) (hs k)) h4 h5 j]
    refine congrArg (· * part) (Finset.sum_congr rfl fun k _ => ?_)
    have hk := k.isLt
    have e1 : (64 * (j.val / 64) + k.val) / 64 = j.val / 64 := by omega
    have e2 : (⟨(64 * (j.val / 64) + k.val) % 64, by omega⟩ : Fin 64) = k := Fin.ext (by show (64 * (j.val / 64) + k.val) % 64 = k.val; omega)
    simp only [e1, e2]
  have hn := normed_eq (fun k => f (64 * (j.val / 64) + k.val)) eps eps_real ⟨j.val % 64, by omega⟩
  rw [shapeCast_self]
  have hy : addf (mulf (mulf d (rsqrt (addf (perGroup (mulf d d) (m 4) (m 5)) (broadcast S512x512 (Scalar.ofBits .f32 0x3727C5AC#32)))))
      (broadcastTo S512x512 g broadcasts_S1x512_S512x512)) (broadcastTo S512x512 b broadcasts_S1x512_S512x512) (ix2 r j)
      = (f j.val - Ideal.div (∑ k : Fin 64, f (64 * (j.val / 64) + k.val)) groupLen)
      * Ideal.rsqrt (Ideal.div (∑ k : Fin 64, (f (64 * (j.val / 64) + k.val) - Ideal.div (∑ k : Fin 64, f (64 * (j.val / 64) + k.val)) groupLen)
          * (f (64 * (j.val / 64) + k.val) - Ideal.div (∑ k : Fin 64, f (64 * (j.val / 64) + k.val)) groupLen)) groupLen + eps) * G 0 j.val + B 0 j.val := by
    show d (ix2 r j) * Ideal.rsqrt (perGroup (mulf d d) (m 4) (m 5) (ix2 r j) + eps) * broadcastTo S512x512 g broadcasts_S1x512_S512x512 (ix2 r j)
      + broadcastTo S512x512 b broadcasts_S1x512_S512x512 (ix2 r j) = _
    rw [stretch (m := 512) (n := 512) g _ (ix2 r j), stretch (m := 512) (n := 512) b _ (ix2 r j), hg, hb, hs, hv, hn]
    simp only [div_groupLen]
    unfold deviation
    dsimp only
    rw [Nat.div_add_mod]
  exact (congrArg (fun y : EReal => y * Ideal.logistic y) hy).trans (congrArg _ (Tile.logistic_eq _))

end

end Cert.KernelIdeal.Layer

end
-- ==== Proof.LayerPoint.lean ====
module

public import proofs.«01_k».proof.Proof.Point
public import proofs.«01_k».proof.Proof.GroupNorm

@[expose] public section

set_option maxRecDepth 16384

noncomputable section

/-! One grid point's stores into the layer's output, the row scratch and the convolution scratch, each named by what it is computed from. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-! ## Parts of the operands -/

/-- A row of the modulation. -/
def modRow (off : Fin 3 → ℕ) (inb : ∀ a, off a + S1x1x1024.size a ≤ S8x6x1024.size a) : FVec Ideal S1x1024 .f32 :=
  shapeCast S1x1024 (View.readAt (Elt Ideal) (win0_1.stage (cfg0.slots t 1)).view (Rect.unit (s := S8x6x1024) off S1x1x1024.size inb).toLoadRect
    ((hstage0_1 ((cfg0.slots t 1).cast nbuf0_1)).unread (iblk m c 1 t))) shapeCasts_S1x1x1024_S1x1024

/-- Rows of the prompt's tile. -/
def xRows (o : ℕ) (inb : ∀ a, (![0, o, 0] : Fin 3 → ℕ) a + S1x64x1024.size a ≤ S1x512x1024.size a) : FVec Ideal S1x64x1024 .f32 :=
  View.readAt (Elt Ideal) (win0_0.stage (cfg0.slots t 0)).view (Rect.unit (s := S1x512x1024) ![0, o, 0] S1x64x1024.size inb).toLoadRect
    ((hstage0_0 ((cfg0.slots t 0).cast nbuf0_0)).unread (iblk m c 0 t))

/-- The heads' scale. -/
def headGain (inb : ∀ a, (![0, 0] : Fin 2 → ℕ) a + S1x128.size a ≤ S1x128.size a) : FVec Ideal S1x128 .f32 :=
  View.readAt (Elt Ideal) (win0_5.stage (cfg0.slots t 5)).view (Rect.unit (s := S1x128) ![0, 0] S1x128.size inb).toLoadRect
    ((hstage0_5 ((cfg0.slots t 5).cast nbuf0_5)).unread (iblk m c 5 t))

/-- A part of a tap's row. -/
def tapRow (j o : ℕ) (inb : ∀ a, (![j, o] : Fin 2 → ℕ) a + S1x128.size a ≤ S31x512.size a) : FVec Ideal S1x128 .f32 :=
  View.readAt (Elt Ideal) (win0_6.stage (cfg0.slots t 6)).view (Rect.unit (s := S31x512) ![j, o] S1x128.size inb).toLoadRect
    ((hstage0_6 ((cfg0.slots t 6).cast nbuf0_6)).unread (iblk m c 6 t))

/-- A part of the convolution's bias. -/
def convBias (o : ℕ) (inb : ∀ a, (![0, o] : Fin 2 → ℕ) a + S1x128.size a ≤ S1x512.size a) : FVec Ideal S1x128 .f32 :=
  View.readAt (Elt Ideal) (win0_7.stage (cfg0.slots t 7)).view (Rect.unit (s := S1x512) ![0, o] S1x128.size inb).toLoadRect
    ((hstage0_7 ((cfg0.slots t 7).cast nbuf0_7)).unread (iblk m c 7 t))

/-- The group norm's scale. -/
def groupGain (inb : ∀ a, (![0, 0] : Fin 2 → ℕ) a + S1x512.size a ≤ S1x512.size a) : FVec Ideal S1x512 .f32 :=
  View.readAt (Elt Ideal) (win0_8.stage (cfg0.slots t 8)).view (Rect.unit (s := S1x512) ![0, 0] S1x512.size inb).toLoadRect
    ((hstage0_8 ((cfg0.slots t 8).cast nbuf0_8)).unread (iblk m c 8 t))

/-- The group norm's shift. -/
def groupBias (inb : ∀ a, (![0, 0] : Fin 2 → ℕ) a + S1x512.size a ≤ S1x512.size a) : FVec Ideal S1x512 .f32 :=
  View.readAt (Elt Ideal) (win0_9.stage (cfg0.slots t 9)).view (Rect.unit (s := S1x512) ![0, 0] S1x512.size inb).toLoadRect
    ((hstage0_9 ((cfg0.slots t 9).cast nbuf0_9)).unread (iblk m c 9 t))

/-- One of the two group matrices. -/
def groupMat (q : ℕ) (inb : ∀ a, (![q, 0, 0] : Fin 3 → ℕ) a + S1x256x256.size a ≤ S2x256x256.size a) : FVec Ideal S1x256x256 .bf16 :=
  View.readAt (Elt Ideal) (win0_10.stage (cfg0.slots t 10)).view (Rect.unit (s := S2x256x256) ![q, 0, 0] S1x256x256.size inb).toLoadRect
    ((hstage0_10 ((cfg0.slots t 10).cast nbuf0_10)).unread (iblk m c 10 t))

/-- The out-projection's weights. -/
def outWeights (inb : ∀ a, (![0, 0] : Fin 2 → ℕ) a + S1024x1024.size a ≤ S1024x1024.size a) : FVec Ideal S1024x1024 .bf16 :=
  View.readAt (Elt Ideal) (win0_11.stage (cfg0.slots t 11)).view (Rect.unit (s := S1024x1024) ![0, 0] S1024x1024.size inb).toLoadRect
    ((hstage0_11 ((cfg0.slots t 11).cast nbuf0_11)).unread (iblk m c 11 t))

/-- The out-projection's bias. -/
def outBias (inb : ∀ a, (![0, 0] : Fin 2 → ℕ) a + S1x1024.size a ≤ S1x1024.size a) : FVec Ideal S1x1024 .f32 :=
  View.readAt (Elt Ideal) (win0_12.stage (cfg0.slots t 12)).view (Rect.unit (s := S1x1024) ![0, 0] S1x1024.size inb).toLoadRect
    ((hstage0_12 ((cfg0.slots t 12).cast nbuf0_12)).unread (iblk m c 12 t))

/-- The first norm's scale. -/
def gain1 (inb : ∀ a, (![0, 0] : Fin 2 → ℕ) a + S1x1024.size a ≤ S1x1024.size a) : FVec Ideal S1x1024 .f32 :=
  View.readAt (Elt Ideal) (win0_13.stage (cfg0.slots t 13)).view (Rect.unit (s := S1x1024) ![0, 0] S1x1024.size inb).toLoadRect
    ((hstage0_13 ((cfg0.slots t 13).cast nbuf0_13)).unread (iblk m c 13 t))

/-- The first norm's shift. -/
def bias1 (inb : ∀ a, (![0, 0] : Fin 2 → ℕ) a + S1x1024.size a ≤ S1x1024.size a) : FVec Ideal S1x1024 .f32 :=
  View.readAt (Elt Ideal) (win0_14.stage (cfg0.slots t 14)).view (Rect.unit (s := S1x1024) ![0, 0] S1x1024.size inb).toLoadRect
    ((hstage0_14 ((cfg0.slots t 14).cast nbuf0_14)).unread (iblk m c 14 t))

/-- A block of the up-projection's columns. -/
def upWeights (o : ℕ) (inb : ∀ a, (![0, o] : Fin 2 → ℕ) a + S1024x512.size a ≤ S1024x4096.size a) : FVec Ideal S1024x512 .bf16 :=
  View.readAt (Elt Ideal) (win0_15.stage (cfg0.slots t 15)).view (Rect.unit (s := S1024x4096) ![0, o] S1024x512.size inb).toLoadRect
    ((hstage0_15 ((cfg0.slots t 15).cast nbuf0_15)).unread (iblk m c 15 t))

/-- A block of the up-projection's bias. -/
def upBias (o : ℕ) (inb : ∀ a, (![0, o] : Fin 2 → ℕ) a + S1x512.size a ≤ S1x4096.size a) : FVec Ideal S1x512 .f32 :=
  View.readAt (Elt Ideal) (win0_16.stage (cfg0.slots t 16)).view (Rect.unit (s := S1x4096) ![0, o] S1x512.size inb).toLoadRect
    ((hstage0_16 ((cfg0.slots t 16).cast nbuf0_16)).unread (iblk m c 16 t))

/-- A block of the down-projection's columns. -/
def downWeights (o : ℕ) (inb : ∀ a, (![0, o] : Fin 2 → ℕ) a + S4096x256.size a ≤ S4096x1024.size a) : FVec Ideal S4096x256 .bf16 :=
  View.readAt (Elt Ideal) (win0_17.stage (cfg0.slots t 17)).view (Rect.unit (s := S4096x1024) ![0, o] S4096x256.size inb).toLoadRect
    ((hstage0_17 ((cfg0.slots t 17).cast nbuf0_17)).unread (iblk m c 17 t))

/-- A block of the down-projection's bias. -/
def downBias (o : ℕ) (inb : ∀ a, (![0, o] : Fin 2 → ℕ) a + S1x256.size a ≤ S1x1024.size a) : FVec Ideal S1x256 .f32 :=
  View.readAt (Elt Ideal) (win0_18.stage (cfg0.slots t 18)).view (Rect.unit (s := S1x1024) ![0, o] S1x256.size inb).toLoadRect
    ((hstage0_18 ((cfg0.slots t 18).cast nbuf0_18)).unread (iblk m c 18 t))

/-- The second norm's scale. -/
def gain2 (inb : ∀ a, (![0, 0] : Fin 2 → ℕ) a + S1x1024.size a ≤ S1x1024.size a) : FVec Ideal S1x1024 .f32 :=
  View.readAt (Elt Ideal) (win0_19.stage (cfg0.slots t 19)).view (Rect.unit (s := S1x1024) ![0, 0] S1x1024.size inb).toLoadRect
    ((hstage0_19 ((cfg0.slots t 19).cast nbuf0_19)).unread (iblk m c 19 t))

/-- The second norm's shift. -/
def bias2 (inb : ∀ a, (![0, 0] : Fin 2 → ℕ) a + S1x1024.size a ≤ S1x1024.size a) : FVec Ideal S1x1024 .f32 :=
  View.readAt (Elt Ideal) (win0_20.stage (cfg0.slots t 20)).view (Rect.unit (s := S1x1024) ![0, 0] S1x1024.size inb).toLoadRect
    ((hstage0_20 ((cfg0.slots t 20).cast nbuf0_20)).unread (iblk m c 20 t))

/-! ## The feed-forward part, of the row scratch as the point finds it -/

/-- One plus a row of the modulation, on 64 rows. -/
def raised (g : FVec Ideal S1x1024 .f32) : FVec Ideal S64x1024 .f32 :=
  broadcastTo S64x1024 (addf (broadcast S1x1024 (Scalar.ofBits .f32 0x3F800000#32)) g) broadcasts_S1x1024_S64x1024

/-- Rows of the row scratch as the point finds it: zeros at the first point. -/
def earlier (o : ℕ) (inb : ∀ a, (![o, 0] : Fin 2 → ℕ) a + S64x1024.size a ≤ S512x1024.size a) : FVec Ideal S64x1024 .f32 :=
  View.readAt (Elt Ideal) (Memref.whole cc0_scratch10).view (Rect.unit (s := S512x1024) ![o, 0] S64x1024.size inb).toLoadRect
    (if hc : Body.bodyRun.sl.v49 (grid0.coords t) = 1#1 then
      (Memref.whole cc0_scratch10).view.writes (Elt Ideal) ((Memref.isWhole_whole cc0_scratch10).unread p.2.2)
        [⟨Rect.unit ![0, 0] S512x1024.size inb_S512x1024_S512x1024_0_0, (k0_pay7 : FVec Ideal S512x1024 .f32)⟩]
    else (Memref.isWhole_whole cc0_scratch10).unread p.2.2)

/-- Sixty-four modulated rows. -/
def modPiece (o : ℕ) (inb : ∀ a, (![o, 0] : Fin 2 → ℕ) a + S64x1024.size a ≤ S512x1024.size a) : View.Piece (Elt Ideal) S512x1024 .bf16 :=
  ⟨Rect.unit (s := S512x1024) ![o, 0] S64x1024.size inb,
    shapeCast S64x1024 (truncf .bf16 (addf (mulf (earlier t p o inb) (raised (modRow m c t (k0_off2 (grid0.coords t)) (k0_off2_inb _))))
      (broadcastTo S64x1024 (modRow m c t (k0_off1 (grid0.coords t)) (k0_off1_inb _)) broadcasts_S1x1024_S64x1024)) bitsLt_bf16_f32) shapeCasts_S64x1024_S64x1024⟩

/-- Sixty-four rows weighted for the sum. -/
def resPiece (o : ℕ) (inb : ∀ a, (![o, 0] : Fin 2 → ℕ) a + S64x1024.size a ≤ S512x1024.size a) : View.Piece (Elt Ideal) S512x1024 .f32 :=
  ⟨Rect.unit (s := S512x1024) ![o, 0] S64x1024.size inb,
    shapeCast S64x1024 (mulf (broadcast S64x1024 (Scalar.ofBits .f32 0x3F9837F0#32)) (earlier t p o inb)) shapeCasts_S64x1024_S64x1024⟩

/-- The modulated rows' stores. -/
def modStores : List (View.Piece (Elt Ideal) S512x1024 .bf16) :=
  [modPiece m c t p 448 inb_S512x1024_S64x1024_448_0,
    modPiece m c t p 384 inb_S512x1024_S64x1024_384_0,
    modPiece m c t p 320 inb_S512x1024_S64x1024_320_0,
    modPiece m c t p 256 inb_S512x1024_S64x1024_256_0,
    modPiece m c t p 192 inb_S512x1024_S64x1024_192_0,
    modPiece m c t p 128 inb_S512x1024_S64x1024_128_0,
    modPiece m c t p 64 inb_S512x1024_S64x1024_64_0,
    modPiece m c t p 0 inb_S512x1024_S64x1024_0_0]

/-- The weighted rows' stores. -/
def resStores : List (View.Piece (Elt Ideal) S512x1024 .f32) :=
  [resPiece t p 448 inb_S512x1024_S64x1024_448_0,
    resPiece t p 384 inb_S512x1024_S64x1024_384_0,
    resPiece t p 320 inb_S512x1024_S64x1024_320_0,
    resPiece t p 256 inb_S512x1024_S64x1024_256_0,
    resPiece t p 192 inb_S512x1024_S64x1024_192_0,
    resPiece t p 128 inb_S512x1024_S64x1024_128_0,
    resPiece t p 64 inb_S512x1024_S64x1024_64_0,
    resPiece t p 0 inb_S512x1024_S64x1024_0_0]

/-- The modulated rows, read back. -/
def modded : FVec Ideal S512x1024 .bf16 :=
  (Memref.whole cc0_scratch11).view.readCov (modStores m c t p) (Rect.unit (s := S512x1024) ![0, 0] S512x1024.size inb_S512x1024_S512x1024_0_0).toLoadRect

/-- A block of the hidden layer before its square. -/
def rectified (w : FVec Ideal S1024x512 .bf16) (b : FVec Ideal S1x512 .f32) : FVec Ideal S512x512 .f32 :=
  maximumf (addf (matmul dot_S512x1024_S1024x512_S512x512_1_0_0_1_n_n none (modded m c t p) w (constant (F := Ideal) S512x512 .f32 0x00000000#32))
    (broadcastTo S512x512 b broadcasts_S1x512_S512x512)) (broadcast S512x512 (Scalar.ofBits .f32 0x00000000#32))

/-- A block of the hidden layer. -/
def actPiece (o : ℕ) (inb : ∀ a, (![0, o] : Fin 2 → ℕ) a + S512x512.size a ≤ S512x4096.size a) (inbw : ∀ a, (![0, o] : Fin 2 → ℕ) a + S1024x512.size a ≤ S1024x4096.size a)
    (inbb : ∀ a, (![0, o] : Fin 2 → ℕ) a + S1x512.size a ≤ S1x4096.size a) : View.Piece (Elt Ideal) S512x4096 .bf16 :=
  ⟨Rect.unit (s := S512x4096) ![0, o] S512x512.size inb,
    shapeCast S512x512 (truncf .bf16 (mulf (rectified m c t p (upWeights m c t o inbw) (upBias m c t o inbb)) (rectified m c t p (upWeights m c t o inbw) (upBias m c t o inbb))) bitsLt_bf16_f32)
      shapeCasts_S512x512_S512x512⟩

/-- The hidden layer's stores. -/
def actStores : List (View.Piece (Elt Ideal) S512x4096 .bf16) :=
  [actPiece m c t p 3584 (by decide) (by decide) (by decide),
    actPiece m c t p 3072 (by decide) (by decide) (by decide),
    actPiece m c t p 2560 (by decide) (by decide) (by decide),
    actPiece m c t p 2048 (by decide) (by decide) (by decide),
    actPiece m c t p 1536 (by decide) (by decide) (by decide),
    actPiece m c t p 1024 (by decide) (by decide) (by decide),
    actPiece m c t p 512 (by decide) (by decide) (by decide),
    actPiece m c t p 0 (by decide) (by decide) (by decide)]

/-- The hidden layer, read back. -/
def hidden : FVec Ideal S512x4096 .bf16 :=
  (Memref.whole cc0_scratch13).view.readCov (actStores m c t p) (Rect.unit (s := S512x4096) ![0, 0] S512x4096.size inb_S512x4096_S512x4096_0_0).toLoadRect

/-- A block of the feed-forward part. -/
def ffPiece (o : ℕ) (inb : ∀ a, (![0, o] : Fin 2 → ℕ) a + S512x256.size a ≤ S512x1024.size a) (inbw : ∀ a, (![0, o] : Fin 2 → ℕ) a + S4096x256.size a ≤ S4096x1024.size a)
    (inbb : ∀ a, (![0, o] : Fin 2 → ℕ) a + S1x256.size a ≤ S1x1024.size a) : View.Piece (Elt Ideal) S512x1024 .f32 :=
  ⟨Rect.unit (s := S512x1024) ![0, o] S512x256.size inb,
    shapeCast S512x256 (addf (matmul dot_S512x4096_S4096x256_S512x256_1_0_0_1_n_n none (hidden m c t p) (downWeights m c t o inbw) (constant (F := Ideal) S512x256 .f32 0x00000000#32))
      (broadcastTo S512x256 (downBias m c t o inbb) broadcasts_S1x256_S512x256)) shapeCasts_S512x256_S512x256⟩

/-- The feed-forward part's stores. -/
def ffStores : List (View.Piece (Elt Ideal) S512x1024 .f32) :=
  [ffPiece m c t p 768 (by decide) (by decide) (by decide),
    ffPiece m c t p 512 (by decide) (by decide) (by decide),
    ffPiece m c t p 256 (by decide) (by decide) (by decide),
    ffPiece m c t p 0 (by decide) (by decide) (by decide)]

/-- Sixty-four rows of the layer's output. -/
def outPiece (o : ℕ) (inb : ∀ a, (![o, 0] : Fin 2 → ℕ) a + S64x1024.size a ≤ S512x1024.size a)
    (inb' : ∀ a, (![0, o, 0] : Fin 3 → ℕ) a + S1x64x1024.size a ≤ S1x512x1024.size a) : View.Piece (Elt Ideal) S1x512x1024 .f32 :=
  ⟨Rect.unit (s := S1x512x1024) ![0, o, 0] S1x64x1024.size inb',
    shapeCast S1x64x1024 (lnRows (addf ((Memref.whole cc0_scratch12).view.readCov (resStores t p) (Rect.unit (s := S512x1024) ![o, 0] S64x1024.size inb).toLoadRect)
      (mulf (raised (modRow m c t (k0_off6 (grid0.coords t)) (k0_off6_inb _)))
        ((Memref.whole cc0_scratch14).view.readCov (ffStores m c t p) (Rect.unit (s := S512x1024) ![o, 0] S64x1024.size inb).toLoadRect)))
      (gain2 m c t (by decide)) (bias2 m c t (by decide))) shapeCasts_S64x1024_S1x64x1024⟩

/-- The stores into the layer's output. -/
def layerStores : List (View.Piece (Elt Ideal) S1x512x1024 .f32) :=
  [outPiece m c t p 448 inb_S512x1024_S64x1024_448_0 inb_S1x512x1024_S1x64x1024_0_448_0,
    outPiece m c t p 384 inb_S512x1024_S64x1024_384_0 inb_S1x512x1024_S1x64x1024_0_384_0,
    outPiece m c t p 320 inb_S512x1024_S64x1024_320_0 inb_S1x512x1024_S1x64x1024_0_320_0,
    outPiece m c t p 256 inb_S512x1024_S64x1024_256_0 inb_S1x512x1024_S1x64x1024_0_256_0,
    outPiece m c t p 192 inb_S512x1024_S64x1024_192_0 inb_S1x512x1024_S1x64x1024_0_192_0,
    outPiece m c t p 128 inb_S512x1024_S64x1024_128_0 inb_S1x512x1024_S1x64x1024_0_128_0,
    outPiece m c t p 64 inb_S512x1024_S64x1024_64_0 inb_S1x512x1024_S1x64x1024_0_64_0,
    outPiece m c t p 0 inb_S512x1024_S64x1024_0_0 inb_S1x512x1024_S1x64x1024_0_0_0]

/-- The body's stores into the layer's output are these. -/
theorem layer_eq : (Frame.pointRun m c t p).2.2.2.1 = layerStores m c t p := by sl_kernel_rfl

/-! ## The convolution -/

/-- A part of the convolution scratch with the tile's rows stored. -/
def convRead (n : ℕ) (r o : ℕ) (inb : ∀ a, (![r, o] : Fin 2 → ℕ) a + (⟨2, ![n, 128]⟩ : Shape).size a ≤ S544x512.size a) : FVec Ideal ⟨2, ![n, 128]⟩ .f32 :=
  View.readAt (Elt Ideal) (Memref.whole cc0_scratch5).view (Rect.unit (s := S544x512) ![r, o] (⟨2, ![n, 128]⟩ : Shape).size inb).toLoadRect
    ((Memref.whole cc0_scratch5).view.writes (Elt Ideal) (if hc : Body.bodyRun.sl.v52 (grid0.coords t) = 1#1 then
        (Memref.whole cc0_scratch5).view.writes (Elt Ideal) ((Memref.isWhole_whole cc0_scratch5).unread p.2.1)
          [⟨Rect.unit ![0, 0] S32x512.size inb_S544x512_S32x512_0_0, (k0_pay9 : FVec Ideal S32x512 .f32)⟩]
      else (Memref.isWhole_whole cc0_scratch5).unread p.2.1) (convRows m c t))

/-- A part of the tile's own rows in the convolution scratch. -/
def convOwn (r o : ℕ) (inb : ∀ a, (![r, o] : Fin 2 → ℕ) a + (⟨2, ![160, 128]⟩ : Shape).size a ≤ S544x512.size a) : FVec Ideal ⟨2, ![160, 128]⟩ .f32 :=
  (Memref.whole cc0_scratch5).view.readCov (convRows m c t) (Rect.unit (s := S544x512) ![r, o] (⟨2, ![160, 128]⟩ : Shape).size inb).toLoadRect

/-- A block's moved rows lie in the convolution scratch. -/
theorem shift_inb (q o : ℕ) (hq : q < 7) (ho : o + 128 ≤ 512) : ∀ a, (![q + 1, o] : Fin 2 → ℕ) a + (⟨2, ![536, 128]⟩ : Shape).size a ≤ S544x512.size a := by
  intro a
  fin_cases a
  · show q + 1 + 536 ≤ 544; omega
  · show o + 128 ≤ 512; exact ho

/-- The store of a block's rows moved up by `q + 1`. -/
def shiftPiece (o q : ℕ) (inb : ∀ a, (![q, 0, 0] : Fin 3 → ℕ) a + S1x536x128.size a ≤ S7x536x128.size a)
    (inb' : ∀ a, (![q + 1, o] : Fin 2 → ℕ) a + (⟨2, ![536, 128]⟩ : Shape).size a ≤ S544x512.size a) : View.Piece (Elt Ideal) S7x536x128 .f32 :=
  ⟨Rect.unit (s := S7x536x128) ![q, 0, 0] S1x536x128.size inb, shapeCast S1x536x128 (convRead m c t p 536 (q + 1) o inb') shapeCasts_S536x128_S1x536x128⟩

/-- The seven stores of a block, after the stores before. -/
def shiftStores (o : ℕ) (ho : o + 128 ≤ 512) (L : List (View.Piece (Elt Ideal) S7x536x128 .f32)) : List (View.Piece (Elt Ideal) S7x536x128 .f32) :=
  shiftPiece m c t p o 6 (by decide) (shift_inb 6 o (by omega) ho) :: shiftPiece m c t p o 5 (by decide) (shift_inb 5 o (by omega) ho) :: shiftPiece m c t p o 4 (by decide) (shift_inb 4 o (by omega) ho) :: shiftPiece m c t p o 3 (by decide) (shift_inb 3 o (by omega) ho) :: shiftPiece m c t p o 2 (by decide) (shift_inb 2 o (by omega) ho) :: shiftPiece m c t p o 1 (by decide) (shift_inb 1 o (by omega) ho) :: shiftPiece m c t p o 0 (by decide) (shift_inb 0 o (by omega) ho) :: L

/-- A window's rows lie among the moved rows. -/
theorem window_inb (f : Fin 7) (r : ℕ) (hr : r ≤ 384) : ∀ a, (![f.val, r, 0] : Fin 3 → ℕ) a + S1x152x128.size a ≤ S7x536x128.size a := by
  intro a
  have := f.isLt
  fin_cases a
  · show f.val + 1 ≤ 7; omega
  · show r + 152 ≤ 536; omega
  · show 0 + 128 ≤ 128; omega

/-- A tap's row lies among the taps. -/
theorem tap_inb (j : Fin 31) (o : ℕ) (ho : o + 128 ≤ 512) : ∀ a, (![j.val, o] : Fin 2 → ℕ) a + S1x128.size a ≤ S31x512.size a := by
  intro a
  have := j.isLt
  fin_cases a
  · show j.val + 1 ≤ 31; omega
  · show o + 128 ≤ 512; exact ho

/-- One piece of the convolution. -/
def sumPiece (r o : ℕ) (hr : r ≤ 384) (ho : o + 128 ≤ 512) (inb : ∀ a, (![r, o] : Fin 2 → ℕ) a + S128x128.size a ≤ S512x512.size a)
    (w0 : FVec Ideal ⟨2, ![160, 128]⟩ .f32) (inbc : ∀ a, (![0, o] : Fin 2 → ℕ) a + S1x128.size a ≤ S1x512.size a)
    (L : List (View.Piece (Elt Ideal) S7x536x128 .f32)) : View.Piece (Elt Ideal) S512x512 .f32 :=
  ⟨Rect.unit (s := S512x512) ![r, o] S128x128.size inb,
    convPiece (convBias m c t o inbc) (fun j => tapRow m c t j.val o (tap_inb j o ho)) w0
      (fun f => (Memref.whole cc0_scratch6).view.readCov L (Rect.unit (s := S7x536x128) ![f.val, r, 0] S1x152x128.size (window_inb f r hr)).toLoadRect)⟩

/-- The moved rows' stores of the first 1 block. -/
def moved1 : List (View.Piece (Elt Ideal) S7x536x128 .f32) := shiftStores m c t p 0 (by decide) []

/-- The moved rows' stores of the first 2 blocks. -/
def moved2 : List (View.Piece (Elt Ideal) S7x536x128 .f32) := shiftStores m c t p 128 (by decide) (moved1 m c t p)

/-- The moved rows' stores of the first 3 blocks. -/
def moved3 : List (View.Piece (Elt Ideal) S7x536x128 .f32) := shiftStores m c t p 256 (by decide) (moved2 m c t p)

/-- The moved rows' stores of the first 4 blocks. -/
def moved4 : List (View.Piece (Elt Ideal) S7x536x128 .f32) := shiftStores m c t p 384 (by decide) (moved3 m c t p)

/-- The convolution's stores. -/
def sumStores : List (View.Piece (Elt Ideal) S512x512 .f32) :=
  [sumPiece m c t 384 384 (by decide) (by decide) (by decide) (convOwn m c t 384 384 (by decide)) (by decide) (moved4 m c t p),
    sumPiece m c t 256 384 (by decide) (by decide) (by decide) (convOwn m c t 256 384 (by decide)) (by decide) (moved4 m c t p),
    sumPiece m c t 128 384 (by decide) (by decide) (by decide) (convOwn m c t 128 384 (by decide)) (by decide) (moved4 m c t p),
    sumPiece m c t 0 384 (by decide) (by decide) (by decide) (convRead m c t p 160 0 384 (by decide)) (by decide) (moved4 m c t p),
    sumPiece m c t 384 256 (by decide) (by decide) (by decide) (convOwn m c t 384 256 (by decide)) (by decide) (moved3 m c t p),
    sumPiece m c t 256 256 (by decide) (by decide) (by decide) (convOwn m c t 256 256 (by decide)) (by decide) (moved3 m c t p),
    sumPiece m c t 128 256 (by decide) (by decide) (by decide) (convOwn m c t 128 256 (by decide)) (by decide) (moved3 m c t p),
    sumPiece m c t 0 256 (by decide) (by decide) (by decide) (convRead m c t p 160 0 256 (by decide)) (by decide) (moved3 m c t p),
    sumPiece m c t 384 128 (by decide) (by decide) (by decide) (convOwn m c t 384 128 (by decide)) (by decide) (moved2 m c t p),
    sumPiece m c t 256 128 (by decide) (by decide) (by decide) (convOwn m c t 256 128 (by decide)) (by decide) (moved2 m c t p),
    sumPiece m c t 128 128 (by decide) (by decide) (by decide) (convOwn m c t 128 128 (by decide)) (by decide) (moved2 m c t p),
    sumPiece m c t 0 128 (by decide) (by decide) (by decide) (convRead m c t p 160 0 128 (by decide)) (by decide) (moved2 m c t p),
    sumPiece m c t 384 0 (by decide) (by decide) (by decide) (convOwn m c t 384 0 (by decide)) (by decide) (moved1 m c t p),
    sumPiece m c t 256 0 (by decide) (by decide) (by decide) (convOwn m c t 256 0 (by decide)) (by decide) (moved1 m c t p),
    sumPiece m c t 128 0 (by decide) (by decide) (by decide) (convOwn m c t 128 0 (by decide)) (by decide) (moved1 m c t p),
    sumPiece m c t 0 0 (by decide) (by decide) (by decide) (convRead m c t p 160 0 0 (by decide)) (by decide) (moved1 m c t p)]

/-- The group matrices in the order they are used. -/
def groupMats (k : Fin 6) : FVec Ideal S1x256x256 .bf16 :=
  (![groupMat m c t 0 (by decide), groupMat m c t 0 (by decide), groupMat m c t 1 (by decide), groupMat m c t 1 (by decide), groupMat m c t 1 (by decide), groupMat m c t 1 (by decide)] :
    Fin 6 → FVec Ideal S1x256x256 .bf16) k

/-! ## The heads -/

/-- A swished block of the projection. -/
def swished (o : ℕ) (inb : ∀ a, (![0, o] : Fin 2 → ℕ) a + S1024x512.size a ≤ S1024x3072.size a) (inb' : ∀ a, (![0, o] : Fin 2 → ℕ) a + S1x512.size a ≤ S1x3072.size a) :
    FVec Ideal S512x512 .f32 :=
  shapeCast S512x512 (mulf (Tile.block (rows m c t) (weights m c t o inb) (biases m c t o inb')) (logistic (Tile.block (rows m c t) (weights m c t o inb) (biases m c t o inb'))))
    shapeCasts_S512x512_S512x512

/-- The tile's queries. -/
def queriesOf : FVec Ideal S512x512 .f32 := swished m c t 0 inb_S1024x3072_S1024x512_0_0 inb_S1x3072_S1x512_0_0

/-- The tile's output gates. -/
def gatesOf : FVec Ideal S512x512 .f32 := swished m c t 1536 inb_S1024x3072_S1024x512_0_1536 inb_S1x3072_S1x512_0_1536

/-- One head's rows of one chunk, of the head's matrix as the chunk finds it. -/
def headPiece (o h : ℕ) (inb : ∀ a, (![o, 0] : Fin 2 → ℕ) a + S64x512.size a ≤ S512x512.size a) (h2 : S64x512.Slices ![0, h] S64x128)
    (inbg : ∀ a, (![o, h] : Fin 2 → ℕ) a + S64x128.size a ≤ S512x512.size a) (inbm : ∀ a, (![o, h] : Fin 2 → ℕ) a + S64x128.size a ≤ S512x1024.size a)
    (s : FVec Ideal S1x128x128 .f32) : View.Piece (Elt Ideal) S512x1024 .bf16 :=
  ⟨Rect.unit (s := S512x1024) ![o, h] S64x128.size inbm,
    headRows h h2 (chunk (Memref.whole cc0_scratch2) (logs m c t) o inb) (chunk (Memref.whole cc0_scratch1) (keysOf m c t) o inb)
      (chunk (Memref.whole cc0_scratch0) (queriesOf m c t) o inb) (chunk (Memref.whole cc0_scratch3) (values m c t) o inb) s (headGain m c t (by decide))
      ((Memref.whole cc0_scratch4).view.readCov [(⟨Rect.unit ![0, 0] S512x512.size inb_S512x512_S512x512_0_0, gatesOf m c t⟩ : View.Piece (Elt Ideal) S512x512 .f32)]
        (Rect.unit (s := S512x512) ![o, h] S64x128.size inbg).toLoadRect)⟩

/-- A head's matrix read back from stores. -/
abbrev headOf (L : List (View.Piece (Elt Ideal) S4x128x128 .f32)) (h : ℕ) (inb : ∀ a, (![h, 0, 0] : Fin 3 → ℕ) a + S1x128x128.size a ≤ S4x128x128.size a) : FVec Ideal S1x128x128 .f32 :=
  (Memref.whole cc0_scratch9).view.readCov L (Rect.unit (s := S4x128x128) ![h, 0, 0] S1x128x128.size inb).toLoadRect

/-- The state's stores of a chunk up to its head `h`. -/
abbrev upto (o : ℕ) (inb : ∀ a, (![o, 0] : Fin 2 → ℕ) a + S64x512.size a ≤ S512x512.size a) (L : List (View.Piece (Elt Ideal) S4x128x128 .f32)) (h : ℕ)
    (inbh : ∀ a, (![h, 0, 0] : Fin 3 → ℕ) a + S1x128x128.size a ≤ S4x128x128.size a) (k : ℕ) (h1 : S1x512.Slices ![0, k] S1x128) (h2 : S64x512.Slices ![0, k] S64x128) :
    List (View.Piece (Elt Ideal) S4x128x128 .f32) :=
  again (chunk (Memref.whole cc0_scratch2) (logs m c t) o inb) (chunk (Memref.whole cc0_scratch1) (keysOf m c t) o inb)
    (chunk (Memref.whole cc0_scratch3) (values m c t) o inb) (Memref.whole cc0_scratch9).view h inbh k h1 h2 L

/-- The state's stores of the first chunk. -/
def after1 : List (View.Piece (Elt Ideal) S4x128x128 .f32) :=
  firstStores (chunk (Memref.whole cc0_scratch2) (logs m c t) 0 inb_S512x512_S64x512_0_0) (chunk (Memref.whole cc0_scratch1) (keysOf m c t) 0 inb_S512x512_S64x512_0_0)
    (chunk (Memref.whole cc0_scratch3) (values m c t) 0 inb_S512x512_S64x512_0_0)
    (found t p.1 0 inb_S4x128x128_S1x128x128_0_0_0) (found t p.1 1 inb_S4x128x128_S1x128x128_1_0_0)
    (found t p.1 2 inb_S4x128x128_S1x128x128_2_0_0) (found t p.1 3 inb_S4x128x128_S1x128x128_3_0_0)

/-- The state's stores of the first 2 chunks. -/
def after2 : List (View.Piece (Elt Ideal) S4x128x128 .f32) := chunkStores m c t 64 inb_S512x512_S64x512_64_0 (after1 m c t p)

/-- The state's stores of the first 3 chunks. -/
def after3 : List (View.Piece (Elt Ideal) S4x128x128 .f32) := chunkStores m c t 128 inb_S512x512_S64x512_128_0 (after2 m c t p)

/-- The state's stores of the first 4 chunks. -/
def after4 : List (View.Piece (Elt Ideal) S4x128x128 .f32) := chunkStores m c t 192 inb_S512x512_S64x512_192_0 (after3 m c t p)

/-- The state's stores of the first 5 chunks. -/
def after5 : List (View.Piece (Elt Ideal) S4x128x128 .f32) := chunkStores m c t 256 inb_S512x512_S64x512_256_0 (after4 m c t p)

/-- The state's stores of the first 6 chunks. -/
def after6 : List (View.Piece (Elt Ideal) S4x128x128 .f32) := chunkStores m c t 320 inb_S512x512_S64x512_320_0 (after5 m c t p)

/-- The state's stores of the first 7 chunks. -/
def after7 : List (View.Piece (Elt Ideal) S4x128x128 .f32) := chunkStores m c t 384 inb_S512x512_S64x512_384_0 (after6 m c t p)

/-- The heads' rows of the first chunk. -/
def firstHeads : List (View.Piece (Elt Ideal) S512x1024 .bf16) :=
  [headPiece m c t 0 384 inb_S512x512_S64x512_0_0 slices_S64x512_o0_384_S64x128 (by decide) (by decide) (found t p.1 3 inb_S4x128x128_S1x128x128_3_0_0),
    headPiece m c t 0 256 inb_S512x512_S64x512_0_0 slices_S64x512_o0_256_S64x128 (by decide) (by decide) (found t p.1 2 inb_S4x128x128_S1x128x128_2_0_0),
    headPiece m c t 0 128 inb_S512x512_S64x512_0_0 slices_S64x512_o0_128_S64x128 (by decide) (by decide) (found t p.1 1 inb_S4x128x128_S1x128x128_1_0_0),
    headPiece m c t 0 0 inb_S512x512_S64x512_0_0 slices_S64x512_o0_0_S64x128 (by decide) (by decide) (found t p.1 0 inb_S4x128x128_S1x128x128_0_0_0)]

/-- A head's rows lie in the gates' scratch. -/
theorem head_inb (o h : ℕ) (inb : ∀ a, (![o, 0] : Fin 2 → ℕ) a + S64x512.size a ≤ S512x512.size a) (hh : h + 128 ≤ 512) :
    ∀ a, (![o, h] : Fin 2 → ℕ) a + S64x128.size a ≤ S512x512.size a := by
  intro a
  have : o + 64 ≤ 512 := inb 0
  fin_cases a
  · show o + 64 ≤ 512; omega
  · show h + 128 ≤ 512; exact hh

/-- A head's rows lie in the mixed rows' scratch. -/
theorem mix_inb (o h : ℕ) (inb : ∀ a, (![o, 0] : Fin 2 → ℕ) a + S64x512.size a ≤ S512x512.size a) (hh : h + 128 ≤ 512) :
    ∀ a, (![o, h] : Fin 2 → ℕ) a + S64x128.size a ≤ S512x1024.size a := by
  intro a
  have : o + 64 ≤ 512 := inb 0
  fin_cases a
  · show o + 64 ≤ 512; omega
  · show h + 128 ≤ 1024; omega

/-- The heads' rows of a later chunk, of the state's stores before it. -/
def laterHeads (o : ℕ) (inb : ∀ a, (![o, 0] : Fin 2 → ℕ) a + S64x512.size a ≤ S512x512.size a) (L : List (View.Piece (Elt Ideal) S4x128x128 .f32))
    (M : List (View.Piece (Elt Ideal) S512x1024 .bf16)) : List (View.Piece (Elt Ideal) S512x1024 .bf16) :=
  headPiece m c t o 384 inb slices_S64x512_o0_384_S64x128 (head_inb o 384 inb (by decide)) (mix_inb o 384 inb (by decide)) (headOf (upto m c t o inb (upto m c t o inb (upto m c t o inb L 0 inb_S4x128x128_S1x128x128_0_0_0 0 slices_S1x512_o0_0_S1x128 slices_S64x512_o0_0_S64x128) 1 inb_S4x128x128_S1x128x128_1_0_0 128 slices_S1x512_o0_128_S1x128 slices_S64x512_o0_128_S64x128) 2 inb_S4x128x128_S1x128x128_2_0_0 256 slices_S1x512_o0_256_S1x128 slices_S64x512_o0_256_S64x128) 3 inb_S4x128x128_S1x128x128_3_0_0) ::
    headPiece m c t o 256 inb slices_S64x512_o0_256_S64x128 (head_inb o 256 inb (by decide)) (mix_inb o 256 inb (by decide)) (headOf (upto m c t o inb (upto m c t o inb L 0 inb_S4x128x128_S1x128x128_0_0_0 0 slices_S1x512_o0_0_S1x128 slices_S64x512_o0_0_S64x128) 1 inb_S4x128x128_S1x128x128_1_0_0 128 slices_S1x512_o0_128_S1x128 slices_S64x512_o0_128_S64x128) 2 inb_S4x128x128_S1x128x128_2_0_0) ::
    headPiece m c t o 128 inb slices_S64x512_o0_128_S64x128 (head_inb o 128 inb (by decide)) (mix_inb o 128 inb (by decide)) (headOf (upto m c t o inb L 0 inb_S4x128x128_S1x128x128_0_0_0 0 slices_S1x512_o0_0_S1x128 slices_S64x512_o0_0_S64x128) 1 inb_S4x128x128_S1x128x128_1_0_0) ::
    headPiece m c t o 0 inb slices_S64x512_o0_0_S64x128 (head_inb o 0 inb (by decide)) (mix_inb o 0 inb (by decide)) (headOf L 0 inb_S4x128x128_S1x128x128_0_0_0) :: M

/-- The heads' rows of the first 2 chunks. -/
def heads2 : List (View.Piece (Elt Ideal) S512x1024 .bf16) := laterHeads m c t 64 inb_S512x512_S64x512_64_0 (after1 m c t p) (firstHeads m c t p)

/-- The heads' rows of the first 3 chunks. -/
def heads3 : List (View.Piece (Elt Ideal) S512x1024 .bf16) := laterHeads m c t 128 inb_S512x512_S64x512_128_0 (after2 m c t p) (heads2 m c t p)

/-- The heads' rows of the first 4 chunks. -/
def heads4 : List (View.Piece (Elt Ideal) S512x1024 .bf16) := laterHeads m c t 192 inb_S512x512_S64x512_192_0 (after3 m c t p) (heads3 m c t p)

/-- The heads' rows of the first 5 chunks. -/
def heads5 : List (View.Piece (Elt Ideal) S512x1024 .bf16) := laterHeads m c t 256 inb_S512x512_S64x512_256_0 (after4 m c t p) (heads4 m c t p)

/-- The heads' rows of the first 6 chunks. -/
def heads6 : List (View.Piece (Elt Ideal) S512x1024 .bf16) := laterHeads m c t 320 inb_S512x512_S64x512_320_0 (after5 m c t p) (heads5 m c t p)

/-- The heads' rows of the first 7 chunks. -/
def heads7 : List (View.Piece (Elt Ideal) S512x1024 .bf16) := laterHeads m c t 384 inb_S512x512_S64x512_384_0 (after6 m c t p) (heads6 m c t p)

/-- The heads' rows of the first 8 chunks. -/
def heads8 : List (View.Piece (Elt Ideal) S512x1024 .bf16) := laterHeads m c t 448 inb_S512x512_S64x512_448_0 (after7 m c t p) (heads7 m c t p)

/-- The body's stores into the convolution scratch are these. -/
theorem carried_eq : (Frame.pointRun m c t p).2.2.2.2.1 = convCarried m c t := by sl_kernel_rfl

end Cert.KernelIdeal.Point

end
-- ==== Proof.GroupMats.lean ====
module

public import proofs.«01_k».proof.Proof.Gen.KernelIdeal.Frame
public import proofs.«01_k».proof.Proof.GroupNorm

@[expose] public section

set_option maxRecDepth 16384

noncomputable section

/-! The two group matrices the program builds before its call, by element. -/

namespace Cert.KernelIdeal.Layer

open Cert.KernelIdeal Cert.KernelIdeal.Gen Cert.LayerSpec
open Idealize.ShloMosaic Idealize.ShloMosaic.TcCoe Idealize.ShloMosaic.ValueIdx Idealize.ShloMosaic.StableHlo

variable (m : (b : Loc nD τ sig) → Buf (Elt Ideal) b) (c : Dev nD)

/-- A whole number on every place. -/
abbrev every (b : BitVec 32) : IVec S256 32 := broadcastInDim S256 ![] bcast_S_S256 (constantI S_ 32 b)

/-- The place's number. -/
abbrev place : IVec S256 32 := iotaInDim S256 32 0

/-- The place's group: its number divided by 64, rounded down. -/
abbrev group : IVec S256 32 :=
  select (andi (cmpi .ne (signi place) (broadcastInDim S256 ![] bcast_S_S256 (signi (constantI S_ 32 64#32)))) (cmpi .ne (Host.remsi place (every 64#32)) (every 0#32)))
    (subi (Host.divsi place (every 64#32)) (every 1#32)) (Host.divsi place (every 64#32))

/-- The group's number. -/
theorem group_eq : ∀ a : Fin 256, group (ix1 a) = BitVec.ofNat 32 (a.val / 64) := by decide +kernel

/-- Whether the row is the first of the column's group. -/
abbrev isFirst : IVec S256x256 1 :=
  cmpi .eq (broadcastInDim S256x256 ![0, 1] bcast_S256x1_S256x256_0_1 (broadcastInDim S256x1 ![0] bcast_S256_S256x1_0 place))
    (broadcastInDim S256x256 ![0, 1] bcast_S1x256_S256x256_0_1 (muli (broadcastInDim S1x256 ![1] bcast_S256_S1x256_1 group)
      (broadcastInDim S1x256 ![] bcast_S_S1x256 (constantI S_ 32 64#32))))

/-- Whether the row and the column are of one group. -/
abbrev isSame : IVec S256x256 1 :=
  cmpi .eq (broadcastInDim S256x256 ![0, 1] bcast_S256x1_S256x256_0_1 (broadcastInDim S256x1 ![0] bcast_S256_S256x1_0 group))
    (broadcastInDim S256x256 ![0, 1] bcast_S1x256_S256x256_0_1 (broadcastInDim S1x256 ![1] bcast_S256_S1x256_1 group))

/-- A matrix of one number where a condition holds, zeros elsewhere. -/
abbrev marked (b : IVec S256x256 1) (w : BitVec 32) : FVec Ideal S256x256 .f32 :=
  select b (broadcastInDim S256x256 ![] bcast_S_S256x256 (constant (F := Ideal) S_ .f32 w)) (broadcastInDim S256x256 ![] bcast_S_S256x256 (constant (F := Ideal) S_ .f32 0x00000000#32))

/-- The two matrices, one above the other. -/
abbrev stacked : FVec Ideal S2x256x256 .f32 :=
  (concatenate S2x256x256 0 [⟨S1x256x256, broadcastInDim S1x256x256 ![1, 2] bcast_S256x256_S1x256x256_1_2 (marked isFirst 0x3F800000#32)⟩,
    ⟨S1x256x256, broadcastInDim S1x256x256 ![1, 2] bcast_S256x256_S1x256x256_1_2 (marked isSame 0x3C800000#32)⟩] concatenates_S1x256x256_S1x256x256_S2x256x256_d0)

/-- The two matrices as the call takes them. -/
abbrev bothMats : FVec Ideal S2x256x256 .bf16 := truncf .bf16 stacked bitsLt_bf16_f32

/-- What the call's matrix operand holds. -/
theorem V_mats : (V m c main_v20 : Vec Ideal S2x256x256 .bf16) = bothMats := by sl_kernel_rfl

/-- The comparison of two whole numbers. -/
theorem cmpi_iff (x y : BitVec 32) : IntOp.cmpi .eq x y = 1#1 ↔ x = y := by
  show BitVec.ofBool (x == y) = 1#1 ↔ x = y
  rw [← beq_iff_eq (a := x)]
  cases (x == y) <;> decide

/-- Which rows are first of the column's group. -/
theorem isFirst_iff (a b : Fin 256) : isFirst (ix2 a b) = 1#1 ↔ a.val = b.val / 64 * 64 := by
  have e : isFirst (ix2 a b) = IntOp.cmpi .eq (BitVec.ofNat 32 a.val) (group (ix1 b) * 64#32) := rfl
  have ha := a.isLt
  have hb := b.isLt
  rw [e, group_eq b]
  have h : BitVec.ofNat 32 (b.val / 64) * 64#32 = BitVec.ofNat 32 (b.val / 64 * 64) := by
    apply BitVec.eq_of_toNat_eq
    simp [BitVec.toNat_mul, BitVec.toNat_ofNat]
  rw [h]
  have k : (BitVec.ofNat 32 a.val = BitVec.ofNat 32 (b.val / 64 * 64)) ↔ a.val = b.val / 64 * 64 := by
    constructor
    · intro h
      have := congrArg BitVec.toNat h
      rw [BitVec.toNat_ofNat, BitVec.toNat_ofNat, Nat.mod_eq_of_lt (by omega), Nat.mod_eq_of_lt (by omega)] at this
      exact this
    · exact fun h => congrArg _ h
  exact (cmpi_iff _ _).trans k

/-- Which rows and columns are of one group. -/
theorem isSame_iff (a b : Fin 256) : isSame (ix2 a b) = 1#1 ↔ a.val / 64 = b.val / 64 := by
  have e : isSame (ix2 a b) = IntOp.cmpi .eq (group (ix1 a)) (group (ix1 b)) := rfl
  have ha := a.isLt
  have hb := b.isLt
  rw [e, group_eq a, group_eq b]
  have k : (BitVec.ofNat 32 (a.val / 64) = BitVec.ofNat 32 (b.val / 64)) ↔ a.val / 64 = b.val / 64 := by
    constructor
    · intro h
      have := congrArg BitVec.toNat h
      rw [BitVec.toNat_ofNat, BitVec.toNat_ofNat, Nat.mod_eq_of_lt (by omega), Nat.mod_eq_of_lt (by omega)] at this
      exact this
    · exact fun h => congrArg _ h
  exact (cmpi_iff _ _).trans k

/-- The number one, as the program spells it. -/
theorem one_bits : Ideal.ofBits .f32 0x3F800000#32 = 1 := by
  exact Ideal.ofBits_one_f32

/-- A 64th, as the program spells it. -/
theorem part_bits : Ideal.ofBits .f32 0x3C800000#32 = part := by
  unfold part
  simp [Ideal.ofBits, Ideal.ieee]
  rw [← EReal.coe_mul]
  norm_num

/-- The first matrix picks a group's first value. -/
theorem V_first (a b : Fin 256) : (V m c main_v20 : Vec Ideal S2x256x256 .bf16) (ix3 0 a b) = pick a.val b.val := by
  rw [V_mats]
  show stacked (ix3 0 a b) = _
  refine (concatenate_pair_apply_left (t := S2x256x256) (s₁ := S1x256x256) (s₂ := S1x256x256) 0 _ _ _ (ix3 0 a b) rfl (ix3 0 a b) (fun k => by fin_cases k <;> rfl)).trans ?_
  show (if isFirst (ix2 a b) = 1#1 then Ideal.ofBits .f32 0x3F800000#32 else Ideal.ofBits .f32 0x00000000#32) = _
  unfold pick
  rw [one_bits, Ideal.ofBits_zero_f32]
  by_cases h : a.val = b.val / 64 * 64
  · rw [if_pos h, if_pos ((isFirst_iff a b).mpr h)]
  · rw [if_neg h, if_neg fun h' => h ((isFirst_iff a b).mp h')]

/-- The second matrix averages within groups. -/
theorem V_second (a b : Fin 256) : (V m c main_v20 : Vec Ideal S2x256x256 .bf16) (ix3 1 a b) = average a.val b.val := by
  rw [V_mats]
  show stacked (ix3 1 a b) = _
  refine (concatenate_pair_apply_right (t := S2x256x256) (s₁ := S1x256x256) (s₂ := S1x256x256) 0 _ _ _ (ix3 1 a b) rfl rfl (ix3 0 a b) ?_ ?_).trans ?_
  · intro k hk
    fin_cases k
    · exact absurd rfl hk
    · rfl
    · rfl
  · rfl
  show (if isSame (ix2 a b) = 1#1 then Ideal.ofBits .f32 0x3C800000#32 else Ideal.ofBits .f32 0x00000000#32) = _
  unfold average
  rw [part_bits, Ideal.ofBits_zero_f32]
  by_cases h : a.val / 64 = b.val / 64
  · rw [if_pos h, if_pos ((isSame_iff a b).mpr h)]
  · rw [if_neg h, if_neg fun h' => h ((isSame_iff a b).mp h')]

end Cert.KernelIdeal.Layer

end
-- ==== Proof.LayerReads.lean ====
module

public import proofs.«01_k».proof.Proof.LayerPoint
public import proofs.«01_k».proof.Proof.GroupMats
public import proofs.«01_k».proof.Proof.Reads

@[expose] public section

set_option maxRecDepth 16384

noncomputable section

/-! What the layer's operands hold of the arguments at a grid point. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N)

/-- The rest of the arguments as the kernel is launched with them. -/
def B : LayerSpec.Rest :=
  LayerSpec.rest (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- Window 5's block is the whole array. -/
theorem index_5 : ∀ t : Fin cfg0.N, win0_5.index t = ![0, 0] := by decide +kernel

/-- The block of window 5. -/
theorem block_5 (a : Fin 1) (k : Fin 128) : (iblk m c 5 t : Vec Ideal S1x128 .f32) (ix2 a k) = (B m c).hg a.val k.val := by
  show iblk m c 5 t (ix2 a k) = _
  blk_simp [iblk]
  rw [V_main_arg5]
  refine rd2_eq _ _ _ _ ?_ ?_ <;> blk_simp [index_5 t]

/-- A part of window 5. -/
theorem headGain_apply (inb) (k : Fin 128) : headGain m c t inb (ix2 0 k) = (B m c).hg 0 k.val := by
  refine (read_part _ _ _ (Rect.unit (s := S1x128) ![0, 0] S1x128.size inb) (ix2 0 k) (ix2 0 k) fun b => ?_).trans (block_5 m c t 0 k)
  fin_cases b
  · show 0 = 0 + 1 * 0; omega
  · show k.val = 0 + 1 * k.val; omega

/-- Window 6's block is the whole array. -/
theorem index_6 : ∀ t : Fin cfg0.N, win0_6.index t = ![0, 0] := by decide +kernel

/-- The block of window 6. -/
theorem block_6 (a : Fin 31) (k : Fin 512) : (iblk m c 6 t : Vec Ideal S31x512 .f32) (ix2 a k) = (B m c).cw a.val k.val := by
  show iblk m c 6 t (ix2 a k) = _
  blk_simp [iblk]
  rw [V_main_arg6]
  refine rd2_eq _ _ _ _ ?_ ?_ <;> blk_simp [index_6 t]

/-- A part of window 6. -/
theorem tapRow_apply (j o : ℕ) (inb) (k : Fin 128) : tapRow m c t j o inb (ix2 0 k) = (B m c).cw j (o + k.val) := by
  have hj : j < 31 := by have h : j + 1 ≤ 31 := inb 0; omega
  have ho : o + 128 ≤ 512 := inb 1
  refine (read_part _ _ _ (Rect.unit (s := S31x512) ![j, o] S1x128.size inb) (ix2 0 k) (ix2 ⟨j, hj⟩ ⟨o + k.val, by omega⟩) fun b => ?_).trans (block_6 m c t ⟨j, hj⟩ ⟨o + k.val, by omega⟩)
  fin_cases b
  · show j = j + 1 * 0; omega
  · show o + k.val = o + 1 * k.val; omega

/-- Window 7's block is the whole array. -/
theorem index_7 : ∀ t : Fin cfg0.N, win0_7.index t = ![0, 0] := by decide +kernel

/-- The block of window 7. -/
theorem block_7 (a : Fin 1) (k : Fin 512) : (iblk m c 7 t : Vec Ideal S1x512 .f32) (ix2 a k) = (B m c).cb a.val k.val := by
  show iblk m c 7 t (ix2 a k) = _
  blk_simp [iblk]
  rw [V_main_arg7]
  refine rd2_eq _ _ _ _ ?_ ?_ <;> blk_simp [index_7 t]

/-- A part of window 7. -/
theorem convBias_apply (o : ℕ) (inb) (k : Fin 128) : convBias m c t o inb (ix2 0 k) = (B m c).cb 0 (o + k.val) := by
  have ho : o + 128 ≤ 512 := inb 1
  refine (read_part _ _ _ (Rect.unit (s := S1x512) ![0, o] S1x128.size inb) (ix2 0 k) (ix2 0 ⟨o + k.val, by omega⟩) fun b => ?_).trans (block_7 m c t 0 ⟨o + k.val, by omega⟩)
  fin_cases b
  · show 0 = 0 + 1 * 0; omega
  · show o + k.val = o + 1 * k.val; omega

/-- Window 8's block is the whole array. -/
theorem index_8 : ∀ t : Fin cfg0.N, win0_8.index t = ![0, 0] := by decide +kernel

/-- The block of window 8. -/
theorem block_8 (a : Fin 1) (k : Fin 512) : (iblk m c 8 t : Vec Ideal S1x512 .f32) (ix2 a k) = (B m c).gg a.val k.val := by
  show iblk m c 8 t (ix2 a k) = _
  blk_simp [iblk]
  rw [V_main_arg8]
  refine rd2_eq _ _ _ _ ?_ ?_ <;> blk_simp [index_8 t]

/-- A part of window 8. -/
theorem groupGain_apply (inb) (k : Fin 512) : groupGain m c t inb (ix2 0 k) = (B m c).gg 0 k.val := by
  refine (read_part _ _ _ (Rect.unit (s := S1x512) ![0, 0] S1x512.size inb) (ix2 0 k) (ix2 0 k) fun b => ?_).trans (block_8 m c t 0 k)
  fin_cases b
  · show 0 = 0 + 1 * 0; omega
  · show k.val = 0 + 1 * k.val; omega

/-- Window 9's block is the whole array. -/
theorem index_9 : ∀ t : Fin cfg0.N, win0_9.index t = ![0, 0] := by decide +kernel

/-- The block of window 9. -/
theorem block_9 (a : Fin 1) (k : Fin 512) : (iblk m c 9 t : Vec Ideal S1x512 .f32) (ix2 a k) = (B m c).gb a.val k.val := by
  show iblk m c 9 t (ix2 a k) = _
  blk_simp [iblk]
  rw [V_main_arg9]
  refine rd2_eq _ _ _ _ ?_ ?_ <;> blk_simp [index_9 t]

/-- A part of window 9. -/
theorem groupBias_apply (inb) (k : Fin 512) : groupBias m c t inb (ix2 0 k) = (B m c).gb 0 k.val := by
  refine (read_part _ _ _ (Rect.unit (s := S1x512) ![0, 0] S1x512.size inb) (ix2 0 k) (ix2 0 k) fun b => ?_).trans (block_9 m c t 0 k)
  fin_cases b
  · show 0 = 0 + 1 * 0; omega
  · show k.val = 0 + 1 * k.val; omega

/-- Window 11's block is the whole array. -/
theorem index_11 : ∀ t : Fin cfg0.N, win0_11.index t = ![0, 0] := by decide +kernel

/-- The block of window 11. -/
theorem block_11 (a : Fin 1024) (k : Fin 1024) : (iblk m c 11 t : Vec Ideal S1024x1024 .bf16) (ix2 a k) = (B m c).wo a.val k.val := by
  show iblk m c 11 t (ix2 a k) = _
  blk_simp [iblk]
  rw [V_main_arg10]
  refine rd2_eq _ _ _ _ ?_ ?_ <;> blk_simp [index_11 t]

/-- A part of window 11. -/
theorem outWeights_apply (inb) (a : Fin 1024) (k : Fin 1024) : outWeights m c t inb (ix2 a k) = (B m c).wo a.val k.val := by
  refine (read_part _ _ _ (Rect.unit (s := S1024x1024) ![0, 0] S1024x1024.size inb) (ix2 a k) (ix2 a k) fun b => ?_).trans (block_11 m c t a k)
  fin_cases b
  · show a.val = 0 + 1 * a.val; omega
  · show k.val = 0 + 1 * k.val; omega

/-- Window 12's block is the whole array. -/
theorem index_12 : ∀ t : Fin cfg0.N, win0_12.index t = ![0, 0] := by decide +kernel

/-- The block of window 12. -/
theorem block_12 (a : Fin 1) (k : Fin 1024) : (iblk m c 12 t : Vec Ideal S1x1024 .f32) (ix2 a k) = (B m c).bo a.val k.val := by
  show iblk m c 12 t (ix2 a k) = _
  blk_simp [iblk]
  rw [V_main_arg11]
  refine rd2_eq _ _ _ _ ?_ ?_ <;> blk_simp [index_12 t]

/-- A part of window 12. -/
theorem outBias_apply (inb) (k : Fin 1024) : outBias m c t inb (ix2 0 k) = (B m c).bo 0 k.val := by
  refine (read_part _ _ _ (Rect.unit (s := S1x1024) ![0, 0] S1x1024.size inb) (ix2 0 k) (ix2 0 k) fun b => ?_).trans (block_12 m c t 0 k)
  fin_cases b
  · show 0 = 0 + 1 * 0; omega
  · show k.val = 0 + 1 * k.val; omega

/-- Window 13's block is the whole array. -/
theorem index_13 : ∀ t : Fin cfg0.N, win0_13.index t = ![0, 0] := by decide +kernel

/-- The block of window 13. -/
theorem block_13 (a : Fin 1) (k : Fin 1024) : (iblk m c 13 t : Vec Ideal S1x1024 .f32) (ix2 a k) = (B m c).g1 a.val k.val := by
  show iblk m c 13 t (ix2 a k) = _
  blk_simp [iblk]
  rw [V_main_arg12]
  refine rd2_eq _ _ _ _ ?_ ?_ <;> blk_simp [index_13 t]

/-- A part of window 13. -/
theorem gain1_apply (inb) (k : Fin 1024) : gain1 m c t inb (ix2 0 k) = (B m c).g1 0 k.val := by
  refine (read_part _ _ _ (Rect.unit (s := S1x1024) ![0, 0] S1x1024.size inb) (ix2 0 k) (ix2 0 k) fun b => ?_).trans (block_13 m c t 0 k)
  fin_cases b
  · show 0 = 0 + 1 * 0; omega
  · show k.val = 0 + 1 * k.val; omega

/-- Window 14's block is the whole array. -/
theorem index_14 : ∀ t : Fin cfg0.N, win0_14.index t = ![0, 0] := by decide +kernel

/-- The block of window 14. -/
theorem block_14 (a : Fin 1) (k : Fin 1024) : (iblk m c 14 t : Vec Ideal S1x1024 .f32) (ix2 a k) = (B m c).b1 a.val k.val := by
  show iblk m c 14 t (ix2 a k) = _
  blk_simp [iblk]
  rw [V_main_arg13]
  refine rd2_eq _ _ _ _ ?_ ?_ <;> blk_simp [index_14 t]

/-- A part of window 14. -/
theorem bias1_apply (inb) (k : Fin 1024) : bias1 m c t inb (ix2 0 k) = (B m c).b1 0 k.val := by
  refine (read_part _ _ _ (Rect.unit (s := S1x1024) ![0, 0] S1x1024.size inb) (ix2 0 k) (ix2 0 k) fun b => ?_).trans (block_14 m c t 0 k)
  fin_cases b
  · show 0 = 0 + 1 * 0; omega
  · show k.val = 0 + 1 * k.val; omega

/-- Window 15's block is the whole array. -/
theorem index_15 : ∀ t : Fin cfg0.N, win0_15.index t = ![0, 0] := by decide +kernel

/-- The block of window 15. -/
theorem block_15 (a : Fin 1024) (k : Fin 4096) : (iblk m c 15 t : Vec Ideal S1024x4096 .bf16) (ix2 a k) = (B m c).wu a.val k.val := by
  show iblk m c 15 t (ix2 a k) = _
  blk_simp [iblk]
  rw [V_main_arg14]
  refine rd2_eq _ _ _ _ ?_ ?_ <;> blk_simp [index_15 t]

/-- A part of window 15. -/
theorem upWeights_apply (o : ℕ) (inb) (a : Fin 1024) (k : Fin 512) : upWeights m c t o inb (ix2 a k) = (B m c).wu a.val (o + k.val) := by
  have ho : o + 512 ≤ 4096 := inb 1
  refine (read_part _ _ _ (Rect.unit (s := S1024x4096) ![0, o] S1024x512.size inb) (ix2 a k) (ix2 a ⟨o + k.val, by omega⟩) fun b => ?_).trans (block_15 m c t a ⟨o + k.val, by omega⟩)
  fin_cases b
  · show a.val = 0 + 1 * a.val; omega
  · show o + k.val = o + 1 * k.val; omega

/-- Window 16's block is the whole array. -/
theorem index_16 : ∀ t : Fin cfg0.N, win0_16.index t = ![0, 0] := by decide +kernel

/-- The block of window 16. -/
theorem block_16 (a : Fin 1) (k : Fin 4096) : (iblk m c 16 t : Vec Ideal S1x4096 .f32) (ix2 a k) = (B m c).bu a.val k.val := by
  show iblk m c 16 t (ix2 a k) = _
  blk_simp [iblk]
  rw [V_main_arg15]
  refine rd2_eq _ _ _ _ ?_ ?_ <;> blk_simp [index_16 t]

/-- A part of window 16. -/
theorem upBias_apply (o : ℕ) (inb) (k : Fin 512) : upBias m c t o inb (ix2 0 k) = (B m c).bu 0 (o + k.val) := by
  have ho : o + 512 ≤ 4096 := inb 1
  refine (read_part _ _ _ (Rect.unit (s := S1x4096) ![0, o] S1x512.size inb) (ix2 0 k) (ix2 0 ⟨o + k.val, by omega⟩) fun b => ?_).trans (block_16 m c t 0 ⟨o + k.val, by omega⟩)
  fin_cases b
  · show 0 = 0 + 1 * 0; omega
  · show o + k.val = o + 1 * k.val; omega

/-- Window 17's block is the whole array. -/
theorem index_17 : ∀ t : Fin cfg0.N, win0_17.index t = ![0, 0] := by decide +kernel

/-- The block of window 17. -/
theorem block_17 (a : Fin 4096) (k : Fin 1024) : (iblk m c 17 t : Vec Ideal S4096x1024 .bf16) (ix2 a k) = (B m c).wd a.val k.val := by
  show iblk m c 17 t (ix2 a k) = _
  blk_simp [iblk]
  rw [V_main_arg16]
  refine rd2_eq _ _ _ _ ?_ ?_ <;> blk_simp [index_17 t]

/-- A part of window 17. -/
theorem downWeights_apply (o : ℕ) (inb) (a : Fin 4096) (k : Fin 256) : downWeights m c t o inb (ix2 a k) = (B m c).wd a.val (o + k.val) := by
  have ho : o + 256 ≤ 1024 := inb 1
  refine (read_part _ _ _ (Rect.unit (s := S4096x1024) ![0, o] S4096x256.size inb) (ix2 a k) (ix2 a ⟨o + k.val, by omega⟩) fun b => ?_).trans (block_17 m c t a ⟨o + k.val, by omega⟩)
  fin_cases b
  · show a.val = 0 + 1 * a.val; omega
  · show o + k.val = o + 1 * k.val; omega

/-- Window 18's block is the whole array. -/
theorem index_18 : ∀ t : Fin cfg0.N, win0_18.index t = ![0, 0] := by decide +kernel

/-- The block of window 18. -/
theorem block_18 (a : Fin 1) (k : Fin 1024) : (iblk m c 18 t : Vec Ideal S1x1024 .f32) (ix2 a k) = (B m c).bd a.val k.val := by
  show iblk m c 18 t (ix2 a k) = _
  blk_simp [iblk]
  rw [V_main_arg17]
  refine rd2_eq _ _ _ _ ?_ ?_ <;> blk_simp [index_18 t]

/-- A part of window 18. -/
theorem downBias_apply (o : ℕ) (inb) (k : Fin 256) : downBias m c t o inb (ix2 0 k) = (B m c).bd 0 (o + k.val) := by
  have ho : o + 256 ≤ 1024 := inb 1
  refine (read_part _ _ _ (Rect.unit (s := S1x1024) ![0, o] S1x256.size inb) (ix2 0 k) (ix2 0 ⟨o + k.val, by omega⟩) fun b => ?_).trans (block_18 m c t 0 ⟨o + k.val, by omega⟩)
  fin_cases b
  · show 0 = 0 + 1 * 0; omega
  · show o + k.val = o + 1 * k.val; omega

/-- Window 19's block is the whole array. -/
theorem index_19 : ∀ t : Fin cfg0.N, win0_19.index t = ![0, 0] := by decide +kernel

/-- The block of window 19. -/
theorem block_19 (a : Fin 1) (k : Fin 1024) : (iblk m c 19 t : Vec Ideal S1x1024 .f32) (ix2 a k) = (B m c).g2 a.val k.val := by
  show iblk m c 19 t (ix2 a k) = _
  blk_simp [iblk]
  rw [V_main_arg18]
  refine rd2_eq _ _ _ _ ?_ ?_ <;> blk_simp [index_19 t]

/-- A part of window 19. -/
theorem gain2_apply (inb) (k : Fin 1024) : gain2 m c t inb (ix2 0 k) = (B m c).g2 0 k.val := by
  refine (read_part _ _ _ (Rect.unit (s := S1x1024) ![0, 0] S1x1024.size inb) (ix2 0 k) (ix2 0 k) fun b => ?_).trans (block_19 m c t 0 k)
  fin_cases b
  · show 0 = 0 + 1 * 0; omega
  · show k.val = 0 + 1 * k.val; omega

/-- Window 20's block is the whole array. -/
theorem index_20 : ∀ t : Fin cfg0.N, win0_20.index t = ![0, 0] := by decide +kernel

/-- The block of window 20. -/
theorem block_20 (a : Fin 1) (k : Fin 1024) : (iblk m c 20 t : Vec Ideal S1x1024 .f32) (ix2 a k) = (B m c).b2 a.val k.val := by
  show iblk m c 20 t (ix2 a k) = _
  blk_simp [iblk]
  rw [V_main_arg19]
  refine rd2_eq _ _ _ _ ?_ ?_ <;> blk_simp [index_20 t]

/-- A part of window 20. -/
theorem bias2_apply (inb) (k : Fin 1024) : bias2 m c t inb (ix2 0 k) = (B m c).b2 0 k.val := by
  refine (read_part _ _ _ (Rect.unit (s := S1x1024) ![0, 0] S1x1024.size inb) (ix2 0 k) (ix2 0 k) fun b => ?_).trans (block_20 m c t 0 k)
  fin_cases b
  · show 0 = 0 + 1 * 0; omega
  · show k.val = 0 + 1 * k.val; omega

/-- Window 10's block is the whole array. -/
theorem index_10 : ∀ t : Fin cfg0.N, win0_10.index t = ![0, 0, 0] := by decide +kernel

/-- The block of window 10. -/
theorem block_10 (q : Fin 2) (a b : Fin 256) : (iblk m c 10 t : Vec Ideal S2x256x256 .bf16) (ix3 q a b) = (V m c main_v20 : Vec Ideal S2x256x256 .bf16) (ix3 q a b) := by
  show iblk m c 10 t (ix3 q a b) = _
  blk_simp [iblk]
  refine congrArg (V m c main_v20 : Vec Ideal S2x256x256 .bf16) (funext fun k => Fin.ext ?_)
  fin_cases k <;> blk_simp [index_10 t]

/-- A group matrix. -/
theorem groupMat_apply (q : ℕ) (hq : q < 2) (inb) (a b : Fin 256) : groupMat m c t q inb (ix3 0 a b) = (V m c main_v20 : Vec Ideal S2x256x256 .bf16) (ix3 ⟨q, hq⟩ a b) := by
  refine (read_part _ _ _ (Rect.unit (s := S2x256x256) ![q, 0, 0] S1x256x256.size inb) (ix3 0 a b) (ix3 ⟨q, hq⟩ a b) fun k => ?_).trans (block_10 m c t ⟨q, hq⟩ a b)
  fin_cases k
  · show q = q + 1 * 0; omega
  · show a.val = 0 + 1 * a.val; omega
  · show b.val = 0 + 1 * b.val; omega

/-- The first group matrix. -/
theorem groupMat_first (inb) (a b : Fin 256) : groupMat m c t 0 inb (ix3 0 a b) = pick a.val b.val := (groupMat_apply m c t 0 (by omega) inb a b).trans (V_first m c a b)

/-- The second group matrix. -/
theorem groupMat_second (inb) (a b : Fin 256) : groupMat m c t 1 inb (ix3 0 a b) = average a.val b.val := (groupMat_apply m c t 1 (by omega) inb a b).trans (V_second m c a b)

/-- Rows of the prompt's tile. -/
theorem xRows_apply (ht : t.val < 32) (o : ℕ) (inb) (r : Fin 64) (k : Fin 1024) : xRows m c t o inb (ix3 0 r k) = (A m c).x (t.val / 4) (512 * (t.val % 4) + (o + r.val)) k.val := by
  have ho : o + 64 ≤ 512 := inb 1
  refine (read_part _ _ _ (Rect.unit (s := S1x512x1024) ![0, o, 0] S1x64x1024.size inb) (ix3 0 r k) (ix3 0 ⟨o + r.val, by omega⟩ k) fun b => ?_).trans (block_x m c t ht ⟨o + r.val, by omega⟩ k)
  fin_cases b
  · rfl
  · show o + r.val = o + 1 * r.val; omega
  · show k.val = 0 + 1 * k.val; omega

/-- A row of the modulation, by its place. -/
theorem modRow_apply (off : Fin 3 → ℕ) (inb) (n : Fin 8) (a : Fin 6) (h : off = ![n.val, a.val, 0]) (k : Fin 1024) : modRow m c t off inb (ix2 0 k) = (A m c).md n.val a.val k.val := by
  subst h
  unfold modRow
  refine (shapeCast_apply _ shapeCasts_S1x1x1024_S1x1024 (ix2 0 k) (ix3 0 0 k) ?_).trans ?_
  · rw [Shape.rowMajor_val_two, Shape.rowMajor_val_three]
    show (0 * 1 + 0) * 1024 + k.val = 0 * 1024 + k.val
    omega
  refine (read_part _ _ _ (Rect.unit (s := S8x6x1024) ![n.val, a.val, 0] S1x1x1024.size inb) (ix3 0 0 k) (ix3 n a k) fun b => ?_).trans (block_md m c t n a k)
  fin_cases b
  · show n.val = n.val + 1 * 0; omega
  · show a.val = a.val + 1 * 0; omega
  · show k.val = 0 + 1 * k.val; omega

/-- The sequence of the tile before. -/
theorem shift2_off : ∀ t : Fin cfg0.N, k0_off1 (grid0.coords t) = ![(t.val - 1) / 4, 3, 0] := by decide +kernel
/-- The scale row of the tile before's sequence. -/
theorem scale2_off : ∀ t : Fin cfg0.N, k0_off2 (grid0.coords t) = ![(t.val - 1) / 4, 4, 0] := by decide +kernel
/-- The gate row of the tile's sequence. -/
theorem gate1_off : ∀ t : Fin cfg0.N, t.val < 32 → k0_off5 (grid0.coords t) = ![t.val / 4, 2, 0] := by decide +kernel
/-- The gate row of the tile before's sequence. -/
theorem gate2_off : ∀ t : Fin cfg0.N, k0_off6 (grid0.coords t) = ![(t.val - 1) / 4, 5, 0] := by decide +kernel
/-- The row scratch is cleared at the first point. -/
theorem start_iff : ∀ t : Fin cfg0.N, (Body.bodyRun.sl.v49 (grid0.coords t) = 1#1 ↔ t.val = 0) := by decide +kernel

end Cert.KernelIdeal.Point

end
-- ==== Proof.Tiles.lean ====
module

public import proofs.«01_k».proof.Proof.Chunk
public import Idealize.ShloMosaic.Lib.WritesUnit

@[expose] public section

set_option maxRecDepth 16384

noncomputable section

/-! A store of a rectangle leaves its values there and what the earlier stores left elsewhere. -/

namespace Cert.KernelIdeal.Chunk

open Cert.KernelIdeal Cert.KernelIdeal.Gen
open Idealize.ShloMosaic Idealize.ShloMosaic.TcCoe Idealize.ShloMosaic.ValueIdx

/-- A store of a rectangle of a matrix, read at an index. -/
theorem rect_step {N M : ℕ} {e : EltTy} (o h k n : ℕ) (inb : ∀ a, (![o, h] : Fin 2 → ℕ) a + (⟨2, ![k, n]⟩ : Shape).size a ≤ (⟨2, ![N, M]⟩ : Shape).size a)
    (w : Vec Ideal ⟨2, ![k, n]⟩ e) (L : List (View.Piece (Elt Ideal) ⟨2, ![N, M]⟩ e)) (G : ℕ → ℕ → Elt Ideal e)
    (hw : ∀ (r : Fin k) (j : Fin n), w (ix2 r j) = G (o + r.val) (h + j.val)) (y : (⟨2, ![N, M]⟩ : Shape).Idx)
    (hL : ¬ ((o ≤ (y 0).val ∧ (y 0).val < o + k) ∧ (h ≤ (y 1).val ∧ (y 1).val < h + n)) → View.canon L y = G (y 0).val (y 1).val) :
    View.canon ((⟨Rect.unit (s := ⟨2, ![N, M]⟩) ![o, h] (⟨2, ![k, n]⟩ : Shape).size inb, w⟩ : View.Piece (Elt Ideal) ⟨2, ![N, M]⟩ e) :: L) y = G (y 0).val (y 1).val := by
  by_cases c : (o ≤ (y 0).val ∧ (y 0).val < o + k) ∧ (h ≤ (y 1).val ∧ (y 1).val < h + n)
  · obtain ⟨⟨h1, h2⟩, h3, h4⟩ := c
    refine (canon_at (Rect.unit (s := ⟨2, ![N, M]⟩) ![o, h] (⟨2, ![k, n]⟩ : Shape).size inb) w L
      (ix2 (⟨(y 0).val - o, by omega⟩ : Fin k) (⟨(y 1).val - h, by omega⟩ : Fin n)) y fun a => ?_).trans ((hw _ _).trans ?_)
    · fin_cases a
      · show (y 0).val = o + 1 * ((y 0).val - o); omega
      · show (y 1).val = h + 1 * ((y 1).val - h); omega
    · show G (o + ((y 0).val - o)) (h + ((y 1).val - h)) = _
      rw [Nat.add_sub_cancel' h1, Nat.add_sub_cancel' h3]
  · refine (View.canon_cons_of_not_mem _ _ fun hm => c ?_).trans (hL c)
    have m := Rect.mem_set_unit (s := ⟨2, ![N, M]⟩) (off := ![o, h]) (size := (⟨2, ![k, n]⟩ : Shape).size) (inb := inb) |>.mp hm
    exact ⟨m 0, m 1⟩

/-- A store of whole rows of a one-sheet array, read at an index. -/
theorem sheet_step {N M : ℕ} {e : EltTy} (o k : ℕ) (inb : ∀ a, (![0, o, 0] : Fin 3 → ℕ) a + (⟨3, ![1, k, M]⟩ : Shape).size a ≤ (⟨3, ![1, N, M]⟩ : Shape).size a)
    (w : Vec Ideal ⟨3, ![1, k, M]⟩ e) (L : List (View.Piece (Elt Ideal) ⟨3, ![1, N, M]⟩ e)) (G : ℕ → ℕ → Elt Ideal e)
    (hw : ∀ (r : Fin k) (j : Fin M), w (ix3 0 r j) = G (o + r.val) j.val) (y : (⟨3, ![1, N, M]⟩ : Shape).Idx)
    (hL : ¬ (o ≤ (y 1).val ∧ (y 1).val < o + k) → View.canon L y = G (y 1).val (y 2).val) :
    View.canon ((⟨Rect.unit (s := ⟨3, ![1, N, M]⟩) ![0, o, 0] (⟨3, ![1, k, M]⟩ : Shape).size inb, w⟩ : View.Piece (Elt Ideal) ⟨3, ![1, N, M]⟩ e) :: L) y = G (y 1).val (y 2).val := by
  have h0 : (y 0).val < 1 := (y 0).isLt
  have h2' : (y 2).val < M := (y 2).isLt
  by_cases c : o ≤ (y 1).val ∧ (y 1).val < o + k
  · obtain ⟨h1, h2⟩ := c
    refine (canon_at (Rect.unit (s := ⟨3, ![1, N, M]⟩) ![0, o, 0] (⟨3, ![1, k, M]⟩ : Shape).size inb) w L
      (ix3 (0 : Fin 1) (⟨(y 1).val - o, by omega⟩ : Fin k) (⟨(y 2).val, h2'⟩ : Fin M)) y fun a => ?_).trans ((hw _ _).trans ?_)
    · fin_cases a
      · show (y 0).val = 0 + 1 * 0; omega
      · show (y 1).val = o + 1 * ((y 1).val - o); omega
      · show (y 2).val = 0 + 1 * (y 2).val; omega
    · show G (o + ((y 1).val - o)) (y 2).val = _
      rw [Nat.add_sub_cancel' h1]
  · refine (View.canon_cons_of_not_mem _ _ fun hm => c ?_).trans (hL c)
    have m := Rect.mem_set_unit (s := ⟨3, ![1, N, M]⟩) (off := ![0, o, 0]) (size := (⟨3, ![1, k, M]⟩ : Shape).size) (inb := inb) |>.mp hm
    exact m 1

end Cert.KernelIdeal.Chunk

end
-- ==== Proof.ConvPoint.lean ====
module

public import proofs.«01_k».proof.Proof.LayerReads
public import proofs.«01_k».proof.Proof.Tiles

@[expose] public section

set_option maxRecDepth 16384

noncomputable section

/-! The tile's convolution: its scratch, the moved rows and their weighted sums, each read at an index. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- A channel's group. -/
theorem group_of (a : ℕ) (k : Fin 64) : (64 * a + k.val) / 64 = a := by omega

/-- Row `a` of the convolution scratch at the tile: the two rows before the window, then the window. -/
def win (a j : ℕ) : EReal := LayerSpec.full (A m c) (t.val / 4) (512 * (t.val % 4) + a - 2) j

/-- A row past the first 32 is one of the tile's own. -/
theorem win_own (ht : t.val < 32) (a : ℕ) (ha : 32 ≤ a) (h : a - 32 < 512) (j : Fin 512) : gated m c t (ix2 ⟨a - 32, h⟩ j) = win m c t a j.val := by
  refine (gated_apply m c t ht _ _).trans ?_
  unfold win LayerSpec.full
  rw [if_neg (by omega)]
  show u _ _ (512 * (t.val % 4) + (a - 32)) _ = _
  rw [show 512 * (t.val % 4) + a - 2 - 30 = 512 * (t.val % 4) + (a - 32) by omega]

section
variable (ht : t.val < 32) (hU : ∀ (r : Fin 544) (j : Fin 512), r.val < 32 → (if Body.bodyRun.sl.v52 (grid0.coords t) = 1#1 then (0 : EReal) else p.2.1 (ix2 r j)) = win m c t r.val j.val)

include ht hU in
/-- A part of the convolution scratch, read at an index. -/
theorem convRead_apply (n r o : ℕ) (inb) (a : Fin n) (j : Fin 128) : convRead m c t p n r o inb (ix2 a j) = win m c t (r + a.val) (o + j.val) := by
  have h0 : r + n ≤ 544 := inb 0
  have h1 : o + 128 ≤ 512 := inb 1
  have ha := a.isLt
  have hj := j.isLt
  unfold convRead
  rw [View.readAt_apply]
  refine (congrArg ((Memref.whole cc0_scratch5).view.read (Elt Ideal) _) (show _ = ix2 (⟨r + a.val, by omega⟩ : Fin 544) (⟨o + j.val, by omega⟩ : Fin 512) from funext fun q => Fin.ext ?_)).trans ?_
  · fin_cases q
    · show r + 1 * a.val = r + a.val; omega
    · show o + 1 * j.val = o + j.val; omega
  unfold convRows
  by_cases hr : 32 ≤ r + a.val
  · refine (View.read_writes_cons_unit_of_mem (Memref.whole cc0_scratch5).view _ inb_S544x512_S512x512_32_0 _ [] _
      (ix2 (⟨r + a.val - 32, by omega⟩ : Fin 512) (⟨o + j.val, by omega⟩ : Fin 512)) rfl fun q => ?_).trans (win_own m c t ht (r + a.val) hr (by omega) ⟨o + j.val, by omega⟩)
    fin_cases q
    · show r + a.val = 32 + (r + a.val - 32); omega
    · show o + j.val = 0 + (o + j.val); omega
  · refine (View.read_writes_cons_unit_of_not_mem (Memref.whole cc0_scratch5).view _ inb_S544x512_S512x512_32_0 _ [] _ rfl 0 (.inl ?_)).trans ?_
    · show r + a.val < 32; omega
    have hu := hU ⟨r + a.val, by omega⟩ ⟨o + j.val, by omega⟩ (by show r + a.val < 32; omega)
    refine Eq.trans ?_ hu
    rw [View.writes_nil]
    by_cases hc : Body.bodyRun.sl.v52 (grid0.coords t) = 1#1
    · rw [dif_pos hc, if_pos hc]
      refine (View.read_writes_cons_unit_of_mem (Memref.whole cc0_scratch5).view _ inb_S544x512_S32x512_0_0 _ [] _
        (ix2 (⟨r + a.val, by omega⟩ : Fin 32) (⟨o + j.val, by omega⟩ : Fin 512)) rfl fun q => ?_).trans ?_
      · fin_cases q
        · show r + a.val = 0 + (r + a.val); omega
        · show o + j.val = 0 + (o + j.val); omega
      · unfold k0_pay9
        rw [shapeCast_self]
        exact Ideal.ofBits_zero_f32
    · rw [dif_neg hc, if_neg hc]
      exact congrFun ((Memref.isWhole_whole cc0_scratch5).read_unread _) _

include ht in
/-- A part of the tile's own rows, read at an index. -/
theorem convOwn_apply (r o : ℕ) (hr : 32 ≤ r) (inb) (a : Fin 160) (j : Fin 128) : convOwn m c t r o inb (ix2 a j) = win m c t (r + a.val) (o + j.val) := by
  have h0 : r + 160 ≤ 544 := inb 0
  have h1 : o + 128 ≤ 512 := inb 1
  have ha := a.isLt
  have hj := j.isLt
  refine (readCov_at _ _ (Rect.unit (s := S544x512) ![r, o] (⟨2, ![160, 128]⟩ : Shape).size inb) (ix2 a j) (ix2 (⟨r + a.val, by omega⟩ : Fin 544) (⟨o + j.val, by omega⟩ : Fin 512)) fun q => ?_).trans ?_
  · fin_cases q
    · show r + a.val = r + 1 * a.val; omega
    · show o + j.val = o + 1 * j.val; omega
  refine (canon_at (Rect.unit (s := S544x512) ![32, 0] S512x512.size inb_S544x512_S512x512_32_0) _ _
    (ix2 (⟨r + a.val - 32, by omega⟩ : Fin 512) (⟨o + j.val, by omega⟩ : Fin 512)) _ fun q => ?_).trans (win_own m c t ht (r + a.val) (by omega) (by omega) ⟨o + j.val, by omega⟩)
  fin_cases q
  · show r + a.val = 32 + 1 * (r + a.val - 32); omega
  · show o + j.val = 0 + 1 * (o + j.val); omega

include ht hU in
/-- A block's store of moved rows, read at an index. -/
theorem shift_step (o q : ℕ) (inb) (inb') (L : List (View.Piece (Elt Ideal) S7x536x128 .f32)) (y : S7x536x128.Idx)
    (hL : (y 0).val ≠ q → View.canon L y = win m c t ((y 0).val + 1 + (y 1).val) (o + (y 2).val)) :
    View.canon (shiftPiece m c t p o q inb inb' :: L) y = win m c t ((y 0).val + 1 + (y 1).val) (o + (y 2).val) := by
  by_cases e : (y 0).val = q
  · refine (canon_at (Rect.unit (s := S7x536x128) ![q, 0, 0] S1x536x128.size inb) _ L (ix3 0 (y 1) (y 2)) y fun a => ?_).trans ?_
    · fin_cases a
      · show (y 0).val = q + 1 * 0; omega
      · show (y 1).val = 0 + 1 * (y 1).val; omega
      · show (y 2).val = 0 + 1 * (y 2).val; omega
    refine (shapeCast_apply _ shapeCasts_S536x128_S1x536x128 (ix3 0 (y 1) (y 2)) (ix2 (y 1) (y 2)) ?_).trans ?_
    · rw [Shape.rowMajor_val_two, Shape.rowMajor_val_three]
      show (y 1).val * 128 + (y 2).val = (0 * 536 + (y 1).val) * 128 + (y 2).val
      omega
    rw [e]
    exact convRead_apply m c t p ht hU 536 (q + 1) o inb' (y 1) (y 2)
  · refine (View.canon_cons_of_not_mem _ _ fun hm => e ?_).trans (hL e)
    have h := (Rect.mem_set_unit (s := S7x536x128) (off := ![q, 0, 0]) (size := S1x536x128.size) (inb := inb) |>.mp hm) 0
    have h1 : q ≤ (y 0).val := h.1
    have h2 : (y 0).val < q + 1 := h.2
    omega

include ht hU in
/-- A block's moved rows. -/
theorem shiftStores_apply (o : ℕ) (ho) (L : List (View.Piece (Elt Ideal) S7x536x128 .f32)) (y : S7x536x128.Idx) :
    View.canon (shiftStores m c t p o ho L) y = win m c t ((y 0).val + 1 + (y 1).val) (o + (y 2).val) := by
  have h : (y 0).val < 7 := (y 0).isLt
  unfold shiftStores
  refine shift_step m c t p ht hU o 6 _ _ _ y fun n6 => ?_
  refine shift_step m c t p ht hU o 5 _ _ _ y fun n5 => ?_
  refine shift_step m c t p ht hU o 4 _ _ _ y fun n4 => ?_
  refine shift_step m c t p ht hU o 3 _ _ _ y fun n3 => ?_
  refine shift_step m c t p ht hU o 2 _ _ _ y fun n2 => ?_
  refine shift_step m c t p ht hU o 1 _ _ _ y fun n1 => ?_
  refine shift_step m c t p ht hU o 0 _ _ _ y fun n0 => ?_
  exfalso
  omega

/-- One piece of the convolution, read at an index. -/
theorem sumPiece_apply (r o : ℕ) (hr) (ho) (inb) (w0 : FVec Ideal ⟨2, ![160, 128]⟩ .f32) (inbc) (L : List (View.Piece (Elt Ideal) S7x536x128 .f32))
    (h0 : ∀ (a : Fin 160) (j : Fin 128), w0 (ix2 a j) = win m c t (r + a.val) (o + j.val))
    (hL : ∀ y, View.canon L y = win m c t ((y 0).val + 1 + (y 1).val) (o + (y 2).val)) (a j : Fin 128) :
    (sumPiece m c t r o hr ho inb w0 inbc L).2 (ix2 a j) = LayerSpec.uc (A m c) (B m c) (t.val / 4) (512 * (t.val % 4) + (r + a.val)) (o + j.val) := by
  unfold sumPiece
  dsimp only
  refine (convPiece_apply _ _ _ _ j ((B m c).cb 0 (o + j.val)) (fun k => (B m c).cw k (o + j.val)) (fun x => win m c t (r + x) (o + j.val)) (convBias_apply m c t o inbc j)
    (fun k => tapRow_apply m c t k.val o _ j) (fun x => h0 x j) (fun f x => ?_) a).trans ?_
  · have hx := x.isLt
    refine (readCov_at _ L (Rect.unit (s := S7x536x128) ![f.val, r, 0] S1x152x128.size (window_inb f r hr)) (ix3 0 x j) (ix3 f (⟨r + x.val, by omega⟩ : Fin 536) j) fun q => ?_).trans ((hL _).trans ?_)
    · fin_cases q
      · show f.val = f.val + 1 * 0; omega
      · show r + x.val = r + 1 * x.val; omega
      · show j.val = 0 + 1 * j.val; omega
    · show win m c t (f.val + 1 + (r + x.val)) (o + j.val) = win m c t (r + (x.val + (f.val + 1))) (o + j.val)
      rw [show f.val + 1 + (r + x.val) = r + (x.val + (f.val + 1)) by omega]
  · unfold LayerSpec.uc
    refine congrArg (· + _) (Finset.sum_congr rfl fun k _ => congrArg (_ * ·) ?_)
    unfold win
    rw [show 512 * (t.val % 4) + (r + (a.val + 2 + k.val)) - 2 = 512 * (t.val % 4) + (r + a.val) + k.val by omega]

set_option maxHeartbeats 2000000 in
include ht hU in
/-- The convolution. -/
theorem sumStores_apply (y : S512x512.Idx) : View.canon (sumStores m c t p) y = LayerSpec.uc (A m c) (B m c) (t.val / 4) (512 * (t.val % 4) + (y 0).val) (y 1).val := by
  have y0 : (y 0).val < 512 := (y 0).isLt
  have y1 : (y 1).val < 512 := (y 1).isLt
  unfold sumStores moved4 moved3 moved2 moved1
  refine rect_step (e := .f32) 384 384 128 128 _ _ _ (fun a b => LayerSpec.uc (A m c) (B m c) (t.val / 4) (512 * (t.val % 4) + a) b) ?_ y fun n0 => ?_
  · exact sumPiece_apply m c t 384 384 (by decide) (by decide) (by decide) _ (by decide) _ (convOwn_apply m c t ht 384 384 (by omega) (by decide)) (shiftStores_apply m c t p ht hU 384 (by decide) _)
  refine rect_step (e := .f32) 256 384 128 128 _ _ _ (fun a b => LayerSpec.uc (A m c) (B m c) (t.val / 4) (512 * (t.val % 4) + a) b) ?_ y fun n1 => ?_
  · exact sumPiece_apply m c t 256 384 (by decide) (by decide) (by decide) _ (by decide) _ (convOwn_apply m c t ht 256 384 (by omega) (by decide)) (shiftStores_apply m c t p ht hU 384 (by decide) _)
  refine rect_step (e := .f32) 128 384 128 128 _ _ _ (fun a b => LayerSpec.uc (A m c) (B m c) (t.val / 4) (512 * (t.val % 4) + a) b) ?_ y fun n2 => ?_
  · exact sumPiece_apply m c t 128 384 (by decide) (by decide) (by decide) _ (by decide) _ (convOwn_apply m c t ht 128 384 (by omega) (by decide)) (shiftStores_apply m c t p ht hU 384 (by decide) _)
  refine rect_step (e := .f32) 0 384 128 128 _ _ _ (fun a b => LayerSpec.uc (A m c) (B m c) (t.val / 4) (512 * (t.val % 4) + a) b) ?_ y fun n3 => ?_
  · exact sumPiece_apply m c t 0 384 (by decide) (by decide) (by decide) _ (by decide) _ (fun a j => convRead_apply m c t p ht hU 160 0 384 (by decide) a j) (shiftStores_apply m c t p ht hU 384 (by decide) _)
  refine rect_step (e := .f32) 384 256 128 128 _ _ _ (fun a b => LayerSpec.uc (A m c) (B m c) (t.val / 4) (512 * (t.val % 4) + a) b) ?_ y fun n4 => ?_
  · exact sumPiece_apply m c t 384 256 (by decide) (by decide) (by decide) _ (by decide) _ (convOwn_apply m c t ht 384 256 (by omega) (by decide)) (shiftStores_apply m c t p ht hU 256 (by decide) _)
  refine rect_step (e := .f32) 256 256 128 128 _ _ _ (fun a b => LayerSpec.uc (A m c) (B m c) (t.val / 4) (512 * (t.val % 4) + a) b) ?_ y fun n5 => ?_
  · exact sumPiece_apply m c t 256 256 (by decide) (by decide) (by decide) _ (by decide) _ (convOwn_apply m c t ht 256 256 (by omega) (by decide)) (shiftStores_apply m c t p ht hU 256 (by decide) _)
  refine rect_step (e := .f32) 128 256 128 128 _ _ _ (fun a b => LayerSpec.uc (A m c) (B m c) (t.val / 4) (512 * (t.val % 4) + a) b) ?_ y fun n6 => ?_
  · exact sumPiece_apply m c t 128 256 (by decide) (by decide) (by decide) _ (by decide) _ (convOwn_apply m c t ht 128 256 (by omega) (by decide)) (shiftStores_apply m c t p ht hU 256 (by decide) _)
  refine rect_step (e := .f32) 0 256 128 128 _ _ _ (fun a b => LayerSpec.uc (A m c) (B m c) (t.val / 4) (512 * (t.val % 4) + a) b) ?_ y fun n7 => ?_
  · exact sumPiece_apply m c t 0 256 (by decide) (by decide) (by decide) _ (by decide) _ (fun a j => convRead_apply m c t p ht hU 160 0 256 (by decide) a j) (shiftStores_apply m c t p ht hU 256 (by decide) _)
  refine rect_step (e := .f32) 384 128 128 128 _ _ _ (fun a b => LayerSpec.uc (A m c) (B m c) (t.val / 4) (512 * (t.val % 4) + a) b) ?_ y fun n8 => ?_
  · exact sumPiece_apply m c t 384 128 (by decide) (by decide) (by decide) _ (by decide) _ (convOwn_apply m c t ht 384 128 (by omega) (by decide)) (shiftStores_apply m c t p ht hU 128 (by decide) _)
  refine rect_step (e := .f32) 256 128 128 128 _ _ _ (fun a b => LayerSpec.uc (A m c) (B m c) (t.val / 4) (512 * (t.val % 4) + a) b) ?_ y fun n9 => ?_
  · exact sumPiece_apply m c t 256 128 (by decide) (by decide) (by decide) _ (by decide) _ (convOwn_apply m c t ht 256 128 (by omega) (by decide)) (shiftStores_apply m c t p ht hU 128 (by decide) _)
  refine rect_step (e := .f32) 128 128 128 128 _ _ _ (fun a b => LayerSpec.uc (A m c) (B m c) (t.val / 4) (512 * (t.val % 4) + a) b) ?_ y fun n10 => ?_
  · exact sumPiece_apply m c t 128 128 (by decide) (by decide) (by decide) _ (by decide) _ (convOwn_apply m c t ht 128 128 (by omega) (by decide)) (shiftStores_apply m c t p ht hU 128 (by decide) _)
  refine rect_step (e := .f32) 0 128 128 128 _ _ _ (fun a b => LayerSpec.uc (A m c) (B m c) (t.val / 4) (512 * (t.val % 4) + a) b) ?_ y fun n11 => ?_
  · exact sumPiece_apply m c t 0 128 (by decide) (by decide) (by decide) _ (by decide) _ (fun a j => convRead_apply m c t p ht hU 160 0 128 (by decide) a j) (shiftStores_apply m c t p ht hU 128 (by decide) _)
  refine rect_step (e := .f32) 384 0 128 128 _ _ _ (fun a b => LayerSpec.uc (A m c) (B m c) (t.val / 4) (512 * (t.val % 4) + a) b) ?_ y fun n12 => ?_
  · exact sumPiece_apply m c t 384 0 (by decide) (by decide) (by decide) _ (by decide) _ (convOwn_apply m c t ht 384 0 (by omega) (by decide)) (shiftStores_apply m c t p ht hU 0 (by decide) _)
  refine rect_step (e := .f32) 256 0 128 128 _ _ _ (fun a b => LayerSpec.uc (A m c) (B m c) (t.val / 4) (512 * (t.val % 4) + a) b) ?_ y fun n13 => ?_
  · exact sumPiece_apply m c t 256 0 (by decide) (by decide) (by decide) _ (by decide) _ (convOwn_apply m c t ht 256 0 (by omega) (by decide)) (shiftStores_apply m c t p ht hU 0 (by decide) _)
  refine rect_step (e := .f32) 128 0 128 128 _ _ _ (fun a b => LayerSpec.uc (A m c) (B m c) (t.val / 4) (512 * (t.val % 4) + a) b) ?_ y fun n14 => ?_
  · exact sumPiece_apply m c t 128 0 (by decide) (by decide) (by decide) _ (by decide) _ (convOwn_apply m c t ht 128 0 (by omega) (by decide)) (shiftStores_apply m c t p ht hU 0 (by decide) _)
  refine rect_step (e := .f32) 0 0 128 128 _ _ _ (fun a b => LayerSpec.uc (A m c) (B m c) (t.val / 4) (512 * (t.val % 4) + a) b) ?_ y fun n15 => ?_
  · exact sumPiece_apply m c t 0 0 (by decide) (by decide) (by decide) _ (by decide) _ (fun a j => convRead_apply m c t p ht hU 160 0 0 (by decide) a j) (shiftStores_apply m c t p ht hU 0 (by decide) _)
  exfalso
  omega

include ht hU in
/-- The normalised convolution, read at an index. -/
theorem normed_apply (inb) (inb') (r j : Fin 512) :
    convRowsOf ((Memref.whole cc0_scratch7).view.readCov (sumStores m c t p) (Rect.unit (s := S512x512) ![0, 0] S512x512.size inb_S512x512_S512x512_0_0).toLoadRect)
      (groupMats m c t) (groupGain m c t inb) (groupBias m c t inb') (ix2 r j) = LayerSpec.conv (A m c) (B m c) (t.val / 4) (512 * (t.val % 4) + r.val) j.val := by
  have m0 : ∀ a b : Fin 256, groupMats m c t 0 (ix3 0 a b) = pick a.val b.val := fun a b => groupMat_first m c t _ a b
  have m1 : ∀ a b : Fin 256, groupMats m c t 2 (ix3 0 a b) = average a.val b.val := fun a b => groupMat_second m c t _ a b
  refine (convRowsOf_apply _ _ _ _ r (fun k => LayerSpec.uc (A m c) (B m c) (t.val / 4) (512 * (t.val % 4) + r.val) k) (fun k => ?_)
    m0 m0 m1 m1 m1 m1
    (B m c).gg (B m c).gb (groupGain_apply m c t inb) (groupBias_apply m c t inb') j).trans ?_
  · refine (readCov_at _ _ (Rect.unit (s := S512x512) ![0, 0] S512x512.size inb_S512x512_S512x512_0_0) (ix2 r k) (ix2 r k) fun a => ?_).trans (sumStores_apply m c t p ht hU _)
    fin_cases a
    · show r.val = 0 + 1 * r.val; omega
    · show k.val = 0 + 1 * k.val; omega
  · unfold LayerSpec.conv LayerSpec.gvar LayerSpec.gdev LayerSpec.gmean
    simp only [group_of]

end

end Cert.KernelIdeal.Point

end
-- ==== Proof.HeadPoint.lean ====
module

public import proofs.«01_k».proof.Proof.LayerReads
public import proofs.«01_k».proof.Proof.Tiles
public import proofs.«01_k».proof.Proof.Advance

@[expose] public section

set_option maxRecDepth 16384

noncomputable section

/-! The tile's heads: each chunk's rows from the state before it, read at an index. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

section
variable (ht : t.val < 32)

include ht in
/-- A swished block of the projection, read at an index. -/
theorem swished_apply (o : ℕ) (inb) (inb') (r j : Fin 512) : swished m c t o inb inb' (ix2 r j) = LayerSpec.silu (z (A m c) (t.val / 4) (512 * (t.val % 4) + r.val) (o + j.val)) := by
  have e := Tile.block_apply (A m c) _ _ _ (rows_apply m c t ht) o _ _ (weights_apply m c t o inb) (biases_apply m c t o inb') r j
  unfold swished
  rw [shapeCast_self]
  show Tile.block _ _ _ (ix2 r j) * Ideal.logistic (Tile.block _ _ _ (ix2 r j)) = _
  rw [e, Tile.logistic_eq]
  rfl

include ht in
/-- A chunk's queries. -/
theorem chunk_query (o : ℕ) (inb) (C : ℕ) (hC : 512 * (t.val % 4) + o = 64 * C) (r : Fin 64) (j : Fin 512) :
    chunk (Memref.whole cc0_scratch0) (queriesOf m c t) o inb (ix2 r j) = LayerSpec.silu (z (A m c) (t.val / 4) (64 * C + r.val) j.val) := by
  have h : o + 64 ≤ 512 := inb 0
  refine (rows_read _ _ o _ inb r j (by omega)).trans ((swished_apply m c t ht 0 _ _ _ _).trans ?_)
  show LayerSpec.silu (z _ _ (512 * (t.val % 4) + (o + r.val)) (0 + j.val)) = _
  rw [← add_assoc, hC, Nat.zero_add]

include ht in
/-- A head's gates in a chunk. -/
theorem head_gate (o k : ℕ) (inb : ∀ a, (![o, k] : Fin 2 → ℕ) a + S64x128.size a ≤ S512x512.size a) (C : ℕ) (hC : 512 * (t.val % 4) + o = 64 * C) (r : Fin 64) (a : Fin 128) :
    (Memref.whole cc0_scratch4).view.readCov [(⟨Rect.unit ![0, 0] S512x512.size inb_S512x512_S512x512_0_0, gatesOf m c t⟩ : View.Piece (Elt Ideal) S512x512 .f32)]
      (Rect.unit (s := S512x512) ![o, k] S64x128.size inb).toLoadRect (ix2 r a) = LayerSpec.silu (z (A m c) (t.val / 4) (64 * C + r.val) (1536 + (k + a.val))) := by
  have h : o + 64 ≤ 512 := inb 0
  have h' : k + 128 ≤ 512 := inb 1
  refine (readCov_at _ _ (Rect.unit (s := S512x512) ![o, k] S64x128.size inb) (ix2 r a) (ix2 (⟨o + r.val, by omega⟩ : Fin 512) (⟨k + a.val, by omega⟩ : Fin 512)) fun q => ?_).trans ?_
  · fin_cases q
    · show o + r.val = o + 1 * r.val; omega
    · show k + a.val = k + 1 * a.val; omega
  refine Eq.trans (b := gatesOf m c t (ix2 (⟨o + r.val, by omega⟩ : Fin 512) (⟨k + a.val, by omega⟩ : Fin 512))) ?_ ((swished_apply m c t ht 1536 _ _ _ _).trans ?_)
  · exact congrFun (View.canon_unit_zero (S := S512x512) (Val := Elt Ideal) (e := .f32) (off := ![0, 0]) (by funext q; fin_cases q <;> rfl) inb_S512x512_S512x512_0_0 (gatesOf m c t)) _
  show LayerSpec.silu (z _ _ (512 * (t.val % 4) + (o + r.val)) (1536 + (k + a.val))) = _
  rw [← add_assoc, hC]

include ht in
/-- One head's rows of one chunk, read at an index. -/
theorem headPiece_apply (o k h : ℕ) (hk : k = 128 * h) (hh : h < 4) (inb) (h2) (inbg) (inbm) (s : FVec Ideal S1x128x128 .f32) (C : ℕ) (hC : 512 * (t.val % 4) + o = 64 * C)
    (hs : ∀ a b : Fin 128, s (ix3 0 a b) = state (A m c) (t.val / 4) C h b.val a.val) (r : Fin 64) (a : Fin 128) :
    (headPiece m c t o k inb h2 inbg inbm s).2 (ix2 r a) = LayerSpec.mix (A m c) (B m c) (t.val / 4) (512 * (t.val % 4) + (o + r.val)) (k + a.val) := by
  have hr := r.isLt
  have ha := a.isLt
  refine (headRows_apply (A m c) (B m c) (t.val / 4) C h hh k hk h2 _ _ _ _ s _ _ (chunk_log m c t ht o inb C hC) (chunk_key m c t ht o inb C hC) (chunk_query m c t ht o inb C hC)
    (chunk_value m c t ht o inb C hC) hs (headGain_apply m c t _) (fun r a => (head_gate m c t ht o k inbg C hC r a).trans (by rw [hk])) r a).trans ?_
  unfold LayerSpec.mix
  rw [if_pos (by omega), show (512 * (t.val % 4) + (o + r.val)) / 64 = C by omega, show (512 * (t.val % 4) + (o + r.val)) % 64 = r.val by omega,
    show (k + a.val) / 128 = h by omega, show (k + a.val) % 128 = a.val by omega]

/-- A head's matrix read back from stores. -/
theorem headOf_apply (L : List (View.Piece (Elt Ideal) S4x128x128 .f32)) (h : ℕ) (hh : h < 4) (inb) (n C : ℕ) (hL : ∀ y : S4x128x128.Idx, (y 0).val = h → View.canon L y = laid m c n C y) (a b : Fin 128) :
    headOf L h inb (ix3 0 a b) = state (A m c) n C h b.val a.val := by
  refine (readCov_at _ L (Rect.unit (s := S4x128x128) ![h, 0, 0] S1x128x128.size inb) (ix3 0 a b) (ix3 ⟨h, hh⟩ a b) fun q => ?_).trans ((hL _ rfl).trans rfl)
  fin_cases q
  · show h = h + 1 * 0; omega
  · show a.val = 0 + 1 * a.val; omega
  · show b.val = 0 + 1 * b.val; omega

include ht in
/-- The heads' rows of a later chunk, read at an index. -/
theorem laterHeads_apply (o : ℕ) (inb) (C : ℕ) (hC : 512 * (t.val % 4) + o = 64 * C) (L : List (View.Piece (Elt Ideal) S4x128x128 .f32))
    (hL : ∀ y, View.canon L y = laid m c (t.val / 4) C y) (M : List (View.Piece (Elt Ideal) S512x1024 .bf16)) (y : S512x1024.Idx)
    (hM : ¬ ((o ≤ (y 0).val ∧ (y 0).val < o + 64) ∧ (y 1).val < 512) → View.canon M y = LayerSpec.mix (A m c) (B m c) (t.val / 4) (512 * (t.val % 4) + (y 0).val) (y 1).val) :
    View.canon (laterHeads m c t o inb L M) y = LayerSpec.mix (A m c) (B m c) (t.val / 4) (512 * (t.val % 4) + (y 0).val) (y 1).val := by
  have X := chunk_log m c t ht o inb C hC
  have K := chunk_key m c t ht o inb C hC
  have V := chunk_value m c t ht o inb C hC
  have s0 : ∀ y : S4x128x128.Idx, View.canon L y = if (y 0).val < 0 then advance (laid m c (t.val / 4) C) (fun r j => Ideal.log (fgate (A m c) (t.val / 4) (64 * C + r) j)) (fun r j => one - fgate (A m c) (t.val / 4) (64 * C + r) j) (fun r j => z (A m c) (t.val / 4) (64 * C + r) (1024 + j)) y else laid m c (t.val / 4) C y :=
    fun y => (hL y).trans (if_neg (Nat.not_lt_zero _)).symm
  have s1 := next_step 0 inb_S4x128x128_S1x128x128_0_0_0 0 rfl (by omega) slices_S1x512_o0_0_S1x128 slices_S64x512_o0_0_S64x128 _ _ _ (fun r j => Ideal.log (fgate (A m c) (t.val / 4) (64 * C + r) j)) (fun r j => one - fgate (A m c) (t.val / 4) (64 * C + r) j) (fun r j => z (A m c) (t.val / 4) (64 * C + r) (1024 + j)) X K V (laid m c (t.val / 4) C) (Memref.whole cc0_scratch9).view _ s0
  have s2 := next_step 1 inb_S4x128x128_S1x128x128_1_0_0 128 rfl (by omega) slices_S1x512_o0_128_S1x128 slices_S64x512_o0_128_S64x128 _ _ _ (fun r j => Ideal.log (fgate (A m c) (t.val / 4) (64 * C + r) j)) (fun r j => one - fgate (A m c) (t.val / 4) (64 * C + r) j) (fun r j => z (A m c) (t.val / 4) (64 * C + r) (1024 + j)) X K V (laid m c (t.val / 4) C) (Memref.whole cc0_scratch9).view _ s1
  have s3 := next_step 2 inb_S4x128x128_S1x128x128_2_0_0 256 rfl (by omega) slices_S1x512_o0_256_S1x128 slices_S64x512_o0_256_S64x128 _ _ _ (fun r j => Ideal.log (fgate (A m c) (t.val / 4) (64 * C + r) j)) (fun r j => one - fgate (A m c) (t.val / 4) (64 * C + r) j) (fun r j => z (A m c) (t.val / 4) (64 * C + r) (1024 + j)) X K V (laid m c (t.val / 4) C) (Memref.whole cc0_scratch9).view _ s2
  unfold laterHeads
  refine rect_step (e := .bf16) o 384 64 128 _ _ _ (fun a b => LayerSpec.mix (A m c) (B m c) (t.val / 4) (512 * (t.val % 4) + a) b) ?_ y fun n3 => ?_
  · exact headPiece_apply m c t ht o 384 3 rfl (by omega) inb slices_S64x512_o0_384_S64x128 (head_inb o 384 inb (by decide)) (mix_inb o 384 inb (by decide)) _ C hC (headOf_apply m c _ 3 (by omega) _ _ C fun y e => (s3 y).trans (if_neg (by omega)))
  refine rect_step (e := .bf16) o 256 64 128 _ _ _ (fun a b => LayerSpec.mix (A m c) (B m c) (t.val / 4) (512 * (t.val % 4) + a) b) ?_ y fun n2 => ?_
  · exact headPiece_apply m c t ht o 256 2 rfl (by omega) inb slices_S64x512_o0_256_S64x128 (head_inb o 256 inb (by decide)) (mix_inb o 256 inb (by decide)) _ C hC (headOf_apply m c _ 2 (by omega) _ _ C fun y e => (s2 y).trans (if_neg (by omega)))
  refine rect_step (e := .bf16) o 128 64 128 _ _ _ (fun a b => LayerSpec.mix (A m c) (B m c) (t.val / 4) (512 * (t.val % 4) + a) b) ?_ y fun n1 => ?_
  · exact headPiece_apply m c t ht o 128 1 rfl (by omega) inb slices_S64x512_o0_128_S64x128 (head_inb o 128 inb (by decide)) (mix_inb o 128 inb (by decide)) _ C hC (headOf_apply m c _ 1 (by omega) _ _ C fun y e => (s1 y).trans (if_neg (by omega)))
  refine rect_step (e := .bf16) o 0 64 128 _ _ _ (fun a b => LayerSpec.mix (A m c) (B m c) (t.val / 4) (512 * (t.val % 4) + a) b) ?_ y fun n0 => ?_
  · exact headPiece_apply m c t ht o 0 0 rfl (by omega) inb slices_S64x512_o0_0_S64x128 (head_inb o 0 inb (by decide)) (mix_inb o 0 inb (by decide)) _ C hC (headOf_apply m c _ 0 (by omega) _ _ C fun y e => (s0 y).trans (if_neg (by omega)))
  exact hM (by omega)

include ht in
/-- The heads' rows of the tile. -/
theorem heads_apply (hs : ∀ y, (if Body.bodyRun.sl.v52 (grid0.coords t) = 1#1 then 0 else p.1 y) = laid m c (t.val / 4) (8 * (t.val % 4)) y) (y : S512x1024.Idx) (hy : (y 1).val < 512) :
    View.canon (heads8 m c t p) y = LayerSpec.mix (A m c) (B m c) (t.val / 4) (512 * (t.val % 4) + (y 0).val) (y 1).val := by
  have y0 : (y 0).val < 512 := (y 0).isLt
  have hf (h : ℕ) (inb) := found_apply t p.1 h inb (laid m c (t.val / 4) (8 * (t.val % 4))) fun y => (hs y).symm
  have e : 512 * (t.val % 4) + 0 = 64 * (8 * (t.val % 4)) := by omega
  have a1 : ∀ y, View.canon (after1 m c t p) y = laid m c (t.val / 4) (8 * (t.val % 4) + 1) y := fun y =>
    (first_chunk _ _ _ _ _ _ (chunk_log m c t ht 0 _ _ e) (chunk_key m c t ht 0 _ _ e) (chunk_value m c t ht 0 _ _ e) _ _ _ _ _ (hf 0 _) (hf 1 _) (hf 2 _) (hf 3 _) y).trans (laid_succ m c _ _ y)
  have a2 : ∀ y, View.canon (after2 m c t p) y = laid m c (t.val / 4) (8 * (t.val % 4) + 2) y := fun y => chunkStores_apply m c t ht 64 _ (8 * (t.val % 4) + 1) (by omega) _ a1 y
  have a3 : ∀ y, View.canon (after3 m c t p) y = laid m c (t.val / 4) (8 * (t.val % 4) + 3) y := fun y => chunkStores_apply m c t ht 128 _ (8 * (t.val % 4) + 2) (by omega) _ a2 y
  have a4 : ∀ y, View.canon (after4 m c t p) y = laid m c (t.val / 4) (8 * (t.val % 4) + 4) y := fun y => chunkStores_apply m c t ht 192 _ (8 * (t.val % 4) + 3) (by omega) _ a3 y
  have a5 : ∀ y, View.canon (after5 m c t p) y = laid m c (t.val / 4) (8 * (t.val % 4) + 5) y := fun y => chunkStores_apply m c t ht 256 _ (8 * (t.val % 4) + 4) (by omega) _ a4 y
  have a6 : ∀ y, View.canon (after6 m c t p) y = laid m c (t.val / 4) (8 * (t.val % 4) + 6) y := fun y => chunkStores_apply m c t ht 320 _ (8 * (t.val % 4) + 5) (by omega) _ a5 y
  have a7 : ∀ y, View.canon (after7 m c t p) y = laid m c (t.val / 4) (8 * (t.val % 4) + 7) y := fun y => chunkStores_apply m c t ht 384 _ (8 * (t.val % 4) + 6) (by omega) _ a6 y
  have f (h : ℕ) (hh : h < 4) (inb) (a b : Fin 128) : found t p.1 h inb (ix3 0 a b) = state (A m c) (t.val / 4) (8 * (t.val % 4)) h b.val a.val := hf h inb (ix3 ⟨h, hh⟩ a b) rfl
  unfold heads8
  refine laterHeads_apply m c t ht 448 _ (8 * (t.val % 4) + 7) (by omega) _ a7 _ y fun n8 => ?_
  unfold heads7
  refine laterHeads_apply m c t ht 384 _ (8 * (t.val % 4) + 6) (by omega) _ a6 _ y fun n7 => ?_
  unfold heads6
  refine laterHeads_apply m c t ht 320 _ (8 * (t.val % 4) + 5) (by omega) _ a5 _ y fun n6 => ?_
  unfold heads5
  refine laterHeads_apply m c t ht 256 _ (8 * (t.val % 4) + 4) (by omega) _ a4 _ y fun n5 => ?_
  unfold heads4
  refine laterHeads_apply m c t ht 192 _ (8 * (t.val % 4) + 3) (by omega) _ a3 _ y fun n4 => ?_
  unfold heads3
  refine laterHeads_apply m c t ht 128 _ (8 * (t.val % 4) + 2) (by omega) _ a2 _ y fun n3 => ?_
  unfold heads2
  refine laterHeads_apply m c t ht 64 _ (8 * (t.val % 4) + 1) (by omega) _ a1 _ y fun n2 => ?_
  unfold firstHeads
  refine rect_step (e := .bf16) 0 384 64 128 _ _ _ (fun a b => LayerSpec.mix (A m c) (B m c) (t.val / 4) (512 * (t.val % 4) + a) b) ?_ y fun q3 => ?_
  · exact headPiece_apply m c t ht 0 384 3 rfl (by omega) inb_S512x512_S64x512_0_0 slices_S64x512_o0_384_S64x128 (by decide) (by decide) _ _ e (f 3 (by omega) _)
  refine rect_step (e := .bf16) 0 256 64 128 _ _ _ (fun a b => LayerSpec.mix (A m c) (B m c) (t.val / 4) (512 * (t.val % 4) + a) b) ?_ y fun q2 => ?_
  · exact headPiece_apply m c t ht 0 256 2 rfl (by omega) inb_S512x512_S64x512_0_0 slices_S64x512_o0_256_S64x128 (by decide) (by decide) _ _ e (f 2 (by omega) _)
  refine rect_step (e := .bf16) 0 128 64 128 _ _ _ (fun a b => LayerSpec.mix (A m c) (B m c) (t.val / 4) (512 * (t.val % 4) + a) b) ?_ y fun q1 => ?_
  · exact headPiece_apply m c t ht 0 128 1 rfl (by omega) inb_S512x512_S64x512_0_0 slices_S64x512_o0_128_S64x128 (by decide) (by decide) _ _ e (f 1 (by omega) _)
  refine rect_step (e := .bf16) 0 0 64 128 _ _ _ (fun a b => LayerSpec.mix (A m c) (B m c) (t.val / 4) (512 * (t.val % 4) + a) b) ?_ y fun q0 => ?_
  · exact headPiece_apply m c t ht 0 0 0 rfl (by omega) inb_S512x512_S64x512_0_0 slices_S64x512_o0_0_S64x128 (by decide) (by decide) _ _ e (f 0 (by omega) _)
  exfalso
  omega

end

end Cert.KernelIdeal.Point

end
-- ==== Proof.SumRun.lean ====
module

public import proofs.«01_k».proof.Proof.LayerPoint

@[expose] public section

set_option maxRecDepth 16384

noncomputable section

/-! The body's stores into the convolution's scratch of sums. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- The body's stores into the convolution's scratch. -/
def sumRun : List (View.Piece (Elt Ideal) S512x512 .f32) :=
  Body.bodyRun.sl.HS7_16 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_3.stage (cfg0.slots t 3)) (hstage0_3 ((cfg0.slots t 3).cast nbuf0_3)) (win0_4.stage (cfg0.slots t 4)) (hstage0_4 ((cfg0.slots t 4).cast nbuf0_4)) (win0_6.stage (cfg0.slots t 6)) (hstage0_6 ((cfg0.slots t 6).cast nbuf0_6)) (win0_7.stage (cfg0.slots t 7)) (hstage0_7 ((cfg0.slots t 7).cast nbuf0_7)) (Memref.whole cc0_scratch5) (Memref.isWhole_whole _) (Memref.whole cc0_scratch6) (iblk m c 0 t) (iblk m c 1 t) (iblk m c 3 t) (iblk m c 4 t) (iblk m c 6 t) (iblk m c 7 t) p.2.1

/-- The body's stores into the convolution's scratch are these. -/
theorem sum_eq : sumRun m c t p = sumStores m c t p := by sl_kernel_rfl

end Cert.KernelIdeal.Point

end
-- ==== Proof.NormRun.lean ====
module

public import proofs.«01_k».proof.Proof.LayerPoint

@[expose] public section

set_option maxRecDepth 16384

noncomputable section

/-! The body's stores into the row scratch, from its stores of the mixed rows. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- The body's stores into the mixed rows' scratch. -/
def mixRun : List (View.Piece (Elt Ideal) S512x1024 .bf16) :=
  Body.bodyRun.sl.HS8_33 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.whole cc0_scratch1) (Memref.whole cc0_scratch2) (Memref.whole cc0_scratch3) (Memref.whole cc0_scratch4) (Memref.whole cc0_scratch5) (Memref.isWhole_whole _) (Memref.whole cc0_scratch6) (Memref.whole cc0_scratch7) (Memref.whole cc0_scratch9) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.1

/-- The mixed rows, read back from their stores. -/
def mixedOf (L : List (View.Piece (Elt Ideal) S512x1024 .bf16)) : FVec Ideal S512x1024 .bf16 :=
  (Memref.whole cc0_scratch8).view.readCov L (Rect.unit (s := S512x1024) ![0, 0] S512x1024.size inb_S512x1024_S512x1024_0_0).toLoadRect

/-- The out-projection of the mixed rows. -/
def projectedOf (L : List (View.Piece (Elt Ideal) S512x1024 .bf16)) : FVec Ideal S512x1024 .f32 :=
  addf (matmul dot_S512x1024_S1024x1024_S512x1024_1_0_0_1_n_n none
    (mixedOf L) (outWeights m c t (by decide)) (constant (F := Ideal) S512x1024 .f32 0x00000000#32)) (broadcastTo S512x1024 (outBias m c t (by decide)) broadcasts_S1x1024_S512x1024)

/-- Sixty-four rows after the first norm, of the out-projection. -/
def normPiece (y : FVec Ideal S512x1024 .f32) (o : ℕ) (inb : ∀ a, (![o, 0] : Fin 2 → ℕ) a + S64x1024.size a ≤ S512x1024.size a)
    (inb' : ∀ a, (![0, o, 0] : Fin 3 → ℕ) a + S1x64x1024.size a ≤ S1x512x1024.size a) (hs : S512x1024.Slices ![o, 0] S64x1024) : View.Piece (Elt Ideal) S512x1024 .f32 :=
  ⟨Rect.unit (s := S512x1024) ![o, 0] S64x1024.size inb,
    shapeCast S64x1024 (lnRows (addf (mulf (broadcast S64x1024 (Scalar.ofBits .f32 0x3F9837F0#32)) (shapeCast S64x1024 (xRows m c t o inb') shapeCasts_S1x64x1024_S64x1024))
      (mulf (raised (modRow m c t (k0_off5 (grid0.coords t)) (k0_off5_inb _))) (extractStridedSlice S64x1024 ![o, 0] y hs)))
      (gain1 m c t (by decide)) (bias1 m c t (by decide))) shapeCasts_S64x1024_S64x1024⟩

/-- The stores into the row scratch, of the mixed rows' stores. -/
def normStores (L : List (View.Piece (Elt Ideal) S512x1024 .bf16)) : List (View.Piece (Elt Ideal) S512x1024 .f32) :=
  [normPiece m c t (projectedOf m c t L) 448 inb_S512x1024_S64x1024_448_0 inb_S1x512x1024_S1x64x1024_0_448_0 slices_S512x1024_o448_0_S64x1024,
    normPiece m c t (projectedOf m c t L) 384 inb_S512x1024_S64x1024_384_0 inb_S1x512x1024_S1x64x1024_0_384_0 slices_S512x1024_o384_0_S64x1024,
    normPiece m c t (projectedOf m c t L) 320 inb_S512x1024_S64x1024_320_0 inb_S1x512x1024_S1x64x1024_0_320_0 slices_S512x1024_o320_0_S64x1024,
    normPiece m c t (projectedOf m c t L) 256 inb_S512x1024_S64x1024_256_0 inb_S1x512x1024_S1x64x1024_0_256_0 slices_S512x1024_o256_0_S64x1024,
    normPiece m c t (projectedOf m c t L) 192 inb_S512x1024_S64x1024_192_0 inb_S1x512x1024_S1x64x1024_0_192_0 slices_S512x1024_o192_0_S64x1024,
    normPiece m c t (projectedOf m c t L) 128 inb_S512x1024_S64x1024_128_0 inb_S1x512x1024_S1x64x1024_0_128_0 slices_S512x1024_o128_0_S64x1024,
    normPiece m c t (projectedOf m c t L) 64 inb_S512x1024_S64x1024_64_0 inb_S1x512x1024_S1x64x1024_0_64_0 slices_S512x1024_o64_0_S64x1024,
    normPiece m c t (projectedOf m c t L) 0 inb_S512x1024_S64x1024_0_0 inb_S1x512x1024_S1x64x1024_0_0_0 slices_S512x1024_o0_0_S64x1024]

/-- The body's stores into the row scratch are these of the mixed rows' stores. -/
theorem norm_eq : (Frame.pointRun m c t p).2.2.2.2.2.1 = normStores m c t (mixRun m c t p) := by sl_kernel_rfl

end Cert.KernelIdeal.Point

end
-- ==== Proof.MixRun.lean ====
module

public import proofs.«01_k».proof.Proof.SumRun
public import proofs.«01_k».proof.Proof.NormRun

@[expose] public section

set_option maxRecDepth 16384

noncomputable section

/-! The body's stores of the mixed rows, from its stores of the convolution's sums. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- The mixed rows' stores: the heads, then the convolution of its stores. -/
def mixStoresOf (L : List (View.Piece (Elt Ideal) S512x512 .f32)) : List (View.Piece (Elt Ideal) S512x1024 .bf16) :=
  ⟨Rect.unit (s := S512x1024) ![0, 512] S512x512.size inb_S512x1024_S512x512_0_512,
    convRowsOf ((Memref.whole cc0_scratch7).view.readCov L (Rect.unit (s := S512x512) ![0, 0] S512x512.size inb_S512x512_S512x512_0_0).toLoadRect)
      (groupMats m c t) (groupGain m c t (by decide)) (groupBias m c t (by decide))⟩ :: heads8 m c t p

/-- The body's stores into the mixed rows' scratch are these. -/
theorem mix_eq : mixRun m c t p = mixStoresOf m c t p (sumRun m c t p) := by sl_kernel_rfl

end Cert.KernelIdeal.Point

end
-- ==== Proof.MlpPoint.lean ====
module

public import proofs.«01_k».proof.Proof.LayerReads
public import proofs.«01_k».proof.Proof.Tiles

@[expose] public section

set_option maxRecDepth 16384

noncomputable section

/-! What the feed-forward part of a grid point stores, of the rows it finds in the row scratch. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- One plus a row of the modulation, read at an index. -/
theorem raised_apply (g : FVec Ideal S1x1024 .f32) (r : Fin 64) (k : Fin 1024) : raised g (ix2 r k) = one + g (ix2 0 k) := by
  unfold raised
  rw [stretch (m := 64) (n := 1024) _ _ (ix2 r k)]
  rfl

/-- A sum of rows, read at an index. -/
theorem add_rows (x y : FVec Ideal S64x1024 .f32) (i : S64x1024.Idx) : addf x y i = x i + y i := rfl

/-- A product of rows, read at an index. -/
theorem mul_rows (x y : FVec Ideal S64x1024 .f32) (i : S64x1024.Idx) : mulf x y i = x i * y i := rfl

/-- The tile before's sequence. -/
theorem before_lt : (t.val - 1) / 4 < 8 := by
  have h : t.val < 33 := t.isLt
  omega

variable (h0 : t.val ≠ 0) (x : ℕ → ℕ → EReal) (hx : ∀ (r : Fin 512) (k : Fin 1024), p.2.2 (ix2 r k) = x r.val k.val)

include h0 hx in
/-- Rows of the row scratch, read at an index. -/
theorem earlier_apply (o : ℕ) (inb) (r : Fin 64) (k : Fin 1024) : earlier t p o inb (ix2 r k) = x (o + r.val) k.val := by
  have ho : o + 64 ≤ 512 := inb 0
  unfold earlier
  rw [dif_neg fun h => h0 ((start_iff t).mp h)]
  refine (read_part _ _ _ (Rect.unit (s := S512x1024) ![o, 0] S64x1024.size inb) (ix2 r k) (ix2 ⟨o + r.val, by omega⟩ k) fun a => ?_).trans (hx _ _)
  fin_cases a
  · show o + r.val = o + 1 * r.val; omega
  · show k.val = 0 + 1 * k.val; omega

include h0 hx in
/-- Sixty-four modulated rows, read at an index. -/
theorem modPiece_apply (o : ℕ) (inb) (r : Fin 64) (k : Fin 1024) : (modPiece m c t p o inb).2 (ix2 r k) = LayerSpec.h2 (A m c) ((t.val - 1) / 4) (x (o + r.val)) k.val := by
  unfold modPiece
  dsimp only
  rw [shapeCast_self]
  show earlier t p o inb (ix2 r k) * raised _ (ix2 r k) + broadcastTo S64x1024 _ broadcasts_S1x1024_S64x1024 (ix2 r k) = _
  rw [earlier_apply t p h0 x hx, raised_apply, stretch (m := 64) (n := 1024) _ _ (ix2 r k),
    modRow_apply m c t _ _ ⟨(t.val - 1) / 4, before_lt t⟩ 4 (scale2_off t)]
  exact congrArg (_ + ·) (modRow_apply m c t _ _ ⟨(t.val - 1) / 4, before_lt t⟩ 3 (shift2_off t) k)

include h0 hx in
/-- Sixty-four weighted rows, read at an index. -/
theorem resPiece_apply (o : ℕ) (inb) (r : Fin 64) (k : Fin 1024) : (resPiece t p o inb).2 (ix2 r k) = LayerSpec.alpha * x (o + r.val) k.val := by
  unfold resPiece
  dsimp only
  rw [shapeCast_self]
  exact congrArg (_ * ·) (earlier_apply t p h0 x hx o inb r k)

include h0 hx in
/-- The modulated rows. -/
theorem modStores_apply (y : S512x1024.Idx) : View.canon (modStores m c t p) y = LayerSpec.h2 (A m c) ((t.val - 1) / 4) (x (y 0).val) (y 1).val := by
  have y0 : (y 0).val < 512 := (y 0).isLt
  have y1 : (y 1).val < 1024 := (y 1).isLt
  have hw (o : ℕ) (inb) (r : Fin 64) (j : Fin 1024) : (modPiece m c t p o inb).2 (ix2 r j) = LayerSpec.h2 (A m c) ((t.val - 1) / 4) (x (o + r.val)) (0 + j.val) := by
    rw [Nat.zero_add]; exact modPiece_apply m c t p h0 x hx o inb r j
  unfold modStores
  refine rect_step (e := .bf16) 448 0 64 1024 _ _ _ (fun a b => LayerSpec.h2 (A m c) ((t.val - 1) / 4) (x a) b) ?_ y fun n0 => ?_
  · exact hw 448 _
  refine rect_step (e := .bf16) 384 0 64 1024 _ _ _ (fun a b => LayerSpec.h2 (A m c) ((t.val - 1) / 4) (x a) b) ?_ y fun n1 => ?_
  · exact hw 384 _
  refine rect_step (e := .bf16) 320 0 64 1024 _ _ _ (fun a b => LayerSpec.h2 (A m c) ((t.val - 1) / 4) (x a) b) ?_ y fun n2 => ?_
  · exact hw 320 _
  refine rect_step (e := .bf16) 256 0 64 1024 _ _ _ (fun a b => LayerSpec.h2 (A m c) ((t.val - 1) / 4) (x a) b) ?_ y fun n3 => ?_
  · exact hw 256 _
  refine rect_step (e := .bf16) 192 0 64 1024 _ _ _ (fun a b => LayerSpec.h2 (A m c) ((t.val - 1) / 4) (x a) b) ?_ y fun n4 => ?_
  · exact hw 192 _
  refine rect_step (e := .bf16) 128 0 64 1024 _ _ _ (fun a b => LayerSpec.h2 (A m c) ((t.val - 1) / 4) (x a) b) ?_ y fun n5 => ?_
  · exact hw 128 _
  refine rect_step (e := .bf16) 64 0 64 1024 _ _ _ (fun a b => LayerSpec.h2 (A m c) ((t.val - 1) / 4) (x a) b) ?_ y fun n6 => ?_
  · exact hw 64 _
  refine rect_step (e := .bf16) 0 0 64 1024 _ _ _ (fun a b => LayerSpec.h2 (A m c) ((t.val - 1) / 4) (x a) b) ?_ y fun n7 => ?_
  · exact hw 0 _
  exfalso
  omega

include h0 hx in
/-- The weighted rows. -/
theorem resStores_apply (y : S512x1024.Idx) : View.canon (resStores t p) y = LayerSpec.alpha * x (y 0).val (y 1).val := by
  have y0 : (y 0).val < 512 := (y 0).isLt
  have y1 : (y 1).val < 1024 := (y 1).isLt
  have hw (o : ℕ) (inb) (r : Fin 64) (j : Fin 1024) : (resPiece t p o inb).2 (ix2 r j) = LayerSpec.alpha * x (o + r.val) (0 + j.val) := by
    rw [Nat.zero_add]; exact resPiece_apply t p h0 x hx o inb r j
  unfold resStores
  refine rect_step (e := .f32) 448 0 64 1024 _ _ _ (fun a b => LayerSpec.alpha * x a b) ?_ y fun n0 => ?_
  · exact hw 448 _
  refine rect_step (e := .f32) 384 0 64 1024 _ _ _ (fun a b => LayerSpec.alpha * x a b) ?_ y fun n1 => ?_
  · exact hw 384 _
  refine rect_step (e := .f32) 320 0 64 1024 _ _ _ (fun a b => LayerSpec.alpha * x a b) ?_ y fun n2 => ?_
  · exact hw 320 _
  refine rect_step (e := .f32) 256 0 64 1024 _ _ _ (fun a b => LayerSpec.alpha * x a b) ?_ y fun n3 => ?_
  · exact hw 256 _
  refine rect_step (e := .f32) 192 0 64 1024 _ _ _ (fun a b => LayerSpec.alpha * x a b) ?_ y fun n4 => ?_
  · exact hw 192 _
  refine rect_step (e := .f32) 128 0 64 1024 _ _ _ (fun a b => LayerSpec.alpha * x a b) ?_ y fun n5 => ?_
  · exact hw 128 _
  refine rect_step (e := .f32) 64 0 64 1024 _ _ _ (fun a b => LayerSpec.alpha * x a b) ?_ y fun n6 => ?_
  · exact hw 64 _
  refine rect_step (e := .f32) 0 0 64 1024 _ _ _ (fun a b => LayerSpec.alpha * x a b) ?_ y fun n7 => ?_
  · exact hw 0 _
  exfalso
  omega

include h0 hx in
/-- The modulated rows, read back. -/
theorem modded_apply (r : Fin 512) (k : Fin 1024) : modded m c t p (ix2 r k) = LayerSpec.h2 (A m c) ((t.val - 1) / 4) (x r.val) k.val := by
  refine (readCov_at _ _ (Rect.unit (s := S512x1024) ![0, 0] S512x1024.size inb_S512x1024_S512x1024_0_0) (ix2 r k) (ix2 r k) fun a => ?_).trans (modStores_apply m c t p h0 x hx _)
  fin_cases a
  · show r.val = 0 + 1 * r.val; omega
  · show k.val = 0 + 1 * k.val; omega

include h0 hx in
/-- A block of the hidden layer before its square, read at an index. -/
theorem rectified_apply (o : ℕ) (inbw) (inbb) (r j : Fin 512) :
    rectified m c t p (upWeights m c t o inbw) (upBias m c t o inbb) (ix2 r j) = LayerSpec.act (A m c) (B m c) ((t.val - 1) / 4) (x r.val) (o + j.val) := by
  show max (matmul _ none _ _ _ (ix2 r j) + broadcastTo S512x512 _ _ (ix2 r j)) (Ideal.ofBits .f32 0x00000000#32) = _
  rw [tile_matmul, stretch (m := 512) (n := 512) _ _ (ix2 r j)]
  unfold LayerSpec.act
  refine congrArg (fun y => max y (Ideal.ofBits .f32 0x00000000#32)) (congrArg₂ (· + ·) (Finset.sum_congr rfl fun k _ => ?_) (upBias_apply m c t o inbb j))
  exact congrArg₂ (· * ·) (modded_apply m c t p h0 x hx r k) (upWeights_apply m c t o inbw k j)

include h0 hx in
/-- A block of the hidden layer, read at an index. -/
theorem actPiece_apply (o : ℕ) (inb) (inbw) (inbb) (r j : Fin 512) : (actPiece m c t p o inb inbw inbb).2 (ix2 r j)
    = LayerSpec.act (A m c) (B m c) ((t.val - 1) / 4) (x r.val) (o + j.val) * LayerSpec.act (A m c) (B m c) ((t.val - 1) / 4) (x r.val) (o + j.val) := by
  unfold actPiece
  dsimp only
  rw [shapeCast_self]
  have e := rectified_apply m c t p h0 x hx o inbw inbb r j
  show rectified m c t p _ _ (ix2 r j) * rectified m c t p _ _ (ix2 r j) = _
  rw [e]

include h0 hx in
/-- The hidden layer. -/
theorem actStores_apply (y : S512x4096.Idx) : View.canon (actStores m c t p) y
    = LayerSpec.act (A m c) (B m c) ((t.val - 1) / 4) (x (y 0).val) (y 1).val * LayerSpec.act (A m c) (B m c) ((t.val - 1) / 4) (x (y 0).val) (y 1).val := by
  have y0 : (y 0).val < 512 := (y 0).isLt
  have y1 : (y 1).val < 4096 := (y 1).isLt
  have hw (o : ℕ) (inb) (inbw) (inbb) (r j : Fin 512) : (actPiece m c t p o inb inbw inbb).2 (ix2 r j)
      = LayerSpec.act (A m c) (B m c) ((t.val - 1) / 4) (x (0 + r.val)) (o + j.val) * LayerSpec.act (A m c) (B m c) ((t.val - 1) / 4) (x (0 + r.val)) (o + j.val) := by
    rw [Nat.zero_add]; exact actPiece_apply m c t p h0 x hx o inb inbw inbb r j
  unfold actStores
  refine rect_step (e := .bf16) 0 3584 512 512 _ _ _ (fun a b => LayerSpec.act (A m c) (B m c) ((t.val - 1) / 4) (x a) b * LayerSpec.act (A m c) (B m c) ((t.val - 1) / 4) (x a) b) ?_ y fun n0 => ?_
  · exact hw 3584 (by decide) (by decide) (by decide)
  refine rect_step (e := .bf16) 0 3072 512 512 _ _ _ (fun a b => LayerSpec.act (A m c) (B m c) ((t.val - 1) / 4) (x a) b * LayerSpec.act (A m c) (B m c) ((t.val - 1) / 4) (x a) b) ?_ y fun n1 => ?_
  · exact hw 3072 (by decide) (by decide) (by decide)
  refine rect_step (e := .bf16) 0 2560 512 512 _ _ _ (fun a b => LayerSpec.act (A m c) (B m c) ((t.val - 1) / 4) (x a) b * LayerSpec.act (A m c) (B m c) ((t.val - 1) / 4) (x a) b) ?_ y fun n2 => ?_
  · exact hw 2560 (by decide) (by decide) (by decide)
  refine rect_step (e := .bf16) 0 2048 512 512 _ _ _ (fun a b => LayerSpec.act (A m c) (B m c) ((t.val - 1) / 4) (x a) b * LayerSpec.act (A m c) (B m c) ((t.val - 1) / 4) (x a) b) ?_ y fun n3 => ?_
  · exact hw 2048 (by decide) (by decide) (by decide)
  refine rect_step (e := .bf16) 0 1536 512 512 _ _ _ (fun a b => LayerSpec.act (A m c) (B m c) ((t.val - 1) / 4) (x a) b * LayerSpec.act (A m c) (B m c) ((t.val - 1) / 4) (x a) b) ?_ y fun n4 => ?_
  · exact hw 1536 (by decide) (by decide) (by decide)
  refine rect_step (e := .bf16) 0 1024 512 512 _ _ _ (fun a b => LayerSpec.act (A m c) (B m c) ((t.val - 1) / 4) (x a) b * LayerSpec.act (A m c) (B m c) ((t.val - 1) / 4) (x a) b) ?_ y fun n5 => ?_
  · exact hw 1024 (by decide) (by decide) (by decide)
  refine rect_step (e := .bf16) 0 512 512 512 _ _ _ (fun a b => LayerSpec.act (A m c) (B m c) ((t.val - 1) / 4) (x a) b * LayerSpec.act (A m c) (B m c) ((t.val - 1) / 4) (x a) b) ?_ y fun n6 => ?_
  · exact hw 512 (by decide) (by decide) (by decide)
  refine rect_step (e := .bf16) 0 0 512 512 _ _ _ (fun a b => LayerSpec.act (A m c) (B m c) ((t.val - 1) / 4) (x a) b * LayerSpec.act (A m c) (B m c) ((t.val - 1) / 4) (x a) b) ?_ y fun n7 => ?_
  · exact hw 0 (by decide) (by decide) (by decide)
  exfalso
  omega

include h0 hx in
/-- The hidden layer, read back. -/
theorem hidden_apply (r : Fin 512) (k : Fin 4096) : hidden m c t p (ix2 r k)
    = LayerSpec.act (A m c) (B m c) ((t.val - 1) / 4) (x r.val) k.val * LayerSpec.act (A m c) (B m c) ((t.val - 1) / 4) (x r.val) k.val := by
  refine (readCov_at _ _ (Rect.unit (s := S512x4096) ![0, 0] S512x4096.size inb_S512x4096_S512x4096_0_0) (ix2 r k) (ix2 r k) fun a => ?_).trans (actStores_apply m c t p h0 x hx _)
  fin_cases a
  · show r.val = 0 + 1 * r.val; omega
  · show k.val = 0 + 1 * k.val; omega

include h0 hx in
/-- A block of the feed-forward part, read at an index. -/
theorem ffPiece_apply (o : ℕ) (inb) (inbw) (inbb) (r : Fin 512) (j : Fin 256) : (ffPiece m c t p o inb inbw inbb).2 (ix2 r j)
    = LayerSpec.ff (A m c) (B m c) ((t.val - 1) / 4) (x r.val) (o + j.val) := by
  unfold ffPiece
  dsimp only
  rw [shapeCast_self]
  show matmul _ none _ _ _ (ix2 r j) + broadcastTo S512x256 _ _ (ix2 r j) = _
  rw [down_matmul, stretch (m := 512) (n := 256) _ _ (ix2 r j)]
  unfold LayerSpec.ff
  exact congrArg₂ (· + ·) (Finset.sum_congr rfl fun k _ => congrArg₂ (· * ·) (hidden_apply m c t p h0 x hx r k) (downWeights_apply m c t o inbw k j))
    (downBias_apply m c t o inbb j)

include h0 hx in
/-- The feed-forward part. -/
theorem ffStores_apply (y : S512x1024.Idx) : View.canon (ffStores m c t p) y = LayerSpec.ff (A m c) (B m c) ((t.val - 1) / 4) (x (y 0).val) (y 1).val := by
  have y0 : (y 0).val < 512 := (y 0).isLt
  have y1 : (y 1).val < 1024 := (y 1).isLt
  have hw (o : ℕ) (inb) (inbw) (inbb) (r : Fin 512) (j : Fin 256) : (ffPiece m c t p o inb inbw inbb).2 (ix2 r j)
      = LayerSpec.ff (A m c) (B m c) ((t.val - 1) / 4) (x (0 + r.val)) (o + j.val) := by
    rw [Nat.zero_add]; exact ffPiece_apply m c t p h0 x hx o inb inbw inbb r j
  unfold ffStores
  refine rect_step (e := .f32) 0 768 512 256 _ _ _ (fun a b => LayerSpec.ff (A m c) (B m c) ((t.val - 1) / 4) (x a) b) ?_ y fun n0 => ?_
  · exact hw 768 (by decide) (by decide) (by decide)
  refine rect_step (e := .f32) 0 512 512 256 _ _ _ (fun a b => LayerSpec.ff (A m c) (B m c) ((t.val - 1) / 4) (x a) b) ?_ y fun n1 => ?_
  · exact hw 512 (by decide) (by decide) (by decide)
  refine rect_step (e := .f32) 0 256 512 256 _ _ _ (fun a b => LayerSpec.ff (A m c) (B m c) ((t.val - 1) / 4) (x a) b) ?_ y fun n2 => ?_
  · exact hw 256 (by decide) (by decide) (by decide)
  refine rect_step (e := .f32) 0 0 512 256 _ _ _ (fun a b => LayerSpec.ff (A m c) (B m c) ((t.val - 1) / 4) (x a) b) ?_ y fun n3 => ?_
  · exact hw 0 (by decide) (by decide) (by decide)
  exfalso
  omega

include h0 hx in
/-- Sixty-four rows of the layer's output, read at an index. -/
theorem outPiece_apply (o : ℕ) (inb) (inb') (r : Fin 64) (k : Fin 1024) : (outPiece m c t p o inb inb').2 (ix3 0 r k)
    = LayerSpec.mlp (A m c) (B m c) ((t.val - 1) / 4) (x (o + r.val)) k.val := by
  have ho : o + 64 ≤ 512 := inb 0
  unfold outPiece
  dsimp only
  refine (shapeCast_apply _ shapeCasts_S64x1024_S1x64x1024 (ix3 0 r k) (ix2 r k) ?_).trans ?_
  · rw [Shape.rowMajor_val_two, Shape.rowMajor_val_three]
    show r.val * 1024 + k.val = (0 * 64 + r.val) * 1024 + k.val
    omega
  have part {e : EltTy} (V : View Cert.KernelIdeal.sig .tc .vmem S512x1024 e) (L : List (View.Piece (Elt Ideal) S512x1024 e)) (j : Fin 1024) :
      V.readCov L (Rect.unit (s := S512x1024) ![o, 0] S64x1024.size inb).toLoadRect (ix2 r j) = View.canon L (ix2 ⟨o + r.val, by omega⟩ j) := by
    refine readCov_at _ _ (Rect.unit (s := S512x1024) ![o, 0] S64x1024.size inb) (ix2 r j) _ fun a => ?_
    fin_cases a
    · show o + r.val = o + 1 * r.val; omega
    · show j.val = 0 + 1 * j.val; omega
  refine lnRows_apply _ _ _ (LayerSpec.y2 (A m c) (B m c) ((t.val - 1) / 4) (x (o + r.val))) (B m c).g2 (B m c).b2 r (fun j => ?_) (gain2_apply m c t _) (bias2_apply m c t _) k
  rw [add_rows, mul_rows, part, part, raised_apply]
  unfold LayerSpec.y2
  exact congrArg₂ (· + ·) (resStores_apply t p h0 x hx _) (congrArg₂ (· * ·)
    (congrArg (one + ·) (modRow_apply m c t _ _ ⟨(t.val - 1) / 4, before_lt t⟩ 5 (gate2_off t) j)) (ffStores_apply m c t p h0 x hx _))

include h0 hx in
/-- The layer's output block. -/
theorem layerStores_apply (y : S1x512x1024.Idx) : View.canon (layerStores m c t p) y = LayerSpec.mlp (A m c) (B m c) ((t.val - 1) / 4) (x (y 1).val) (y 2).val := by
  have y1 : (y 1).val < 512 := (y 1).isLt
  have hw (o : ℕ) (inb) (inb') := outPiece_apply m c t p h0 x hx o inb inb'
  unfold layerStores
  refine sheet_step (e := .f32) 448 64 _ _ _ (fun a b => LayerSpec.mlp (A m c) (B m c) ((t.val - 1) / 4) (x a) b) ?_ y fun n0 => ?_
  · exact hw 448 (by decide) (by decide)
  refine sheet_step (e := .f32) 384 64 _ _ _ (fun a b => LayerSpec.mlp (A m c) (B m c) ((t.val - 1) / 4) (x a) b) ?_ y fun n1 => ?_
  · exact hw 384 (by decide) (by decide)
  refine sheet_step (e := .f32) 320 64 _ _ _ (fun a b => LayerSpec.mlp (A m c) (B m c) ((t.val - 1) / 4) (x a) b) ?_ y fun n2 => ?_
  · exact hw 320 (by decide) (by decide)
  refine sheet_step (e := .f32) 256 64 _ _ _ (fun a b => LayerSpec.mlp (A m c) (B m c) ((t.val - 1) / 4) (x a) b) ?_ y fun n3 => ?_
  · exact hw 256 (by decide) (by decide)
  refine sheet_step (e := .f32) 192 64 _ _ _ (fun a b => LayerSpec.mlp (A m c) (B m c) ((t.val - 1) / 4) (x a) b) ?_ y fun n4 => ?_
  · exact hw 192 (by decide) (by decide)
  refine sheet_step (e := .f32) 128 64 _ _ _ (fun a b => LayerSpec.mlp (A m c) (B m c) ((t.val - 1) / 4) (x a) b) ?_ y fun n5 => ?_
  · exact hw 128 (by decide) (by decide)
  refine sheet_step (e := .f32) 64 64 _ _ _ (fun a b => LayerSpec.mlp (A m c) (B m c) ((t.val - 1) / 4) (x a) b) ?_ y fun n6 => ?_
  · exact hw 64 (by decide) (by decide)
  refine sheet_step (e := .f32) 0 64 _ _ _ (fun a b => LayerSpec.mlp (A m c) (B m c) ((t.val - 1) / 4) (x a) b) ?_ y fun n7 => ?_
  · exact hw 0 (by decide) (by decide)
  exfalso
  omega

include h0 hx in
/-- What a point leaves in the layer's output block. -/
theorem layerOut_apply (y : S1x512x1024.Idx) : Frame.layerOut m c t p y = LayerSpec.mlp (A m c) (B m c) ((t.val - 1) / 4) (x (y 1).val) (y 2).val := by
  unfold Frame.layerOut
  rw [layer_eq m c t p]
  exact layerStores_apply m c t p h0 x hx y

end Cert.KernelIdeal.Point

end
-- ==== Proof.RowPoint.lean ====
module

public import proofs.«01_k».proof.Proof.ConvPoint
public import proofs.«01_k».proof.Proof.HeadPoint
public import proofs.«01_k».proof.Proof.MixRun
public import proofs.«01_k».proof.Proof.MlpPoint

@[expose] public section

set_option maxRecDepth 16384

noncomputable section

/-! The mixer's rows of a tile: the mixed rows, their projection and the first norm, each read at an index. -/

namespace Cert.KernelIdeal.Point

open Cert.KernelIdeal Cert.KernelIdeal.Gen Cert.KernelIdeal.Ops Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

section
variable (ht : t.val < 32) (hs : ∀ y, (if Body.bodyRun.sl.v52 (grid0.coords t) = 1#1 then 0 else p.1 y) = laid m c (t.val / 4) (8 * (t.val % 4)) y)
  (hU : ∀ (r : Fin 544) (j : Fin 512), r.val < 32 → (if Body.bodyRun.sl.v52 (grid0.coords t) = 1#1 then (0 : EReal) else p.2.1 (ix2 r j)) = win m c t r.val j.val)

include ht hs hU in
/-- The mixed rows. -/
theorem mixStores_apply (y : S512x1024.Idx) : View.canon (mixStoresOf m c t p (sumStores m c t p)) y
    = LayerSpec.mix (A m c) (B m c) (t.val / 4) (512 * (t.val % 4) + (y 0).val) (y 1).val := by
  have y0 : (y 0).val < 512 := (y 0).isLt
  have y1 : (y 1).val < 1024 := (y 1).isLt
  unfold mixStoresOf
  refine rect_step (e := .bf16) 0 512 512 512 _ _ _ (fun a b => LayerSpec.mix (A m c) (B m c) (t.val / 4) (512 * (t.val % 4) + a) b) (fun r j => ?_) y fun n => ?_
  · refine (normed_apply m c t p ht hU _ _ r j).trans ?_
    unfold LayerSpec.mix
    rw [if_neg (by omega), Nat.zero_add, Nat.add_sub_cancel_left]
  · exact heads_apply m c t p ht hs y (by omega)

/-- The mixed rows, read back. -/
theorem mixedOf_apply (L : List (View.Piece (Elt Ideal) S512x1024 .bf16)) (G : ℕ → ℕ → EReal) (hL : ∀ y : S512x1024.Idx, View.canon L y = G (y 0).val (y 1).val) (r : Fin 512) (k : Fin 1024) :
    mixedOf L (ix2 r k) = G r.val k.val := by
  refine (readCov_at _ L (Rect.unit (s := S512x1024) ![0, 0] S512x1024.size inb_S512x1024_S512x1024_0_0) (ix2 r k) (ix2 r k) fun a => ?_).trans (hL _)
  fin_cases a
  · show r.val = 0 + 1 * r.val; omega
  · show k.val = 0 + 1 * k.val; omega

variable (L : List (View.Piece (Elt Ideal) S512x1024 .bf16))
  (hL : ∀ y : S512x1024.Idx, View.canon L y = LayerSpec.mix (A m c) (B m c) (t.val / 4) (512 * (t.val % 4) + (y 0).val) (y 1).val)

include hL in
/-- The out-projection, read at an index. -/
theorem projectedOf_apply (r : Fin 512) (k : Fin 1024) : projectedOf m c t L (ix2 r k) = LayerSpec.proj (A m c) (B m c) (t.val / 4) (512 * (t.val % 4) + r.val) k.val := by
  unfold projectedOf
  show matmul _ none _ _ _ (ix2 r k) + broadcastTo S512x1024 _ _ (ix2 r k) = _
  rw [out_matmul, stretch (m := 512) (n := 1024) _ _ (ix2 r k)]
  unfold LayerSpec.proj
  exact congrArg₂ (· + ·) (Finset.sum_congr rfl fun j _ => congrArg₂ (· * ·)
    (mixedOf_apply L (fun a b => LayerSpec.mix (A m c) (B m c) (t.val / 4) (512 * (t.val % 4) + a) b) hL r j) (outWeights_apply m c t _ j k)) (outBias_apply m c t _ k)

/-- A residual sum of 64 rows, read at an index. -/
theorem residual_apply (x : FVec Ideal S1x64x1024 .f32) (g w : FVec Ideal S64x1024 .f32) (i : S64x1024.Idx) :
    addf (mulf (broadcast S64x1024 (Scalar.ofBits .f32 0x3F9837F0#32)) (shapeCast S64x1024 x shapeCasts_S1x64x1024_S64x1024)) (mulf g w) i
      = LayerSpec.alpha * shapeCast S64x1024 x shapeCasts_S1x64x1024_S64x1024 i + g i * w i := rfl

include ht hL in
/-- Sixty-four rows after the first norm, read at an index. -/
theorem normPiece_apply (o : ℕ) (inb) (inb') (hs') (r : Fin 64) (k : Fin 1024) : (normPiece m c t (projectedOf m c t L) o inb inb' hs').2 (ix2 r k)
    = LayerSpec.x1 (A m c) (B m c) (t.val / 4) (512 * (t.val % 4) + (o + r.val)) k.val := by
  have ho : o + 64 ≤ 512 := inb 0
  have hr := r.isLt
  unfold normPiece
  dsimp only
  rw [shapeCast_self]
  refine lnRows_apply _ _ _ (LayerSpec.y1 (A m c) (B m c) (t.val / 4) (512 * (t.val % 4) + (o + r.val))) (B m c).g1 (B m c).b1 r (fun j => ?_) (gain1_apply m c t _) (bias1_apply m c t _) k
  rw [residual_apply, raised_apply]
  unfold LayerSpec.y1
  refine congrArg₂ (· + ·) (congrArg (_ * ·) ((shapeCast_1ab_ab_apply _ _ r j).trans (xRows_apply m c t ht o inb' r j))) (congrArg₂ (· * ·)
    (congrArg (one + ·) (modRow_apply m c t _ _ ⟨t.val / 4, by omega⟩ 2 (gate1_off t ht) j)) ?_)
  refine (extractStridedSlice_apply _ _ hs' (ix2 r j) (ix2 ⟨o + r.val, by omega⟩ j) fun a => ?_).trans (projectedOf_apply m c t L hL _ _)
  fin_cases a
  · show o + r.val = o + r.val; rfl
  · show j.val = 0 + j.val; omega

include ht hL in
/-- The mixer's rows. -/
theorem normStores_apply (y : S512x1024.Idx) : View.canon (normStores m c t L) y = LayerSpec.x1 (A m c) (B m c) (t.val / 4) (512 * (t.val % 4) + (y 0).val) (y 1).val := by
  have y0 : (y 0).val < 512 := (y 0).isLt
  have y1 : (y 1).val < 1024 := (y 1).isLt
  unfold normStores
  refine rect_step (e := .f32) 448 0 64 1024 _ _ _ (fun a b => LayerSpec.x1 (A m c) (B m c) (t.val / 4) (512 * (t.val % 4) + a) b) (fun r j => ?_) y fun n0 => ?_
  · rw [Nat.zero_add]; exact normPiece_apply m c t ht L hL 448 (by decide) inb_S1x512x1024_S1x64x1024_0_448_0 slices_S512x1024_o448_0_S64x1024 r j
  refine rect_step (e := .f32) 384 0 64 1024 _ _ _ (fun a b => LayerSpec.x1 (A m c) (B m c) (t.val / 4) (512 * (t.val % 4) + a) b) (fun r j => ?_) y fun n1 => ?_
  · rw [Nat.zero_add]; exact normPiece_apply m c t ht L hL 384 (by decide) inb_S1x512x1024_S1x64x1024_0_384_0 slices_S512x1024_o384_0_S64x1024 r j
  refine rect_step (e := .f32) 320 0 64 1024 _ _ _ (fun a b => LayerSpec.x1 (A m c) (B m c) (t.val / 4) (512 * (t.val % 4) + a) b) (fun r j => ?_) y fun n2 => ?_
  · rw [Nat.zero_add]; exact normPiece_apply m c t ht L hL 320 (by decide) inb_S1x512x1024_S1x64x1024_0_320_0 slices_S512x1024_o320_0_S64x1024 r j
  refine rect_step (e := .f32) 256 0 64 1024 _ _ _ (fun a b => LayerSpec.x1 (A m c) (B m c) (t.val / 4) (512 * (t.val % 4) + a) b) (fun r j => ?_) y fun n3 => ?_
  · rw [Nat.zero_add]; exact normPiece_apply m c t ht L hL 256 (by decide) inb_S1x512x1024_S1x64x1024_0_256_0 slices_S512x1024_o256_0_S64x1024 r j
  refine rect_step (e := .f32) 192 0 64 1024 _ _ _ (fun a b => LayerSpec.x1 (A m c) (B m c) (t.val / 4) (512 * (t.val % 4) + a) b) (fun r j => ?_) y fun n4 => ?_
  · rw [Nat.zero_add]; exact normPiece_apply m c t ht L hL 192 (by decide) inb_S1x512x1024_S1x64x1024_0_192_0 slices_S512x1024_o192_0_S64x1024 r j
  refine rect_step (e := .f32) 128 0 64 1024 _ _ _ (fun a b => LayerSpec.x1 (A m c) (B m c) (t.val / 4) (512 * (t.val % 4) + a) b) (fun r j => ?_) y fun n5 => ?_
  · rw [Nat.zero_add]; exact normPiece_apply m c t ht L hL 128 (by decide) inb_S1x512x1024_S1x64x1024_0_128_0 slices_S512x1024_o128_0_S64x1024 r j
  refine rect_step (e := .f32) 64 0 64 1024 _ _ _ (fun a b => LayerSpec.x1 (A m c) (B m c) (t.val / 4) (512 * (t.val % 4) + a) b) (fun r j => ?_) y fun n6 => ?_
  · rw [Nat.zero_add]; exact normPiece_apply m c t ht L hL 64 (by decide) inb_S1x512x1024_S1x64x1024_0_64_0 slices_S512x1024_o64_0_S64x1024 r j
  refine rect_step (e := .f32) 0 0 64 1024 _ _ _ (fun a b => LayerSpec.x1 (A m c) (B m c) (t.val / 4) (512 * (t.val % 4) + a) b) (fun r j => ?_) y fun n7 => ?_
  · exact (normPiece_apply m c t ht L hL 0 (by decide) inb_S1x512x1024_S1x64x1024_0_0_0 slices_S512x1024_o0_0_S64x1024 r j).trans (by rw [Nat.zero_add, Nat.zero_add])
  exfalso
  omega

end

section
variable (ht : t.val < 32) (hs : ∀ y, (if Body.bodyRun.sl.v52 (grid0.coords t) = 1#1 then 0 else p.1 y) = laid m c (t.val / 4) (8 * (t.val % 4)) y)
  (hU : ∀ (r : Fin 544) (j : Fin 512), r.val < 32 → (if Body.bodyRun.sl.v52 (grid0.coords t) = 1#1 then (0 : EReal) else p.2.1 (ix2 r j)) = win m c t r.val j.val)

include ht hs hU in
/-- What a tile's point leaves in the row scratch: the mixer's rows. -/
theorem held_rows (y : S512x1024.Idx) : (Frame.heldAfter m c t p).2.2 y = LayerSpec.x1 (A m c) (B m c) (t.val / 4) (512 * (t.val % 4) + (y 0).val) (y 1).val := by
  have e : (Frame.heldAfter m c t p).2.2 = View.canon (normStores m c t (mixStoresOf m c t p (sumStores m c t p))) := by
    unfold Frame.heldAfter
    dsimp only
    rw [norm_eq, mix_eq, sum_eq]
  rw [e]
  exact normStores_apply m c t ht _ (mixStores_apply m c t p ht hs hU) y

end

include m in
/-- What a tile's point carries in the convolution scratch: its last 32 rows. -/
theorem held_window (ht : t.val < 32) (r : Fin 544) (j : Fin 512) (hr : r.val < 32) : (Frame.heldAfter m c t p).2.1 (ix2 r j) = win m c t (512 + r.val) j.val := by
  have e : (Frame.heldAfter m c t p).2.1 = View.canon (convCarried m c t) := by
    unfold Frame.heldAfter
    dsimp only
    rw [carried_eq]
  rw [e]
  unfold convCarried
  refine (canon_at (Rect.unit (s := S544x512) ![0, 0] S32x512.size inb_S544x512_S32x512_0_0) _ _ (ix2 (⟨r.val, hr⟩ : Fin 32) j) _ fun a => ?_).trans ?_
  · fin_cases a
    · show r.val = 0 + 1 * r.val; omega
    · show j.val = 0 + 1 * j.val; omega
  unfold k0_pay529
  rw [shapeCast_self]
  refine (readCov_at _ _ (Rect.unit (s := S544x512) ![512, 0] S32x512.size inb_S544x512_S32x512_512_0) (ix2 (⟨r.val, hr⟩ : Fin 32) j)
    (ix2 (⟨512 + r.val, by omega⟩ : Fin 544) j) fun a => ?_).trans ?_
  · fin_cases a
    · show 512 + r.val = 512 + 1 * r.val; omega
    · show j.val = 0 + 1 * j.val; omega
  refine (canon_at (Rect.unit (s := S544x512) ![32, 0] S512x512.size inb_S544x512_S512x512_32_0) _ _ (ix2 (⟨512 + r.val - 32, by omega⟩ : Fin 512) j) _ fun a => ?_).trans
    (win_own m c t ht (512 + r.val) (by omega) (by omega) j)
  fin_cases a
  · show 512 + r.val = 32 + 1 * (512 + r.val - 32); omega
  · show j.val = 0 + 1 * j.val; omega

end Cert.KernelIdeal.Point

end
-- ==== Proof.CarryPoint.lean ====
module

public import proofs.«01_k».proof.Proof.RowPoint

@[expose] public section

set_option maxRecDepth 16384

noncomputable section

/-! What the scratch holds before each tile's point, and the layer's output of the point after. -/

namespace Cert.KernelIdeal.Point

open Cert.KernelIdeal Cert.KernelIdeal.Gen Cert.KernelIdeal.Chunk Cert.KernelIdeal.Layer Cert.Spec
open Idealize.ShloMosaic Idealize.ShloMosaic.TcCoe Idealize.ShloMosaic.ValueIdx

variable (m : (b : Loc nD τ sig) → Buf (Elt Ideal) b) (c : Dev nD) (t : Fin cfg0.N) (p : Frame.Held Ideal)

/-- A tile's state starts as the sequence's state there. -/
theorem start_state (ht : t.val < 32) (hp : Frame.Carried m c t.val p) (y : S4x128x128.Idx) :
    (if Body.bodyRun.sl.v52 (grid0.coords t) = 1#1 then (0 : EReal) else p.1 y) = laid m c (t.val / 4) (8 * (t.val % 4)) y := by
  by_cases h0 : t.val % 4 = 0
  · rw [if_pos ((clear_iff t ht).mpr h0), h0]
    rfl
  · rw [if_neg fun h => h0 ((clear_iff t ht).mp h)]
    obtain ⟨n, hn⟩ := Nat.exists_eq_succ_of_ne_zero (n := t.val) (by omega)
    rw [hn] at hp
    refine (carried_apply m c n (by omega) p hp y).trans ?_
    rw [show t.val / 4 = n / 4 by omega, show t.val % 4 = n % 4 + 1 by omega]
    rfl

/-- A tile's window starts as the sequence's last rows before it, or zeros. -/
theorem start_window (ht : t.val < 32) (hp : Frame.Carried m c t.val p) (r : Fin 544) (j : Fin 512) (hr : r.val < 32) :
    (if Body.bodyRun.sl.v52 (grid0.coords t) = 1#1 then (0 : EReal) else p.2.1 (ix2 r j)) = win m c t r.val j.val := by
  by_cases h0 : t.val % 4 = 0
  · rw [if_pos ((clear_iff t ht).mpr h0)]
    unfold win LayerSpec.full
    rw [if_pos (by omega)]
  · rw [if_neg fun h => h0 ((clear_iff t ht).mp h)]
    obtain ⟨n, hn⟩ := Nat.exists_eq_succ_of_ne_zero (n := t.val) (by omega)
    rw [hn] at hp
    obtain ⟨hN, s', -, rfl⟩ := hp
    refine (held_window m c ⟨n, hN⟩ s' (by show n < 32; omega) r j hr).trans ?_
    unfold win
    show LayerSpec.full _ (n / 4) (512 * (n % 4) + (512 + r.val) - 2) _ = _
    rw [show t.val / 4 = n / 4 by omega, show 512 * (t.val % 4) + r.val - 2 = 512 * (n % 4) + (512 + r.val) - 2 by omega]

/-- What the row scratch holds after a tile's point: the mixer's rows. -/
theorem carried_rows (n : ℕ) (hn : n < 32) (hp : Frame.Carried m c (n + 1) p) (r : Fin 512) (k : Fin 1024) :
    p.2.2 (ix2 r k) = LayerSpec.x1 (A m c) (B m c) (n / 4) (512 * (n % 4) + r.val) k.val := by
  obtain ⟨hN, s', hs', rfl⟩ := hp
  exact held_rows m c ⟨n, hN⟩ s' hn (start_state m c ⟨n, hN⟩ s' hn hs') (start_window m c ⟨n, hN⟩ s' hn hs') (ix2 r k)

/-- What a point leaves in the layer's output: the rows of the tile before it. -/
theorem layer_apply (h0 : t.val ≠ 0) (ht : t.val < 33) (hp : Frame.Carried m c t.val p) (y : S1x512x1024.Idx) :
    Frame.layerOut m c t p y = LayerSpec.out (A m c) (B m c) ((t.val - 1) / 4) (512 * ((t.val - 1) % 4) + (y 1).val) (y 2).val := by
  obtain ⟨n, hn⟩ := Nat.exists_eq_succ_of_ne_zero h0
  rw [hn] at hp
  refine (layerOut_apply m c t p h0 (fun r => LayerSpec.x1 (A m c) (B m c) ((t.val - 1) / 4) (512 * ((t.val - 1) % 4) + r)) (fun r k => ?_) y).trans rfl
  rw [show t.val - 1 = n by omega]
  exact carried_rows m c p n (by omega) hp r k

end Cert.KernelIdeal.Point

end
-- ==== Proof.Outputs.lean ====
module

public import proofs.«01_k».proof.Proof.Advance
public import proofs.«01_k».proof.Proof.CarryPoint
public import Idealize.ShloMosaic.Lib.Pipeline.ArrRel

@[expose] public section

set_option maxRecDepth 16384

noncomputable section

/-! The three result arrays after the run: the layer's output, tile by tile, and the final states and the convolution buffers, sequence by sequence. -/

namespace Cert.KernelIdeal.Point

open Cert.KernelIdeal Cert.KernelIdeal.Gen Cert.Spec
open Idealize.ShloMosaic Idealize.ShloMosaic.Pipeline Idealize.ShloMosaic.TcCoe Idealize.ShloMosaic.ValueIdx

variable (m : (b : Loc nD τ sig) → Buf (Elt Ideal) b) (c : Dev nD)

/-- Where the state output is written back: at a sequence's last tile, and for the last sequence one point later. -/
theorem flush_state : ∀ t : Fin cfg0.N, (cfg0.win 22).flush t = true →
    (t.val < 32 ∧ t.val % 4 = 3 ∧ win0_22.index t = ![t.val / 4, 0, 0, 0]) ∨ (t.val = 32 ∧ win0_22.index t = ![7, 0, 0, 0]) := by decide +kernel
/-- Where the convolution output is written back: the same points. -/
theorem flush_conv : ∀ t : Fin cfg0.N, (cfg0.win 23).flush t = true →
    (t.val < 32 ∧ t.val % 4 = 3 ∧ win0_23.index t = ![t.val / 4, 0, 0]) ∨ (t.val = 32 ∧ win0_23.index t = ![7, 0, 0]) := by decide +kernel
/-- The state output is not written back just before the last point. -/
theorem held_state : ∀ t : Fin cfg0.N, t.val = 32 → (cfg0.win 22).fetch t = false
    ∧ (cfg0.win 22).flush ⟨t.val - 1, Nat.lt_of_le_of_lt (Nat.sub_le _ _) t.isLt⟩ = false := by decide +kernel
/-- The convolution output is not written back just before the last point. -/
theorem held_conv : ∀ t : Fin cfg0.N, t.val = 32 → (cfg0.win 23).fetch t = false
    ∧ (cfg0.win 23).flush ⟨t.val - 1, Nat.lt_of_le_of_lt (Nat.sub_le _ _) t.isLt⟩ = false := by decide +kernel

/-- Where the layer's output is written back: at every point but the first, on the block of the tile before. -/
theorem flush_out : ∀ t : Fin cfg0.N, (cfg0.win 21).flush t = true → t.val ≠ 0 ∧ t.val < 33 ∧ win0_21.index t = ![(t.val - 1) / 4, (t.val - 1) % 4, 0] := by decide +kernel

/-- What a point leaves in the layer output's buffer. -/
theorem leaves_out (t : Fin cfg0.N) (h0 : t.val ≠ 0) (h : t.val < 33) (X : Vec Ideal S1x512x1024 .f32) (hX : (Frame.rdat m c).Leaves 21 t X) (y : S1x512x1024.Idx) :
    X y = LayerSpec.out (A m c) (B m c) ((t.val - 1) / 4) (512 * ((t.val - 1) % 4) + (y 1).val) (y 2).val := by
  obtain ⟨Y, -, s, hs, e⟩ := hX
  rw [e]
  exact layer_apply m c t s h0 h hs y

/-- What a sequence's last tile leaves in the state output's buffer. -/
theorem leaves_state (t : Fin cfg0.N) (h : t.val < 32) (h3 : t.val % 4 = 3) (X : Vec Ideal S1x4x128x128 .f32) (hX : (Frame.rdat m c).Leaves 22 t X) (y : S1x4x128x128.Idx) :
    X y = state (A m c) (t.val / 4) 32 (y 1).val (y 2).val (y 3).val := by
  obtain ⟨Y, -, s, hs, e⟩ := hX
  rw [if_pos ((last_iff t).mpr ⟨h, h3⟩)] at e
  rw [e]
  refine (stateOut_apply m c t s h hs y).trans ?_
  rw [h3]

/-- What a sequence's last tile leaves in the convolution output's buffer. -/
theorem leaves_conv (t : Fin cfg0.N) (h : t.val < 32) (h3 : t.val % 4 = 3) (X : Vec Ideal S1x30x512 .f32) (hX : (Frame.rdat m c).Leaves 23 t X) (y : S1x30x512.Idx) :
    X y = u (A m c) (t.val / 4) (2018 + (y 1).val) (y 2).val := by
  obtain ⟨Y, -, s, hs, e⟩ := hX
  rw [if_pos ((last_iff t).mpr ⟨h, h3⟩)] at e
  rw [e]
  refine (convOut_apply m c t s h y).trans ?_
  rw [h3, ← add_assoc]

/-- What the last point leaves in the state output's buffer: the last sequence's state. -/
theorem leaves_state_last (t : Fin cfg0.N) (h : t.val = 32) (X : Vec Ideal S1x4x128x128 .f32) (hX : (Frame.rdat m c).Leaves 22 t X) (y : S1x4x128x128.Idx) :
    X y = state (A m c) 7 32 (y 1).val (y 2).val (y 3).val := by
  obtain ⟨Y, hY, s, hs, e⟩ := hX
  rw [if_neg fun hc => absurd ((last_iff t).mp hc).1 (by omega)] at e
  subst e
  have hl := (((Frame.rdat m c).finds_of_pos (held_state t h).1 (by omega) _).mp hY).resolve_left (by rw [(held_state t h).2]; exact Bool.false_ne_true)
  refine (leaves_state m c _ (by show t.val - 1 < 32; omega) (by show (t.val - 1) % 4 = 3; omega) _ hl y).trans ?_
  show state _ ((t.val - 1) / 4) _ _ _ _ = _
  rw [h]

/-- What the last point leaves in the convolution output's buffer: the last sequence's rows. -/
theorem leaves_conv_last (t : Fin cfg0.N) (h : t.val = 32) (X : Vec Ideal S1x30x512 .f32) (hX : (Frame.rdat m c).Leaves 23 t X) (y : S1x30x512.Idx) :
    X y = u (A m c) 7 (2018 + (y 1).val) (y 2).val := by
  obtain ⟨Y, hY, s, hs, e⟩ := hX
  rw [if_neg fun hc => absurd ((last_iff t).mp hc).1 (by omega)] at e
  subst e
  have hl := (((Frame.rdat m c).finds_of_pos (held_conv t h).1 (by omega) _).mp hY).resolve_left (by rw [(held_conv t h).2]; exact Bool.false_ne_true)
  refine (leaves_conv m c _ (by show t.val - 1 < 32; omega) (by show (t.val - 1) % 4 = 3; omega) _ hl y).trans ?_
  show u _ ((t.val - 1) / 4) _ _ = _
  rw [h]

/-- The layer's output, as an array. -/
def outs : S8x2048x1024.Idx → EReal := fun i => LayerSpec.out (A m c) (B m c) (i 0).val (i 1).val (i 2).val

/-- The layer's output at equal coordinates. -/
theorem out_at {n n' t t' d d' : ℕ} (h0 : n = n') (h1 : t = t') (h2 : d = d') : LayerSpec.out (A m c) (B m c) n t d = LayerSpec.out (A m c) (B m c) n' t' d' := by
  rw [h0, h1, h2]

/-- The final states, as an array. -/
def states : S8x4x128x128.Idx → EReal := fun i => state (A m c) (i 0).val 32 (i 1).val (i 2).val (i 3).val

/-- The convolution buffers, as an array. -/
def convs : S8x30x512.Idx → EReal := fun i => u (A m c) (i 0).val (2018 + (i 1).val) (i 2).val

variable {m}

/-- The layer's result after the run. -/
theorem outs_eq {r : PUnit × MemSt nD τ sig (Elt Ideal)} (h : RDat.FramePost (cfgs 0) (Frame.rdat m) (V m) r) (c : Dev nD) :
    r.2.mem ((c.tc : Thread nD τ).loc main_v21_0) = outs m c := by
  obtain ⟨after, hL, hA⟩ := h.exists_exact c
  refine (hA 21).trans ?_
  refine ((Frame.rdat m c).withAfter after).arrAt_eq_of_covers 21 (outs m c) (by decide +kernel) fun t hf y => ?_
  obtain ⟨h0, h1, hi⟩ := flush_out t hf
  have y0 : ((y : S1x512x1024.Idx) 0).val < 1 := (y 0).isLt
  refine (leaves_out m c t h0 h1 _ (hL 21 t hf) y).trans ?_
  show _ = LayerSpec.out (A m c) (B m c) _ _ _
  refine out_at m c ?_ ?_ ?_
  · blk_simp [hi]
  · blk_simp [hi]
    exact congrArg (· + _) (Nat.mul_comm _ _)
  · blk_simp [hi]

/-- The state result after the run. -/
theorem states_eq {r : PUnit × MemSt nD τ sig (Elt Ideal)} (h : RDat.FramePost (cfgs 0) (Frame.rdat m) (V m) r) (c : Dev nD) :
    r.2.mem ((c.tc : Thread nD τ).loc main_v21_1) = states m c := by
  obtain ⟨after, hL, hA⟩ := h.exists_exact c
  refine (hA 22).trans ?_
  refine ((Frame.rdat m c).withAfter after).arrAt_eq_of_covers 22 (states m c) (by decide +kernel) fun t hf y => ?_
  have hl := hL 22 t hf
  rcases flush_state t hf with ⟨h1, h2, hi⟩ | ⟨h1, hi⟩
  · refine (leaves_state m c t h1 h2 _ hl y).trans ?_
    show _ = state (A m c) _ 32 _ _ _
    blk_simp [hi]
  · refine (leaves_state_last m c t h1 _ hl y).trans ?_
    show _ = state (A m c) _ 32 _ _ _
    blk_simp [hi]

/-- The convolution result after the run. -/
theorem convs_eq {r : PUnit × MemSt nD τ sig (Elt Ideal)} (h : RDat.FramePost (cfgs 0) (Frame.rdat m) (V m) r) (c : Dev nD) :
    r.2.mem ((c.tc : Thread nD τ).loc main_v21_2) = convs m c := by
  obtain ⟨after, hL, hA⟩ := h.exists_exact c
  refine (hA 23).trans ?_
  refine ((Frame.rdat m c).withAfter after).arrAt_eq_of_covers 23 (convs m c) (by decide +kernel) fun t hf y => ?_
  have hl := hL 23 t hf
  rcases flush_conv t hf with ⟨h1, h2, hi⟩ | ⟨h1, hi⟩
  · refine (leaves_conv m c t h1 h2 _ hl y).trans ?_
    show _ = u (A m c) _ _ _
    blk_simp [hi]
  · refine (leaves_conv_last m c t h1 _ hl y).trans ?_
    show _ = u (A m c) _ _ _
    blk_simp [hi]

end Cert.KernelIdeal.Point

end
-- ==== Proof.RefValue.lean ====
module

public import proofs.«01_k».proof.Proof.Gen.ReferenceIdeal.Read
public import proofs.«01_k».proof.Proof.Spec
public import Idealize.ShloMosaic.Lib.KernelVsHost

@[expose] public section

set_option maxRecDepth 16384

noncomputable section

/-! The reference's two results are the specification's. -/

namespace Cert.ReferenceIdeal.Value2

open Cert.ReferenceIdeal Cert.ReferenceIdeal.Gen Cert.ReferenceIdeal.Read Cert.Spec
open Idealize.ShloMosaic Idealize.ShloMosaic.TcCoe Idealize.SL.Sem Idealize.ShloMosaic.StableHlo Idealize.ShloMosaic.ValueIdx

variable (x0 : (⟨S8x2048x1024, .f32⟩ : BufTy).Contents (Elt Ideal)) (x1 : (⟨S8x6x1024, .f32⟩ : BufTy).Contents (Elt Ideal))
  (x2 : (⟨S2x512, .f32⟩ : BufTy).Contents (Elt Ideal)) (x3 : (⟨S1024x3072, .bf16⟩ : BufTy).Contents (Elt Ideal))
  (x4 : (⟨S1x3072, .f32⟩ : BufTy).Contents (Elt Ideal))

/-- The modulated rows. -/
theorem hid_eq (i : S8x2048x1024.Idx) : val_main_v21 (F := Ideal) x0 x1 i = hid (Spec.args x0 x1 x2 x3 x4) (i 0).val (i 1).val (i 2).val := by
  rw [val_main_v21_apply, val_main_v19_apply, val_main_v18_apply, val_main_v17_apply, val_main_v16_apply, val_main_v15_apply,
    val_main_v20_apply, val_main_v14_apply]
  rw [rd3_eq x0 i _ _ _ rfl rfl rfl, rd3_eq x1 (idx_main_v15 _) (i 0).val 1 (i 2).val rfl rfl rfl,
    rd3_eq x1 (idx_main_v14 _) (i 0).val 0 (i 2).val rfl rfl rfl]
  rfl

/-- The input projection. -/
theorem z_eq (i : S8x2048x3072.Idx) : val_main_v26 (F := Ideal) x0 x1 x3 x4 i = z (Spec.args x0 x1 x2 x3 x4) (i 0).val (i 1).val (i 2).val := by
  rw [val_main_v26_apply, val_main_v23_apply, val_main_v25_apply, val_main_v24_apply,
    rd2_eq x4 (idx_main_v24 _) 0 (i 2).val rfl rfl]
  refine congrArg (· + _) (Finset.sum_congr rfl fun k _ => ?_)
  rw [hid_eq x0 x1 x2 x3 x4, val_main_v22_apply]
  exact congrArg (_ * ·) (rd2_eq x3 (ridx_main_v23 i k) k.val (i 2).val rfl rfl)

/-- A fold of sums from zero is a sum. -/
theorem foldl_add_eq_sum {N : ℕ} (g : Fin N → EReal) :
    (List.finRange N).foldl (fun r n => r + g n) 0 = ∑ n, g n := by
  rw [Fin.sum_univ_def, List.sum_eq_foldl, List.foldl_map]

/-- The largest logit of a column. -/
theorem lbTop_eq (i : S512.Idx) : val_main_v2 (F := Ideal) x2 i = lbTop (Spec.args x0 x1 x2 x3 x4) (i 0).val := by
  have h : S2x512.Reduces [0] S512 := by decide
  have e : val_main_v0 (F := Ideal) x2 i = lbTop (Spec.args x0 x1 x2 x3 x4) (i 0).val := by
    unfold val_main_v0 val_main_cst
    refine (congrFun (hostReduce_maximumf_eq_multiReduction (F := Ideal) (φ := .f32) (s := S2x512) x2 0xFF800000#32
      reducesTo_S2x512_S512_d0 h_S_ h (by decide) (by decide)) i).trans ?_
    rw [Ideal.multiReduction_maximumf_single]
    refine congrArg (fun f => Finset.fold max _ f Finset.univ) (funext fun k => ?_)
    exact rd2_eq x2 (h.lift i k) k.val (i 0).val rfl rfl
  rw [val_main_v2_apply, e]
  exact max_eq_right (Finset.le_fold_max _ |>.mpr (Or.inl le_rfl))

/-- The softmax over the two logits, at its first row. -/
theorem softmax_eq (i : S2x512.Idx) (h0 : (i 0).val = 0) : val_main_v10 (F := Ideal) x2 i = lbound (Spec.args x0 x1 x2 x3 x4) (i 1).val := by
  have e (i : S2x512.Idx) : val_main_v6 (F := Ideal) x2 i = Ideal.exp (((Spec.args x0 x1 x2 x3 x4)).lb (i 0).val (i 1).val - lbTop (Spec.args x0 x1 x2 x3 x4) (i 1).val) := by
    rw [val_main_v6_apply, val_main_v5_apply, val_main_v4_apply, val_main_v3_apply, lbTop_eq x0 x1 x2 x3 x4]
    rw [rd2_eq x2 i _ _ rfl rfl]; rfl
  rw [val_main_v10_apply, val_main_v9_apply, val_main_v8_apply, val_main_v7_apply, e i, h0]
  unfold lbound
  refine congrArg (Ideal.div _) ?_
  rw [show (val_main_cst_1 (F := Ideal)) (Shape.Idx.first h_S_) = 0 from Ideal.ofBits_zero_f32, zero_add]
  exact Finset.sum_congr rfl fun k _ => e _

/-- The one axis of length two of a window of two rows. -/
def window2 : (⟨2, ![2, 1]⟩ : Shape).Idx ≃ Fin 2 where
  toFun w := w 0
  invFun k := ix2 k 0
  left_inv w := funext fun a => by
    fin_cases a
    · rfl
    · exact Subsingleton.elim (α := Fin 1) _ _
  right_inv _ := rfl

/-- The one long axis of a window of 64 rows. -/
def window64 : (⟨5, ![1, 1, 1, 64, 1]⟩ : Shape).Idx ≃ Fin 64 where
  toFun w := w 3
  invFun k := ix5 0 0 0 k 0
  left_inv w := funext fun a => by
    fin_cases a
    · exact Subsingleton.elim (α := Fin 1) _ _
    · exact Subsingleton.elim (α := Fin 1) _ _
    · exact Subsingleton.elim (α := Fin 1) _ _
    · rfl
    · exact Subsingleton.elim (α := Fin 1) _ _
  right_inv _ := rfl

/-- A window sum from zero, read at an index: the sum over the window's places, those outside the operand zero. -/
theorem window_sum {s t : Shape} (window strides lo hi : Fin s.rank → ℕ) (x : s.Idx → EReal)
    (h : s.ReduceWindows window strides lo hi t) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  refine (foldl_add_eq_sum _).trans ?_
  rw [← Equiv.sum_comp (⟨s.rank, window⟩ : Shape).rowMajor.symm]
  refine Finset.sum_congr rfl fun n _ => ?_
  split_ifs with h1
  · rfl
  · rfl

/-- The first row of the running sum over the softmax is its first row. -/
theorem lbound_eq (i : S512.Idx) : val_main_v13 (F := Ideal) x2 i = lbound (Spec.args x0 x1 x2 x3 x4) (i 0).val := by
  rw [val_main_v13_apply, val_main_v12_apply]
  unfold val_main_v11 Host.reduceWindowAdd
  rw [Ideal.hostReduceWindowAdd_def]
  rw [show (val_main_call0_call0_v0 (F := Ideal)) (Shape.Idx.first h_S_) = 0 from Ideal.ofBits_zero_f32]
  rw [window_sum, ← Equiv.sum_comp window2.symm, Fin.sum_univ_two, dif_neg, dif_pos, zero_add, softmax_eq x0 x1 x2 x3 x4]
  · refine congrArg (lbound (Spec.args x0 x1 x2 x3 x4)) ?_
    have h : (i 0).val < 512 := (i 0).isLt
    show (i 0).val % 512 * 1 + 0 - 0 = (i 0).val
    omega
  · rfl
  · intro a
    fin_cases a
    · show 1 ≤ 0 * 1 + 1 ∧ 0 * 1 + 1 - 1 < 2
      omega
    · show 0 ≤ (i 0).val % 512 * 1 + 0 ∧ (i 0).val % 512 * 1 + 0 - 0 < 512
      omega
  · intro h
    have h0 : 1 ≤ 0 * 1 + 0 := (h 0).1
    omega

/-- The forget gate. -/
theorem fgate_eq (i : S8x2048x512.Idx) :
    val_main_v46 (F := Ideal) x0 x1 x2 x3 x4 i = fgate (Spec.args x0 x1 x2 x3 x4) (i 0).val (i 1).val (i 2).val := by
  rw [val_main_v46_apply, val_main_v45_apply, val_main_v44_apply, val_main_v43_apply, val_main_v42_apply, val_main_v41_apply,
    val_main_v34_apply, val_main_v33_apply, val_main_v40_apply, val_main_v39_apply, val_main_v38_apply, val_main_v37_apply,
    val_main_v36_apply, val_main_v35_apply, val_main_v28_apply, z_eq x0 x1 x2 x3 x4, lbound_eq x0 x1 x2 x3 x4]
  rfl

/-- The convolution buffer: the gated input's last 30 rows of each sequence. -/
theorem conv_eq (i : S8x30x512.Idx) :
    val_main_v302 (F := Ideal) x0 x1 x3 x4 i = u (Spec.args x0 x1 x2 x3 x4) (i 0).val (2018 + (i 1).val) (i 2).val := by
  rw [val_main_v302_apply, val_main_v301_apply, val_main_v31_apply, val_main_v300_apply, val_main_v299_apply, val_main_v298_apply,
    val_main_v297_apply, val_main_v296_apply, val_main_v295_apply, val_main_v32_apply, z_eq x0 x1 x2 x3 x4, z_eq x0 x1 x2 x3 x4]
  rfl

/-- The log-gate, by chunk and head. -/
theorem loggate_eq (i : S32x8x4x64x128.Idx) : val_main_v58 (F := Ideal) x0 x1 x2 x3 x4 i
    = Ideal.log (fgate (Spec.args x0 x1 x2 x3 x4) (i 1).val (64 * (i 0).val + (i 3).val) (128 * (i 2).val + (i 4).val)) := by
  have h0 : (i 0).val < 32 := (i 0).isLt
  have h1 : (i 1).val < 8 := (i 1).isLt
  have h2 : (i 2).val < 4 := (i 2).isLt
  have h3 : (i 3).val < 64 := (i 3).isLt
  have h4 : (i 4).val < 128 := (i 4).isLt
  rw [val_main_v58_apply, val_main_v57_apply, val_main_v52_apply, val_main_v51_apply, fgate_eq]
  refine congrArg Ideal.log ?_
  congr 1 <;> (dsimp only [idx_main_v52, idx_main_v57, idx_main_v58]; omega)

/-- The key, by chunk and head. -/
theorem key_eq (i : S32x8x4x64x128.Idx) : val_main_v54 (F := Ideal) x0 x1 x2 x3 x4 i
    = one - fgate (Spec.args x0 x1 x2 x3 x4) (i 1).val (64 * (i 0).val + (i 3).val) (128 * (i 2).val + (i 4).val) := by
  have h0 : (i 0).val < 32 := (i 0).isLt
  have h1 : (i 1).val < 8 := (i 1).isLt
  have h2 : (i 2).val < 4 := (i 2).isLt
  have h3 : (i 3).val < 64 := (i 3).isLt
  have h4 : (i 4).val < 128 := (i 4).isLt
  rw [val_main_v54_apply, val_main_v53_apply, val_main_v49_apply, val_main_v48_apply, val_main_v47_apply, fgate_eq]
  refine congrArg (one - ·) ?_
  congr 1 <;> (dsimp only [idx_main_v49, idx_main_v53, idx_main_v54]; omega)

/-- The value, by chunk and head. -/
theorem value_eq (i : S32x8x4x64x128.Idx) : val_main_v56 (F := Ideal) x0 x1 x3 x4 i
    = z (Spec.args x0 x1 x2 x3 x4) (i 1).val (64 * (i 0).val + (i 3).val) (1024 + (128 * (i 2).val + (i 4).val)) := by
  have h0 : (i 0).val < 32 := (i 0).isLt
  have h1 : (i 1).val < 8 := (i 1).isLt
  have h2 : (i 2).val < 4 := (i 2).isLt
  have h3 : (i 3).val < 64 := (i 3).isLt
  have h4 : (i 4).val < 128 := (i 4).isLt
  rw [val_main_v56_apply, val_main_v55_apply, val_main_v50_apply, val_main_v29_apply, z_eq x0 x1 x2 x3 x4]
  congr 1 <;> (dsimp only [idx_main_v29, idx_main_v50, idx_main_v55, idx_main_v56]; omega)

/-- A window sum that reaches 63 places back, cut at the start, is the sum up to the place. -/
theorem sum_window (X : ℕ → EReal) (j : ℕ) (hj : j < 64) :
    (∑ w : Fin 64, if 63 ≤ j + w.val then X (j + w.val - 63) else 0) = ∑ r ∈ Finset.range (j + 1), X r := by
  rw [Finset.sum_range fun r => X r, ← Finset.sum_filter]
  refine Finset.sum_bij' (fun (w : Fin 64) _ => (⟨(j + w.val - 63) % (j + 1), Nat.mod_lt _ (by omega)⟩ : Fin (j + 1)))
    (fun r _ => (⟨r.val + 63 - j, by omega⟩ : Fin 64)) ?_ ?_ ?_ ?_ ?_
  · intro w _; exact Finset.mem_univ _
  · intro r _; simp only [Finset.mem_filter, Finset.mem_univ, true_and]; omega
  · intro w hw
    simp only [Finset.mem_filter, Finset.mem_univ, true_and] at hw
    apply Fin.ext; simp only []
    rw [Nat.mod_eq_of_lt (by omega)]; omega
  · intro r _
    apply Fin.ext; simp only []
    rw [Nat.mod_eq_of_lt (by omega)]; omega
  · intro w hw
    simp only [Finset.mem_filter, Finset.mem_univ, true_and] at hw
    exact congrArg X (Nat.mod_eq_of_lt (by omega)).symm

/-- The running sum of the log-gate within a chunk. -/
theorem logsum_eq (i : S32x8x4x64x128.Idx) : val_main_v59 (F := Ideal) x0 x1 x2 x3 x4 i
    = logsum (Spec.args x0 x1 x2 x3 x4) (i 1).val (i 0).val (i 3).val (128 * (i 2).val + (i 4).val) := by
  unfold val_main_v59 Host.reduceWindowAdd
  rw [Ideal.hostReduceWindowAdd_def]
  rw [show (val_main_call1_call0_v0 (F := Ideal)) (Shape.Idx.first h_S_) = 0 from Ideal.ofBits_zero_f32]
  rw [window_sum, ← Equiv.sum_comp window64.symm]
  unfold logsum
  rw [← sum_window _ _ (i 3).isLt]
  refine Finset.sum_congr rfl fun w _ => ?_
  have hw := w.isLt
  have h3 : (i 3).val < 64 := (i 3).isLt
  by_cases hc : 63 ≤ (i 3).val + w.val
  · rw [if_pos hc, dif_pos, loggate_eq]
    · show Ideal.log (fgate (Spec.args x0 x1 x2 x3 x4) ((i 1).val * 1 + 0 - 0) (64 * ((i 0).val * 1 + 0 - 0) + ((i 3).val * 1 + w.val - 63))
        (128 * ((i 2).val * 1 + 0 - 0) + ((i 4).val * 1 + 0 - 0))) = _
      simp only [Nat.mul_one, Nat.add_zero, Nat.sub_zero]
    · intro a
      have h0 : (i 0).val < 32 := (i 0).isLt
      have h1 : (i 1).val < 8 := (i 1).isLt
      have h2 : (i 2).val < 4 := (i 2).isLt
      have h4 : (i 4).val < 128 := (i 4).isLt
      fin_cases a
      · show 0 ≤ (i 0).val * 1 + 0 ∧ (i 0).val * 1 + 0 - 0 < 32
        omega
      · show 0 ≤ (i 1).val * 1 + 0 ∧ (i 1).val * 1 + 0 - 0 < 8
        omega
      · show 0 ≤ (i 2).val * 1 + 0 ∧ (i 2).val * 1 + 0 - 0 < 4
        omega
      · show 63 ≤ (i 3).val * 1 + w.val ∧ (i 3).val * 1 + w.val - 63 < 64
        omega
      · show 0 ≤ (i 4).val * 1 + 0 ∧ (i 4).val * 1 + 0 - 0 < 128
        omega
  · rw [if_neg hc, dif_neg]
    intro h
    have h' : 63 ≤ (i 3).val * 1 + w.val := (h 3).1
    omega

/-- The decayed key. -/
theorem kd_eq (i : S32x8x4x64x128.Idx) : val_main_v66 (F := Ideal) x0 x1 x2 x3 x4 i
    = kd (Spec.args x0 x1 x2 x3 x4) (i 1).val (i 0).val (i 3).val (128 * (i 2).val + (i 4).val) := by
  have h0 : (i 0).val < 32 := (i 0).isLt
  have h1 : (i 1).val < 8 := (i 1).isLt
  have h2 : (i 2).val < 4 := (i 2).isLt
  have h4 : (i 4).val < 128 := (i 4).isLt
  rw [val_main_v66_apply, val_main_v65_apply, val_main_v64_apply, val_main_v63_apply, val_main_v62_apply, val_main_v61_apply,
    val_main_v60_apply, logsum_eq, logsum_eq, key_eq]
  unfold kd
  refine congrArg₂ (· * ·) rfl (congrArg Ideal.exp (congrArg₂ (· - ·) ?_ rfl))
  congr 1 <;> (dsimp only [idx_main_v60, idx_main_v61, idx_main_v62, idx_main_v63]; omega)

/-- The chunk's decay. -/
theorem decay_eq (i : S32x8x4x128x1.Idx) : val_main_v68 (F := Ideal) x0 x1 x2 x3 x4 i
    = Ideal.exp (logsum (Spec.args x0 x1 x2 x3 x4) (i 1).val (i 0).val 63 (128 * (i 2).val + (i 3).val)) := by
  have h0 : (i 0).val < 32 := (i 0).isLt
  have h1 : (i 1).val < 8 := (i 1).isLt
  have h2 : (i 2).val < 4 := (i 2).isLt
  have h3 : (i 3).val < 128 := (i 3).isLt
  rw [val_main_v68_apply, val_main_v67_apply, val_main_v61_apply, val_main_v60_apply, logsum_eq]
  refine congrArg Ideal.exp ?_
  congr 1 <;> (dsimp only [idx_main_v60, idx_main_v61, idx_main_v68]; omega)

/-- What a chunk adds. -/
theorem kv_eq (i : S32x8x4x128x128.Idx) : val_main_v69 (F := Ideal) x0 x1 x2 x3 x4 i
    = kv (Spec.args x0 x1 x2 x3 x4) (i 1).val (i 0).val (i 2).val (i 3).val (i 4).val := by
  rw [val_main_v69_apply]
  refine Finset.sum_congr rfl fun r _ => ?_
  rw [kd_eq, value_eq x0 x1 x2 x3 x4]

/-- One step of the reference's recurrence. -/
theorem state_step (o : ℕ) (ho : o < 32) (S : FVec Ideal S8x4x128x128 .f32)
    (h1 : S32x8x4x128x1.Slices ![o, 0, 0, 0, 0] S1x8x4x128x1) (h2 : S32x8x4x128x128.Slices ![o, 0, 0, 0, 0] S1x8x4x128x128)
    (hS : ∀ i : S8x4x128x128.Idx, S i = state (Spec.args x0 x1 x2 x3 x4) (i 0).val o (i 1).val (i 2).val (i 3).val) (i : S8x4x128x128.Idx) :
    addf (mulf (broadcastInDim S8x4x128x128 ![0, 1, 2, 3] bcast_S8x4x128x1_S8x4x128x128_0_1_2_3
        (shapeCast _ (extractStridedSlice S1x8x4x128x1 ![o, 0, 0, 0, 0] (val_main_v68 (F := Ideal) x0 x1 x2 x3 x4) h1)
          shapeCasts_S1x8x4x128x1_S8x4x128x1)) S)
      (shapeCast _ (extractStridedSlice S1x8x4x128x128 ![o, 0, 0, 0, 0] (val_main_v69 (F := Ideal) x0 x1 x2 x3 x4) h2)
        shapeCasts_S1x8x4x128x128_S8x4x128x128) i
      = state (Spec.args x0 x1 x2 x3 x4) (i 0).val (o + 1) (i 1).val (i 2).val (i 3).val := by
  have b0 : (i 0).val < 8 := (i 0).isLt
  have b1 : (i 1).val < 4 := (i 1).isLt
  have b2 : (i 2).val < 128 := (i 2).isLt
  have b3 : (i 3).val < 128 := (i 3).isLt
  rw [addf_apply, mulf_apply, hS, broadcastInDim_apply _ bcast_S8x4x128x1_S8x4x128x128_0_1_2_3 _ i (idx_main_v73 i) (fun a => by fin_cases a <;> rfl),
    shapeCast_apply _ shapeCasts_S1x8x4x128x1_S8x4x128x1 _ (ix5 0 (i 0) (i 1) (i 2) 0) (by rw [Shape.rowMajor_val_five, Shape.rowMajor_val_four]; simp),
    shapeCast_apply _ shapeCasts_S1x8x4x128x128_S8x4x128x128 _ (ix5 0 (i 0) (i 1) (i 2) (i 3)) (by rw [Shape.rowMajor_val_five, Shape.rowMajor_val_four]; simp),
    extractStridedSlice_apply _ _ h1 _ (ix5 ⟨o, ho⟩ (i 0) (i 1) (i 2) 0) (fun a => by fin_cases a <;> simp),
    extractStridedSlice_apply _ _ h2 _ (ix5 ⟨o, ho⟩ (i 0) (i 1) (i 2) (i 3)) (fun a => by fin_cases a <;> simp),
    decay_eq, kv_eq]
  rfl

/-- The reference's final state. -/
theorem state_eq (i : S8x4x128x128.Idx) :
    val_main_v294 (F := Ideal) x0 x1 x2 x3 x4 i = state (Spec.args x0 x1 x2 x3 x4) (i 0).val 32 (i 1).val (i 2).val (i 3).val :=
  state_step x0 x1 x2 x3 x4 31 (by decide) _ _ _ (state_step x0 x1 x2 x3 x4 30 (by decide) _ _ _ (state_step x0 x1 x2 x3 x4 29 (by decide) _ _ _ (state_step x0 x1 x2 x3 x4 28 (by decide) _ _ _ (state_step x0 x1 x2 x3 x4 27 (by decide) _ _ _ (state_step x0 x1 x2 x3 x4 26 (by decide) _ _ _ (state_step x0 x1 x2 x3 x4 25 (by decide) _ _ _ (state_step x0 x1 x2 x3 x4 24 (by decide) _ _ _ (state_step x0 x1 x2 x3 x4 23 (by decide) _ _ _ (state_step x0 x1 x2 x3 x4 22 (by decide) _ _ _ (state_step x0 x1 x2 x3 x4 21 (by decide) _ _ _ (state_step x0 x1 x2 x3 x4 20 (by decide) _ _ _ (state_step x0 x1 x2 x3 x4 19 (by decide) _ _ _ (state_step x0 x1 x2 x3 x4 18 (by decide) _ _ _ (state_step x0 x1 x2 x3 x4 17 (by decide) _ _ _ (state_step x0 x1 x2 x3 x4 16 (by decide) _ _ _ (state_step x0 x1 x2 x3 x4 15 (by decide) _ _ _ (state_step x0 x1 x2 x3 x4 14 (by decide) _ _ _ (state_step x0 x1 x2 x3 x4 13 (by decide) _ _ _ (state_step x0 x1 x2 x3 x4 12 (by decide) _ _ _ (state_step x0 x1 x2 x3 x4 11 (by decide) _ _ _ (state_step x0 x1 x2 x3 x4 10 (by decide) _ _ _ (state_step x0 x1 x2 x3 x4 9 (by decide) _ _ _ (state_step x0 x1 x2 x3 x4 8 (by decide) _ _ _ (state_step x0 x1 x2 x3 x4 7 (by decide) _ _ _ (state_step x0 x1 x2 x3 x4 6 (by decide) _ _ _ (state_step x0 x1 x2 x3 x4 5 (by decide) _ _ _ (state_step x0 x1 x2 x3 x4 4 (by decide) _ _ _ (state_step x0 x1 x2 x3 x4 3 (by decide) _ _ _ (state_step x0 x1 x2 x3 x4 2 (by decide) _ _ _ (state_step x0 x1 x2 x3 x4 1 (by decide) _ _ _ (state_step x0 x1 x2 x3 x4 0 (by decide) _ _ _ (fun i => Ideal.ofBits_zero_f32)))))))))))))))))))))))))))))))) i

end Cert.ReferenceIdeal.Value2

end
-- ==== Proof.RefHeads.lean ====
module

public import proofs.«01_k».proof.Proof.RefValue
public import proofs.«01_k».proof.Proof.LayerSpec
public import Idealize.ShloMosaic.Lib.Pipeline.ValueKit.Tiles

@[expose] public section

set_option maxRecDepth 16384

noncomputable section

/-! The reference's heads: what each step reads from its chunk and from the state, normalised and gated. -/

namespace Cert.ReferenceIdeal.Value2

open Cert.ReferenceIdeal Cert.ReferenceIdeal.Gen Cert.ReferenceIdeal.Read Cert.Spec Cert.LayerSpec
open Idealize.ShloMosaic Idealize.ShloMosaic.TcCoe Idealize.SL.Sem Idealize.ShloMosaic.StableHlo Idealize.ShloMosaic.ValueIdx

variable (x0 : (⟨S8x2048x1024, .f32⟩ : BufTy).Contents (Elt Ideal)) (x1 : (⟨S8x6x1024, .f32⟩ : BufTy).Contents (Elt Ideal))
  (x2 : (⟨S2x512, .f32⟩ : BufTy).Contents (Elt Ideal)) (x3 : (⟨S1024x3072, .bf16⟩ : BufTy).Contents (Elt Ideal))
  (x4 : (⟨S1x3072, .f32⟩ : BufTy).Contents (Elt Ideal)) (x5 : (⟨S1x128, .f32⟩ : BufTy).Contents (Elt Ideal))
  (x6 : (⟨S31x512, .f32⟩ : BufTy).Contents (Elt Ideal)) (x7 x8 x9 : (⟨S1x512, .f32⟩ : BufTy).Contents (Elt Ideal))
  (x10 : (⟨S1024x1024, .bf16⟩ : BufTy).Contents (Elt Ideal)) (x11 x12 x13 : (⟨S1x1024, .f32⟩ : BufTy).Contents (Elt Ideal))
  (x14 : (⟨S1024x4096, .bf16⟩ : BufTy).Contents (Elt Ideal)) (x15 : (⟨S1x4096, .f32⟩ : BufTy).Contents (Elt Ideal))
  (x16 : (⟨S4096x1024, .bf16⟩ : BufTy).Contents (Elt Ideal)) (x17 x18 x19 : (⟨S1x1024, .f32⟩ : BufTy).Contents (Elt Ideal))

/-- The swished first block of columns. -/
theorem silu_q (i : S8x2048x512.Idx) : val_main_v304 (F := Ideal) x0 x1 x3 x4 i = silu (z (Spec.args x0 x1 x2 x3 x4) (i 0).val (i 1).val (i 2).val) := by
  rw [val_main_v304_apply, val_main_call2_v5_apply, val_main_call2_v4_apply, val_main_call2_v3_apply, val_main_call2_v2_apply, val_main_call2_v1_apply, val_main_call2_v0_apply, val_main_v303_apply, z_eq x0 x1 x2 x3 x4]
  rfl

/-- The swished fourth block of columns. -/
theorem silu_g (i : S8x2048x512.Idx) : val_main_v376 (F := Ideal) x0 x1 x3 x4 i = silu (z (Spec.args x0 x1 x2 x3 x4) (i 0).val (i 1).val (1536 + (i 2).val)) := by
  rw [val_main_v376_apply, val_main_call4_v5_apply, val_main_call4_v4_apply, val_main_call4_v3_apply, val_main_call4_v2_apply, val_main_call4_v1_apply, val_main_call4_v0_apply, val_main_v375_apply, z_eq x0 x1 x2 x3 x4]
  rfl

/-- The query, by chunk and head. -/
theorem query_eq (i : S32x8x4x64x128.Idx) : val_main_v307 (F := Ideal) x0 x1 x3 x4 i
    = silu (z (Spec.args x0 x1 x2 x3 x4) (i 1).val (64 * (i 0).val + (i 3).val) (128 * (i 2).val + (i 4).val)) := by
  have h0 : (i 0).val < 32 := (i 0).isLt
  have h1 : (i 1).val < 8 := (i 1).isLt
  have h2 : (i 2).val < 4 := (i 2).isLt
  have h3 : (i 3).val < 64 := (i 3).isLt
  have h4 : (i 4).val < 128 := (i 4).isLt
  rw [val_main_v307_apply, val_main_v306_apply, val_main_v305_apply, silu_q x0 x1 x2 x3 x4]
  refine congrArg silu ?_
  congr 1 <;> (dsimp only [idx_main_v305, idx_main_v306, idx_main_v307]; omega)

/-- The decayed query. -/
theorem qe_eq (i : S32x8x4x64x128.Idx) : val_main_v309 (F := Ideal) x0 x1 x2 x3 x4 i
    = qe (Spec.args x0 x1 x2 x3 x4) (i 1).val (i 0).val (i 3).val (128 * (i 2).val + (i 4).val) := by
  rw [val_main_v309_apply, val_main_v308_apply, query_eq x0 x1 x2 x3 x4, logsum_eq]
  rfl

/-- The grown key. -/
theorem ke_eq (i : S32x8x4x64x128.Idx) : val_main_v312 (F := Ideal) x0 x1 x2 x3 x4 i
    = ke (Spec.args x0 x1 x2 x3 x4) (i 1).val (i 0).val (i 3).val (128 * (i 2).val + (i 4).val) := by
  rw [val_main_v312_apply, val_main_v311_apply, val_main_v310_apply, key_eq, logsum_eq]
  rfl

/-- The causal mask as a comparison of row numbers. -/
theorem mask_iff : ∀ a b : Fin 64, IntOp.cmpi .sge (BitVec.ofNat 32 a.val) (BitVec.ofNat 32 b.val) = (if b.val ≤ a.val then 1#1 else 0#1) := by
  decide +kernel

/-- The attention within a chunk. -/
theorem att_eq (i : S32x8x4x64x64.Idx) : val_main_v321 (F := Ideal) x0 x1 x2 x3 x4 i
    = att (Spec.args x0 x1 x2 x3 x4) (i 1).val (i 0).val (i 2).val (i 3).val (i 4).val := by
  have e : val_main_call3_v1 (F := Ideal)  i = (if (i 4).val ≤ (i 3).val then 1#1 else 0#1) := by
    rw [val_main_call3_v1_apply, val_main_v319_apply, val_main_v318_apply, val_main_v317_apply, val_main_v316_apply, val_main_v315_apply, val_main_v314_apply, val_main_v313_apply]
    exact mask_iff (i 3) (i 4)
  rw [val_main_v321_apply, e]
  unfold att
  by_cases h : (i 4).val ≤ (i 3).val
  · rw [if_pos h, if_pos h, val_main_v320_apply]
    refine Eq.trans (if_pos rfl) (Finset.sum_congr rfl fun k _ => ?_)
    rw [qe_eq, ke_eq]
  · rw [if_neg h, if_neg h]
    refine Eq.trans (if_neg (by decide)) ?_
    rw [val_main_call3_v2_apply]
    exact Ideal.ofBits_zero_f32

/-- The state before the first chunk. -/
theorem state_0 (i : S8x4x128x128.Idx) : val_main_v70 (F := Ideal)  i = state (Spec.args x0 x1 x2 x3 x4) (i 0).val 0 (i 1).val (i 2).val (i 3).val := by
  rw [val_main_v70_apply]
  exact Ideal.ofBits_zero_f32

/-- The state after 1 chunk. -/
theorem state_1 (i : S8x4x128x128.Idx) : val_main_v77 (F := Ideal) x0 x1 x2 x3 x4 i = state (Spec.args x0 x1 x2 x3 x4) (i 0).val 1 (i 1).val (i 2).val (i 3).val :=
  state_step x0 x1 x2 x3 x4 0 (by decide) _ _ _ (state_0 x0 x1 x2 x3 x4) i

/-- The state after 2 chunks. -/
theorem state_2 (i : S8x4x128x128.Idx) : val_main_v84 (F := Ideal) x0 x1 x2 x3 x4 i = state (Spec.args x0 x1 x2 x3 x4) (i 0).val 2 (i 1).val (i 2).val (i 3).val :=
  state_step x0 x1 x2 x3 x4 1 (by decide) _ _ _ (state_1 x0 x1 x2 x3 x4) i

/-- The state after 3 chunks. -/
theorem state_3 (i : S8x4x128x128.Idx) : val_main_v91 (F := Ideal) x0 x1 x2 x3 x4 i = state (Spec.args x0 x1 x2 x3 x4) (i 0).val 3 (i 1).val (i 2).val (i 3).val :=
  state_step x0 x1 x2 x3 x4 2 (by decide) _ _ _ (state_2 x0 x1 x2 x3 x4) i

/-- The state after 4 chunks. -/
theorem state_4 (i : S8x4x128x128.Idx) : val_main_v98 (F := Ideal) x0 x1 x2 x3 x4 i = state (Spec.args x0 x1 x2 x3 x4) (i 0).val 4 (i 1).val (i 2).val (i 3).val :=
  state_step x0 x1 x2 x3 x4 3 (by decide) _ _ _ (state_3 x0 x1 x2 x3 x4) i

/-- The state after 5 chunks. -/
theorem state_5 (i : S8x4x128x128.Idx) : val_main_v105 (F := Ideal) x0 x1 x2 x3 x4 i = state (Spec.args x0 x1 x2 x3 x4) (i 0).val 5 (i 1).val (i 2).val (i 3).val :=
  state_step x0 x1 x2 x3 x4 4 (by decide) _ _ _ (state_4 x0 x1 x2 x3 x4) i

/-- The state after 6 chunks. -/
theorem state_6 (i : S8x4x128x128.Idx) : val_main_v112 (F := Ideal) x0 x1 x2 x3 x4 i = state (Spec.args x0 x1 x2 x3 x4) (i 0).val 6 (i 1).val (i 2).val (i 3).val :=
  state_step x0 x1 x2 x3 x4 5 (by decide) _ _ _ (state_5 x0 x1 x2 x3 x4) i

/-- The state after 7 chunks. -/
theorem state_7 (i : S8x4x128x128.Idx) : val_main_v119 (F := Ideal) x0 x1 x2 x3 x4 i = state (Spec.args x0 x1 x2 x3 x4) (i 0).val 7 (i 1).val (i 2).val (i 3).val :=
  state_step x0 x1 x2 x3 x4 6 (by decide) _ _ _ (state_6 x0 x1 x2 x3 x4) i

/-- The state after 8 chunks. -/
theorem state_8 (i : S8x4x128x128.Idx) : val_main_v126 (F := Ideal) x0 x1 x2 x3 x4 i = state (Spec.args x0 x1 x2 x3 x4) (i 0).val 8 (i 1).val (i 2).val (i 3).val :=
  state_step x0 x1 x2 x3 x4 7 (by decide) _ _ _ (state_7 x0 x1 x2 x3 x4) i

/-- The state after 9 chunks. -/
theorem state_9 (i : S8x4x128x128.Idx) : val_main_v133 (F := Ideal) x0 x1 x2 x3 x4 i = state (Spec.args x0 x1 x2 x3 x4) (i 0).val 9 (i 1).val (i 2).val (i 3).val :=
  state_step x0 x1 x2 x3 x4 8 (by decide) _ _ _ (state_8 x0 x1 x2 x3 x4) i

/-- The state after 10 chunks. -/
theorem state_10 (i : S8x4x128x128.Idx) : val_main_v140 (F := Ideal) x0 x1 x2 x3 x4 i = state (Spec.args x0 x1 x2 x3 x4) (i 0).val 10 (i 1).val (i 2).val (i 3).val :=
  state_step x0 x1 x2 x3 x4 9 (by decide) _ _ _ (state_9 x0 x1 x2 x3 x4) i

/-- The state after 11 chunks. -/
theorem state_11 (i : S8x4x128x128.Idx) : val_main_v147 (F := Ideal) x0 x1 x2 x3 x4 i = state (Spec.args x0 x1 x2 x3 x4) (i 0).val 11 (i 1).val (i 2).val (i 3).val :=
  state_step x0 x1 x2 x3 x4 10 (by decide) _ _ _ (state_10 x0 x1 x2 x3 x4) i

/-- The state after 12 chunks. -/
theorem state_12 (i : S8x4x128x128.Idx) : val_main_v154 (F := Ideal) x0 x1 x2 x3 x4 i = state (Spec.args x0 x1 x2 x3 x4) (i 0).val 12 (i 1).val (i 2).val (i 3).val :=
  state_step x0 x1 x2 x3 x4 11 (by decide) _ _ _ (state_11 x0 x1 x2 x3 x4) i

/-- The state after 13 chunks. -/
theorem state_13 (i : S8x4x128x128.Idx) : val_main_v161 (F := Ideal) x0 x1 x2 x3 x4 i = state (Spec.args x0 x1 x2 x3 x4) (i 0).val 13 (i 1).val (i 2).val (i 3).val :=
  state_step x0 x1 x2 x3 x4 12 (by decide) _ _ _ (state_12 x0 x1 x2 x3 x4) i

/-- The state after 14 chunks. -/
theorem state_14 (i : S8x4x128x128.Idx) : val_main_v168 (F := Ideal) x0 x1 x2 x3 x4 i = state (Spec.args x0 x1 x2 x3 x4) (i 0).val 14 (i 1).val (i 2).val (i 3).val :=
  state_step x0 x1 x2 x3 x4 13 (by decide) _ _ _ (state_13 x0 x1 x2 x3 x4) i

/-- The state after 15 chunks. -/
theorem state_15 (i : S8x4x128x128.Idx) : val_main_v175 (F := Ideal) x0 x1 x2 x3 x4 i = state (Spec.args x0 x1 x2 x3 x4) (i 0).val 15 (i 1).val (i 2).val (i 3).val :=
  state_step x0 x1 x2 x3 x4 14 (by decide) _ _ _ (state_14 x0 x1 x2 x3 x4) i

/-- The state after 16 chunks. -/
theorem state_16 (i : S8x4x128x128.Idx) : val_main_v182 (F := Ideal) x0 x1 x2 x3 x4 i = state (Spec.args x0 x1 x2 x3 x4) (i 0).val 16 (i 1).val (i 2).val (i 3).val :=
  state_step x0 x1 x2 x3 x4 15 (by decide) _ _ _ (state_15 x0 x1 x2 x3 x4) i

/-- The state after 17 chunks. -/
theorem state_17 (i : S8x4x128x128.Idx) : val_main_v189 (F := Ideal) x0 x1 x2 x3 x4 i = state (Spec.args x0 x1 x2 x3 x4) (i 0).val 17 (i 1).val (i 2).val (i 3).val :=
  state_step x0 x1 x2 x3 x4 16 (by decide) _ _ _ (state_16 x0 x1 x2 x3 x4) i

/-- The state after 18 chunks. -/
theorem state_18 (i : S8x4x128x128.Idx) : val_main_v196 (F := Ideal) x0 x1 x2 x3 x4 i = state (Spec.args x0 x1 x2 x3 x4) (i 0).val 18 (i 1).val (i 2).val (i 3).val :=
  state_step x0 x1 x2 x3 x4 17 (by decide) _ _ _ (state_17 x0 x1 x2 x3 x4) i

/-- The state after 19 chunks. -/
theorem state_19 (i : S8x4x128x128.Idx) : val_main_v203 (F := Ideal) x0 x1 x2 x3 x4 i = state (Spec.args x0 x1 x2 x3 x4) (i 0).val 19 (i 1).val (i 2).val (i 3).val :=
  state_step x0 x1 x2 x3 x4 18 (by decide) _ _ _ (state_18 x0 x1 x2 x3 x4) i

/-- The state after 20 chunks. -/
theorem state_20 (i : S8x4x128x128.Idx) : val_main_v210 (F := Ideal) x0 x1 x2 x3 x4 i = state (Spec.args x0 x1 x2 x3 x4) (i 0).val 20 (i 1).val (i 2).val (i 3).val :=
  state_step x0 x1 x2 x3 x4 19 (by decide) _ _ _ (state_19 x0 x1 x2 x3 x4) i

/-- The state after 21 chunks. -/
theorem state_21 (i : S8x4x128x128.Idx) : val_main_v217 (F := Ideal) x0 x1 x2 x3 x4 i = state (Spec.args x0 x1 x2 x3 x4) (i 0).val 21 (i 1).val (i 2).val (i 3).val :=
  state_step x0 x1 x2 x3 x4 20 (by decide) _ _ _ (state_20 x0 x1 x2 x3 x4) i

/-- The state after 22 chunks. -/
theorem state_22 (i : S8x4x128x128.Idx) : val_main_v224 (F := Ideal) x0 x1 x2 x3 x4 i = state (Spec.args x0 x1 x2 x3 x4) (i 0).val 22 (i 1).val (i 2).val (i 3).val :=
  state_step x0 x1 x2 x3 x4 21 (by decide) _ _ _ (state_21 x0 x1 x2 x3 x4) i

/-- The state after 23 chunks. -/
theorem state_23 (i : S8x4x128x128.Idx) : val_main_v231 (F := Ideal) x0 x1 x2 x3 x4 i = state (Spec.args x0 x1 x2 x3 x4) (i 0).val 23 (i 1).val (i 2).val (i 3).val :=
  state_step x0 x1 x2 x3 x4 22 (by decide) _ _ _ (state_22 x0 x1 x2 x3 x4) i

/-- The state after 24 chunks. -/
theorem state_24 (i : S8x4x128x128.Idx) : val_main_v238 (F := Ideal) x0 x1 x2 x3 x4 i = state (Spec.args x0 x1 x2 x3 x4) (i 0).val 24 (i 1).val (i 2).val (i 3).val :=
  state_step x0 x1 x2 x3 x4 23 (by decide) _ _ _ (state_23 x0 x1 x2 x3 x4) i

/-- The state after 25 chunks. -/
theorem state_25 (i : S8x4x128x128.Idx) : val_main_v245 (F := Ideal) x0 x1 x2 x3 x4 i = state (Spec.args x0 x1 x2 x3 x4) (i 0).val 25 (i 1).val (i 2).val (i 3).val :=
  state_step x0 x1 x2 x3 x4 24 (by decide) _ _ _ (state_24 x0 x1 x2 x3 x4) i

/-- The state after 26 chunks. -/
theorem state_26 (i : S8x4x128x128.Idx) : val_main_v252 (F := Ideal) x0 x1 x2 x3 x4 i = state (Spec.args x0 x1 x2 x3 x4) (i 0).val 26 (i 1).val (i 2).val (i 3).val :=
  state_step x0 x1 x2 x3 x4 25 (by decide) _ _ _ (state_25 x0 x1 x2 x3 x4) i

/-- The state after 27 chunks. -/
theorem state_27 (i : S8x4x128x128.Idx) : val_main_v259 (F := Ideal) x0 x1 x2 x3 x4 i = state (Spec.args x0 x1 x2 x3 x4) (i 0).val 27 (i 1).val (i 2).val (i 3).val :=
  state_step x0 x1 x2 x3 x4 26 (by decide) _ _ _ (state_26 x0 x1 x2 x3 x4) i

/-- The state after 28 chunks. -/
theorem state_28 (i : S8x4x128x128.Idx) : val_main_v266 (F := Ideal) x0 x1 x2 x3 x4 i = state (Spec.args x0 x1 x2 x3 x4) (i 0).val 28 (i 1).val (i 2).val (i 3).val :=
  state_step x0 x1 x2 x3 x4 27 (by decide) _ _ _ (state_27 x0 x1 x2 x3 x4) i

/-- The state after 29 chunks. -/
theorem state_29 (i : S8x4x128x128.Idx) : val_main_v273 (F := Ideal) x0 x1 x2 x3 x4 i = state (Spec.args x0 x1 x2 x3 x4) (i 0).val 29 (i 1).val (i 2).val (i 3).val :=
  state_step x0 x1 x2 x3 x4 28 (by decide) _ _ _ (state_28 x0 x1 x2 x3 x4) i

/-- The state after 30 chunks. -/
theorem state_30 (i : S8x4x128x128.Idx) : val_main_v280 (F := Ideal) x0 x1 x2 x3 x4 i = state (Spec.args x0 x1 x2 x3 x4) (i 0).val 30 (i 1).val (i 2).val (i 3).val :=
  state_step x0 x1 x2 x3 x4 29 (by decide) _ _ _ (state_29 x0 x1 x2 x3 x4) i

/-- The state after 31 chunks. -/
theorem state_31 (i : S8x4x128x128.Idx) : val_main_v287 (F := Ideal) x0 x1 x2 x3 x4 i = state (Spec.args x0 x1 x2 x3 x4) (i 0).val 31 (i 1).val (i 2).val (i 3).val :=
  state_step x0 x1 x2 x3 x4 30 (by decide) _ _ _ (state_30 x0 x1 x2 x3 x4) i

/-- A unit piece's coordinates are the whole's. -/
theorem before_at (C : ℕ) (i : S32x8x4x128x128.Idx) (h : (i 0).val = C) (j : S8x4x128x128.Idx)
    (h0 : (j 0).val = (i 1).val) (h1 : (j 1).val = (i 2).val) (h2 : (j 2).val = (i 3).val) (h3 : (j 3).val = (i 4).val) :
    state (Spec.args x0 x1 x2 x3 x4) (j 0).val C (j 1).val (j 2).val (j 3).val = state (Spec.args x0 x1 x2 x3 x4) (i 1).val (i 0).val (i 2).val (i 3).val (i 4).val := by
  rw [h, h0, h1, h2, h3]

/-- The state before each chunk. -/
theorem before_eq (i : S32x8x4x128x128.Idx) : val_main_v357 (F := Ideal) x0 x1 x2 x3 x4 i = state (Spec.args x0 x1 x2 x3 x4) (i 1).val (i 0).val (i 2).val (i 3).val (i 4).val := by
  have b0 : (i 0).val < 32 := (i 0).isLt
  unfold val_main_v357
  by_cases h : (i 0).val < 16
  · refine (concatenate_pair_apply_left (s₁ := S16x8x4x128x128) (s₂ := S16x8x4x128x128) 0 _ _ _ i rfl (ix5 ⟨(i 0).val, h⟩ (i 1) (i 2) (i 3) (i 4)) fun b => by fin_cases b <;> rfl).trans ?_
    unfold val_main_v355
    refine concatenate_unit_eq 0 _ _ _ _ (by rfl) ?_
    refine ⟨fun hk hr i' _ hb => by
        show val_main_v323 (F := Ideal)  i' = _
        rw [val_main_v323_apply, state_0 x0 x1 x2 x3 x4]
        exact before_at x0 x1 x2 x3 x4 0 i (hk) _ (hb 1 (by decide)) (hb 2 (by decide)) (hb 3 (by decide)) (hb 4 (by decide)),
      fun hk hr i' _ hb => by
        show val_main_v324 (F := Ideal) x0 x1 x2 x3 x4 i' = _
        rw [val_main_v324_apply, state_1 x0 x1 x2 x3 x4]
        exact before_at x0 x1 x2 x3 x4 1 i (hk) _ (hb 1 (by decide)) (hb 2 (by decide)) (hb 3 (by decide)) (hb 4 (by decide)),
      fun hk hr i' _ hb => by
        show val_main_v325 (F := Ideal) x0 x1 x2 x3 x4 i' = _
        rw [val_main_v325_apply, state_2 x0 x1 x2 x3 x4]
        exact before_at x0 x1 x2 x3 x4 2 i (hk) _ (hb 1 (by decide)) (hb 2 (by decide)) (hb 3 (by decide)) (hb 4 (by decide)),
      fun hk hr i' _ hb => by
        show val_main_v326 (F := Ideal) x0 x1 x2 x3 x4 i' = _
        rw [val_main_v326_apply, state_3 x0 x1 x2 x3 x4]
        exact before_at x0 x1 x2 x3 x4 3 i (hk) _ (hb 1 (by decide)) (hb 2 (by decide)) (hb 3 (by decide)) (hb 4 (by decide)),
      fun hk hr i' _ hb => by
        show val_main_v327 (F := Ideal) x0 x1 x2 x3 x4 i' = _
        rw [val_main_v327_apply, state_4 x0 x1 x2 x3 x4]
        exact before_at x0 x1 x2 x3 x4 4 i (hk) _ (hb 1 (by decide)) (hb 2 (by decide)) (hb 3 (by decide)) (hb 4 (by decide)),
      fun hk hr i' _ hb => by
        show val_main_v328 (F := Ideal) x0 x1 x2 x3 x4 i' = _
        rw [val_main_v328_apply, state_5 x0 x1 x2 x3 x4]
        exact before_at x0 x1 x2 x3 x4 5 i (hk) _ (hb 1 (by decide)) (hb 2 (by decide)) (hb 3 (by decide)) (hb 4 (by decide)),
      fun hk hr i' _ hb => by
        show val_main_v329 (F := Ideal) x0 x1 x2 x3 x4 i' = _
        rw [val_main_v329_apply, state_6 x0 x1 x2 x3 x4]
        exact before_at x0 x1 x2 x3 x4 6 i (hk) _ (hb 1 (by decide)) (hb 2 (by decide)) (hb 3 (by decide)) (hb 4 (by decide)),
      fun hk hr i' _ hb => by
        show val_main_v330 (F := Ideal) x0 x1 x2 x3 x4 i' = _
        rw [val_main_v330_apply, state_7 x0 x1 x2 x3 x4]
        exact before_at x0 x1 x2 x3 x4 7 i (hk) _ (hb 1 (by decide)) (hb 2 (by decide)) (hb 3 (by decide)) (hb 4 (by decide)),
      fun hk hr i' _ hb => by
        show val_main_v331 (F := Ideal) x0 x1 x2 x3 x4 i' = _
        rw [val_main_v331_apply, state_8 x0 x1 x2 x3 x4]
        exact before_at x0 x1 x2 x3 x4 8 i (hk) _ (hb 1 (by decide)) (hb 2 (by decide)) (hb 3 (by decide)) (hb 4 (by decide)),
      fun hk hr i' _ hb => by
        show val_main_v332 (F := Ideal) x0 x1 x2 x3 x4 i' = _
        rw [val_main_v332_apply, state_9 x0 x1 x2 x3 x4]
        exact before_at x0 x1 x2 x3 x4 9 i (hk) _ (hb 1 (by decide)) (hb 2 (by decide)) (hb 3 (by decide)) (hb 4 (by decide)),
      fun hk hr i' _ hb => by
        show val_main_v333 (F := Ideal) x0 x1 x2 x3 x4 i' = _
        rw [val_main_v333_apply, state_10 x0 x1 x2 x3 x4]
        exact before_at x0 x1 x2 x3 x4 10 i (hk) _ (hb 1 (by decide)) (hb 2 (by decide)) (hb 3 (by decide)) (hb 4 (by decide)),
      fun hk hr i' _ hb => by
        show val_main_v334 (F := Ideal) x0 x1 x2 x3 x4 i' = _
        rw [val_main_v334_apply, state_11 x0 x1 x2 x3 x4]
        exact before_at x0 x1 x2 x3 x4 11 i (hk) _ (hb 1 (by decide)) (hb 2 (by decide)) (hb 3 (by decide)) (hb 4 (by decide)),
      fun hk hr i' _ hb => by
        show val_main_v335 (F := Ideal) x0 x1 x2 x3 x4 i' = _
        rw [val_main_v335_apply, state_12 x0 x1 x2 x3 x4]
        exact before_at x0 x1 x2 x3 x4 12 i (hk) _ (hb 1 (by decide)) (hb 2 (by decide)) (hb 3 (by decide)) (hb 4 (by decide)),
      fun hk hr i' _ hb => by
        show val_main_v336 (F := Ideal) x0 x1 x2 x3 x4 i' = _
        rw [val_main_v336_apply, state_13 x0 x1 x2 x3 x4]
        exact before_at x0 x1 x2 x3 x4 13 i (hk) _ (hb 1 (by decide)) (hb 2 (by decide)) (hb 3 (by decide)) (hb 4 (by decide)),
      fun hk hr i' _ hb => by
        show val_main_v337 (F := Ideal) x0 x1 x2 x3 x4 i' = _
        rw [val_main_v337_apply, state_14 x0 x1 x2 x3 x4]
        exact before_at x0 x1 x2 x3 x4 14 i (hk) _ (hb 1 (by decide)) (hb 2 (by decide)) (hb 3 (by decide)) (hb 4 (by decide)),
      fun hk hr i' _ hb => by
        show val_main_v338 (F := Ideal) x0 x1 x2 x3 x4 i' = _
        rw [val_main_v338_apply, state_15 x0 x1 x2 x3 x4]
        exact before_at x0 x1 x2 x3 x4 15 i (hk) _ (hb 1 (by decide)) (hb 2 (by decide)) (hb 3 (by decide)) (hb 4 (by decide)), trivial⟩
  · refine (concatenate_pair_apply_right (s₁ := S16x8x4x128x128) (s₂ := S16x8x4x128x128) 0 _ _ _ i rfl rfl (ix5 ⟨(i 0).val - 16, by omega⟩ (i 1) (i 2) (i 3) (i 4)) (fun b hb => by fin_cases b <;> first | rfl | exact absurd rfl hb)
      (by show (i 0).val - 16 + 16 = (i 0).val; omega)).trans ?_
    unfold val_main_v356
    refine concatenate_unit_eq 0 _ _ _ _ (by rfl) ?_
    refine ⟨fun hk hr i' _ hb => by
        show val_main_v339 (F := Ideal) x0 x1 x2 x3 x4 i' = _
        rw [val_main_v339_apply, state_16 x0 x1 x2 x3 x4]
        exact before_at x0 x1 x2 x3 x4 16 i (by have : (i 0).val - 16 = 0 := hk; omega) _ (hb 1 (by decide)) (hb 2 (by decide)) (hb 3 (by decide)) (hb 4 (by decide)),
      fun hk hr i' _ hb => by
        show val_main_v340 (F := Ideal) x0 x1 x2 x3 x4 i' = _
        rw [val_main_v340_apply, state_17 x0 x1 x2 x3 x4]
        exact before_at x0 x1 x2 x3 x4 17 i (by have : (i 0).val - 16 = 1 := hk; omega) _ (hb 1 (by decide)) (hb 2 (by decide)) (hb 3 (by decide)) (hb 4 (by decide)),
      fun hk hr i' _ hb => by
        show val_main_v341 (F := Ideal) x0 x1 x2 x3 x4 i' = _
        rw [val_main_v341_apply, state_18 x0 x1 x2 x3 x4]
        exact before_at x0 x1 x2 x3 x4 18 i (by have : (i 0).val - 16 = 2 := hk; omega) _ (hb 1 (by decide)) (hb 2 (by decide)) (hb 3 (by decide)) (hb 4 (by decide)),
      fun hk hr i' _ hb => by
        show val_main_v342 (F := Ideal) x0 x1 x2 x3 x4 i' = _
        rw [val_main_v342_apply, state_19 x0 x1 x2 x3 x4]
        exact before_at x0 x1 x2 x3 x4 19 i (by have : (i 0).val - 16 = 3 := hk; omega) _ (hb 1 (by decide)) (hb 2 (by decide)) (hb 3 (by decide)) (hb 4 (by decide)),
      fun hk hr i' _ hb => by
        show val_main_v343 (F := Ideal) x0 x1 x2 x3 x4 i' = _
        rw [val_main_v343_apply, state_20 x0 x1 x2 x3 x4]
        exact before_at x0 x1 x2 x3 x4 20 i (by have : (i 0).val - 16 = 4 := hk; omega) _ (hb 1 (by decide)) (hb 2 (by decide)) (hb 3 (by decide)) (hb 4 (by decide)),
      fun hk hr i' _ hb => by
        show val_main_v344 (F := Ideal) x0 x1 x2 x3 x4 i' = _
        rw [val_main_v344_apply, state_21 x0 x1 x2 x3 x4]
        exact before_at x0 x1 x2 x3 x4 21 i (by have : (i 0).val - 16 = 5 := hk; omega) _ (hb 1 (by decide)) (hb 2 (by decide)) (hb 3 (by decide)) (hb 4 (by decide)),
      fun hk hr i' _ hb => by
        show val_main_v345 (F := Ideal) x0 x1 x2 x3 x4 i' = _
        rw [val_main_v345_apply, state_22 x0 x1 x2 x3 x4]
        exact before_at x0 x1 x2 x3 x4 22 i (by have : (i 0).val - 16 = 6 := hk; omega) _ (hb 1 (by decide)) (hb 2 (by decide)) (hb 3 (by decide)) (hb 4 (by decide)),
      fun hk hr i' _ hb => by
        show val_main_v346 (F := Ideal) x0 x1 x2 x3 x4 i' = _
        rw [val_main_v346_apply, state_23 x0 x1 x2 x3 x4]
        exact before_at x0 x1 x2 x3 x4 23 i (by have : (i 0).val - 16 = 7 := hk; omega) _ (hb 1 (by decide)) (hb 2 (by decide)) (hb 3 (by decide)) (hb 4 (by decide)),
      fun hk hr i' _ hb => by
        show val_main_v347 (F := Ideal) x0 x1 x2 x3 x4 i' = _
        rw [val_main_v347_apply, state_24 x0 x1 x2 x3 x4]
        exact before_at x0 x1 x2 x3 x4 24 i (by have : (i 0).val - 16 = 8 := hk; omega) _ (hb 1 (by decide)) (hb 2 (by decide)) (hb 3 (by decide)) (hb 4 (by decide)),
      fun hk hr i' _ hb => by
        show val_main_v348 (F := Ideal) x0 x1 x2 x3 x4 i' = _
        rw [val_main_v348_apply, state_25 x0 x1 x2 x3 x4]
        exact before_at x0 x1 x2 x3 x4 25 i (by have : (i 0).val - 16 = 9 := hk; omega) _ (hb 1 (by decide)) (hb 2 (by decide)) (hb 3 (by decide)) (hb 4 (by decide)),
      fun hk hr i' _ hb => by
        show val_main_v349 (F := Ideal) x0 x1 x2 x3 x4 i' = _
        rw [val_main_v349_apply, state_26 x0 x1 x2 x3 x4]
        exact before_at x0 x1 x2 x3 x4 26 i (by have : (i 0).val - 16 = 10 := hk; omega) _ (hb 1 (by decide)) (hb 2 (by decide)) (hb 3 (by decide)) (hb 4 (by decide)),
      fun hk hr i' _ hb => by
        show val_main_v350 (F := Ideal) x0 x1 x2 x3 x4 i' = _
        rw [val_main_v350_apply, state_27 x0 x1 x2 x3 x4]
        exact before_at x0 x1 x2 x3 x4 27 i (by have : (i 0).val - 16 = 11 := hk; omega) _ (hb 1 (by decide)) (hb 2 (by decide)) (hb 3 (by decide)) (hb 4 (by decide)),
      fun hk hr i' _ hb => by
        show val_main_v351 (F := Ideal) x0 x1 x2 x3 x4 i' = _
        rw [val_main_v351_apply, state_28 x0 x1 x2 x3 x4]
        exact before_at x0 x1 x2 x3 x4 28 i (by have : (i 0).val - 16 = 12 := hk; omega) _ (hb 1 (by decide)) (hb 2 (by decide)) (hb 3 (by decide)) (hb 4 (by decide)),
      fun hk hr i' _ hb => by
        show val_main_v352 (F := Ideal) x0 x1 x2 x3 x4 i' = _
        rw [val_main_v352_apply, state_29 x0 x1 x2 x3 x4]
        exact before_at x0 x1 x2 x3 x4 29 i (by have : (i 0).val - 16 = 13 := hk; omega) _ (hb 1 (by decide)) (hb 2 (by decide)) (hb 3 (by decide)) (hb 4 (by decide)),
      fun hk hr i' _ hb => by
        show val_main_v353 (F := Ideal) x0 x1 x2 x3 x4 i' = _
        rw [val_main_v353_apply, state_30 x0 x1 x2 x3 x4]
        exact before_at x0 x1 x2 x3 x4 30 i (by have : (i 0).val - 16 = 14 := hk; omega) _ (hb 1 (by decide)) (hb 2 (by decide)) (hb 3 (by decide)) (hb 4 (by decide)),
      fun hk hr i' _ hb => by
        show val_main_v354 (F := Ideal) x0 x1 x2 x3 x4 i' = _
        rw [val_main_v354_apply, state_31 x0 x1 x2 x3 x4]
        exact before_at x0 x1 x2 x3 x4 31 i (by have : (i 0).val - 16 = 15 := hk; omega) _ (hb 1 (by decide)) (hb 2 (by decide)) (hb 3 (by decide)) (hb 4 (by decide)), trivial⟩

/-- What each row reads. -/
theorem o_eq (i : S32x8x4x64x128.Idx) : val_main_v359 (F := Ideal) x0 x1 x2 x3 x4 i = o (Spec.args x0 x1 x2 x3 x4) (i 1).val (i 0).val (i 2).val (i 3).val (i 4).val := by
  rw [val_main_v359_apply, val_main_v358_apply, val_main_v322_apply]
  unfold o
  refine congrArg₂ (· + ·) (Finset.sum_congr rfl fun k _ => ?_) (Finset.sum_congr rfl fun k _ => ?_)
  · rw [att_eq, value_eq x0 x1 x2 x3 x4]
  · rw [qe_eq, before_eq]

/-- What each row reads, by step. -/
theorem o_step (i : S8x2048x4x128.Idx) : val_main_v361 (F := Ideal) x0 x1 x2 x3 x4 i
    = o (Spec.args x0 x1 x2 x3 x4) (i 0).val ((i 1).val / 64) (i 2).val ((i 1).val % 64) (i 3).val := by
  have h0 : (i 0).val < 8 := (i 0).isLt
  have h1 : (i 1).val < 2048 := (i 1).isLt
  have h2 : (i 2).val < 4 := (i 2).isLt
  have h3 : (i 3).val < 128 := (i 3).isLt
  rw [val_main_v361_apply, val_main_v360_apply, o_eq]
  congr 1 <;> (dsimp only [idx_main_v360, idx_main_v361]; omega)

/-- The heads, normalised, scaled and gated. -/
theorem head_eq (i : S8x2048x4x128.Idx) : val_main_v378 (F := Ideal) x0 x1 x2 x3 x4 x5 i
    = head (Spec.args x0 x1 x2 x3 x4) (LayerSpec.rest x5 x6 x7 x8 x9 x10 x11 x12 x13 x14 x15 x16 x17 x18 x19) (i 0).val ((i 1).val / 64) (i 2).val ((i 1).val % 64) (i 3).val := by
  have h0 : (i 0).val < 8 := (i 0).isLt
  have h1 : (i 1).val < 2048 := (i 1).isLt
  have h2 : (i 2).val < 4 := (i 2).isLt
  have h3 : (i 3).val < 128 := (i 3).isLt
  have e : val_main_v377 (F := Ideal) x0 x1 x3 x4 i = silu (z (Spec.args x0 x1 x2 x3 x4) (i 0).val (64 * ((i 1).val / 64) + (i 1).val % 64) (1536 + (128 * (i 2).val + (i 3).val))) := by
    rw [val_main_v377_apply, silu_g x0 x1 x2 x3 x4]
    refine congrArg silu ?_
    congr 1 <;> (dsimp only [idx_main_v377]; omega)
  have e2 : val_main_v373 (F := Ideal) x5 i = ((LayerSpec.rest x5 x6 x7 x8 x9 x10 x11 x12 x13 x14 x15 x16 x17 x18 x19)).hg 0 (i 3).val := by
    rw [val_main_v373_apply, val_main_v372_apply]
    exact rd2_eq x5 _ 0 (i 3).val rfl rfl
  have e3 : val_main_v370 (F := Ideal) x0 x1 x2 x3 x4 i = Ideal.rsqrt (ms (Spec.args x0 x1 x2 x3 x4) (i 0).val ((i 1).val / 64) (i 2).val ((i 1).val % 64) + eps) := by
    rw [val_main_v370_apply, val_main_v369_apply, val_main_v368_apply, val_main_v367_apply, val_main_v366_apply, val_main_v365_apply, val_main_v364_apply, val_main_v363_apply]
    refine congrArg (fun y => Ideal.rsqrt (Ideal.div y headLen + eps)) ?_
    rw [show (val_main_cst_11 (F := Ideal)) (Shape.Idx.first h_S_) = 0 from Ideal.ofBits_zero_f32, zero_add]
    refine Finset.sum_congr rfl fun k _ => ?_
    rw [val_main_v362_apply, o_step]
    rfl
  rw [val_main_v378_apply, val_main_v374_apply, val_main_v371_apply, o_step, e, e2, e3]
  rfl

end Cert.ReferenceIdeal.Value2

end
-- ==== Proof.RefConv.lean ====
module

public import proofs.«01_k».proof.Proof.RefValue
public import proofs.«01_k».proof.Proof.LayerSpec
public import Idealize.ShloMosaic.Lib.Pipeline.ValueKit.Tiles

@[expose] public section

set_option maxRecDepth 16384

noncomputable section

/-! The reference's convolution, group-normalised. -/

namespace Cert.ReferenceIdeal.Value2

open Cert.ReferenceIdeal Cert.ReferenceIdeal.Gen Cert.ReferenceIdeal.Read Cert.Spec Cert.LayerSpec
open Idealize.ShloMosaic Idealize.ShloMosaic.TcCoe Idealize.SL.Sem Idealize.ShloMosaic.StableHlo Idealize.ShloMosaic.ValueIdx

variable (x0 : (⟨S8x2048x1024, .f32⟩ : BufTy).Contents (Elt Ideal)) (x1 : (⟨S8x6x1024, .f32⟩ : BufTy).Contents (Elt Ideal))
  (x2 : (⟨S2x512, .f32⟩ : BufTy).Contents (Elt Ideal)) (x3 : (⟨S1024x3072, .bf16⟩ : BufTy).Contents (Elt Ideal))
  (x4 : (⟨S1x3072, .f32⟩ : BufTy).Contents (Elt Ideal)) (x5 : (⟨S1x128, .f32⟩ : BufTy).Contents (Elt Ideal))
  (x6 : (⟨S31x512, .f32⟩ : BufTy).Contents (Elt Ideal)) (x7 x8 x9 : (⟨S1x512, .f32⟩ : BufTy).Contents (Elt Ideal))
  (x10 : (⟨S1024x1024, .bf16⟩ : BufTy).Contents (Elt Ideal)) (x11 x12 x13 : (⟨S1x1024, .f32⟩ : BufTy).Contents (Elt Ideal))
  (x14 : (⟨S1024x4096, .bf16⟩ : BufTy).Contents (Elt Ideal)) (x15 : (⟨S1x4096, .f32⟩ : BufTy).Contents (Elt Ideal))
  (x16 : (⟨S4096x1024, .bf16⟩ : BufTy).Contents (Elt Ideal)) (x17 x18 x19 : (⟨S1x1024, .f32⟩ : BufTy).Contents (Elt Ideal))

/-- The gated input. -/
theorem u_eq (i : S8x2048x512.Idx) : val_main_v301 (F := Ideal) x0 x1 x3 x4 i = u (Spec.args x0 x1 x2 x3 x4) (i 0).val (i 1).val (i 2).val := by
  rw [val_main_v301_apply, val_main_v31_apply, val_main_v300_apply, val_main_v299_apply, val_main_v298_apply, val_main_v297_apply, val_main_v296_apply, val_main_v295_apply, val_main_v32_apply, z_eq x0 x1 x2 x3 x4, z_eq x0 x1 x2 x3 x4]
  rfl

/-- The convolution's input with its zeros before the sequence. -/
theorem full_eq (i : S8x2078x512.Idx) : val_main_v380 (F := Ideal) x0 x1 x3 x4 i = full (Spec.args x0 x1 x2 x3 x4) (i 0).val (i 1).val (i 2).val := by
  have b1 : (i 1).val < 2078 := (i 1).isLt
  unfold val_main_v380 full
  by_cases h : (i 1).val < 30
  · rw [if_pos h]
    refine (concatenate_pair_apply_left (s₁ := S8x30x512) (s₂ := S8x2048x512) 1 _ _ _ i rfl (ix3 (i 0) ⟨(i 1).val, h⟩ (i 2)) fun b => by fin_cases b <;> rfl).trans ?_
    rw [val_main_v379_apply]
    exact Ideal.ofBits_zero_f32
  · rw [if_neg h]
    refine (concatenate_pair_apply_right (s₁ := S8x30x512) (s₂ := S8x2048x512) 1 _ _ _ i rfl rfl (ix3 (i 0) ⟨(i 1).val - 30, by omega⟩ (i 2)) (fun b hb => by fin_cases b <;> first | rfl | exact absurd rfl hb)
      (by show (i 1).val - 30 + 30 = (i 1).val; omega)).trans ?_
    rw [u_eq x0 x1 x2 x3 x4]

/-- Tap 0. -/
theorem tap_0 (i : S8x2048x512.Idx) : val_main_v386 (F := Ideal) x0 x1 x3 x4 x6 i = ((LayerSpec.rest x5 x6 x7 x8 x9 x10 x11 x12 x13 x14 x15 x16 x17 x18 x19)).cw 0 (i 2).val * full (Spec.args x0 x1 x2 x3 x4) (i 0).val ((i 1).val + 0) (i 2).val := by
  rw [val_main_v386_apply, val_main_v385_apply, val_main_v384_apply, val_main_v382_apply, val_main_v381_apply, val_main_v383_apply, full_eq x0 x1 x2 x3 x4, rd2_eq x6 _ 0 (i 2).val (by rfl) (Nat.mod_eq_of_lt (i 2).isLt)]
  exact congrArg (fun t => rd2 x6 0 (i 2).val * full (Spec.args x0 x1 x2 x3 x4) (i 0).val t (i 2).val) rfl

/-- Tap 1. -/
theorem tap_1 (i : S8x2048x512.Idx) : val_main_v392 (F := Ideal) x0 x1 x3 x4 x6 i = ((LayerSpec.rest x5 x6 x7 x8 x9 x10 x11 x12 x13 x14 x15 x16 x17 x18 x19)).cw 1 (i 2).val * full (Spec.args x0 x1 x2 x3 x4) (i 0).val ((i 1).val + 1) (i 2).val := by
  rw [val_main_v392_apply, val_main_v391_apply, val_main_v390_apply, val_main_v388_apply, val_main_v387_apply, val_main_v389_apply, full_eq x0 x1 x2 x3 x4, rd2_eq x6 _ 1 (i 2).val (by rfl) (Nat.mod_eq_of_lt (i 2).isLt)]
  exact congrArg (fun t => rd2 x6 1 (i 2).val * full (Spec.args x0 x1 x2 x3 x4) (i 0).val t (i 2).val) (Nat.add_comm _ _)

/-- Tap 2. -/
theorem tap_2 (i : S8x2048x512.Idx) : val_main_v399 (F := Ideal) x0 x1 x3 x4 x6 i = ((LayerSpec.rest x5 x6 x7 x8 x9 x10 x11 x12 x13 x14 x15 x16 x17 x18 x19)).cw 2 (i 2).val * full (Spec.args x0 x1 x2 x3 x4) (i 0).val ((i 1).val + 2) (i 2).val := by
  rw [val_main_v399_apply, val_main_v398_apply, val_main_v397_apply, val_main_v395_apply, val_main_v394_apply, val_main_v396_apply, full_eq x0 x1 x2 x3 x4, rd2_eq x6 _ 2 (i 2).val (by rfl) (Nat.mod_eq_of_lt (i 2).isLt)]
  exact congrArg (fun t => rd2 x6 2 (i 2).val * full (Spec.args x0 x1 x2 x3 x4) (i 0).val t (i 2).val) (Nat.add_comm _ _)

/-- Tap 3. -/
theorem tap_3 (i : S8x2048x512.Idx) : val_main_v406 (F := Ideal) x0 x1 x3 x4 x6 i = ((LayerSpec.rest x5 x6 x7 x8 x9 x10 x11 x12 x13 x14 x15 x16 x17 x18 x19)).cw 3 (i 2).val * full (Spec.args x0 x1 x2 x3 x4) (i 0).val ((i 1).val + 3) (i 2).val := by
  rw [val_main_v406_apply, val_main_v405_apply, val_main_v404_apply, val_main_v402_apply, val_main_v401_apply, val_main_v403_apply, full_eq x0 x1 x2 x3 x4, rd2_eq x6 _ 3 (i 2).val (by rfl) (Nat.mod_eq_of_lt (i 2).isLt)]
  exact congrArg (fun t => rd2 x6 3 (i 2).val * full (Spec.args x0 x1 x2 x3 x4) (i 0).val t (i 2).val) (Nat.add_comm _ _)

/-- Tap 4. -/
theorem tap_4 (i : S8x2048x512.Idx) : val_main_v413 (F := Ideal) x0 x1 x3 x4 x6 i = ((LayerSpec.rest x5 x6 x7 x8 x9 x10 x11 x12 x13 x14 x15 x16 x17 x18 x19)).cw 4 (i 2).val * full (Spec.args x0 x1 x2 x3 x4) (i 0).val ((i 1).val + 4) (i 2).val := by
  rw [val_main_v413_apply, val_main_v412_apply, val_main_v411_apply, val_main_v409_apply, val_main_v408_apply, val_main_v410_apply, full_eq x0 x1 x2 x3 x4, rd2_eq x6 _ 4 (i 2).val (by rfl) (Nat.mod_eq_of_lt (i 2).isLt)]
  exact congrArg (fun t => rd2 x6 4 (i 2).val * full (Spec.args x0 x1 x2 x3 x4) (i 0).val t (i 2).val) (Nat.add_comm _ _)

/-- Tap 5. -/
theorem tap_5 (i : S8x2048x512.Idx) : val_main_v420 (F := Ideal) x0 x1 x3 x4 x6 i = ((LayerSpec.rest x5 x6 x7 x8 x9 x10 x11 x12 x13 x14 x15 x16 x17 x18 x19)).cw 5 (i 2).val * full (Spec.args x0 x1 x2 x3 x4) (i 0).val ((i 1).val + 5) (i 2).val := by
  rw [val_main_v420_apply, val_main_v419_apply, val_main_v418_apply, val_main_v416_apply, val_main_v415_apply, val_main_v417_apply, full_eq x0 x1 x2 x3 x4, rd2_eq x6 _ 5 (i 2).val (by rfl) (Nat.mod_eq_of_lt (i 2).isLt)]
  exact congrArg (fun t => rd2 x6 5 (i 2).val * full (Spec.args x0 x1 x2 x3 x4) (i 0).val t (i 2).val) (Nat.add_comm _ _)

/-- Tap 6. -/
theorem tap_6 (i : S8x2048x512.Idx) : val_main_v427 (F := Ideal) x0 x1 x3 x4 x6 i = ((LayerSpec.rest x5 x6 x7 x8 x9 x10 x11 x12 x13 x14 x15 x16 x17 x18 x19)).cw 6 (i 2).val * full (Spec.args x0 x1 x2 x3 x4) (i 0).val ((i 1).val + 6) (i 2).val := by
  rw [val_main_v427_apply, val_main_v426_apply, val_main_v425_apply, val_main_v423_apply, val_main_v422_apply, val_main_v424_apply, full_eq x0 x1 x2 x3 x4, rd2_eq x6 _ 6 (i 2).val (by rfl) (Nat.mod_eq_of_lt (i 2).isLt)]
  exact congrArg (fun t => rd2 x6 6 (i 2).val * full (Spec.args x0 x1 x2 x3 x4) (i 0).val t (i 2).val) (Nat.add_comm _ _)

/-- Tap 7. -/
theorem tap_7 (i : S8x2048x512.Idx) : val_main_v434 (F := Ideal) x0 x1 x3 x4 x6 i = ((LayerSpec.rest x5 x6 x7 x8 x9 x10 x11 x12 x13 x14 x15 x16 x17 x18 x19)).cw 7 (i 2).val * full (Spec.args x0 x1 x2 x3 x4) (i 0).val ((i 1).val + 7) (i 2).val := by
  rw [val_main_v434_apply, val_main_v433_apply, val_main_v432_apply, val_main_v430_apply, val_main_v429_apply, val_main_v431_apply, full_eq x0 x1 x2 x3 x4, rd2_eq x6 _ 7 (i 2).val (by rfl) (Nat.mod_eq_of_lt (i 2).isLt)]
  exact congrArg (fun t => rd2 x6 7 (i 2).val * full (Spec.args x0 x1 x2 x3 x4) (i 0).val t (i 2).val) (Nat.add_comm _ _)

/-- Tap 8. -/
theorem tap_8 (i : S8x2048x512.Idx) : val_main_v441 (F := Ideal) x0 x1 x3 x4 x6 i = ((LayerSpec.rest x5 x6 x7 x8 x9 x10 x11 x12 x13 x14 x15 x16 x17 x18 x19)).cw 8 (i 2).val * full (Spec.args x0 x1 x2 x3 x4) (i 0).val ((i 1).val + 8) (i 2).val := by
  rw [val_main_v441_apply, val_main_v440_apply, val_main_v439_apply, val_main_v437_apply, val_main_v436_apply, val_main_v438_apply, full_eq x0 x1 x2 x3 x4, rd2_eq x6 _ 8 (i 2).val (by rfl) (Nat.mod_eq_of_lt (i 2).isLt)]
  exact congrArg (fun t => rd2 x6 8 (i 2).val * full (Spec.args x0 x1 x2 x3 x4) (i 0).val t (i 2).val) (Nat.add_comm _ _)

/-- Tap 9. -/
theorem tap_9 (i : S8x2048x512.Idx) : val_main_v448 (F := Ideal) x0 x1 x3 x4 x6 i = ((LayerSpec.rest x5 x6 x7 x8 x9 x10 x11 x12 x13 x14 x15 x16 x17 x18 x19)).cw 9 (i 2).val * full (Spec.args x0 x1 x2 x3 x4) (i 0).val ((i 1).val + 9) (i 2).val := by
  rw [val_main_v448_apply, val_main_v447_apply, val_main_v446_apply, val_main_v444_apply, val_main_v443_apply, val_main_v445_apply, full_eq x0 x1 x2 x3 x4, rd2_eq x6 _ 9 (i 2).val (by rfl) (Nat.mod_eq_of_lt (i 2).isLt)]
  exact congrArg (fun t => rd2 x6 9 (i 2).val * full (Spec.args x0 x1 x2 x3 x4) (i 0).val t (i 2).val) (Nat.add_comm _ _)

/-- Tap 10. -/
theorem tap_10 (i : S8x2048x512.Idx) : val_main_v455 (F := Ideal) x0 x1 x3 x4 x6 i = ((LayerSpec.rest x5 x6 x7 x8 x9 x10 x11 x12 x13 x14 x15 x16 x17 x18 x19)).cw 10 (i 2).val * full (Spec.args x0 x1 x2 x3 x4) (i 0).val ((i 1).val + 10) (i 2).val := by
  rw [val_main_v455_apply, val_main_v454_apply, val_main_v453_apply, val_main_v451_apply, val_main_v450_apply, val_main_v452_apply, full_eq x0 x1 x2 x3 x4, rd2_eq x6 _ 10 (i 2).val (by rfl) (Nat.mod_eq_of_lt (i 2).isLt)]
  exact congrArg (fun t => rd2 x6 10 (i 2).val * full (Spec.args x0 x1 x2 x3 x4) (i 0).val t (i 2).val) (Nat.add_comm _ _)

/-- Tap 11. -/
theorem tap_11 (i : S8x2048x512.Idx) : val_main_v462 (F := Ideal) x0 x1 x3 x4 x6 i = ((LayerSpec.rest x5 x6 x7 x8 x9 x10 x11 x12 x13 x14 x15 x16 x17 x18 x19)).cw 11 (i 2).val * full (Spec.args x0 x1 x2 x3 x4) (i 0).val ((i 1).val + 11) (i 2).val := by
  rw [val_main_v462_apply, val_main_v461_apply, val_main_v460_apply, val_main_v458_apply, val_main_v457_apply, val_main_v459_apply, full_eq x0 x1 x2 x3 x4, rd2_eq x6 _ 11 (i 2).val (by rfl) (Nat.mod_eq_of_lt (i 2).isLt)]
  exact congrArg (fun t => rd2 x6 11 (i 2).val * full (Spec.args x0 x1 x2 x3 x4) (i 0).val t (i 2).val) (Nat.add_comm _ _)

/-- Tap 12. -/
theorem tap_12 (i : S8x2048x512.Idx) : val_main_v469 (F := Ideal) x0 x1 x3 x4 x6 i = ((LayerSpec.rest x5 x6 x7 x8 x9 x10 x11 x12 x13 x14 x15 x16 x17 x18 x19)).cw 12 (i 2).val * full (Spec.args x0 x1 x2 x3 x4) (i 0).val ((i 1).val + 12) (i 2).val := by
  rw [val_main_v469_apply, val_main_v468_apply, val_main_v467_apply, val_main_v465_apply, val_main_v464_apply, val_main_v466_apply, full_eq x0 x1 x2 x3 x4, rd2_eq x6 _ 12 (i 2).val (by rfl) (Nat.mod_eq_of_lt (i 2).isLt)]
  exact congrArg (fun t => rd2 x6 12 (i 2).val * full (Spec.args x0 x1 x2 x3 x4) (i 0).val t (i 2).val) (Nat.add_comm _ _)

/-- Tap 13. -/
theorem tap_13 (i : S8x2048x512.Idx) : val_main_v476 (F := Ideal) x0 x1 x3 x4 x6 i = ((LayerSpec.rest x5 x6 x7 x8 x9 x10 x11 x12 x13 x14 x15 x16 x17 x18 x19)).cw 13 (i 2).val * full (Spec.args x0 x1 x2 x3 x4) (i 0).val ((i 1).val + 13) (i 2).val := by
  rw [val_main_v476_apply, val_main_v475_apply, val_main_v474_apply, val_main_v472_apply, val_main_v471_apply, val_main_v473_apply, full_eq x0 x1 x2 x3 x4, rd2_eq x6 _ 13 (i 2).val (by rfl) (Nat.mod_eq_of_lt (i 2).isLt)]
  exact congrArg (fun t => rd2 x6 13 (i 2).val * full (Spec.args x0 x1 x2 x3 x4) (i 0).val t (i 2).val) (Nat.add_comm _ _)

/-- Tap 14. -/
theorem tap_14 (i : S8x2048x512.Idx) : val_main_v483 (F := Ideal) x0 x1 x3 x4 x6 i = ((LayerSpec.rest x5 x6 x7 x8 x9 x10 x11 x12 x13 x14 x15 x16 x17 x18 x19)).cw 14 (i 2).val * full (Spec.args x0 x1 x2 x3 x4) (i 0).val ((i 1).val + 14) (i 2).val := by
  rw [val_main_v483_apply, val_main_v482_apply, val_main_v481_apply, val_main_v479_apply, val_main_v478_apply, val_main_v480_apply, full_eq x0 x1 x2 x3 x4, rd2_eq x6 _ 14 (i 2).val (by rfl) (Nat.mod_eq_of_lt (i 2).isLt)]
  exact congrArg (fun t => rd2 x6 14 (i 2).val * full (Spec.args x0 x1 x2 x3 x4) (i 0).val t (i 2).val) (Nat.add_comm _ _)

/-- Tap 15. -/
theorem tap_15 (i : S8x2048x512.Idx) : val_main_v490 (F := Ideal) x0 x1 x3 x4 x6 i = ((LayerSpec.rest x5 x6 x7 x8 x9 x10 x11 x12 x13 x14 x15 x16 x17 x18 x19)).cw 15 (i 2).val * full (Spec.args x0 x1 x2 x3 x4) (i 0).val ((i 1).val + 15) (i 2).val := by
  rw [val_main_v490_apply, val_main_v489_apply, val_main_v488_apply, val_main_v486_apply, val_main_v485_apply, val_main_v487_apply, full_eq x0 x1 x2 x3 x4, rd2_eq x6 _ 15 (i 2).val (by rfl) (Nat.mod_eq_of_lt (i 2).isLt)]
  exact congrArg (fun t => rd2 x6 15 (i 2).val * full (Spec.args x0 x1 x2 x3 x4) (i 0).val t (i 2).val) (Nat.add_comm _ _)

/-- Tap 16. -/
theorem tap_16 (i : S8x2048x512.Idx) : val_main_v497 (F := Ideal) x0 x1 x3 x4 x6 i = ((LayerSpec.rest x5 x6 x7 x8 x9 x10 x11 x12 x13 x14 x15 x16 x17 x18 x19)).cw 16 (i 2).val * full (Spec.args x0 x1 x2 x3 x4) (i 0).val ((i 1).val + 16) (i 2).val := by
  rw [val_main_v497_apply, val_main_v496_apply, val_main_v495_apply, val_main_v493_apply, val_main_v492_apply, val_main_v494_apply, full_eq x0 x1 x2 x3 x4, rd2_eq x6 _ 16 (i 2).val (by rfl) (Nat.mod_eq_of_lt (i 2).isLt)]
  exact congrArg (fun t => rd2 x6 16 (i 2).val * full (Spec.args x0 x1 x2 x3 x4) (i 0).val t (i 2).val) (Nat.add_comm _ _)

/-- Tap 17. -/
theorem tap_17 (i : S8x2048x512.Idx) : val_main_v504 (F := Ideal) x0 x1 x3 x4 x6 i = ((LayerSpec.rest x5 x6 x7 x8 x9 x10 x11 x12 x13 x14 x15 x16 x17 x18 x19)).cw 17 (i 2).val * full (Spec.args x0 x1 x2 x3 x4) (i 0).val ((i 1).val + 17) (i 2).val := by
  rw [val_main_v504_apply, val_main_v503_apply, val_main_v502_apply, val_main_v500_apply, val_main_v499_apply, val_main_v501_apply, full_eq x0 x1 x2 x3 x4, rd2_eq x6 _ 17 (i 2).val (by rfl) (Nat.mod_eq_of_lt (i 2).isLt)]
  exact congrArg (fun t => rd2 x6 17 (i 2).val * full (Spec.args x0 x1 x2 x3 x4) (i 0).val t (i 2).val) (Nat.add_comm _ _)

/-- Tap 18. -/
theorem tap_18 (i : S8x2048x512.Idx) : val_main_v511 (F := Ideal) x0 x1 x3 x4 x6 i = ((LayerSpec.rest x5 x6 x7 x8 x9 x10 x11 x12 x13 x14 x15 x16 x17 x18 x19)).cw 18 (i 2).val * full (Spec.args x0 x1 x2 x3 x4) (i 0).val ((i 1).val + 18) (i 2).val := by
  rw [val_main_v511_apply, val_main_v510_apply, val_main_v509_apply, val_main_v507_apply, val_main_v506_apply, val_main_v508_apply, full_eq x0 x1 x2 x3 x4, rd2_eq x6 _ 18 (i 2).val (by rfl) (Nat.mod_eq_of_lt (i 2).isLt)]
  exact congrArg (fun t => rd2 x6 18 (i 2).val * full (Spec.args x0 x1 x2 x3 x4) (i 0).val t (i 2).val) (Nat.add_comm _ _)

/-- Tap 19. -/
theorem tap_19 (i : S8x2048x512.Idx) : val_main_v518 (F := Ideal) x0 x1 x3 x4 x6 i = ((LayerSpec.rest x5 x6 x7 x8 x9 x10 x11 x12 x13 x14 x15 x16 x17 x18 x19)).cw 19 (i 2).val * full (Spec.args x0 x1 x2 x3 x4) (i 0).val ((i 1).val + 19) (i 2).val := by
  rw [val_main_v518_apply, val_main_v517_apply, val_main_v516_apply, val_main_v514_apply, val_main_v513_apply, val_main_v515_apply, full_eq x0 x1 x2 x3 x4, rd2_eq x6 _ 19 (i 2).val (by rfl) (Nat.mod_eq_of_lt (i 2).isLt)]
  exact congrArg (fun t => rd2 x6 19 (i 2).val * full (Spec.args x0 x1 x2 x3 x4) (i 0).val t (i 2).val) (Nat.add_comm _ _)

/-- Tap 20. -/
theorem tap_20 (i : S8x2048x512.Idx) : val_main_v525 (F := Ideal) x0 x1 x3 x4 x6 i = ((LayerSpec.rest x5 x6 x7 x8 x9 x10 x11 x12 x13 x14 x15 x16 x17 x18 x19)).cw 20 (i 2).val * full (Spec.args x0 x1 x2 x3 x4) (i 0).val ((i 1).val + 20) (i 2).val := by
  rw [val_main_v525_apply, val_main_v524_apply, val_main_v523_apply, val_main_v521_apply, val_main_v520_apply, val_main_v522_apply, full_eq x0 x1 x2 x3 x4, rd2_eq x6 _ 20 (i 2).val (by rfl) (Nat.mod_eq_of_lt (i 2).isLt)]
  exact congrArg (fun t => rd2 x6 20 (i 2).val * full (Spec.args x0 x1 x2 x3 x4) (i 0).val t (i 2).val) (Nat.add_comm _ _)

/-- Tap 21. -/
theorem tap_21 (i : S8x2048x512.Idx) : val_main_v532 (F := Ideal) x0 x1 x3 x4 x6 i = ((LayerSpec.rest x5 x6 x7 x8 x9 x10 x11 x12 x13 x14 x15 x16 x17 x18 x19)).cw 21 (i 2).val * full (Spec.args x0 x1 x2 x3 x4) (i 0).val ((i 1).val + 21) (i 2).val := by
  rw [val_main_v532_apply, val_main_v531_apply, val_main_v530_apply, val_main_v528_apply, val_main_v527_apply, val_main_v529_apply, full_eq x0 x1 x2 x3 x4, rd2_eq x6 _ 21 (i 2).val (by rfl) (Nat.mod_eq_of_lt (i 2).isLt)]
  exact congrArg (fun t => rd2 x6 21 (i 2).val * full (Spec.args x0 x1 x2 x3 x4) (i 0).val t (i 2).val) (Nat.add_comm _ _)

/-- Tap 22. -/
theorem tap_22 (i : S8x2048x512.Idx) : val_main_v539 (F := Ideal) x0 x1 x3 x4 x6 i = ((LayerSpec.rest x5 x6 x7 x8 x9 x10 x11 x12 x13 x14 x15 x16 x17 x18 x19)).cw 22 (i 2).val * full (Spec.args x0 x1 x2 x3 x4) (i 0).val ((i 1).val + 22) (i 2).val := by
  rw [val_main_v539_apply, val_main_v538_apply, val_main_v537_apply, val_main_v535_apply, val_main_v534_apply, val_main_v536_apply, full_eq x0 x1 x2 x3 x4, rd2_eq x6 _ 22 (i 2).val (by rfl) (Nat.mod_eq_of_lt (i 2).isLt)]
  exact congrArg (fun t => rd2 x6 22 (i 2).val * full (Spec.args x0 x1 x2 x3 x4) (i 0).val t (i 2).val) (Nat.add_comm _ _)

/-- Tap 23. -/
theorem tap_23 (i : S8x2048x512.Idx) : val_main_v546 (F := Ideal) x0 x1 x3 x4 x6 i = ((LayerSpec.rest x5 x6 x7 x8 x9 x10 x11 x12 x13 x14 x15 x16 x17 x18 x19)).cw 23 (i 2).val * full (Spec.args x0 x1 x2 x3 x4) (i 0).val ((i 1).val + 23) (i 2).val := by
  rw [val_main_v546_apply, val_main_v545_apply, val_main_v544_apply, val_main_v542_apply, val_main_v541_apply, val_main_v543_apply, full_eq x0 x1 x2 x3 x4, rd2_eq x6 _ 23 (i 2).val (by rfl) (Nat.mod_eq_of_lt (i 2).isLt)]
  exact congrArg (fun t => rd2 x6 23 (i 2).val * full (Spec.args x0 x1 x2 x3 x4) (i 0).val t (i 2).val) (Nat.add_comm _ _)

/-- Tap 24. -/
theorem tap_24 (i : S8x2048x512.Idx) : val_main_v553 (F := Ideal) x0 x1 x3 x4 x6 i = ((LayerSpec.rest x5 x6 x7 x8 x9 x10 x11 x12 x13 x14 x15 x16 x17 x18 x19)).cw 24 (i 2).val * full (Spec.args x0 x1 x2 x3 x4) (i 0).val ((i 1).val + 24) (i 2).val := by
  rw [val_main_v553_apply, val_main_v552_apply, val_main_v551_apply, val_main_v549_apply, val_main_v548_apply, val_main_v550_apply, full_eq x0 x1 x2 x3 x4, rd2_eq x6 _ 24 (i 2).val (by rfl) (Nat.mod_eq_of_lt (i 2).isLt)]
  exact congrArg (fun t => rd2 x6 24 (i 2).val * full (Spec.args x0 x1 x2 x3 x4) (i 0).val t (i 2).val) (Nat.add_comm _ _)

/-- Tap 25. -/
theorem tap_25 (i : S8x2048x512.Idx) : val_main_v560 (F := Ideal) x0 x1 x3 x4 x6 i = ((LayerSpec.rest x5 x6 x7 x8 x9 x10 x11 x12 x13 x14 x15 x16 x17 x18 x19)).cw 25 (i 2).val * full (Spec.args x0 x1 x2 x3 x4) (i 0).val ((i 1).val + 25) (i 2).val := by
  rw [val_main_v560_apply, val_main_v559_apply, val_main_v558_apply, val_main_v556_apply, val_main_v555_apply, val_main_v557_apply, full_eq x0 x1 x2 x3 x4, rd2_eq x6 _ 25 (i 2).val (by rfl) (Nat.mod_eq_of_lt (i 2).isLt)]
  exact congrArg (fun t => rd2 x6 25 (i 2).val * full (Spec.args x0 x1 x2 x3 x4) (i 0).val t (i 2).val) (Nat.add_comm _ _)

/-- Tap 26. -/
theorem tap_26 (i : S8x2048x512.Idx) : val_main_v567 (F := Ideal) x0 x1 x3 x4 x6 i = ((LayerSpec.rest x5 x6 x7 x8 x9 x10 x11 x12 x13 x14 x15 x16 x17 x18 x19)).cw 26 (i 2).val * full (Spec.args x0 x1 x2 x3 x4) (i 0).val ((i 1).val + 26) (i 2).val := by
  rw [val_main_v567_apply, val_main_v566_apply, val_main_v565_apply, val_main_v563_apply, val_main_v562_apply, val_main_v564_apply, full_eq x0 x1 x2 x3 x4, rd2_eq x6 _ 26 (i 2).val (by rfl) (Nat.mod_eq_of_lt (i 2).isLt)]
  exact congrArg (fun t => rd2 x6 26 (i 2).val * full (Spec.args x0 x1 x2 x3 x4) (i 0).val t (i 2).val) (Nat.add_comm _ _)

/-- Tap 27. -/
theorem tap_27 (i : S8x2048x512.Idx) : val_main_v574 (F := Ideal) x0 x1 x3 x4 x6 i = ((LayerSpec.rest x5 x6 x7 x8 x9 x10 x11 x12 x13 x14 x15 x16 x17 x18 x19)).cw 27 (i 2).val * full (Spec.args x0 x1 x2 x3 x4) (i 0).val ((i 1).val + 27) (i 2).val := by
  rw [val_main_v574_apply, val_main_v573_apply, val_main_v572_apply, val_main_v570_apply, val_main_v569_apply, val_main_v571_apply, full_eq x0 x1 x2 x3 x4, rd2_eq x6 _ 27 (i 2).val (by rfl) (Nat.mod_eq_of_lt (i 2).isLt)]
  exact congrArg (fun t => rd2 x6 27 (i 2).val * full (Spec.args x0 x1 x2 x3 x4) (i 0).val t (i 2).val) (Nat.add_comm _ _)

/-- Tap 28. -/
theorem tap_28 (i : S8x2048x512.Idx) : val_main_v581 (F := Ideal) x0 x1 x3 x4 x6 i = ((LayerSpec.rest x5 x6 x7 x8 x9 x10 x11 x12 x13 x14 x15 x16 x17 x18 x19)).cw 28 (i 2).val * full (Spec.args x0 x1 x2 x3 x4) (i 0).val ((i 1).val + 28) (i 2).val := by
  rw [val_main_v581_apply, val_main_v580_apply, val_main_v579_apply, val_main_v577_apply, val_main_v576_apply, val_main_v578_apply, full_eq x0 x1 x2 x3 x4, rd2_eq x6 _ 28 (i 2).val (by rfl) (Nat.mod_eq_of_lt (i 2).isLt)]
  exact congrArg (fun t => rd2 x6 28 (i 2).val * full (Spec.args x0 x1 x2 x3 x4) (i 0).val t (i 2).val) (Nat.add_comm _ _)

/-- Tap 29. -/
theorem tap_29 (i : S8x2048x512.Idx) : val_main_v588 (F := Ideal) x0 x1 x3 x4 x6 i = ((LayerSpec.rest x5 x6 x7 x8 x9 x10 x11 x12 x13 x14 x15 x16 x17 x18 x19)).cw 29 (i 2).val * full (Spec.args x0 x1 x2 x3 x4) (i 0).val ((i 1).val + 29) (i 2).val := by
  rw [val_main_v588_apply, val_main_v587_apply, val_main_v586_apply, val_main_v584_apply, val_main_v583_apply, val_main_v585_apply, full_eq x0 x1 x2 x3 x4, rd2_eq x6 _ 29 (i 2).val (by rfl) (Nat.mod_eq_of_lt (i 2).isLt)]
  exact congrArg (fun t => rd2 x6 29 (i 2).val * full (Spec.args x0 x1 x2 x3 x4) (i 0).val t (i 2).val) (Nat.add_comm _ _)

/-- Tap 30. -/
theorem tap_30 (i : S8x2048x512.Idx) : val_main_v595 (F := Ideal) x0 x1 x3 x4 x6 i = ((LayerSpec.rest x5 x6 x7 x8 x9 x10 x11 x12 x13 x14 x15 x16 x17 x18 x19)).cw 30 (i 2).val * full (Spec.args x0 x1 x2 x3 x4) (i 0).val ((i 1).val + 30) (i 2).val := by
  rw [val_main_v595_apply, val_main_v594_apply, val_main_v593_apply, val_main_v591_apply, val_main_v590_apply, val_main_v592_apply, full_eq x0 x1 x2 x3 x4, rd2_eq x6 _ 30 (i 2).val (by rfl) (Nat.mod_eq_of_lt (i 2).isLt)]
  exact congrArg (fun t => rd2 x6 30 (i 2).val * full (Spec.args x0 x1 x2 x3 x4) (i 0).val t (i 2).val) (Nat.add_comm _ _)

/-- The causal convolution. -/
theorem uc_eq (i : S8x2048x512.Idx) : val_main_v599 (F := Ideal) x0 x1 x3 x4 x6 x7 i = uc (Spec.args x0 x1 x2 x3 x4) (LayerSpec.rest x5 x6 x7 x8 x9 x10 x11 x12 x13 x14 x15 x16 x17 x18 x19) (i 0).val (i 1).val (i 2).val := by
  rw [val_main_v599_apply, val_main_v598_apply, val_main_v597_apply, val_main_v596_apply, val_main_v589_apply, val_main_v582_apply, val_main_v575_apply, val_main_v568_apply, val_main_v561_apply, val_main_v554_apply, val_main_v547_apply, val_main_v540_apply, val_main_v533_apply, val_main_v526_apply, val_main_v519_apply, val_main_v512_apply, val_main_v505_apply, val_main_v498_apply, val_main_v491_apply, val_main_v484_apply, val_main_v477_apply, val_main_v470_apply, val_main_v463_apply, val_main_v456_apply, val_main_v449_apply, val_main_v442_apply, val_main_v435_apply, val_main_v428_apply, val_main_v421_apply, val_main_v414_apply, val_main_v407_apply, val_main_v400_apply, val_main_v393_apply,
    tap_0 x0 x1 x2 x3 x4 x5 x6 x7 x8 x9 x10 x11 x12 x13 x14 x15 x16 x17 x18 x19, tap_1 x0 x1 x2 x3 x4 x5 x6 x7 x8 x9 x10 x11 x12 x13 x14 x15 x16 x17 x18 x19, tap_2 x0 x1 x2 x3 x4 x5 x6 x7 x8 x9 x10 x11 x12 x13 x14 x15 x16 x17 x18 x19, tap_3 x0 x1 x2 x3 x4 x5 x6 x7 x8 x9 x10 x11 x12 x13 x14 x15 x16 x17 x18 x19, tap_4 x0 x1 x2 x3 x4 x5 x6 x7 x8 x9 x10 x11 x12 x13 x14 x15 x16 x17 x18 x19, tap_5 x0 x1 x2 x3 x4 x5 x6 x7 x8 x9 x10 x11 x12 x13 x14 x15 x16 x17 x18 x19, tap_6 x0 x1 x2 x3 x4 x5 x6 x7 x8 x9 x10 x11 x12 x13 x14 x15 x16 x17 x18 x19, tap_7 x0 x1 x2 x3 x4 x5 x6 x7 x8 x9 x10 x11 x12 x13 x14 x15 x16 x17 x18 x19, tap_8 x0 x1 x2 x3 x4 x5 x6 x7 x8 x9 x10 x11 x12 x13 x14 x15 x16 x17 x18 x19, tap_9 x0 x1 x2 x3 x4 x5 x6 x7 x8 x9 x10 x11 x12 x13 x14 x15 x16 x17 x18 x19, tap_10 x0 x1 x2 x3 x4 x5 x6 x7 x8 x9 x10 x11 x12 x13 x14 x15 x16 x17 x18 x19, tap_11 x0 x1 x2 x3 x4 x5 x6 x7 x8 x9 x10 x11 x12 x13 x14 x15 x16 x17 x18 x19, tap_12 x0 x1 x2 x3 x4 x5 x6 x7 x8 x9 x10 x11 x12 x13 x14 x15 x16 x17 x18 x19, tap_13 x0 x1 x2 x3 x4 x5 x6 x7 x8 x9 x10 x11 x12 x13 x14 x15 x16 x17 x18 x19, tap_14 x0 x1 x2 x3 x4 x5 x6 x7 x8 x9 x10 x11 x12 x13 x14 x15 x16 x17 x18 x19, tap_15 x0 x1 x2 x3 x4 x5 x6 x7 x8 x9 x10 x11 x12 x13 x14 x15 x16 x17 x18 x19, tap_16 x0 x1 x2 x3 x4 x5 x6 x7 x8 x9 x10 x11 x12 x13 x14 x15 x16 x17 x18 x19, tap_17 x0 x1 x2 x3 x4 x5 x6 x7 x8 x9 x10 x11 x12 x13 x14 x15 x16 x17 x18 x19, tap_18 x0 x1 x2 x3 x4 x5 x6 x7 x8 x9 x10 x11 x12 x13 x14 x15 x16 x17 x18 x19, tap_19 x0 x1 x2 x3 x4 x5 x6 x7 x8 x9 x10 x11 x12 x13 x14 x15 x16 x17 x18 x19, tap_20 x0 x1 x2 x3 x4 x5 x6 x7 x8 x9 x10 x11 x12 x13 x14 x15 x16 x17 x18 x19, tap_21 x0 x1 x2 x3 x4 x5 x6 x7 x8 x9 x10 x11 x12 x13 x14 x15 x16 x17 x18 x19, tap_22 x0 x1 x2 x3 x4 x5 x6 x7 x8 x9 x10 x11 x12 x13 x14 x15 x16 x17 x18 x19, tap_23 x0 x1 x2 x3 x4 x5 x6 x7 x8 x9 x10 x11 x12 x13 x14 x15 x16 x17 x18 x19, tap_24 x0 x1 x2 x3 x4 x5 x6 x7 x8 x9 x10 x11 x12 x13 x14 x15 x16 x17 x18 x19, tap_25 x0 x1 x2 x3 x4 x5 x6 x7 x8 x9 x10 x11 x12 x13 x14 x15 x16 x17 x18 x19, tap_26 x0 x1 x2 x3 x4 x5 x6 x7 x8 x9 x10 x11 x12 x13 x14 x15 x16 x17 x18 x19, tap_27 x0 x1 x2 x3 x4 x5 x6 x7 x8 x9 x10 x11 x12 x13 x14 x15 x16 x17 x18 x19, tap_28 x0 x1 x2 x3 x4 x5 x6 x7 x8 x9 x10 x11 x12 x13 x14 x15 x16 x17 x18 x19, tap_29 x0 x1 x2 x3 x4 x5 x6 x7 x8 x9 x10 x11 x12 x13 x14 x15 x16 x17 x18 x19, tap_30 x0 x1 x2 x3 x4 x5 x6 x7 x8 x9 x10 x11 x12 x13 x14 x15 x16 x17 x18 x19, rd2_eq x7 (idx_main_v597 _) 0 (i 2).val rfl rfl]
  unfold uc
  refine congrArg (· + _) ?_
  rw [Fin.sum_univ_eq_sum_range (fun j => ((LayerSpec.rest x5 x6 x7 x8 x9 x10 x11 x12 x13 x14 x15 x16 x17 x18 x19)).cw j (i 2).val * full (Spec.args x0 x1 x2 x3 x4) (i 0).val ((i 1).val + j) (i 2).val) 31]
  simp only [Finset.sum_range_succ, Finset.sum_range_zero, zero_add]
  rfl

/-- The convolution by group. -/
theorem uc_group (i : S8x2048x8x64.Idx) : val_main_v600 (F := Ideal) x0 x1 x3 x4 x6 x7 i = uc (Spec.args x0 x1 x2 x3 x4) (LayerSpec.rest x5 x6 x7 x8 x9 x10 x11 x12 x13 x14 x15 x16 x17 x18 x19) (i 0).val (i 1).val (64 * (i 2).val + (i 3).val) := by
  have h0 : (i 0).val < 8 := (i 0).isLt
  have h1 : (i 1).val < 2048 := (i 1).isLt
  have h2 : (i 2).val < 8 := (i 2).isLt
  have h3 : (i 3).val < 64 := (i 3).isLt
  rw [val_main_v600_apply, uc_eq x0 x1 x2 x3 x4 x5 x6 x7 x8 x9 x10 x11 x12 x13 x14 x15 x16 x17 x18 x19]
  congr 1 <;> (dsimp only [idx_main_v600]; omega)

/-- The groups' means. -/
theorem gmean_eq (i : S8x2048x8x1.Idx) : val_main_v604 (F := Ideal) x0 x1 x3 x4 x6 x7 i = gmean (Spec.args x0 x1 x2 x3 x4) (LayerSpec.rest x5 x6 x7 x8 x9 x10 x11 x12 x13 x14 x15 x16 x17 x18 x19) (i 0).val (i 1).val (i 2).val := by
  rw [val_main_v604_apply, val_main_v603_apply, val_main_v602_apply, val_main_v601_apply]
  refine congrArg (fun y => Ideal.div y groupLen) ?_
  rw [show (val_main_cst_15 (F := Ideal)) (Shape.Idx.first h_S_) = 0 from Ideal.ofBits_zero_f32, zero_add]
  exact Finset.sum_congr rfl fun k _ => uc_group x0 x1 x2 x3 x4 x5 x6 x7 x8 x9 x10 x11 x12 x13 x14 x15 x16 x17 x18 x19 _

/-- The groups' deviations. -/
theorem gdev_eq (i : S8x2048x8x64.Idx) : val_main_v606 (F := Ideal) x0 x1 x3 x4 x6 x7 i = gdev (Spec.args x0 x1 x2 x3 x4) (LayerSpec.rest x5 x6 x7 x8 x9 x10 x11 x12 x13 x14 x15 x16 x17 x18 x19) (i 0).val (i 1).val (64 * (i 2).val + (i 3).val) := by
  have h3 : (i 3).val < 64 := (i 3).isLt
  rw [val_main_v606_apply, val_main_v605_apply, uc_group x0 x1 x2 x3 x4 x5 x6 x7 x8 x9 x10 x11 x12 x13 x14 x15 x16 x17 x18 x19,
    gmean_eq x0 x1 x2 x3 x4 x5 x6 x7 x8 x9 x10 x11 x12 x13 x14 x15 x16 x17 x18 x19]
  unfold gdev
  rw [show (64 * (i 2).val + (i 3).val) / 64 = (i 2).val by omega]
  rfl

/-- The groups' variances. -/
theorem gvar_eq (i : S8x2048x8x1.Idx) : val_main_v611 (F := Ideal) x0 x1 x3 x4 x6 x7 i = gvar (Spec.args x0 x1 x2 x3 x4) (LayerSpec.rest x5 x6 x7 x8 x9 x10 x11 x12 x13 x14 x15 x16 x17 x18 x19) (i 0).val (i 1).val (i 2).val := by
  rw [val_main_v611_apply, val_main_v610_apply, val_main_v609_apply, val_main_v608_apply]
  refine congrArg (fun y => Ideal.div y groupLen) ?_
  rw [show (val_main_cst_17 (F := Ideal)) (Shape.Idx.first h_S_) = 0 from Ideal.ofBits_zero_f32, zero_add]
  refine Finset.sum_congr rfl fun k _ => ?_
  rw [val_main_v607_apply, gdev_eq x0 x1 x2 x3 x4 x5 x6 x7 x8 x9 x10 x11 x12 x13 x14 x15 x16 x17 x18 x19]
  rfl

/-- The convolution, group-normalised, scaled, shifted and swished. -/
theorem swish_eq (i : S8x2048x512.Idx) : val_main_v626 (F := Ideal) x0 x1 x3 x4 x6 x7 x8 x9 i = LayerSpec.conv (Spec.args x0 x1 x2 x3 x4) (LayerSpec.rest x5 x6 x7 x8 x9 x10 x11 x12 x13 x14 x15 x16 x17 x18 x19) (i 0).val (i 1).val (i 2).val := by
  have h0 : (i 0).val < 8 := (i 0).isLt
  have h1 : (i 1).val < 2048 := (i 1).isLt
  have h2 : (i 2).val < 512 := (i 2).isLt
  have e (j : S8x2048x8x64.Idx) : val_main_v618 (F := Ideal) x0 x1 x3 x4 x6 x7 j = gdev (Spec.args x0 x1 x2 x3 x4) (LayerSpec.rest x5 x6 x7 x8 x9 x10 x11 x12 x13 x14 x15 x16 x17 x18 x19) (j 0).val (j 1).val (64 * (j 2).val + (j 3).val)
      * Ideal.rsqrt (gvar (Spec.args x0 x1 x2 x3 x4) (LayerSpec.rest x5 x6 x7 x8 x9 x10 x11 x12 x13 x14 x15 x16 x17 x18 x19) (j 0).val (j 1).val (j 2).val + eps) := by
    have g := gdev_eq x0 x1 x2 x3 x4 x5 x6 x7 x8 x9 x10 x11 x12 x13 x14 x15 x16 x17 x18 x19 j
    have w := gvar_eq x0 x1 x2 x3 x4 x5 x6 x7 x8 x9 x10 x11 x12 x13 x14 x15 x16 x17 x18 x19 (idx_main_v617 j)
    rw [val_main_v606_apply, val_main_v605_apply] at g
    rw [val_main_v618_apply, val_main_v617_apply, val_main_v616_apply, val_main_v615_apply, val_main_v614_apply, val_main_v613_apply, val_main_v612_apply, w]
    exact congrArg₂ (· * ·) g rfl
  have e1 : val_main_v619 (F := Ideal) x0 x1 x3 x4 x6 x7 i = gdev (Spec.args x0 x1 x2 x3 x4) (LayerSpec.rest x5 x6 x7 x8 x9 x10 x11 x12 x13 x14 x15 x16 x17 x18 x19) (i 0).val (i 1).val (i 2).val * Ideal.rsqrt (gvar (Spec.args x0 x1 x2 x3 x4) (LayerSpec.rest x5 x6 x7 x8 x9 x10 x11 x12 x13 x14 x15 x16 x17 x18 x19) (i 0).val (i 1).val ((i 2).val / 64) + eps) := by
    rw [val_main_v619_apply, e]
    have a0 : (idx_main_v619 i 0).val = (i 0).val := by dsimp only [idx_main_v619]; omega
    have a1 : (idx_main_v619 i 1).val = (i 1).val := by dsimp only [idx_main_v619]; omega
    have a2 : (idx_main_v619 i 2).val = (i 2).val / 64 := by dsimp only [idx_main_v619]; omega
    have a3 : (idx_main_v619 i 3).val = (i 2).val % 64 := by dsimp only [idx_main_v619]; omega
    rw [a0, a1, a2, a3, Nat.div_add_mod]
  have e2 : val_main_v625 (F := Ideal) x0 x1 x3 x4 x6 x7 x8 x9 i = gdev (Spec.args x0 x1 x2 x3 x4) (LayerSpec.rest x5 x6 x7 x8 x9 x10 x11 x12 x13 x14 x15 x16 x17 x18 x19) (i 0).val (i 1).val (i 2).val * Ideal.rsqrt (gvar (Spec.args x0 x1 x2 x3 x4) (LayerSpec.rest x5 x6 x7 x8 x9 x10 x11 x12 x13 x14 x15 x16 x17 x18 x19) (i 0).val (i 1).val ((i 2).val / 64) + eps)
      * ((LayerSpec.rest x5 x6 x7 x8 x9 x10 x11 x12 x13 x14 x15 x16 x17 x18 x19)).gg 0 (i 2).val + ((LayerSpec.rest x5 x6 x7 x8 x9 x10 x11 x12 x13 x14 x15 x16 x17 x18 x19)).gb 0 (i 2).val := by
    rw [val_main_v625_apply, val_main_v622_apply, val_main_v624_apply, val_main_v623_apply, val_main_v621_apply, val_main_v620_apply, e1, rd2_eq x8 (idx_main_v620 _) 0 (i 2).val rfl rfl, rd2_eq x9 (idx_main_v623 _) 0 (i 2).val rfl rfl]
    rfl
  rw [val_main_v626_apply, val_main_call5_v5_apply, val_main_call5_v4_apply, val_main_call5_v3_apply, val_main_call5_v2_apply, val_main_call5_v1_apply, val_main_call5_v0_apply, e2]
  rfl

end Cert.ReferenceIdeal.Value2

end
-- ==== Proof.RefMlp.lean ====
module

public import proofs.«01_k».proof.Proof.RefHeads
public import proofs.«01_k».proof.Proof.RefConv
public import Idealize.ShloMosaic.Lib.Pipeline.ValueKit.Tiles

@[expose] public section

set_option maxRecDepth 16384

noncomputable section

/-! The reference's first result is the specification's. -/

namespace Cert.ReferenceIdeal.Value2

open Cert.ReferenceIdeal Cert.ReferenceIdeal.Gen Cert.ReferenceIdeal.Read Cert.Spec Cert.LayerSpec
open Idealize.ShloMosaic Idealize.ShloMosaic.TcCoe Idealize.SL.Sem Idealize.ShloMosaic.StableHlo Idealize.ShloMosaic.ValueIdx

variable (x0 : (⟨S8x2048x1024, .f32⟩ : BufTy).Contents (Elt Ideal)) (x1 : (⟨S8x6x1024, .f32⟩ : BufTy).Contents (Elt Ideal))
  (x2 : (⟨S2x512, .f32⟩ : BufTy).Contents (Elt Ideal)) (x3 : (⟨S1024x3072, .bf16⟩ : BufTy).Contents (Elt Ideal))
  (x4 : (⟨S1x3072, .f32⟩ : BufTy).Contents (Elt Ideal)) (x5 : (⟨S1x128, .f32⟩ : BufTy).Contents (Elt Ideal))
  (x6 : (⟨S31x512, .f32⟩ : BufTy).Contents (Elt Ideal)) (x7 x8 x9 : (⟨S1x512, .f32⟩ : BufTy).Contents (Elt Ideal))
  (x10 : (⟨S1024x1024, .bf16⟩ : BufTy).Contents (Elt Ideal)) (x11 x12 x13 : (⟨S1x1024, .f32⟩ : BufTy).Contents (Elt Ideal))
  (x14 : (⟨S1024x4096, .bf16⟩ : BufTy).Contents (Elt Ideal)) (x15 : (⟨S1x4096, .f32⟩ : BufTy).Contents (Elt Ideal))
  (x16 : (⟨S4096x1024, .bf16⟩ : BufTy).Contents (Elt Ideal)) (x17 x18 x19 : (⟨S1x1024, .f32⟩ : BufTy).Contents (Elt Ideal))

/-- The mixer's rows. -/
theorem mix_eq (i : S8x2048x1024.Idx) : val_main_v628 (F := Ideal) x0 x1 x2 x3 x4 x5 x6 x7 x8 x9 i = mix (Spec.args x0 x1 x2 x3 x4) (LayerSpec.rest x5 x6 x7 x8 x9 x10 x11 x12 x13 x14 x15 x16 x17 x18 x19) (i 0).val (i 1).val (i 2).val := by
  have h0 : (i 0).val < 8 := (i 0).isLt
  have h1 : (i 1).val < 2048 := (i 1).isLt
  have h2 : (i 2).val < 1024 := (i 2).isLt
  unfold val_main_v628 mix
  by_cases h : (i 2).val < 512
  · rw [if_pos h]
    refine (concatenate_pair_apply_left (s₁ := S8x2048x512) (s₂ := S8x2048x512) 2 _ _ _ i rfl (ix3 (i 0) (i 1) ⟨(i 2).val, h⟩) fun b => by fin_cases b <;> rfl).trans ?_
    rw [val_main_v627_apply, head_eq x0 x1 x2 x3 x4 x5 x6 x7 x8 x9 x10 x11 x12 x13 x14 x15 x16 x17 x18 x19]
    have a0 : (idx_main_v627 (ix3 (i 0) (i 1) ⟨(i 2).val, h⟩) 0).val = (i 0).val := by
      show (((i 0).val * 2048 + (i 1).val) * 512 + (i 2).val) / 1048576 = _; omega
    have a1 : (idx_main_v627 (ix3 (i 0) (i 1) ⟨(i 2).val, h⟩) 1).val = (i 1).val := by
      show (((i 0).val * 2048 + (i 1).val) * 512 + (i 2).val) / 512 % 2048 = _; omega
    have a2 : (idx_main_v627 (ix3 (i 0) (i 1) ⟨(i 2).val, h⟩) 2).val = (i 2).val / 128 := by
      show (((i 0).val * 2048 + (i 1).val) * 512 + (i 2).val) / 128 % 4 = _; omega
    have a3 : (idx_main_v627 (ix3 (i 0) (i 1) ⟨(i 2).val, h⟩) 3).val = (i 2).val % 128 := by
      show (((i 0).val * 2048 + (i 1).val) * 512 + (i 2).val) % 128 = _; omega
    rw [a0, a1, a2, a3]
  · rw [if_neg h]
    refine (concatenate_pair_apply_right (s₁ := S8x2048x512) (s₂ := S8x2048x512) 2 _ _ _ i rfl rfl (ix3 (i 0) (i 1) ⟨(i 2).val - 512, by omega⟩) (fun b hb => by fin_cases b <;> first | rfl | exact absurd rfl hb)
      (by show (i 2).val - 512 + 512 = (i 2).val; omega)).trans ?_
    exact swish_eq x0 x1 x2 x3 x4 x5 x6 x7 x8 x9 x10 x11 x12 x13 x14 x15 x16 x17 x18 x19 _

/-- The output projection. -/
theorem proj_eq (i : S8x2048x1024.Idx) : val_main_v633 (F := Ideal) x0 x1 x2 x3 x4 x5 x6 x7 x8 x9 x10 x11 i = proj (Spec.args x0 x1 x2 x3 x4) (LayerSpec.rest x5 x6 x7 x8 x9 x10 x11 x12 x13 x14 x15 x16 x17 x18 x19) (i 0).val (i 1).val (i 2).val := by
  rw [val_main_v633_apply, val_main_v632_apply, val_main_v631_apply, val_main_v630_apply, rd2_eq x11 (idx_main_v631 _) 0 (i 2).val rfl rfl]
  refine congrArg (· + _) (Finset.sum_congr rfl fun k _ => ?_)
  rw [mix_eq x0 x1 x2 x3 x4 x5 x6 x7 x8 x9 x10 x11 x12 x13 x14 x15 x16 x17 x18 x19, val_main_v629_apply]
  exact congrArg (_ * ·) (rd2_eq x10 (ridx_main_v630 i k) k.val (i 2).val rfl rfl)

/-- The first residual sum. -/
theorem y1_eq (i : S8x2048x1024.Idx) : val_main_v644 (F := Ideal) x0 x1 x2 x3 x4 x5 x6 x7 x8 x9 x10 x11 i = y1 (Spec.args x0 x1 x2 x3 x4) (LayerSpec.rest x5 x6 x7 x8 x9 x10 x11 x12 x13 x14 x15 x16 x17 x18 x19) (i 0).val (i 1).val (i 2).val := by
  rw [val_main_v644_apply, val_main_v643_apply, val_main_v642_apply, val_main_v641_apply, val_main_v640_apply, val_main_v639_apply, val_main_v638_apply, val_main_v634_apply, proj_eq x0 x1 x2 x3 x4 x5 x6 x7 x8 x9 x10 x11 x12 x13 x14 x15 x16 x17 x18 x19, rd3_eq x0 i _ _ _ rfl rfl rfl,
    rd3_eq x1 (idx_main_v634 _) (i 0).val 2 (i 2).val rfl rfl rfl]
  rfl

/-- The first norm's means. -/
theorem mu1_eq (i : S8x2048x1.Idx) : val_main_v648 (F := Ideal) x0 x1 x2 x3 x4 x5 x6 x7 x8 x9 x10 x11 i = mu (y1 (Spec.args x0 x1 x2 x3 x4) (LayerSpec.rest x5 x6 x7 x8 x9 x10 x11 x12 x13 x14 x15 x16 x17 x18 x19) (i 0).val (i 1).val) := by
  rw [val_main_v648_apply, val_main_v647_apply, val_main_v646_apply, val_main_v645_apply]
  refine congrArg (fun y => Ideal.div y LayerSpec.len) ?_
  rw [show (val_main_cst_22 (F := Ideal)) (Shape.Idx.first h_S_) = 0 from Ideal.ofBits_zero_f32, zero_add]
  exact Finset.sum_congr rfl fun k _ => y1_eq x0 x1 x2 x3 x4 x5 x6 x7 x8 x9 x10 x11 x12 x13 x14 x15 x16 x17 x18 x19 _

/-- The first norm's variances. -/
theorem var1_eq (i : S8x2048x1.Idx) : val_main_v655 (F := Ideal) x0 x1 x2 x3 x4 x5 x6 x7 x8 x9 x10 x11 i = var (y1 (Spec.args x0 x1 x2 x3 x4) (LayerSpec.rest x5 x6 x7 x8 x9 x10 x11 x12 x13 x14 x15 x16 x17 x18 x19) (i 0).val (i 1).val) := by
  rw [val_main_v655_apply, val_main_v654_apply, val_main_v653_apply, val_main_v652_apply]
  refine congrArg (fun y => Ideal.div y LayerSpec.len) ?_
  rw [show (val_main_cst_24 (F := Ideal)) (Shape.Idx.first h_S_) = 0 from Ideal.ofBits_zero_f32, zero_add]
  refine Finset.sum_congr rfl fun k _ => ?_
  rw [val_main_v651_apply, val_main_v650_apply, val_main_v649_apply, y1_eq x0 x1 x2 x3 x4 x5 x6 x7 x8 x9 x10 x11 x12 x13 x14 x15 x16 x17 x18 x19, mu1_eq x0 x1 x2 x3 x4 x5 x6 x7 x8 x9 x10 x11 x12 x13 x14 x15 x16 x17 x18 x19]
  rfl

/-- The mixer's output. -/
theorem x1_eq (i : S8x2048x1024.Idx) : val_main_v668 (F := Ideal) x0 x1 x2 x3 x4 x5 x6 x7 x8 x9 x10 x11 x12 x13 i = LayerSpec.x1 (Spec.args x0 x1 x2 x3 x4) (LayerSpec.rest x5 x6 x7 x8 x9 x10 x11 x12 x13 x14 x15 x16 x17 x18 x19) (i 0).val (i 1).val (i 2).val := by
  rw [val_main_v668_apply, val_main_v667_apply, val_main_v666_apply, val_main_v665_apply, val_main_v664_apply, val_main_v663_apply, val_main_v662_apply, val_main_v661_apply, val_main_v660_apply, val_main_v659_apply, val_main_v658_apply, val_main_v657_apply, val_main_v656_apply, y1_eq x0 x1 x2 x3 x4 x5 x6 x7 x8 x9 x10 x11 x12 x13 x14 x15 x16 x17 x18 x19, mu1_eq x0 x1 x2 x3 x4 x5 x6 x7 x8 x9 x10 x11 x12 x13 x14 x15 x16 x17 x18 x19, var1_eq x0 x1 x2 x3 x4 x5 x6 x7 x8 x9 x10 x11 x12 x13 x14 x15 x16 x17 x18 x19,
    rd2_eq x12 (idx_main_v663 _) 0 (i 2).val rfl rfl, rd2_eq x13 (idx_main_v666 _) 0 (i 2).val rfl rfl]
  rfl

/-- The modulated rows of the feed-forward block. -/
theorem h2_eq (i : S8x2048x1024.Idx) : val_main_v674 (F := Ideal) x0 x1 x2 x3 x4 x5 x6 x7 x8 x9 x10 x11 x12 x13 i = h2 (Spec.args x0 x1 x2 x3 x4) (i 0).val (LayerSpec.x1 (Spec.args x0 x1 x2 x3 x4) (LayerSpec.rest x5 x6 x7 x8 x9 x10 x11 x12 x13 x14 x15 x16 x17 x18 x19) (i 0).val (i 1).val) (i 2).val := by
  rw [val_main_v674_apply, val_main_v672_apply, val_main_v673_apply, val_main_v671_apply, val_main_v670_apply, val_main_v669_apply, val_main_v636_apply, val_main_v635_apply, x1_eq x0 x1 x2 x3 x4 x5 x6 x7 x8 x9 x10 x11 x12 x13 x14 x15 x16 x17 x18 x19,
    rd3_eq x1 (idx_main_v636 _) (i 0).val 4 (i 2).val rfl rfl rfl, rd3_eq x1 (idx_main_v635 _) (i 0).val 3 (i 2).val rfl rfl rfl]
  rfl

/-- The first feed-forward layer, rectified. -/
theorem act_eq (i : S8x2048x4096.Idx) : val_main_v681 (F := Ideal) x0 x1 x2 x3 x4 x5 x6 x7 x8 x9 x10 x11 x12 x13 x14 x15 i = act (Spec.args x0 x1 x2 x3 x4) (LayerSpec.rest x5 x6 x7 x8 x9 x10 x11 x12 x13 x14 x15 x16 x17 x18 x19) (i 0).val (LayerSpec.x1 (Spec.args x0 x1 x2 x3 x4) (LayerSpec.rest x5 x6 x7 x8 x9 x10 x11 x12 x13 x14 x15 x16 x17 x18 x19) (i 0).val (i 1).val) (i 2).val := by
  rw [val_main_v681_apply, val_main_v680_apply, val_main_v679_apply, val_main_v678_apply, val_main_v677_apply, val_main_v676_apply, rd2_eq x15 (idx_main_v677 _) 0 (i 2).val rfl rfl]
  refine congrArg (fun y => max (y + _) _) (Finset.sum_congr rfl fun k _ => ?_)
  rw [h2_eq x0 x1 x2 x3 x4 x5 x6 x7 x8 x9 x10 x11 x12 x13 x14 x15 x16 x17 x18 x19, val_main_v675_apply]
  exact congrArg (_ * ·) (rd2_eq x14 (ridx_main_v676 i k) k.val (i 2).val rfl rfl)

/-- The feed-forward block. -/
theorem ff_eq (i : S8x2048x1024.Idx) : val_main_v687 (F := Ideal) x0 x1 x2 x3 x4 x5 x6 x7 x8 x9 x10 x11 x12 x13 x14 x15 x16 x17 i = ff (Spec.args x0 x1 x2 x3 x4) (LayerSpec.rest x5 x6 x7 x8 x9 x10 x11 x12 x13 x14 x15 x16 x17 x18 x19) (i 0).val (LayerSpec.x1 (Spec.args x0 x1 x2 x3 x4) (LayerSpec.rest x5 x6 x7 x8 x9 x10 x11 x12 x13 x14 x15 x16 x17 x18 x19) (i 0).val (i 1).val) (i 2).val := by
  rw [val_main_v687_apply, val_main_v684_apply, val_main_v686_apply, val_main_v685_apply, rd2_eq x17 (idx_main_v685 _) 0 (i 2).val rfl rfl]
  refine congrArg (· + _) (Finset.sum_congr rfl fun k _ => ?_)
  rw [val_main_v682_apply, act_eq x0 x1 x2 x3 x4 x5 x6 x7 x8 x9 x10 x11 x12 x13 x14 x15 x16 x17 x18 x19, val_main_v683_apply]
  exact congrArg (_ * ·) (rd2_eq x16 (ridx_main_v684 i k) k.val (i 2).val rfl rfl)

/-- The second residual sum. -/
theorem y2_eq (i : S8x2048x1024.Idx) : val_main_v694 (F := Ideal) x0 x1 x2 x3 x4 x5 x6 x7 x8 x9 x10 x11 x12 x13 x14 x15 x16 x17 i = y2 (Spec.args x0 x1 x2 x3 x4) (LayerSpec.rest x5 x6 x7 x8 x9 x10 x11 x12 x13 x14 x15 x16 x17 x18 x19) (i 0).val (LayerSpec.x1 (Spec.args x0 x1 x2 x3 x4) (LayerSpec.rest x5 x6 x7 x8 x9 x10 x11 x12 x13 x14 x15 x16 x17 x18 x19) (i 0).val (i 1).val) (i 2).val := by
  rw [val_main_v694_apply, val_main_v689_apply, val_main_v693_apply, val_main_v692_apply, val_main_v691_apply, val_main_v690_apply, val_main_v688_apply, val_main_v637_apply, ff_eq x0 x1 x2 x3 x4 x5 x6 x7 x8 x9 x10 x11 x12 x13 x14 x15 x16 x17 x18 x19, x1_eq x0 x1 x2 x3 x4 x5 x6 x7 x8 x9 x10 x11 x12 x13 x14 x15 x16 x17 x18 x19,
    rd3_eq x1 (idx_main_v637 _) (i 0).val 5 (i 2).val rfl rfl rfl]
  rfl

/-- The second norm's means. -/
theorem mu2_eq (i : S8x2048x1.Idx) : val_main_v698 (F := Ideal) x0 x1 x2 x3 x4 x5 x6 x7 x8 x9 x10 x11 x12 x13 x14 x15 x16 x17 i = mu (y2 (Spec.args x0 x1 x2 x3 x4) (LayerSpec.rest x5 x6 x7 x8 x9 x10 x11 x12 x13 x14 x15 x16 x17 x18 x19) (i 0).val (LayerSpec.x1 (Spec.args x0 x1 x2 x3 x4) (LayerSpec.rest x5 x6 x7 x8 x9 x10 x11 x12 x13 x14 x15 x16 x17 x18 x19) (i 0).val (i 1).val)) := by
  rw [val_main_v698_apply, val_main_v697_apply, val_main_v696_apply, val_main_v695_apply]
  refine congrArg (fun y => Ideal.div y LayerSpec.len) ?_
  rw [show (val_main_cst_31 (F := Ideal)) (Shape.Idx.first h_S_) = 0 from Ideal.ofBits_zero_f32, zero_add]
  exact Finset.sum_congr rfl fun k _ => y2_eq x0 x1 x2 x3 x4 x5 x6 x7 x8 x9 x10 x11 x12 x13 x14 x15 x16 x17 x18 x19 _

/-- The second norm's variances. -/
theorem var2_eq (i : S8x2048x1.Idx) : val_main_v705 (F := Ideal) x0 x1 x2 x3 x4 x5 x6 x7 x8 x9 x10 x11 x12 x13 x14 x15 x16 x17 i = var (y2 (Spec.args x0 x1 x2 x3 x4) (LayerSpec.rest x5 x6 x7 x8 x9 x10 x11 x12 x13 x14 x15 x16 x17 x18 x19) (i 0).val (LayerSpec.x1 (Spec.args x0 x1 x2 x3 x4) (LayerSpec.rest x5 x6 x7 x8 x9 x10 x11 x12 x13 x14 x15 x16 x17 x18 x19) (i 0).val (i 1).val)) := by
  rw [val_main_v705_apply, val_main_v704_apply, val_main_v703_apply, val_main_v702_apply]
  refine congrArg (fun y => Ideal.div y LayerSpec.len) ?_
  rw [show (val_main_cst_33 (F := Ideal)) (Shape.Idx.first h_S_) = 0 from Ideal.ofBits_zero_f32, zero_add]
  refine Finset.sum_congr rfl fun k _ => ?_
  rw [val_main_v701_apply, val_main_v700_apply, val_main_v699_apply, y2_eq x0 x1 x2 x3 x4 x5 x6 x7 x8 x9 x10 x11 x12 x13 x14 x15 x16 x17 x18 x19, mu2_eq x0 x1 x2 x3 x4 x5 x6 x7 x8 x9 x10 x11 x12 x13 x14 x15 x16 x17 x18 x19]
  rfl

/-- The reference's first result is the layer's output. -/
theorem out_eq (i : S8x2048x1024.Idx) : val_main_v718 (F := Ideal) x0 x1 x2 x3 x4 x5 x6 x7 x8 x9 x10 x11 x12 x13 x14 x15 x16 x17 x18 x19 i = out (Spec.args x0 x1 x2 x3 x4) (LayerSpec.rest x5 x6 x7 x8 x9 x10 x11 x12 x13 x14 x15 x16 x17 x18 x19) (i 0).val (i 1).val (i 2).val := by
  rw [val_main_v718_apply, val_main_v717_apply, val_main_v716_apply, val_main_v715_apply, val_main_v714_apply, val_main_v713_apply, val_main_v712_apply, val_main_v711_apply, val_main_v710_apply, val_main_v709_apply, val_main_v708_apply, val_main_v707_apply, val_main_v706_apply, y2_eq x0 x1 x2 x3 x4 x5 x6 x7 x8 x9 x10 x11 x12 x13 x14 x15 x16 x17 x18 x19, mu2_eq x0 x1 x2 x3 x4 x5 x6 x7 x8 x9 x10 x11 x12 x13 x14 x15 x16 x17 x18 x19, var2_eq x0 x1 x2 x3 x4 x5 x6 x7 x8 x9 x10 x11 x12 x13 x14 x15 x16 x17 x18 x19,
    rd2_eq x18 (idx_main_v713 _) 0 (i 2).val rfl rfl, rd2_eq x19 (idx_main_v716 _) 0 (i 2).val rfl rfl]
  rfl

end Cert.ReferenceIdeal.Value2

end
-- ==== Proof.Agree.lean ====
module

public import proofs.«01_k».proof.Defs
public import proofs.«01_k».proof.Proof.Outputs
public import proofs.«01_k».proof.Proof.RefValue
public import proofs.«01_k».proof.Proof.RefMlp
public import proofs.«01_k».proof.Proof.Gen.ReferenceIdeal.Run
public import proofs.«01_k».proof.Proof.Gen.ReferenceIdeal.Read

@[expose] public section

set_option maxRecDepth 16384

noncomputable section

/-! The reference's frame, and the agreement of the kernel's three results with the reference's. -/

namespace Cert.Agree

open Idealize.ShloMosaic Idealize.ShloMosaic.TcCoe Idealize.ShloMosaic.StableHlo Idealize.SL.Sem Cert.Spec

/-- The reference runs to its end with its arguments unchanged; it declares no semaphore. -/
theorem reference_frame : Cert.quiescent_ReferenceIdeal := fun m ρ _ =>
  (θ_run _ _ _).mono (fun r h => ⟨fun c => (h c).2.2.2, sem_eq_zero_of_no_sems (by decide) r.2⟩) (Cert.ReferenceIdeal.Value.run (F := Ideal) m ρ)

section Reference
open Cert.ReferenceIdeal Cert.ReferenceIdeal.Read

variable (m : (ℓ : Loc nD τ sig) → Buf (Elt Ideal) ℓ) (c : Dev nD)

/-- The reference's arguments, read by coordinates. -/
def A : Args :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's other arguments, read by coordinates. -/
def B : LayerSpec.Rest :=
  LayerSpec.rest (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- The reference's first result is the layer's output of its arguments. -/
theorem reference_outs : (val_main_v718 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) : S8x2048x1024.Idx → EReal)
      = fun i => LayerSpec.out (A m c) (B m c) (i 0).val (i 1).val (i 2).val :=
  funext fun i => Value2.out_eq _ _ _ _ _ _ _ _ _ _ _ _ _ _ _ _ _ _ _ _ i

/-- The reference's second result is the final states of its arguments. -/
theorem reference_states : (val_main_v294 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) : S8x4x128x128.Idx → EReal)
      = fun i => state (A m c) (i 0).val 32 (i 1).val (i 2).val (i 3).val :=
  funext fun i => Value2.state_eq _ _ _ _ _ i

/-- The reference's third result is the last rows of the convolution's input. -/
theorem reference_convs : (val_main_v302 (F := Ideal) (m ((c.tc : Thread nD τ).loc main_arg0)) (m ((c.tc : Thread nD τ).loc main_arg1))
    (m ((c.tc : Thread nD τ).loc main_arg3)) (m ((c.tc : Thread nD τ).loc main_arg4)) : S8x30x512.Idx → EReal)
      = fun i => u (A m c) (i 0).val (2018 + (i 1).val) (i 2).val :=
  funext fun i => Value2.conv_eq _ _ (m ((c.tc : Thread nD τ).loc main_arg2)) _ _ i

end Reference

/-- From memories that agree on the arguments, the kernel and the reference end with equal results and unchanged arguments. -/
theorem algebraic : Cert.algebraic_KernelIdeal_ReferenceIdeal := by
  intro m g m' g' _ hagree
  have hA : ∀ c, A m' c = Cert.KernelIdeal.Point.A m c := fun c => by
    obtain ⟨h0, h1, h2, h3, h4, -⟩ := hagree c
    unfold A Cert.KernelIdeal.Point.A
    rw [h0, h1, h2, h3, h4]
  have hB : ∀ c, B m' c = Cert.KernelIdeal.Point.B m c := fun c => by
    obtain ⟨-, -, -, -, -, h5, h6, h7, h8, h9, h10, h11, h12, h13, h14, h15, h16, h17, h18, h19⟩ := hagree c
    unfold B Cert.KernelIdeal.Point.B
    rw [h5, h6, h7, h8, h9, h10, h11, h12, h13, h14, h15, h16, h17, h18, h19]
  refine ⟨fun c => Cert.KernelIdeal.Point.outs m c, fun c => Cert.KernelIdeal.Point.states m c, fun c => Cert.KernelIdeal.Point.convs m c, ?_, ?_⟩
  · exact (θ_run _ _ _).mono (fun r h c => ⟨Cert.KernelIdeal.Point.outs_eq h.1 c, Cert.KernelIdeal.Point.states_eq h.1 c, Cert.KernelIdeal.Point.convs_eq h.1 c,
        Cert.KernelIdeal.Frame.args_kept m h.1 c⟩)
      (Cert.KernelIdeal.Frame.run (F := Ideal) m g)
  · refine (θ_run _ _ _).mono (fun r h c => ?_) (Cert.ReferenceIdeal.Value.run (F := Ideal) m' g')
    obtain ⟨hy, hs, hc, hk⟩ := h c
    refine ⟨hy.trans ?_, hs.trans ?_, hc.trans ?_, hk⟩
    · refine ((Cert.ReferenceIdeal.Read.val_main_v718_eq (F := Ideal) (launchContents m' c)).trans (reference_outs m' c)).trans ?_
      rw [hA c, hB c]; rfl
    · refine ((Cert.ReferenceIdeal.Read.val_main_v294_eq (F := Ideal) (launchContents m' c)).trans (reference_states m' c)).trans ?_
      rw [hA c]; rfl
    · refine ((Cert.ReferenceIdeal.Read.val_main_v302_eq (F := Ideal) (launchContents m' c)).trans (reference_convs m' c)).trans ?_
      rw [hA c]; rfl

end Cert.Agree

end
-- ==== Proof.MlpSpec.lean ====
module

public import proofs.«01_k».proof.Proof.Spec

@[expose] public section

noncomputable section

/-! The sample's output as plain mathematics: the normalised residual sum of the mixer's output and its gated feed-forward
block, as a function of the mixer's output, the modulation and the weights, every coordinate a natural number. -/

namespace Cert.MlpSpec

open Idealize.ShloMosaic Idealize.ShloMosaic.ValueIdx Cert.Spec

/-- The arrays the result depends on. -/
structure Args where
  /-- the mixer's output, by time step, sample and column -/
  x : ℕ → ℕ → ℕ → EReal
  /-- the modulation -/
  md : ℕ → ℕ → EReal
  /-- the first layer's weights -/
  wu : ℕ → ℕ → EReal
  /-- the first layer's bias -/
  bu : ℕ → ℕ → EReal
  /-- the second layer's weights -/
  wd : ℕ → ℕ → EReal
  /-- the second layer's bias -/
  bd : ℕ → ℕ → EReal
  /-- the norm's scale -/
  g : ℕ → ℕ → EReal
  /-- the norm's shift -/
  b : ℕ → ℕ → EReal

/-- The arguments from the arrays of either program. -/
def args (x0 : (⟨3, ![4, 128, 1024]⟩ : Shape).Idx → EReal) (x1 : (⟨2, ![128, 6144]⟩ : Shape).Idx → EReal)
    (x2 : (⟨2, ![1024, 4096]⟩ : Shape).Idx → EReal) (x3 : (⟨2, ![1, 4096]⟩ : Shape).Idx → EReal)
    (x4 : (⟨2, ![4096, 1024]⟩ : Shape).Idx → EReal) (x5 x6 x7 : (⟨2, ![1, 1024]⟩ : Shape).Idx → EReal) : Args :=
  ⟨rd3 x0, rd2 x1, rd2 x2, rd2 x3, rd2 x4, rd2 x5, rd2 x6, rd2 x7⟩

variable (A : Args)

/-- The modulated row of sample `s` at step `t`. -/
def hid (s t k : ℕ) : EReal := A.x t s k * (one + A.md s (4096 + k)) + A.md s (3072 + k)

/-- The first layer, rectified. -/
def act (s t j : ℕ) : EReal :=
  max ((∑ k : Fin 1024, hid A s t k.val * A.wu k.val j) + A.bu 0 j) (Ideal.ofBits .f32 0x00000000#32)

/-- What hidden column `j` adds to output column `d`. -/
def term (s t d j : ℕ) : EReal := act A s t j * act A s t j * A.wd j d

/-- The feed-forward block. -/
def ff (s t d : ℕ) : EReal := (∑ j : Fin 4096, term A s t d j.val) + A.bd 0 d

/-- The residual sum. -/
def y (s t d : ℕ) : EReal :=
  Ideal.ofBits .f32 0x3F9837F0#32 * A.x t s d + (one + A.md s (5120 + d)) * ff A s t d

/-- The row length, as the programs spell it. -/
def len : EReal := Ideal.ofBits .f32 0x44800000#32

/-- A row's mean. -/
def mu (s t : ℕ) : EReal := Ideal.div (∑ d : Fin 1024, y A s t d.val) len

/-- A row's variance. -/
def var (s t : ℕ) : EReal := Ideal.div (∑ d : Fin 1024, (y A s t d.val - mu A s t) * (y A s t d.val - mu A s t)) len

/-- The sample's output: the residual sum, normalised by row. -/
def out (s t d : ℕ) : EReal :=
  (y A s t d - mu A s t) * Ideal.rsqrt (var A s t + Ideal.ofBits .f32 0x3727C5AC#32) * A.g 0 d + A.b 0 d

/-- A sum over 4096 columns is the sum of its four quarters, added one after another. -/
theorem sum_quarters (f : ℕ → EReal) : ∑ j : Fin 4096, f j.val
    = (∑ j : Fin 1024, f j.val) + (∑ j : Fin 1024, f (1024 + j.val)) + (∑ j : Fin 1024, f (2048 + j.val))
      + ∑ j : Fin 1024, f (3072 + j.val) := by
  rw [Fin.sum_univ_eq_sum_range f, show (4096 : ℕ) = 1024 + 1024 + 1024 + 1024 from rfl, Finset.sum_range_add, Finset.sum_range_add,
    Finset.sum_range_add, Fin.sum_univ_eq_sum_range f, Fin.sum_univ_eq_sum_range (fun j => f (1024 + j)),
    Fin.sum_univ_eq_sum_range (fun j => f (2048 + j)), Fin.sum_univ_eq_sum_range (fun j => f (3072 + j))]

/-- The feed-forward block as the bias with the four quarters added one after another. -/
theorem ff_quarters (s t d : ℕ) : A.bd 0 d + (∑ j : Fin 1024, term A s t d j.val) + (∑ j : Fin 1024, term A s t d (1024 + j.val))
    + (∑ j : Fin 1024, term A s t d (2048 + j.val)) + (∑ j : Fin 1024, term A s t d (3072 + j.val)) = ff A s t d := by
  unfold ff
  rw [sum_quarters (term A s t d), add_comm _ (A.bd 0 d)]
  simp only [add_assoc]

end Cert.MlpSpec

end
-- ==== Proof.MlpOps.lean ====
module

public import proofs.«01_k».proof.Proof.Gen.Kernel2Ideal.Frame
public import proofs.«01_k».proof.Proof.MlpSpec
public import proofs.«01_k».proof.Proof.Ops
public import Idealize.ShloMosaic.Lib.Pipeline.Value

@[expose] public section

set_option maxRecDepth 16384

noncomputable section

/-! The second kernel's operations at the ideal values, read at an index: the feed-forward block by quarters of its hidden
columns, the residual sum and the norm. -/

namespace Cert.Kernel2Ideal.Mlp

open Cert.Kernel2Ideal Cert.Kernel2Ideal.Gen Cert.Spec Cert.MlpSpec
open Idealize.ShloMosaic Idealize.ShloMosaic.TcCoe Idealize.ShloMosaic.ValueIdx

/-- The product of all rows with 1024 columns of weights. -/
theorem product (lhs : FVec Ideal S512x1024 .bf16) (rhs : FVec Ideal S1024x1024 .bf16) (j : S512x1024.Idx) :
    matmul dot_S512x1024_S1024x1024_S512x1024_1_0_0_1_n_n none lhs rhs (constant (F := Ideal) S512x1024 .f32 0x00000000#32) j
      = ∑ k : Fin 1024, lhs (ix2 (j 0) k) * rhs (ix2 k (j 1)) :=
  Cert.KernelIdeal.Ops.matmul_sum _ 1024 rfl rfl lhs rhs j _ _
    (fun k => congrArg lhs (funext fun a => Fin.ext (by fin_cases a <;> rfl)))
    (fun k => congrArg rhs (funext fun a => Fin.ext (by fin_cases a <;> rfl)))

/-- A row per sample, repeated over the steps. -/
theorem spread (x : FVec Ideal S128x1024 .f32) (i : S4x128x1024.Idx) :
    broadcastTo S4x128x1024 (shapeCast S1x128x1024 x shapeCasts_S128x1024_S1x128x1024) broadcasts_S1x128x1024_S4x128x1024 i
      = x (ix2 (i 1) (i 2)) := by
  refine (broadcastTo_apply _ _ i (ix3 0 (i 1) (i 2)) fun a => ?_).trans (shapeCast_ab_1ab_apply x _ 0 (i 1) (i 2))
  fin_cases a <;> rfl

/-- A number per step and sample, repeated over the columns. -/
theorem column (x : FVec Ideal S4x128x1 .f32) (i : S4x128x1024.Idx) :
    broadcastTo S4x128x1024 x broadcasts_S4x128x1_S4x128x1024 i = x (ix3 (i 0) (i 1) 0) := by
  refine broadcastTo_apply _ _ i (ix3 (i 0) (i 1) 0) fun a => ?_
  fin_cases a <;> rfl

/-- A number per step and sample, under a unit axis. -/
theorem unitAxis (x : FVec Ideal S4x128 .f32) (i : S4x128x1.Idx) :
    shapeCast S4x128x1 x shapeCasts_S4x128_S4x128x1 i = x (ix2 (i 0) (i 1)) :=
  shapeCast_apply x _ i (ix2 (i 0) (i 1)) (by
    rw [Shape.rowMajor_val_two, Shape.rowMajor_val_three]
    show (i 0).val * 128 + (i 1).val = ((i 0).val * 128 + (i 1).val) * 1 + (i 2).val
    have : (i 2).val < 1 := (i 2).isLt
    omega)

/-- The rows of all steps, one after another, taken apart again. -/
theorem apart (x : FVec Ideal S512x1024 .f32) (i : S4x128x1024.Idx) (j : S512x1024.Idx)
    (h0 : (j 0).val = (i 0).val * 128 + (i 1).val) (h1 : (j 1).val = (i 2).val) :
    shapeCast S4x128x1024 x shapeCasts_S512x1024_S4x128x1024 i = x j :=
  shapeCast_apply x _ i j (by
    rw [Shape.rowMajor_val_two, Shape.rowMajor_val_three]
    show (j 0).val * 1024 + (j 1).val = ((i 0).val * 128 + (i 1).val) * 1024 + (i 2).val
    omega)

/-- A sum over the columns. -/
theorem rowSum (x : FVec Ideal S4x128x1024 .f32) (i : S4x128.Idx) :
    multiReduction .add [2] S4x128 x 0x00000000#32 reduces_S4x128x1024_S4x128 (.inl rfl) rfl i
      = ∑ k : Fin 1024, x (ix3 (i 0) (i 1) k) := by
  refine (Ideal.multiReduction_add_single (s := S4x128x1024) (t := S4x128) (a := 2) x _ _ _ _ i).trans ?_
  refine Finset.sum_congr rfl fun k _ => congrArg x (funext fun a => Fin.ext ?_)
  fin_cases a <;> rfl

variable (A : MlpSpec.Args)

/-- The modulated rows of all steps, one after another. -/
theorem hid_apply (v0 : FVec Ideal S4x128x1024 .f32) (v1 v7 : FVec Ideal S128x1024 .f32)
    (hx : ∀ i, v0 i = A.x (i 0).val (i 1).val (i 2).val) (hsc : ∀ i, v1 i = A.md (i 0).val (4096 + (i 1).val))
    (hsh : ∀ i, v7 i = A.md (i 0).val (3072 + (i 1).val)) (r : Fin 512) (k : Fin 1024) :
    k0_pay3 (F := Ideal) v0 v1 v7 (ix2 r k) = MlpSpec.hid A (r.val % 128) (r.val / 128) k.val := by
  have ht : r.val / 128 < 4 := by have := r.isLt; omega
  have hs : r.val % 128 < 128 := by omega
  unfold k0_pay3
  refine (shapeCast_apply _ shapeCasts_S4x128x1024_S512x1024 (ix2 r k) (ix3 (⟨r.val / 128, ht⟩ : Fin 4) (⟨r.val % 128, hs⟩ : Fin 128) k) (by
    rw [Shape.rowMajor_val_two, Shape.rowMajor_val_three]
    show (r.val / 128 * 128 + r.val % 128) * 1024 + k.val = r.val * 1024 + k.val
    omega)).trans ?_
  show v0 _ * broadcastTo S4x128x1024 _ broadcasts_S1x128x1024_S4x128x1024 _ + broadcastTo S4x128x1024 _ broadcasts_S1x128x1024_S4x128x1024 _ = _
  rw [spread, spread, hx, hsh]
  show _ * (one + v1 _) + _ = _
  rw [hsc]
  rfl

/-- What one quarter of the hidden columns adds to the feed-forward block. -/
def quarter (h : FVec Ideal S512x1024 .bf16) (w : FVec Ideal S1024x1024 .bf16) (b : FVec Ideal S1x1024 .f32)
    (w' : FVec Ideal S1024x1024 .bf16) : FVec Ideal S512x1024 .f32 :=
  let a : FVec Ideal S512x1024 .f32 := maximumf (addf (matmul dot_S512x1024_S1024x1024_S512x1024_1_0_0_1_n_n none h w
    (constant (F := Ideal) S512x1024 .f32 0x00000000#32)) (broadcastTo S512x1024 b broadcasts_S1x1024_S512x1024))
    (broadcast S512x1024 (Scalar.ofBits .f32 0x00000000#32))
  matmul dot_S512x1024_S1024x1024_S512x1024_1_0_0_1_n_n none (truncf .bf16 (mulf a a) bitsLt_bf16_f32) w'
    (constant (F := Ideal) S512x1024 .f32 0x00000000#32)

/-- A quarter, read at an index. -/
theorem quarter_apply (o : ℕ) (h : FVec Ideal S512x1024 .bf16) (w : FVec Ideal S1024x1024 .bf16) (b : FVec Ideal S1x1024 .f32)
    (w' : FVec Ideal S1024x1024 .bf16) (hh : ∀ (r : Fin 512) (k : Fin 1024), h (ix2 r k) = MlpSpec.hid A (r.val % 128) (r.val / 128) k.val)
    (hw : ∀ i, w i = A.wu (i 0).val (o + (i 1).val)) (hb : ∀ i, b i = A.bu 0 (o + (i 1).val))
    (hw' : ∀ i, w' i = A.wd (o + (i 0).val) (i 1).val) (i : S512x1024.Idx) :
    quarter h w b w' i = ∑ j : Fin 1024, term A ((i 0).val % 128) ((i 0).val / 128) (i 1).val (o + j.val) := by
  unfold quarter
  rw [product]
  refine Finset.sum_congr rfl fun j _ => ?_
  rw [hw']
  refine congrArg (· * _) ?_
  have e : max (matmul dot_S512x1024_S1024x1024_S512x1024_1_0_0_1_n_n none h w (constant (F := Ideal) S512x1024 .f32 0x00000000#32) (ix2 (i 0) j)
      + broadcastTo S512x1024 b broadcasts_S1x1024_S512x1024 (ix2 (i 0) j)) (Ideal.ofBits .f32 0x00000000#32)
        = act A ((i 0).val % 128) ((i 0).val / 128) (o + j.val) := by
    rw [product, Cert.KernelIdeal.Ops.stretch (m := 512) (n := 1024) b _ (ix2 (i 0) j), hb]
    refine congrArg (fun z => max (z + _) _) (Finset.sum_congr rfl fun k _ => ?_)
    rw [hw]
    exact congrArg (· * _) (hh (i 0) k)
  exact congrArg₂ (· * ·) e e

/-- The residual sum from the mixer's output, the gate and the feed-forward block. -/
def resid (x : FVec Ideal S4x128x1024 .f32) (ga : FVec Ideal S128x1024 .f32) (f : FVec Ideal S512x1024 .f32) : FVec Ideal S4x128x1024 .f32 :=
  addf (mulf (broadcast S4x128x1024 (Scalar.ofBits .f32 0x3F9837F0#32)) x)
    (mulf (broadcastTo S4x128x1024 (shapeCast S1x128x1024 (addf (broadcast S128x1024 (Scalar.ofBits .f32 0x3F800000#32)) ga)
      shapeCasts_S128x1024_S1x128x1024) broadcasts_S1x128x1024_S4x128x1024) (shapeCast S4x128x1024 f shapeCasts_S512x1024_S4x128x1024))

/-- The residual sum, read at an index. -/
theorem resid_apply (x : FVec Ideal S4x128x1024 .f32) (ga : FVec Ideal S128x1024 .f32) (f : FVec Ideal S512x1024 .f32)
    (hx : ∀ i, x i = A.x (i 0).val (i 1).val (i 2).val) (hga : ∀ i, ga i = A.md (i 0).val (5120 + (i 1).val))
    (hf : ∀ i, f i = ff A ((i 0).val % 128) ((i 0).val / 128) (i 1).val) (i : S4x128x1024.Idx) :
    resid x ga f i = MlpSpec.y A (i 1).val (i 0).val (i 2).val := by
  have ht : (i 0).val < 4 := (i 0).isLt
  have hs : (i 1).val < 128 := (i 1).isLt
  show _ * x i + broadcastTo S4x128x1024 _ broadcasts_S1x128x1024_S4x128x1024 i * shapeCast S4x128x1024 f shapeCasts_S512x1024_S4x128x1024 i = _
  rw [spread, hx, apart f i (ix2 (⟨(i 0).val * 128 + (i 1).val, by omega⟩ : Fin 512) (i 2)) rfl rfl, hf]
  show _ + (one + ga _) * ff A (((i 0).val * 128 + (i 1).val) % 128) (((i 0).val * 128 + (i 1).val) / 128) (i 2).val = _
  rw [hga, show ((i 0).val * 128 + (i 1).val) % 128 = (i 1).val by omega, show ((i 0).val * 128 + (i 1).val) / 128 = (i 0).val by omega]
  rfl

/-- The residual sum less its rows' means. -/
def centred (x : FVec Ideal S4x128x1024 .f32) : FVec Ideal S4x128x1024 .f32 :=
  subf x (broadcastTo S4x128x1024 (divf (shapeCast S4x128x1 (multiReduction .add [2] S4x128 x 0x00000000#32 reduces_S4x128x1024_S4x128 (.inl rfl) rfl)
    shapeCasts_S4x128_S4x128x1) (broadcast S4x128x1 (Scalar.ofBits .f32 0x44800000#32))) broadcasts_S4x128x1_S4x128x1024)

variable (x : FVec Ideal S4x128x1024 .f32) (hy : ∀ i, x i = MlpSpec.y A (i 1).val (i 0).val (i 2).val)
include hy

/-- A row's sum over the row's length is its mean. -/
theorem mean_apply (i : S4x128.Idx) :
    Ideal.div (multiReduction .add [2] S4x128 x 0x00000000#32 reduces_S4x128x1024_S4x128 (.inl rfl) rfl i) len = mu A (i 1).val (i 0).val := by
  rw [rowSum]
  exact congrArg (fun z => Ideal.div z len) (Finset.sum_congr rfl fun k _ => hy _)

/-- The centred rows, read at an index. -/
theorem centred_apply (i : S4x128x1024.Idx) :
    centred x i = MlpSpec.y A (i 1).val (i 0).val (i 2).val - mu A (i 1).val (i 0).val := by
  show x i - broadcastTo S4x128x1024 _ broadcasts_S4x128x1_S4x128x1024 i = _
  rw [column, hy]
  show _ - Ideal.div (shapeCast S4x128x1 _ shapeCasts_S4x128_S4x128x1 (ix3 (i 0) (i 1) 0)) len = _
  rw [unitAxis]
  exact congrArg (_ - ·) (mean_apply A x hy (ix2 (i 0) (i 1)))

/-- A row's sum of squares over the row's length is its variance. -/
theorem var_apply (i : S4x128.Idx) :
    Ideal.div (multiReduction .add [2] S4x128 (mulf (centred x) (centred x)) 0x00000000#32 reduces_S4x128x1024_S4x128 (.inl rfl) rfl i) len
      = var A (i 1).val (i 0).val := by
  rw [rowSum]
  exact congrArg (fun z => Ideal.div z len) (Finset.sum_congr rfl fun k _ =>
    congrArg₂ (· * ·) (centred_apply A x hy (ix3 (i 0) (i 1) k)) (centred_apply A x hy (ix3 (i 0) (i 1) k)))

omit hy
/-- A row of columns, repeated over the steps and samples. -/
theorem perColumn (g : FVec Ideal S1x1024 .f32) (i : S4x128x1024.Idx) :
    broadcastTo S4x128x1024 (shapeCast S1x1x1024 g shapeCasts_S1x1024_S1x1x1024) broadcasts_S1x1x1024_S4x128x1024 i = g (ix2 0 (i 2)) := by
  refine (broadcastTo_apply _ _ i (ix3 0 0 (i 2)) fun a => ?_).trans (shapeCast_ab_1ab_apply g _ 0 0 (i 2))
  fin_cases a <;> rfl

/-- The rows' reciprocal deviations, from the centred rows. -/
def scale (y : FVec Ideal S4x128x1024 .f32) : FVec Ideal S4x128x1 .f32 :=
  rsqrt (addf (divf (shapeCast S4x128x1 (multiReduction .add [2] S4x128 (mulf y y) 0x00000000#32 reduces_S4x128x1024_S4x128 (.inl rfl) rfl)
    shapeCasts_S4x128_S4x128x1) (broadcast S4x128x1 (Scalar.ofBits .f32 0x44800000#32))) (broadcast S4x128x1 (Scalar.ofBits .f32 0x3727C5AC#32)))

/-- The norm, as the kernel's operations. -/
theorem norm_eq (v0 : FVec Ideal S4x128x1024 .f32) (ga : FVec Ideal S128x1024 .f32) (f : FVec Ideal S512x1024 .f32) (g b : FVec Ideal S1x1024 .f32) :
    k0_pay10 (F := Ideal) f (k0_pay8 v0) (k0_pay9 ga) g b
      = addf (mulf (mulf (centred (resid v0 ga f)) (broadcastTo S4x128x1024 (scale (centred (resid v0 ga f))) broadcasts_S4x128x1_S4x128x1024))
          (broadcastTo S4x128x1024 (shapeCast S1x1x1024 g shapeCasts_S1x1024_S1x1x1024) broadcasts_S1x1x1024_S4x128x1024))
        (broadcastTo S4x128x1024 (shapeCast S1x1x1024 b shapeCasts_S1x1024_S1x1x1024) broadcasts_S1x1x1024_S4x128x1024) := by
  sl_kernel_rfl

include hy in
/-- The rows' reciprocal deviations, read at an index. -/
theorem scale_apply (i : S4x128x1.Idx) :
    scale (centred x) i = Ideal.rsqrt (var A (i 1).val (i 0).val + Ideal.ofBits .f32 0x3727C5AC#32) := by
  show Ideal.rsqrt (Ideal.div (shapeCast S4x128x1 _ shapeCasts_S4x128_S4x128x1 i) len + _) = _
  rw [unitAxis]
  exact congrArg (fun z => Ideal.rsqrt (z + _)) (var_apply A x hy (ix2 (i 0) (i 1)))

/-- The normalised rows, read at an index. -/
theorem norm_apply (v0 : FVec Ideal S4x128x1024 .f32) (ga : FVec Ideal S128x1024 .f32) (f : FVec Ideal S512x1024 .f32) (g b : FVec Ideal S1x1024 .f32)
    (hx : ∀ i, v0 i = A.x (i 0).val (i 1).val (i 2).val) (hga : ∀ i, ga i = A.md (i 0).val (5120 + (i 1).val))
    (hf : ∀ i, f i = ff A ((i 0).val % 128) ((i 0).val / 128) (i 1).val)
    (hg : ∀ i, g i = A.g 0 (i 1).val) (hb : ∀ i, b i = A.b 0 (i 1).val) (i : S4x128x1024.Idx) :
    k0_pay10 (F := Ideal) f (k0_pay8 v0) (k0_pay9 ga) g b i = out A (i 1).val (i 0).val (i 2).val := by
  have hy := resid_apply A v0 ga f hx hga hf
  rw [norm_eq]
  generalize resid v0 ga f = x at hy ⊢
  show centred x i * broadcastTo S4x128x1024 _ broadcasts_S4x128x1_S4x128x1024 i * broadcastTo S4x128x1024 _ broadcasts_S1x1x1024_S4x128x1024 i
    + broadcastTo S4x128x1024 _ broadcasts_S1x1x1024_S4x128x1024 i = _
  rw [perColumn, perColumn, column, hg, hb, centred_apply A x hy, scale_apply A x hy]
  rfl

/-- One step's rows, under a unit axis in place of the step's. -/
theorem step (o : Fin 4) (h : S4x128x1024.Slices ![o.val, 0, 0] S1x128x1024) (v : FVec Ideal S4x128x1024 .f32) (i : S128x1x1024.Idx) :
    shapeCast S128x1x1024 (shapeCast S128x1024 (extractStridedSlice S1x128x1024 ![o.val, 0, 0] v h) shapeCasts_S1x128x1024_S128x1024)
      shapeCasts_S128x1024_S128x1x1024 i = v (ix3 o (i 0) (i 2)) := by
  refine (shapeCast_apply _ _ i (ix2 (i 0) (i 2)) (by
    rw [Shape.rowMajor_val_two, Shape.rowMajor_val_three]
    show (i 0).val * 1024 + (i 2).val = ((i 0).val * 1 + (i 1).val) * 1024 + (i 2).val
    have : (i 1).val < 1 := (i 1).isLt
    omega)).trans ?_
  refine (shapeCast_1ab_ab_apply _ _ (i 0) (i 2)).trans ?_
  refine extractStridedSlice_apply _ _ h _ _ fun a => ?_
  fin_cases a
  · rfl
  · exact (Nat.zero_add _).symm
  · exact (Nat.zero_add _).symm

/-- The feed-forward block from its loads: the bias with the four quarters added one after another. -/
theorem ff_apply (v0 : FVec Ideal S4x128x1024 .f32) (v1 v7 : FVec Ideal S128x1024 .f32) (v13 : FVec Ideal S1x1024 .f32)
    (w0 w1 w2 w3 : FVec Ideal S1024x1024 .bf16) (b0 b1 b2 b3 : FVec Ideal S1x1024 .f32) (d0 d1 d2 d3 : FVec Ideal S1024x1024 .bf16)
    (hx : ∀ i, v0 i = A.x (i 0).val (i 1).val (i 2).val) (hsc : ∀ i, v1 i = A.md (i 0).val (4096 + (i 1).val))
    (hsh : ∀ i, v7 i = A.md (i 0).val (3072 + (i 1).val)) (hbd : ∀ i, v13 i = A.bd 0 (i 1).val)
    (hw0 : ∀ i, w0 i = A.wu (i 0).val (0 + (i 1).val)) (hw1 : ∀ i, w1 i = A.wu (i 0).val (1024 + (i 1).val))
    (hw2 : ∀ i, w2 i = A.wu (i 0).val (2048 + (i 1).val)) (hw3 : ∀ i, w3 i = A.wu (i 0).val (3072 + (i 1).val))
    (hb0 : ∀ i, b0 i = A.bu 0 (0 + (i 1).val)) (hb1 : ∀ i, b1 i = A.bu 0 (1024 + (i 1).val))
    (hb2 : ∀ i, b2 i = A.bu 0 (2048 + (i 1).val)) (hb3 : ∀ i, b3 i = A.bu 0 (3072 + (i 1).val))
    (hd0 : ∀ i, d0 i = A.wd (0 + (i 0).val) (i 1).val) (hd1 : ∀ i, d1 i = A.wd (1024 + (i 0).val) (i 1).val)
    (hd2 : ∀ i, d2 i = A.wd (2048 + (i 0).val) (i 1).val) (hd3 : ∀ i, d3 i = A.wd (3072 + (i 0).val) (i 1).val) (i : S512x1024.Idx) :
    k0_pay7 (F := Ideal) (k0_pay3 v0 v1 v7) (k0_pay4 v0 v1 v7 v13 w0 b0 d0) (k0_pay5 v0 v1 v7 w1 b1) (k0_pay6 (F := Ideal)) d1 w2 b2 d2 w3 b3 d3 i
      = ff A ((i 0).val % 128) ((i 0).val / 128) (i 1).val := by
  have hh := hid_apply A v0 v1 v7 hx hsc hsh
  show broadcastTo S512x1024 (shapeCast S1x1024 v13 shapeCasts_S1x1024_S1x1024) broadcasts_S1x1024_S512x1024 i
    + quarter (k0_pay3 v0 v1 v7) w0 b0 d0 i + quarter (k0_pay3 v0 v1 v7) w1 b1 d1 i + quarter (k0_pay3 v0 v1 v7) w2 b2 d2 i
    + quarter (k0_pay3 v0 v1 v7) w3 b3 d3 i = _
  rw [quarter_apply A 0 _ _ _ _ hh hw0 hb0 hd0, quarter_apply A 1024 _ _ _ _ hh hw1 hb1 hd1, quarter_apply A 2048 _ _ _ _ hh hw2 hb2 hd2,
    quarter_apply A 3072 _ _ _ _ hh hw3 hb3 hd3, Cert.KernelIdeal.Ops.stretch (m := 512) (n := 1024) _ _ i,
    shapeCast_apply v13 shapeCasts_S1x1024_S1x1024 (ix2 0 (i 1)) (ix2 0 (i 1)) rfl, hbd, ← ff_quarters]
  simp only [Nat.zero_add]

end Cert.Kernel2Ideal.Mlp

end
-- ==== Proof.MlpKernel.lean ====
module

public import proofs.«01_k».proof.Proof.MlpOps
public import Idealize.ShloMosaic.Lib.Pipeline.ValueKit.Geometry

@[expose] public section

set_option maxRecDepth 16384

noncomputable section

/-! What the second kernel's one grid point writes back, from the arguments, and so its result after the run. -/

namespace Cert.Kernel2Ideal.Mlp

open Cert.Kernel2Ideal Cert.Kernel2Ideal.Gen Cert.Spec Cert.MlpSpec
open Idealize.ShloMosaic Idealize.ShloMosaic.TcCoe Idealize.ShloMosaic.ValueIdx Idealize.SL.Sem

/-- The mixer's output's block is the whole array. -/
theorem x_index : ∀ t : Fin cfg0.N, win0_0.index t = ![0, 0, 0] := by decide +kernel
/-- The shift is the fourth block of the modulation's columns. -/
theorem shift_index : ∀ t : Fin cfg0.N, win0_1.index t = ![0, 3] := by decide +kernel
/-- The scale is the fifth block of the modulation's columns. -/
theorem scale_index : ∀ t : Fin cfg0.N, win0_2.index t = ![0, 4] := by decide +kernel
/-- The gate is the sixth block of the modulation's columns. -/
theorem gate_index : ∀ t : Fin cfg0.N, win0_3.index t = ![0, 5] := by decide +kernel
/-- The first layer's weights' block is the whole array. -/
theorem up_index : ∀ t : Fin cfg0.N, win0_4.index t = ![0, 0] := by decide +kernel
/-- The first layer's bias's block is the whole array. -/
theorem upBias_index : ∀ t : Fin cfg0.N, win0_5.index t = ![0, 0] := by decide +kernel
/-- The second layer's weights' block is the whole array. -/
theorem down_index : ∀ t : Fin cfg0.N, win0_6.index t = ![0, 0] := by decide +kernel
/-- The second layer's bias's block is the whole array. -/
theorem downBias_index : ∀ t : Fin cfg0.N, win0_7.index t = ![0, 0] := by decide +kernel
/-- The norm's scale's block is the whole array. -/
theorem lnScale_index : ∀ t : Fin cfg0.N, win0_8.index t = ![0, 0] := by decide +kernel
/-- The norm's shift's block is the whole array. -/
theorem lnShift_index : ∀ t : Fin cfg0.N, win0_9.index t = ![0, 0] := by decide +kernel
/-- The result's block is the whole array. -/
theorem out_index : ∀ t : Fin cfg0.N, win0_10.index t = ![0, 0, 0] := by decide +kernel

variable (m : (b : Loc nD τ sig) → Buf (Elt Ideal) b) (c : Dev nD) (t : Fin cfg0.N)

/-- The arguments as the kernel is launched with them. -/
def A : MlpSpec.Args :=
  MlpSpec.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The mixer's output's block. -/
theorem block_x (i : S4x128x1024.Idx) : (iblk m c 0 t : Vec Ideal S4x128x1024 .f32) i = (A m c).x (i 0).val (i 1).val (i 2).val := by
  show iblk m c 0 t i = _
  blk_simp [iblk]
  rw [V_main_arg0]
  refine rd3_eq _ _ _ _ _ ?_ ?_ ?_ <;> blk_simp [x_index t]

/-- The shift's block. -/
theorem block_shift (i : S128x1024.Idx) : (iblk m c 1 t : Vec Ideal S128x1024 .f32) i = (A m c).md (i 0).val (3072 + (i 1).val) := by
  show iblk m c 1 t i = _
  blk_simp [iblk]
  rw [V_main_arg1]
  refine rd2_eq _ _ _ _ ?_ ?_ <;> blk_simp [shift_index t]

/-- The scale's block. -/
theorem block_scale (i : S128x1024.Idx) : (iblk m c 2 t : Vec Ideal S128x1024 .f32) i = (A m c).md (i 0).val (4096 + (i 1).val) := by
  show iblk m c 2 t i = _
  blk_simp [iblk]
  rw [V_main_arg1]
  refine rd2_eq _ _ _ _ ?_ ?_ <;> blk_simp [scale_index t]

/-- The gate's block. -/
theorem block_gate (i : S128x1024.Idx) : (iblk m c 3 t : Vec Ideal S128x1024 .f32) i = (A m c).md (i 0).val (5120 + (i 1).val) := by
  show iblk m c 3 t i = _
  blk_simp [iblk]
  rw [V_main_arg1]
  refine rd2_eq _ _ _ _ ?_ ?_ <;> blk_simp [gate_index t]

/-- The first layer's weights' block. -/
theorem block_up (i : S1024x4096.Idx) : (iblk m c 4 t : Vec Ideal S1024x4096 .bf16) i = (A m c).wu (i 0).val (i 1).val := by
  show iblk m c 4 t i = _
  blk_simp [iblk]
  rw [V_main_arg2]
  refine rd2_eq _ _ _ _ ?_ ?_ <;> blk_simp [up_index t]

/-- The first layer's bias's block. -/
theorem block_upBias (i : S1x4096.Idx) : (iblk m c 5 t : Vec Ideal S1x4096 .f32) i = (A m c).bu 0 (i 1).val := by
  have h0 : (i 0).val < 1 := (i 0).isLt
  show iblk m c 5 t i = _
  blk_simp [iblk]
  rw [V_main_arg3]
  refine rd2_eq _ _ _ _ ?_ ?_ <;> blk_simp [upBias_index t]

/-- The second layer's weights' block. -/
theorem block_down (i : S4096x1024.Idx) : (iblk m c 6 t : Vec Ideal S4096x1024 .bf16) i = (A m c).wd (i 0).val (i 1).val := by
  show iblk m c 6 t i = _
  blk_simp [iblk]
  rw [V_main_arg4]
  refine rd2_eq _ _ _ _ ?_ ?_ <;> blk_simp [down_index t]

/-- The second layer's bias's block. -/
theorem block_downBias (i : S1x1024.Idx) : (iblk m c 7 t : Vec Ideal S1x1024 .f32) i = (A m c).bd 0 (i 1).val := by
  show iblk m c 7 t i = _
  blk_simp [iblk]
  rw [V_main_arg5]
  refine rd2_eq _ _ _ _ ?_ ?_ <;> blk_simp [downBias_index t]

/-- The norm's scale's block. -/
theorem block_lnScale (i : S1x1024.Idx) : (iblk m c 8 t : Vec Ideal S1x1024 .f32) i = (A m c).g 0 (i 1).val := by
  show iblk m c 8 t i = _
  blk_simp [iblk]
  rw [V_main_arg6]
  refine rd2_eq _ _ _ _ ?_ ?_ <;> blk_simp [lnScale_index t]

/-- The norm's shift's block. -/
theorem block_lnShift (i : S1x1024.Idx) : (iblk m c 9 t : Vec Ideal S1x1024 .f32) i = (A m c).b 0 (i 1).val := by
  show iblk m c 9 t i = _
  blk_simp [iblk]
  rw [V_main_arg7]
  refine rd2_eq _ _ _ _ ?_ ?_ <;> blk_simp [lnShift_index t]

/-- A block's load in place of its coordinates: one step along each axis from the offset. -/
theorem from_zero (n : ℕ) : 0 + 1 * n = n := by omega
/-- One step along an axis from the offset. -/
theorem from_off (o n : ℕ) : o + 1 * n = o + n := by omega

/-- A quarter of the first layer's weights. -/
theorem load_up (o : ℕ) (inb) (i : S1024x1024.Idx) :
    View.ld (iblk m c 4 t : Vec Ideal S1024x4096 .bf16) (Rect.unit (s := S1024x4096) ![0, o] S1024x1024.size inb) i
      = (A m c).wu (i 0).val (o + (i 1).val) :=
  (block_up m c t _).trans (congrArg₂ (A m c).wu (from_zero (i 0).val) (from_off o (i 1).val))

/-- A quarter of the first layer's bias. -/
theorem load_upBias (o : ℕ) (inb) (i : S1x1024.Idx) :
    View.ld (iblk m c 5 t : Vec Ideal S1x4096 .f32) (Rect.unit (s := S1x4096) ![0, o] S1x1024.size inb) i
      = (A m c).bu 0 (o + (i 1).val) :=
  (block_upBias m c t _).trans (congrArg ((A m c).bu 0) (from_off o (i 1).val))

/-- A quarter of the second layer's weights. -/
theorem load_down (o : ℕ) (inb) (i : S1024x1024.Idx) :
    View.ld (iblk m c 6 t : Vec Ideal S4096x1024 .bf16) (Rect.unit (s := S4096x1024) ![o, 0] S1024x1024.size inb) i
      = (A m c).wd (o + (i 0).val) (i 1).val :=
  (block_down m c t _).trans (congrArg₂ (A m c).wd (from_off o (i 0).val) (from_zero (i 1).val))

/-- The mixer's output, loaded whole. -/
theorem load_x (i : S4x128x1024.Idx) :
    View.ld (iblk m c 0 t : Vec Ideal S4x128x1024 .f32) r0_0 i = (A m c).x (i 0).val (i 1).val (i 2).val := by
  refine (block_x m c t _).trans ?_
  show (A m c).x (0 + 1 * (i 0).val) (0 + 1 * (i 1).val) (0 + 1 * (i 2).val) = _
  rw [from_zero, from_zero, from_zero]

/-- What the body loads of the modulation and the rows, each whole. -/
theorem load_rows (X : Vec Ideal S128x1024 .f32) (f : ℕ → ℕ → EReal) (h : ∀ i, X i = f (i 0).val (i 1).val) (i : S128x1024.Idx) :
    View.ld X r0_1 i = f (i 0).val (i 1).val :=
  (h _).trans (congrArg₂ f (from_zero (i 0).val) (from_zero (i 1).val))

/-- What the body loads of a row of columns, whole. -/
theorem load_row (X : Vec Ideal S1x1024 .f32) (f : ℕ → EReal) (h : ∀ i, X i = f (i 1).val) (i : S1x1024.Idx) :
    View.ld X r0_2 i = f (i 1).val :=
  (h _).trans (congrArg f (from_zero (i 1).val))

/-- The feed-forward block at the grid point. -/
theorem point_ff (i : S512x1024.Idx) :
    k0_pay14 (F := Ideal) (iblk m c 0 t) (iblk m c 1 t) (iblk m c 2 t) (iblk m c 3 t) (iblk m c 4 t) (iblk m c 5 t) (iblk m c 6 t) (iblk m c 7 t) (iblk m c 8 t) (iblk m c 9 t) i
      = ff (A m c) ((i 0).val % 128) ((i 0).val / 128) (i 1).val :=
  ff_apply (A m c) _ _ _ _ _ _ _ _ _ _ _ _ _ _ _ _ (load_x m c t)
    (load_rows _ (fun s k => (A m c).md s (4096 + k)) (block_scale m c t)) (load_rows _ (fun s k => (A m c).md s (3072 + k)) (block_shift m c t))
    (load_row _ _ (block_downBias m c t)) (load_up m c t 0 _) (load_up m c t 1024 _) (load_up m c t 2048 _) (load_up m c t 3072 _)
    (load_upBias m c t 0 _) (load_upBias m c t 1024 _) (load_upBias m c t 2048 _) (load_upBias m c t 3072 _)
    (load_down m c t 0 _) (load_down m c t 1024 _) (load_down m c t 2048 _) (load_down m c t 3072 _) i

/-- The normalised rows at the grid point. -/
theorem point_norm (i : S4x128x1024.Idx) :
    k0_pay10 (F := Ideal)
      (k0_pay14 (iblk m c 0 t) (iblk m c 1 t) (iblk m c 2 t) (iblk m c 3 t) (iblk m c 4 t) (iblk m c 5 t) (iblk m c 6 t) (iblk m c 7 t) (iblk m c 8 t) (iblk m c 9 t))
      (k0_pay15 (iblk m c 0 t) (iblk m c 1 t) (iblk m c 2 t) (iblk m c 3 t) (iblk m c 4 t) (iblk m c 5 t) (iblk m c 6 t) (iblk m c 7 t) (iblk m c 8 t) (iblk m c 9 t))
      (k0_pay16 (iblk m c 0 t) (iblk m c 1 t) (iblk m c 2 t) (iblk m c 3 t) (iblk m c 4 t) (iblk m c 5 t) (iblk m c 6 t) (iblk m c 7 t) (iblk m c 8 t) (iblk m c 9 t))
      (View.ld (iblk m c 8 t) r0_2) (View.ld (iblk m c 9 t) r0_2) i
      = out (A m c) (i 1).val (i 0).val (i 2).val :=
  norm_apply (A m c) _ _ _ _ _ (load_x m c t) (load_rows _ (fun s k => (A m c).md s (5120 + k)) (block_gate m c t)) (point_ff m c t)
    (load_row _ _ (block_lnScale m c t)) (load_row _ _ (block_lnShift m c t)) i

/-- The sample's output, as an array. -/
def output : S128x4x1024.Idx → EReal := fun i => out (A m c) (i 0).val (i 1).val (i 2).val

/-- A step's rows, stored at the step, are the output there. -/
theorem piece (o : Fin 4) (h : S4x128x1024.Slices ![o.val, 0, 0] S1x128x1024) (inb) (v : FVec Ideal S4x128x1024 .f32)
    (hv : ∀ i, v i = out (A m c) (i 1).val (i 0).val (i 2).val) (i : S128x1x1024.Idx) :
    shapeCast S128x1x1024 (shapeCast S128x1024 (extractStridedSlice S1x128x1024 ![o.val, 0, 0] v h) shapeCasts_S1x128x1024_S128x1024)
      shapeCasts_S128x1024_S128x1x1024 i
      = output m c ((Rect.unit (s := S128x4x1024) ![0, o.val, 0] S128x1x1024.size inb).emb i) := by
  have h1 : (i 1).val < 1 := (i 1).isLt
  rw [step, hv]
  show out (A m c) (i 0).val o.val (i 2).val = out (A m c) (0 + 1 * (i 0).val) (o.val + 1 * (i 1).val) (0 + 1 * (i 2).val)
  rw [from_zero, from_zero, show o.val + 1 * (i 1).val = o.val by omega]

/-- What the grid point leaves in the result's buffer. -/
theorem point_out (i : S128x4x1024.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) i
      = output m c i := by
  unfold out0_10
  refine View.canon_apply_of_pieces (Val := Elt Ideal) (S := S128x4x1024) (e := .f32) (output m c) _ ?_ i (cover0_10 _ _ _ _ i)
  intro pc hpc
  rcases List.mem_cons.mp hpc with rfl | hpc
  · exact fun x => piece m c 3 slices_S4x128x1024_o3_0_0_S1x128x1024 inb_S128x4x1024_S128x1x1024_0_3_0 _ (point_norm m c t) x
  rcases List.mem_cons.mp hpc with rfl | hpc
  · exact fun x => piece m c 2 slices_S4x128x1024_o2_0_0_S1x128x1024 inb_S128x4x1024_S128x1x1024_0_2_0 _ (point_norm m c t) x
  rcases List.mem_cons.mp hpc with rfl | hpc
  · exact fun x => piece m c 1 slices_S4x128x1024_o1_0_0_S1x128x1024 inb_S128x4x1024_S128x1x1024_0_1_0 _ (point_norm m c t) x
  rcases List.mem_cons.mp hpc with rfl | hpc
  · exact fun x => piece m c 0 slices_S4x128x1024_o0_0_0_S1x128x1024 inb_S128x4x1024_S128x1x1024_0_0_0 _ (point_norm m c t) x
  nomatch hpc

/-- The result's array after the run. -/
theorem array_eq : (dats m 0 c).arrAt 10 cfg0.N = output m c := by
  refine (dats m 0 c).arrAt_eq_of_covers 10 (output m c) (by decide +kernel) fun t hf y => ?_
  show (dats m 0 c).after 10 t y = _
  rw [after0_10]
  refine (point_out m c t y).trans ?_
  show _ = out (A m c) _ _ _
  blk_simp [out_index t]
  rfl

end Cert.Kernel2Ideal.Mlp

end
-- ==== Proof.MlpReference.lean ====
module

public import proofs.«01_k».proof.Proof.Gen.Reference2Ideal.Read
public import proofs.«01_k».proof.Proof.MlpSpec
public import Idealize.ShloMosaic.Lib.KernelVsHost

@[expose] public section

set_option maxRecDepth 16384

noncomputable section

/-! The second reference's result is the specification's. -/

namespace Cert.Reference2Ideal.Mlp

open Cert.Reference2Ideal Cert.Reference2Ideal.Gen Cert.Reference2Ideal.Read Cert.Spec Cert.MlpSpec
open Idealize.ShloMosaic Idealize.ShloMosaic.TcCoe Idealize.SL.Sem Idealize.ShloMosaic.StableHlo Idealize.ShloMosaic.ValueIdx

variable (x0 : (⟨S4x128x1024, .f32⟩ : BufTy).Contents (Elt Ideal)) (x1 : (⟨S128x6144, .f32⟩ : BufTy).Contents (Elt Ideal))
  (x2 : (⟨S1024x4096, .bf16⟩ : BufTy).Contents (Elt Ideal)) (x3 : (⟨S1x4096, .f32⟩ : BufTy).Contents (Elt Ideal))
  (x4 : (⟨S4096x1024, .bf16⟩ : BufTy).Contents (Elt Ideal)) (x5 x6 x7 : (⟨S1x1024, .f32⟩ : BufTy).Contents (Elt Ideal))

/-- The modulated rows. -/
theorem hid_eq (i : S128x4x1024.Idx) :
    val_main_v13 (F := Ideal) x0 x1 i = MlpSpec.hid (MlpSpec.args x0 x1 x2 x3 x4 x5 x6 x7) (i 0).val (i 1).val (i 2).val := by
  rw [val_main_v13_apply, val_main_v11_apply, val_main_v12_apply, val_main_v10_apply, val_main_v9_apply, val_main_v8_apply,
    val_main_v6_apply, val_main_v5_apply, val_main_v1_apply, val_main_v1_apply, val_main_v0_apply,
    rd3_eq x0 (idx_main_v0 i) (i 1).val (i 0).val (i 2).val rfl rfl rfl,
    rd2_eq x1 (idx_main_v1 (idx_main_v6 _)) (i 0).val (4096 + (i 2).val) rfl rfl,
    rd2_eq x1 (idx_main_v1 (idx_main_v5 _)) (i 0).val (3072 + (i 2).val) rfl rfl]
  rfl

/-- The first layer, rectified. -/
theorem act_eq (i : S128x4x4096.Idx) :
    val_main_v19 (F := Ideal) x0 x1 x2 x3 i = act (MlpSpec.args x0 x1 x2 x3 x4 x5 x6 x7) (i 0).val (i 1).val (i 2).val := by
  rw [val_main_v19_apply, val_main_v18_apply, val_main_v17_apply, val_main_v16_apply, val_main_v15_apply, val_main_call0_v0_apply,
    rd2_eq x3 (idx_main_v16 _) 0 (i 2).val rfl rfl]
  refine congrArg (fun z => max (z + _) _) (Finset.sum_congr rfl fun k _ => ?_)
  rw [hid_eq x0 x1 x2 x3 x4 x5 x6 x7, val_main_v14_apply]
  exact congrArg (_ * ·) (rd2_eq x2 (ridx_main_v15 i k) k.val (i 2).val rfl rfl)

/-- The residual sum. -/
theorem y_eq (i : S128x4x1024.Idx) :
    val_main_v32 (F := Ideal) x0 x1 x2 x3 x4 x5 i = MlpSpec.y (MlpSpec.args x0 x1 x2 x3 x4 x5 x6 x7) (i 0).val (i 1).val (i 2).val := by
  rw [val_main_v32_apply, val_main_v27_apply, val_main_v31_apply, val_main_v30_apply, val_main_v29_apply, val_main_v28_apply,
    val_main_v26_apply, val_main_v25_apply, val_main_v24_apply, val_main_v23_apply, val_main_v22_apply,
    val_main_v7_apply, val_main_v1_apply, val_main_v0_apply,
    rd3_eq x0 (idx_main_v0 i) (i 1).val (i 0).val (i 2).val rfl rfl rfl,
    rd2_eq x1 (idx_main_v1 (idx_main_v7 _)) (i 0).val (5120 + (i 2).val) rfl rfl,
    rd2_eq x5 (idx_main_v23 _) 0 (i 2).val rfl rfl]
  refine congrArg (fun z => _ + _ * (z + _)) (Finset.sum_congr rfl fun k _ => ?_)
  rw [val_main_v20_apply, act_eq x0 x1 x2 x3 x4 x5 x6 x7, val_main_v21_apply]
  exact congrArg (_ * ·) (rd2_eq x4 (ridx_main_v22 i k) k.val (i 2).val rfl rfl)

/-- The rows' means. -/
theorem mu_eq (i : S128x4x1.Idx) :
    val_main_v36 (F := Ideal) x0 x1 x2 x3 x4 x5 i = mu (MlpSpec.args x0 x1 x2 x3 x4 x5 x6 x7) (i 0).val (i 1).val := by
  rw [val_main_v36_apply, val_main_v35_apply, val_main_v34_apply, val_main_v33_apply]
  refine congrArg (fun z => Ideal.div z _) ?_
  rw [show (val_main_cst_2 (F := Ideal)) (Shape.Idx.first h_S_) = 0 from Ideal.ofBits_zero_f32, zero_add]
  exact Finset.sum_congr rfl fun k _ => y_eq x0 x1 x2 x3 x4 x5 x6 x7 _

/-- The rows' variances. -/
theorem var_eq (i : S128x4x1.Idx) :
    val_main_v43 (F := Ideal) x0 x1 x2 x3 x4 x5 i = var (MlpSpec.args x0 x1 x2 x3 x4 x5 x6 x7) (i 0).val (i 1).val := by
  rw [val_main_v43_apply, val_main_v42_apply, val_main_v41_apply, val_main_v40_apply]
  refine congrArg (fun z => Ideal.div z _) ?_
  rw [show (val_main_cst_4 (F := Ideal)) (Shape.Idx.first h_S_) = 0 from Ideal.ofBits_zero_f32, zero_add]
  refine Finset.sum_congr rfl fun k _ => ?_
  rw [val_main_v39_apply, val_main_v38_apply, val_main_v37_apply, y_eq x0 x1 x2 x3 x4 x5 x6 x7, mu_eq x0 x1 x2 x3 x4 x5 x6 x7]
  rfl

/-- The second reference's result is the sample's output. -/
theorem out_eq (i : S128x4x1024.Idx) :
    val_main_v56 (F := Ideal) x0 x1 x2 x3 x4 x5 x6 x7 i = out (MlpSpec.args x0 x1 x2 x3 x4 x5 x6 x7) (i 0).val (i 1).val (i 2).val := by
  rw [val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, y_eq x0 x1 x2 x3 x4 x5 x6 x7, mu_eq x0 x1 x2 x3 x4 x5 x6 x7, var_eq x0 x1 x2 x3 x4 x5 x6 x7,
    rd2_eq x6 (idx_main_v51 _) 0 (i 2).val rfl rfl, rd2_eq x7 (idx_main_v54 _) 0 (i 2).val rfl rfl]
  rfl

end Cert.Reference2Ideal.Mlp

end
-- ==== Proof.MlpAgree.lean ====
module

public import proofs.«01_k».proof.Defs
public import proofs.«01_k».proof.Proof.MlpKernel
public import proofs.«01_k».proof.Proof.MlpReference
public import proofs.«01_k».proof.Proof.Gen.Reference2Ideal.Run
public import proofs.«01_k».proof.Proof.Gen.Reference2Ideal.Read

@[expose] public section

set_option maxRecDepth 16384

noncomputable section

/-! The frame of the sample's reference, and the agreement of the sample's kernel with it. -/

namespace Cert.MlpAgree

open Idealize.ShloMosaic Idealize.ShloMosaic.TcCoe Idealize.ShloMosaic.StableHlo Idealize.SL.Sem Cert.MlpSpec

/-- The sample's reference runs to its end with its arguments unchanged; it declares no semaphore. -/
theorem reference_frame : Cert.quiescent_Reference2Ideal := fun m ρ _ =>
  (θ_run _ _ _).mono (fun r h => ⟨fun c => (h c).2, sem_eq_zero_of_no_sems (by decide) r.2⟩) (Cert.Reference2Ideal.Value.run (F := Ideal) m ρ)

section Reference
open Cert.Reference2Ideal Cert.Reference2Ideal.Read

variable (m : (ℓ : Loc nD τ sig) → Buf (Elt Ideal) ℓ) (c : Dev nD)

/-- The reference's arguments, read by coordinates. -/
def A : Args :=
  MlpSpec.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The reference's result is the sample's output of its arguments. -/
theorem reference_output : (val_main_v56 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) : S128x4x1024.Idx → EReal)
      = fun i => out (A m c) (i 0).val (i 1).val (i 2).val :=
  funext fun i => Mlp.out_eq _ _ _ _ _ _ _ _ i

end Reference

section Kernel
open Cert.Kernel2Ideal Cert.Kernel2Ideal.Gen Cert.Kernel2Ideal.Mlp

variable (m : (ℓ : Loc nD τ sig) → Buf (Elt Ideal) ℓ)

/-- The kernel ends with the sample's output in its result and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨((h.1 c).1 10).trans (array_eq m c), h.2 c⟩) (θ_run_and (run_main m ρ) (unchanged m ρ))

end Kernel

/-- From memories that agree on the arguments, the sample's kernel and its reference end with equal results and unchanged arguments. -/
theorem algebraic : Cert.algebraic_Kernel2Ideal_Reference2Ideal := by
  intro m g m' g' _ hagree
  have hA : ∀ c, A m' c = Cert.Kernel2Ideal.Mlp.A m c := fun c => by
    obtain ⟨h0, h1, h2, h3, h4, h5, h6, h7⟩ := hagree c
    unfold A Cert.Kernel2Ideal.Mlp.A
    rw [h0, h1, h2, h3, h4, h5, h6, h7]
  refine ⟨fun c => Cert.Kernel2Ideal.Mlp.output m c, kernel_run m g, ?_⟩
  refine (θ_run _ _ _).mono (fun r h c => ?_) (Cert.Reference2Ideal.Value.run (F := Ideal) m' g')
  obtain ⟨hv, hk⟩ := h c
  refine ⟨hv.trans ?_, hk⟩
  refine ((Cert.Reference2Ideal.Read.val_main_v56_eq (F := Ideal) m' c).trans (reference_output m' c)).trans ?_
  rw [hA c]; rfl

end Cert.MlpAgree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsFrame
public import proofs.«01_k».proof.Proof.Frame
public import proofs.«01_k».proof.Proof.Agree
public import proofs.«01_k».proof.Proof.Gen.Kernel2.Frame
public import proofs.«01_k».proof.Proof.Gen.Kernel2Ideal.Frame
public import proofs.«01_k».proof.Proof.MlpAgree
public import Idealize.ShloMosaic.Adequacy
public import Idealize.ShloMosaic.Init

@[expose] public section

noncomputable section

namespace Cert.Proof

open Idealize.ShloMosaic Idealize.SL.Sem Cert.Kernel

/-- The ten claims: the six frames, and for each kernel its idealization and the agreement of its results with its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Frame.frame m ρ, fun m ρ _ => Cert.KernelIdeal.Frame.frame m ρ, Cert.Agree.reference_frame,
  fun m ρ _ => Cert.Kernel2.Gen.frame m ρ, fun m ρ _ => Cert.Kernel2Ideal.Gen.frame m ρ, Cert.MlpAgree.reference_frame,
  trivial, Cert.Agree.algebraic, trivial, Cert.MlpAgree.algebraic⟩

end Cert.Proof

end
